-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gmm2 [hPre_tile_tables : Cert.Pre_tile_tables.Facts] (m : (ℓ : Loc Cert.Gmm2.nD Cert.Gmm2.τ Cert.Gmm2.sig) → Buf (Elt Bits) ℓ) : Prop :=
  ∀ c : Dev Cert.Gmm2.nD,
    (Cert.Pre_tile_tables.fn (F := Bits) (m ((c.tc : Thread Cert.Gmm2.nD Cert.Gmm2.τ).loc Cert.Gmm2.main_arg0)) (m ((c.tc : Thread Cert.Gmm2.nD Cert.Gmm2.τ).loc Cert.Gmm2.main_arg1)) (m ((c.tc : Thread Cert.Gmm2.nD Cert.Gmm2.τ).loc Cert.Gmm2.main_arg2)) (m ((c.tc : Thread Cert.Gmm2.nD Cert.Gmm2.τ).loc Cert.Gmm2.main_arg3)) (m ((c.tc : Thread Cert.Gmm2.nD Cert.Gmm2.τ).loc Cert.Gmm2.main_arg4))).1 = (fun _ => 1#1)
    ∧ (Cert.Pre_tile_tables.fn (F := Bits) (m ((c.tc : Thread Cert.Gmm2.nD Cert.Gmm2.τ).loc Cert.Gmm2.main_arg0)) (m ((c.tc : Thread Cert.Gmm2.nD Cert.Gmm2.τ).loc Cert.Gmm2.main_arg1)) (m ((c.tc : Thread Cert.Gmm2.nD Cert.Gmm2.τ).loc Cert.Gmm2.main_arg2)) (m ((c.tc : Thread Cert.Gmm2.nD Cert.Gmm2.τ).loc Cert.Gmm2.main_arg3)) (m ((c.tc : Thread Cert.Gmm2.nD Cert.Gmm2.τ).loc Cert.Gmm2.main_arg4))).2.1 = (fun _ => 1#1)
    ∧ (Cert.Pre_tile_tables.fn (F := Bits) (m ((c.tc : Thread Cert.Gmm2.nD Cert.Gmm2.τ).loc Cert.Gmm2.main_arg0)) (m ((c.tc : Thread Cert.Gmm2.nD Cert.Gmm2.τ).loc Cert.Gmm2.main_arg1)) (m ((c.tc : Thread Cert.Gmm2.nD Cert.Gmm2.τ).loc Cert.Gmm2.main_arg2)) (m ((c.tc : Thread Cert.Gmm2.nD Cert.Gmm2.τ).loc Cert.Gmm2.main_arg3)) (m ((c.tc : Thread Cert.Gmm2.nD Cert.Gmm2.τ).loc Cert.Gmm2.main_arg4))).2.2.1 = (fun _ => 1#1)
    ∧ (Cert.Pre_tile_tables.fn (F := Bits) (m ((c.tc : Thread Cert.Gmm2.nD Cert.Gmm2.τ).loc Cert.Gmm2.main_arg0)) (m ((c.tc : Thread Cert.Gmm2.nD Cert.Gmm2.τ).loc Cert.Gmm2.main_arg1)) (m ((c.tc : Thread Cert.Gmm2.nD Cert.Gmm2.τ).loc Cert.Gmm2.main_arg2)) (m ((c.tc : Thread Cert.Gmm2.nD Cert.Gmm2.τ).loc Cert.Gmm2.main_arg3)) (m ((c.tc : Thread Cert.Gmm2.nD Cert.Gmm2.τ).loc Cert.Gmm2.main_arg4))).2.2.2 = (fun _ => 1#1)

def Pre_Gmm2Ideal [hPre_tile_tables : Cert.Pre_tile_tables.Facts] (m : (ℓ : Loc Cert.Gmm2Ideal.nD Cert.Gmm2Ideal.τ Cert.Gmm2Ideal.sig) → Buf (Elt Ideal) ℓ) : Prop :=
  ∀ c : Dev Cert.Gmm2Ideal.nD,
    (Cert.Pre_tile_tables.fn (F := Ideal) (m ((c.tc : Thread Cert.Gmm2Ideal.nD Cert.Gmm2Ideal.τ).loc Cert.Gmm2Ideal.main_arg0)) (m ((c.tc : Thread Cert.Gmm2Ideal.nD Cert.Gmm2Ideal.τ).loc Cert.Gmm2Ideal.main_arg1)) (m ((c.tc : Thread Cert.Gmm2Ideal.nD Cert.Gmm2Ideal.τ).loc Cert.Gmm2Ideal.main_arg2)) (m ((c.tc : Thread Cert.Gmm2Ideal.nD Cert.Gmm2Ideal.τ).loc Cert.Gmm2Ideal.main_arg3)) (m ((c.tc : Thread Cert.Gmm2Ideal.nD Cert.Gmm2Ideal.τ).loc Cert.Gmm2Ideal.main_arg4))).1 = (fun _ => 1#1)
    ∧ (Cert.Pre_tile_tables.fn (F := Ideal) (m ((c.tc : Thread Cert.Gmm2Ideal.nD Cert.Gmm2Ideal.τ).loc Cert.Gmm2Ideal.main_arg0)) (m ((c.tc : Thread Cert.Gmm2Ideal.nD Cert.Gmm2Ideal.τ).loc Cert.Gmm2Ideal.main_arg1)) (m ((c.tc : Thread Cert.Gmm2Ideal.nD Cert.Gmm2Ideal.τ).loc Cert.Gmm2Ideal.main_arg2)) (m ((c.tc : Thread Cert.Gmm2Ideal.nD Cert.Gmm2Ideal.τ).loc Cert.Gmm2Ideal.main_arg3)) (m ((c.tc : Thread Cert.Gmm2Ideal.nD Cert.Gmm2Ideal.τ).loc Cert.Gmm2Ideal.main_arg4))).2.1 = (fun _ => 1#1)
    ∧ (Cert.Pre_tile_tables.fn (F := Ideal) (m ((c.tc : Thread Cert.Gmm2Ideal.nD Cert.Gmm2Ideal.τ).loc Cert.Gmm2Ideal.main_arg0)) (m ((c.tc : Thread Cert.Gmm2Ideal.nD Cert.Gmm2Ideal.τ).loc Cert.Gmm2Ideal.main_arg1)) (m ((c.tc : Thread Cert.Gmm2Ideal.nD Cert.Gmm2Ideal.τ).loc Cert.Gmm2Ideal.main_arg2)) (m ((c.tc : Thread Cert.Gmm2Ideal.nD Cert.Gmm2Ideal.τ).loc Cert.Gmm2Ideal.main_arg3)) (m ((c.tc : Thread Cert.Gmm2Ideal.nD Cert.Gmm2Ideal.τ).loc Cert.Gmm2Ideal.main_arg4))).2.2.1 = (fun _ => 1#1)
    ∧ (Cert.Pre_tile_tables.fn (F := Ideal) (m ((c.tc : Thread Cert.Gmm2Ideal.nD Cert.Gmm2Ideal.τ).loc Cert.Gmm2Ideal.main_arg0)) (m ((c.tc : Thread Cert.Gmm2Ideal.nD Cert.Gmm2Ideal.τ).loc Cert.Gmm2Ideal.main_arg1)) (m ((c.tc : Thread Cert.Gmm2Ideal.nD Cert.Gmm2Ideal.τ).loc Cert.Gmm2Ideal.main_arg2)) (m ((c.tc : Thread Cert.Gmm2Ideal.nD Cert.Gmm2Ideal.τ).loc Cert.Gmm2Ideal.main_arg3)) (m ((c.tc : Thread Cert.Gmm2Ideal.nD Cert.Gmm2Ideal.τ).loc Cert.Gmm2Ideal.main_arg4))).2.2.2 = (fun _ => 1#1)

def Pre_Gmm2RefIdeal [hPre_tile_tables : Cert.Pre_tile_tables.Facts] (m : (ℓ : Loc Cert.Gmm2RefIdeal.nD Cert.Gmm2RefIdeal.τ Cert.Gmm2RefIdeal.sig) → Buf (Elt Ideal) ℓ) : Prop :=
  ∀ c : Dev Cert.Gmm2RefIdeal.nD,
    (Cert.Pre_tile_tables.fn (F := Ideal) (m ((c.tc : Thread Cert.Gmm2RefIdeal.nD Cert.Gmm2RefIdeal.τ).loc Cert.Gmm2RefIdeal.main_arg0)) (m ((c.tc : Thread Cert.Gmm2RefIdeal.nD Cert.Gmm2RefIdeal.τ).loc Cert.Gmm2RefIdeal.main_arg1)) (m ((c.tc : Thread Cert.Gmm2RefIdeal.nD Cert.Gmm2RefIdeal.τ).loc Cert.Gmm2RefIdeal.main_arg2)) (m ((c.tc : Thread Cert.Gmm2RefIdeal.nD Cert.Gmm2RefIdeal.τ).loc Cert.Gmm2RefIdeal.main_arg3)) (m ((c.tc : Thread Cert.Gmm2RefIdeal.nD Cert.Gmm2RefIdeal.τ).loc Cert.Gmm2RefIdeal.main_arg4))).1 = (fun _ => 1#1)
    ∧ (Cert.Pre_tile_tables.fn (F := Ideal) (m ((c.tc : Thread Cert.Gmm2RefIdeal.nD Cert.Gmm2RefIdeal.τ).loc Cert.Gmm2RefIdeal.main_arg0)) (m ((c.tc : Thread Cert.Gmm2RefIdeal.nD Cert.Gmm2RefIdeal.τ).loc Cert.Gmm2RefIdeal.main_arg1)) (m ((c.tc : Thread Cert.Gmm2RefIdeal.nD Cert.Gmm2RefIdeal.τ).loc Cert.Gmm2RefIdeal.main_arg2)) (m ((c.tc : Thread Cert.Gmm2RefIdeal.nD Cert.Gmm2RefIdeal.τ).loc Cert.Gmm2RefIdeal.main_arg3)) (m ((c.tc : Thread Cert.Gmm2RefIdeal.nD Cert.Gmm2RefIdeal.τ).loc Cert.Gmm2RefIdeal.main_arg4))).2.1 = (fun _ => 1#1)
    ∧ (Cert.Pre_tile_tables.fn (F := Ideal) (m ((c.tc : Thread Cert.Gmm2RefIdeal.nD Cert.Gmm2RefIdeal.τ).loc Cert.Gmm2RefIdeal.main_arg0)) (m ((c.tc : Thread Cert.Gmm2RefIdeal.nD Cert.Gmm2RefIdeal.τ).loc Cert.Gmm2RefIdeal.main_arg1)) (m ((c.tc : Thread Cert.Gmm2RefIdeal.nD Cert.Gmm2RefIdeal.τ).loc Cert.Gmm2RefIdeal.main_arg2)) (m ((c.tc : Thread Cert.Gmm2RefIdeal.nD Cert.Gmm2RefIdeal.τ).loc Cert.Gmm2RefIdeal.main_arg3)) (m ((c.tc : Thread Cert.Gmm2RefIdeal.nD Cert.Gmm2RefIdeal.τ).loc Cert.Gmm2RefIdeal.main_arg4))).2.2.1 = (fun _ => 1#1)
    ∧ (Cert.Pre_tile_tables.fn (F := Ideal) (m ((c.tc : Thread Cert.Gmm2RefIdeal.nD Cert.Gmm2RefIdeal.τ).loc Cert.Gmm2RefIdeal.main_arg0)) (m ((c.tc : Thread Cert.Gmm2RefIdeal.nD Cert.Gmm2RefIdeal.τ).loc Cert.Gmm2RefIdeal.main_arg1)) (m ((c.tc : Thread Cert.Gmm2RefIdeal.nD Cert.Gmm2RefIdeal.τ).loc Cert.Gmm2RefIdeal.main_arg2)) (m ((c.tc : Thread Cert.Gmm2RefIdeal.nD Cert.Gmm2RefIdeal.τ).loc Cert.Gmm2RefIdeal.main_arg3)) (m ((c.tc : Thread Cert.Gmm2RefIdeal.nD Cert.Gmm2RefIdeal.τ).loc Cert.Gmm2RefIdeal.main_arg4))).2.2.2 = (fun _ => 1#1)

def Pre_Gmm1 [hPre_tile_tables1 : Cert.Pre_tile_tables1.Facts] (m : (ℓ : Loc Cert.Gmm1.nD Cert.Gmm1.τ Cert.Gmm1.sig) → Buf (Elt Bits) ℓ) : Prop :=
  ∀ c : Dev Cert.Gmm1.nD,
    (Cert.Pre_tile_tables1.fn (F := Bits) (m ((c.tc : Thread Cert.Gmm1.nD Cert.Gmm1.τ).loc Cert.Gmm1.main_arg0)) (m ((c.tc : Thread Cert.Gmm1.nD Cert.Gmm1.τ).loc Cert.Gmm1.main_arg1)) (m ((c.tc : Thread Cert.Gmm1.nD Cert.Gmm1.τ).loc Cert.Gmm1.main_arg2)) (m ((c.tc : Thread Cert.Gmm1.nD Cert.Gmm1.τ).loc Cert.Gmm1.main_arg3)) (m ((c.tc : Thread Cert.Gmm1.nD Cert.Gmm1.τ).loc Cert.Gmm1.main_arg4))).1 = (fun _ => 1#1)
    ∧ (Cert.Pre_tile_tables1.fn (F := Bits) (m ((c.tc : Thread Cert.Gmm1.nD Cert.Gmm1.τ).loc Cert.Gmm1.main_arg0)) (m ((c.tc : Thread Cert.Gmm1.nD Cert.Gmm1.τ).loc Cert.Gmm1.main_arg1)) (m ((c.tc : Thread Cert.Gmm1.nD Cert.Gmm1.τ).loc Cert.Gmm1.main_arg2)) (m ((c.tc : Thread Cert.Gmm1.nD Cert.Gmm1.τ).loc Cert.Gmm1.main_arg3)) (m ((c.tc : Thread Cert.Gmm1.nD Cert.Gmm1.τ).loc Cert.Gmm1.main_arg4))).2.1 = (fun _ => 1#1)
    ∧ (Cert.Pre_tile_tables1.fn (F := Bits) (m ((c.tc : Thread Cert.Gmm1.nD Cert.Gmm1.τ).loc Cert.Gmm1.main_arg0)) (m ((c.tc : Thread Cert.Gmm1.nD Cert.Gmm1.τ).loc Cert.Gmm1.main_arg1)) (m ((c.tc : Thread Cert.Gmm1.nD Cert.Gmm1.τ).loc Cert.Gmm1.main_arg2)) (m ((c.tc : Thread Cert.Gmm1.nD Cert.Gmm1.τ).loc Cert.Gmm1.main_arg3)) (m ((c.tc : Thread Cert.Gmm1.nD Cert.Gmm1.τ).loc Cert.Gmm1.main_arg4))).2.2.1 = (fun _ => 1#1)
    ∧ (Cert.Pre_tile_tables1.fn (F := Bits) (m ((c.tc : Thread Cert.Gmm1.nD Cert.Gmm1.τ).loc Cert.Gmm1.main_arg0)) (m ((c.tc : Thread Cert.Gmm1.nD Cert.Gmm1.τ).loc Cert.Gmm1.main_arg1)) (m ((c.tc : Thread Cert.Gmm1.nD Cert.Gmm1.τ).loc Cert.Gmm1.main_arg2)) (m ((c.tc : Thread Cert.Gmm1.nD Cert.Gmm1.τ).loc Cert.Gmm1.main_arg3)) (m ((c.tc : Thread Cert.Gmm1.nD Cert.Gmm1.τ).loc Cert.Gmm1.main_arg4))).2.2.2 = (fun _ => 1#1)

def Pre_Gmm1Ideal [hPre_tile_tables1 : Cert.Pre_tile_tables1.Facts] (m : (ℓ : Loc Cert.Gmm1Ideal.nD Cert.Gmm1Ideal.τ Cert.Gmm1Ideal.sig) → Buf (Elt Ideal) ℓ) : Prop :=
  ∀ c : Dev Cert.Gmm1Ideal.nD,
    (Cert.Pre_tile_tables1.fn (F := Ideal) (m ((c.tc : Thread Cert.Gmm1Ideal.nD Cert.Gmm1Ideal.τ).loc Cert.Gmm1Ideal.main_arg0)) (m ((c.tc : Thread Cert.Gmm1Ideal.nD Cert.Gmm1Ideal.τ).loc Cert.Gmm1Ideal.main_arg1)) (m ((c.tc : Thread Cert.Gmm1Ideal.nD Cert.Gmm1Ideal.τ).loc Cert.Gmm1Ideal.main_arg2)) (m ((c.tc : Thread Cert.Gmm1Ideal.nD Cert.Gmm1Ideal.τ).loc Cert.Gmm1Ideal.main_arg3)) (m ((c.tc : Thread Cert.Gmm1Ideal.nD Cert.Gmm1Ideal.τ).loc Cert.Gmm1Ideal.main_arg4))).1 = (fun _ => 1#1)
    ∧ (Cert.Pre_tile_tables1.fn (F := Ideal) (m ((c.tc : Thread Cert.Gmm1Ideal.nD Cert.Gmm1Ideal.τ).loc Cert.Gmm1Ideal.main_arg0)) (m ((c.tc : Thread Cert.Gmm1Ideal.nD Cert.Gmm1Ideal.τ).loc Cert.Gmm1Ideal.main_arg1)) (m ((c.tc : Thread Cert.Gmm1Ideal.nD Cert.Gmm1Ideal.τ).loc Cert.Gmm1Ideal.main_arg2)) (m ((c.tc : Thread Cert.Gmm1Ideal.nD Cert.Gmm1Ideal.τ).loc Cert.Gmm1Ideal.main_arg3)) (m ((c.tc : Thread Cert.Gmm1Ideal.nD Cert.Gmm1Ideal.τ).loc Cert.Gmm1Ideal.main_arg4))).2.1 = (fun _ => 1#1)
    ∧ (Cert.Pre_tile_tables1.fn (F := Ideal) (m ((c.tc : Thread Cert.Gmm1Ideal.nD Cert.Gmm1Ideal.τ).loc Cert.Gmm1Ideal.main_arg0)) (m ((c.tc : Thread Cert.Gmm1Ideal.nD Cert.Gmm1Ideal.τ).loc Cert.Gmm1Ideal.main_arg1)) (m ((c.tc : Thread Cert.Gmm1Ideal.nD Cert.Gmm1Ideal.τ).loc Cert.Gmm1Ideal.main_arg2)) (m ((c.tc : Thread Cert.Gmm1Ideal.nD Cert.Gmm1Ideal.τ).loc Cert.Gmm1Ideal.main_arg3)) (m ((c.tc : Thread Cert.Gmm1Ideal.nD Cert.Gmm1Ideal.τ).loc Cert.Gmm1Ideal.main_arg4))).2.2.1 = (fun _ => 1#1)
    ∧ (Cert.Pre_tile_tables1.fn (F := Ideal) (m ((c.tc : Thread Cert.Gmm1Ideal.nD Cert.Gmm1Ideal.τ).loc Cert.Gmm1Ideal.main_arg0)) (m ((c.tc : Thread Cert.Gmm1Ideal.nD Cert.Gmm1Ideal.τ).loc Cert.Gmm1Ideal.main_arg1)) (m ((c.tc : Thread Cert.Gmm1Ideal.nD Cert.Gmm1Ideal.τ).loc Cert.Gmm1Ideal.main_arg2)) (m ((c.tc : Thread Cert.Gmm1Ideal.nD Cert.Gmm1Ideal.τ).loc Cert.Gmm1Ideal.main_arg3)) (m ((c.tc : Thread Cert.Gmm1Ideal.nD Cert.Gmm1Ideal.τ).loc Cert.Gmm1Ideal.main_arg4))).2.2.2 = (fun _ => 1#1)

def Pre_Gmm1RefIdeal [hPre_tile_tables1 : Cert.Pre_tile_tables1.Facts] (m : (ℓ : Loc Cert.Gmm1RefIdeal.nD Cert.Gmm1RefIdeal.τ Cert.Gmm1RefIdeal.sig) → Buf (Elt Ideal) ℓ) : Prop :=
  ∀ c : Dev Cert.Gmm1RefIdeal.nD,
    (Cert.Pre_tile_tables1.fn (F := Ideal) (m ((c.tc : Thread Cert.Gmm1RefIdeal.nD Cert.Gmm1RefIdeal.τ).loc Cert.Gmm1RefIdeal.main_arg0)) (m ((c.tc : Thread Cert.Gmm1RefIdeal.nD Cert.Gmm1RefIdeal.τ).loc Cert.Gmm1RefIdeal.main_arg1)) (m ((c.tc : Thread Cert.Gmm1RefIdeal.nD Cert.Gmm1RefIdeal.τ).loc Cert.Gmm1RefIdeal.main_arg2)) (m ((c.tc : Thread Cert.Gmm1RefIdeal.nD Cert.Gmm1RefIdeal.τ).loc Cert.Gmm1RefIdeal.main_arg3)) (m ((c.tc : Thread Cert.Gmm1RefIdeal.nD Cert.Gmm1RefIdeal.τ).loc Cert.Gmm1RefIdeal.main_arg4))).1 = (fun _ => 1#1)
    ∧ (Cert.Pre_tile_tables1.fn (F := Ideal) (m ((c.tc : Thread Cert.Gmm1RefIdeal.nD Cert.Gmm1RefIdeal.τ).loc Cert.Gmm1RefIdeal.main_arg0)) (m ((c.tc : Thread Cert.Gmm1RefIdeal.nD Cert.Gmm1RefIdeal.τ).loc Cert.Gmm1RefIdeal.main_arg1)) (m ((c.tc : Thread Cert.Gmm1RefIdeal.nD Cert.Gmm1RefIdeal.τ).loc Cert.Gmm1RefIdeal.main_arg2)) (m ((c.tc : Thread Cert.Gmm1RefIdeal.nD Cert.Gmm1RefIdeal.τ).loc Cert.Gmm1RefIdeal.main_arg3)) (m ((c.tc : Thread Cert.Gmm1RefIdeal.nD Cert.Gmm1RefIdeal.τ).loc Cert.Gmm1RefIdeal.main_arg4))).2.1 = (fun _ => 1#1)
    ∧ (Cert.Pre_tile_tables1.fn (F := Ideal) (m ((c.tc : Thread Cert.Gmm1RefIdeal.nD Cert.Gmm1RefIdeal.τ).loc Cert.Gmm1RefIdeal.main_arg0)) (m ((c.tc : Thread Cert.Gmm1RefIdeal.nD Cert.Gmm1RefIdeal.τ).loc Cert.Gmm1RefIdeal.main_arg1)) (m ((c.tc : Thread Cert.Gmm1RefIdeal.nD Cert.Gmm1RefIdeal.τ).loc Cert.Gmm1RefIdeal.main_arg2)) (m ((c.tc : Thread Cert.Gmm1RefIdeal.nD Cert.Gmm1RefIdeal.τ).loc Cert.Gmm1RefIdeal.main_arg3)) (m ((c.tc : Thread Cert.Gmm1RefIdeal.nD Cert.Gmm1RefIdeal.τ).loc Cert.Gmm1RefIdeal.main_arg4))).2.2.1 = (fun _ => 1#1)
    ∧ (Cert.Pre_tile_tables1.fn (F := Ideal) (m ((c.tc : Thread Cert.Gmm1RefIdeal.nD Cert.Gmm1RefIdeal.τ).loc Cert.Gmm1RefIdeal.main_arg0)) (m ((c.tc : Thread Cert.Gmm1RefIdeal.nD Cert.Gmm1RefIdeal.τ).loc Cert.Gmm1RefIdeal.main_arg1)) (m ((c.tc : Thread Cert.Gmm1RefIdeal.nD Cert.Gmm1RefIdeal.τ).loc Cert.Gmm1RefIdeal.main_arg2)) (m ((c.tc : Thread Cert.Gmm1RefIdeal.nD Cert.Gmm1RefIdeal.τ).loc Cert.Gmm1RefIdeal.main_arg3)) (m ((c.tc : Thread Cert.Gmm1RefIdeal.nD Cert.Gmm1RefIdeal.τ).loc Cert.Gmm1RefIdeal.main_arg4))).2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Gmm2 [hGmm2 : Cert.Gmm2.Facts] [hPre_tile_tables : Cert.Pre_tile_tables.Facts] : Prop :=
  ∀ (m : (ℓ : Loc Cert.Gmm2.nD Cert.Gmm2.τ Cert.Gmm2.sig) → Buf (Elt Bits) ℓ) (g : Dev Cert.Gmm2.nD → PrngReg), Pre_Gmm2 m →
    θ_run (Cert.Gmm2.defs (F := Bits)) (onTc (τ := Cert.Gmm2.τ) (Cert.Gmm2.main (F := Bits))) ⟨m, fun _ => 0, g⟩ (fun r => (∀ c : Dev Cert.Gmm2.nD,
      r.2.mem ((c.tc : Thread Cert.Gmm2.nD Cert.Gmm2.τ).loc Cert.Gmm2.main_arg0) = m ((c.tc : Thread Cert.Gmm2.nD Cert.Gmm2.τ).loc Cert.Gmm2.main_arg0)
      ∧ r.2.mem ((c.tc : Thread Cert.Gmm2.nD Cert.Gmm2.τ).loc Cert.Gmm2.main_arg1) = m ((c.tc : Thread Cert.Gmm2.nD Cert.Gmm2.τ).loc Cert.Gmm2.main_arg1)
      ∧ r.2.mem ((c.tc : Thread Cert.Gmm2.nD Cert.Gmm2.τ).loc Cert.Gmm2.main_arg2) = m ((c.tc : Thread Cert.Gmm2.nD Cert.Gmm2.τ).loc Cert.Gmm2.main_arg2)
      ∧ r.2.mem ((c.tc : Thread Cert.Gmm2.nD Cert.Gmm2.τ).loc Cert.Gmm2.main_arg3) = m ((c.tc : Thread Cert.Gmm2.nD Cert.Gmm2.τ).loc Cert.Gmm2.main_arg3)
      ∧ r.2.mem ((c.tc : Thread Cert.Gmm2.nD Cert.Gmm2.τ).loc Cert.Gmm2.main_arg4) = m ((c.tc : Thread Cert.Gmm2.nD Cert.Gmm2.τ).loc Cert.Gmm2.main_arg4))
      ∧ r.2.sem = fun _ => 0)

def quiescent_Gmm2Ideal [hGmm2Ideal : Cert.Gmm2Ideal.Facts] [hPre_tile_tables : Cert.Pre_tile_tables.Facts] : Prop :=
  ∀ (m : (ℓ : Loc Cert.Gmm2Ideal.nD Cert.Gmm2Ideal.τ Cert.Gmm2Ideal.sig) → Buf (Elt Ideal) ℓ) (g : Dev Cert.Gmm2Ideal.nD → PrngReg), Pre_Gmm2Ideal m →
    θ_run (Cert.Gmm2Ideal.defs (F := Ideal)) (onTc (τ := Cert.Gmm2Ideal.τ) (Cert.Gmm2Ideal.main (F := Ideal))) ⟨m, fun _ => 0, g⟩ (fun r => (∀ c : Dev Cert.Gmm2Ideal.nD,
      r.2.mem ((c.tc : Thread Cert.Gmm2Ideal.nD Cert.Gmm2Ideal.τ).loc Cert.Gmm2Ideal.main_arg0) = m ((c.tc : Thread Cert.Gmm2Ideal.nD Cert.Gmm2Ideal.τ).loc Cert.Gmm2Ideal.main_arg0)
      ∧ r.2.mem ((c.tc : Thread Cert.Gmm2Ideal.nD Cert.Gmm2Ideal.τ).loc Cert.Gmm2Ideal.main_arg1) = m ((c.tc : Thread Cert.Gmm2Ideal.nD Cert.Gmm2Ideal.τ).loc Cert.Gmm2Ideal.main_arg1)
      ∧ r.2.mem ((c.tc : Thread Cert.Gmm2Ideal.nD Cert.Gmm2Ideal.τ).loc Cert.Gmm2Ideal.main_arg2) = m ((c.tc : Thread Cert.Gmm2Ideal.nD Cert.Gmm2Ideal.τ).loc Cert.Gmm2Ideal.main_arg2)
      ∧ r.2.mem ((c.tc : Thread Cert.Gmm2Ideal.nD Cert.Gmm2Ideal.τ).loc Cert.Gmm2Ideal.main_arg3) = m ((c.tc : Thread Cert.Gmm2Ideal.nD Cert.Gmm2Ideal.τ).loc Cert.Gmm2Ideal.main_arg3)
      ∧ r.2.mem ((c.tc : Thread Cert.Gmm2Ideal.nD Cert.Gmm2Ideal.τ).loc Cert.Gmm2Ideal.main_arg4) = m ((c.tc : Thread Cert.Gmm2Ideal.nD Cert.Gmm2Ideal.τ).loc Cert.Gmm2Ideal.main_arg4))
      ∧ r.2.sem = fun _ => 0)

def quiescent_Gmm2RefIdeal [hGmm2RefIdeal : Cert.Gmm2RefIdeal.Facts] [hPre_tile_tables : Cert.Pre_tile_tables.Facts] : Prop :=
  ∀ (m : (ℓ : Loc Cert.Gmm2RefIdeal.nD Cert.Gmm2RefIdeal.τ Cert.Gmm2RefIdeal.sig) → Buf (Elt Ideal) ℓ) (g : Dev Cert.Gmm2RefIdeal.nD → PrngReg), Pre_Gmm2RefIdeal m →
    θ_run (Cert.Gmm2RefIdeal.defs (F := Ideal)) (onTc (τ := Cert.Gmm2RefIdeal.τ) (Cert.Gmm2RefIdeal.main (F := Ideal))) ⟨m, fun _ => 0, g⟩ (fun r => (∀ c : Dev Cert.Gmm2RefIdeal.nD,
      r.2.mem ((c.tc : Thread Cert.Gmm2RefIdeal.nD Cert.Gmm2RefIdeal.τ).loc Cert.Gmm2RefIdeal.main_arg0) = m ((c.tc : Thread Cert.Gmm2RefIdeal.nD Cert.Gmm2RefIdeal.τ).loc Cert.Gmm2RefIdeal.main_arg0)
      ∧ r.2.mem ((c.tc : Thread Cert.Gmm2RefIdeal.nD Cert.Gmm2RefIdeal.τ).loc Cert.Gmm2RefIdeal.main_arg1) = m ((c.tc : Thread Cert.Gmm2RefIdeal.nD Cert.Gmm2RefIdeal.τ).loc Cert.Gmm2RefIdeal.main_arg1)
      ∧ r.2.mem ((c.tc : Thread Cert.Gmm2RefIdeal.nD Cert.Gmm2RefIdeal.τ).loc Cert.Gmm2RefIdeal.main_arg2) = m ((c.tc : Thread Cert.Gmm2RefIdeal.nD Cert.Gmm2RefIdeal.τ).loc Cert.Gmm2RefIdeal.main_arg2)
      ∧ r.2.mem ((c.tc : Thread Cert.Gmm2RefIdeal.nD Cert.Gmm2RefIdeal.τ).loc Cert.Gmm2RefIdeal.main_arg3) = m ((c.tc : Thread Cert.Gmm2RefIdeal.nD Cert.Gmm2RefIdeal.τ).loc Cert.Gmm2RefIdeal.main_arg3)
      ∧ r.2.mem ((c.tc : Thread Cert.Gmm2RefIdeal.nD Cert.Gmm2RefIdeal.τ).loc Cert.Gmm2RefIdeal.main_arg4) = m ((c.tc : Thread Cert.Gmm2RefIdeal.nD Cert.Gmm2RefIdeal.τ).loc Cert.Gmm2RefIdeal.main_arg4))
      ∧ r.2.sem = fun _ => 0)

def quiescent_Gmm1 [hGmm1 : Cert.Gmm1.Facts] [hPre_tile_tables1 : Cert.Pre_tile_tables1.Facts] : Prop :=
  ∀ (m : (ℓ : Loc Cert.Gmm1.nD Cert.Gmm1.τ Cert.Gmm1.sig) → Buf (Elt Bits) ℓ) (g : Dev Cert.Gmm1.nD → PrngReg), Pre_Gmm1 m →
    θ_run (Cert.Gmm1.defs (F := Bits)) (onTc (τ := Cert.Gmm1.τ) (Cert.Gmm1.main (F := Bits))) ⟨m, fun _ => 0, g⟩ (fun r => (∀ c : Dev Cert.Gmm1.nD,
      r.2.mem ((c.tc : Thread Cert.Gmm1.nD Cert.Gmm1.τ).loc Cert.Gmm1.main_arg0) = m ((c.tc : Thread Cert.Gmm1.nD Cert.Gmm1.τ).loc Cert.Gmm1.main_arg0)
      ∧ r.2.mem ((c.tc : Thread Cert.Gmm1.nD Cert.Gmm1.τ).loc Cert.Gmm1.main_arg1) = m ((c.tc : Thread Cert.Gmm1.nD Cert.Gmm1.τ).loc Cert.Gmm1.main_arg1)
      ∧ r.2.mem ((c.tc : Thread Cert.Gmm1.nD Cert.Gmm1.τ).loc Cert.Gmm1.main_arg2) = m ((c.tc : Thread Cert.Gmm1.nD Cert.Gmm1.τ).loc Cert.Gmm1.main_arg2)
      ∧ r.2.mem ((c.tc : Thread Cert.Gmm1.nD Cert.Gmm1.τ).loc Cert.Gmm1.main_arg3) = m ((c.tc : Thread Cert.Gmm1.nD Cert.Gmm1.τ).loc Cert.Gmm1.main_arg3)
      ∧ r.2.mem ((c.tc : Thread Cert.Gmm1.nD Cert.Gmm1.τ).loc Cert.Gmm1.main_arg4) = m ((c.tc : Thread Cert.Gmm1.nD Cert.Gmm1.τ).loc Cert.Gmm1.main_arg4))
      ∧ r.2.sem = fun _ => 0)

def quiescent_Gmm1Ideal [hGmm1Ideal : Cert.Gmm1Ideal.Facts] [hPre_tile_tables1 : Cert.Pre_tile_tables1.Facts] : Prop :=
  ∀ (m : (ℓ : Loc Cert.Gmm1Ideal.nD Cert.Gmm1Ideal.τ Cert.Gmm1Ideal.sig) → Buf (Elt Ideal) ℓ) (g : Dev Cert.Gmm1Ideal.nD → PrngReg), Pre_Gmm1Ideal m →
    θ_run (Cert.Gmm1Ideal.defs (F := Ideal)) (onTc (τ := Cert.Gmm1Ideal.τ) (Cert.Gmm1Ideal.main (F := Ideal))) ⟨m, fun _ => 0, g⟩ (fun r => (∀ c : Dev Cert.Gmm1Ideal.nD,
      r.2.mem ((c.tc : Thread Cert.Gmm1Ideal.nD Cert.Gmm1Ideal.τ).loc Cert.Gmm1Ideal.main_arg0) = m ((c.tc : Thread Cert.Gmm1Ideal.nD Cert.Gmm1Ideal.τ).loc Cert.Gmm1Ideal.main_arg0)
      ∧ r.2.mem ((c.tc : Thread Cert.Gmm1Ideal.nD Cert.Gmm1Ideal.τ).loc Cert.Gmm1Ideal.main_arg1) = m ((c.tc : Thread Cert.Gmm1Ideal.nD Cert.Gmm1Ideal.τ).loc Cert.Gmm1Ideal.main_arg1)
      ∧ r.2.mem ((c.tc : Thread Cert.Gmm1Ideal.nD Cert.Gmm1Ideal.τ).loc Cert.Gmm1Ideal.main_arg2) = m ((c.tc : Thread Cert.Gmm1Ideal.nD Cert.Gmm1Ideal.τ).loc Cert.Gmm1Ideal.main_arg2)
      ∧ r.2.mem ((c.tc : Thread Cert.Gmm1Ideal.nD Cert.Gmm1Ideal.τ).loc Cert.Gmm1Ideal.main_arg3) = m ((c.tc : Thread Cert.Gmm1Ideal.nD Cert.Gmm1Ideal.τ).loc Cert.Gmm1Ideal.main_arg3)
      ∧ r.2.mem ((c.tc : Thread Cert.Gmm1Ideal.nD Cert.Gmm1Ideal.τ).loc Cert.Gmm1Ideal.main_arg4) = m ((c.tc : Thread Cert.Gmm1Ideal.nD Cert.Gmm1Ideal.τ).loc Cert.Gmm1Ideal.main_arg4))
      ∧ r.2.sem = fun _ => 0)

def quiescent_Gmm1RefIdeal [hGmm1RefIdeal : Cert.Gmm1RefIdeal.Facts] [hPre_tile_tables1 : Cert.Pre_tile_tables1.Facts] : Prop :=
  ∀ (m : (ℓ : Loc Cert.Gmm1RefIdeal.nD Cert.Gmm1RefIdeal.τ Cert.Gmm1RefIdeal.sig) → Buf (Elt Ideal) ℓ) (g : Dev Cert.Gmm1RefIdeal.nD → PrngReg), Pre_Gmm1RefIdeal m →
    θ_run (Cert.Gmm1RefIdeal.defs (F := Ideal)) (onTc (τ := Cert.Gmm1RefIdeal.τ) (Cert.Gmm1RefIdeal.main (F := Ideal))) ⟨m, fun _ => 0, g⟩ (fun r => (∀ c : Dev Cert.Gmm1RefIdeal.nD,
      r.2.mem ((c.tc : Thread Cert.Gmm1RefIdeal.nD Cert.Gmm1RefIdeal.τ).loc Cert.Gmm1RefIdeal.main_arg0) = m ((c.tc : Thread Cert.Gmm1RefIdeal.nD Cert.Gmm1RefIdeal.τ).loc Cert.Gmm1RefIdeal.main_arg0)
      ∧ r.2.mem ((c.tc : Thread Cert.Gmm1RefIdeal.nD Cert.Gmm1RefIdeal.τ).loc Cert.Gmm1RefIdeal.main_arg1) = m ((c.tc : Thread Cert.Gmm1RefIdeal.nD Cert.Gmm1RefIdeal.τ).loc Cert.Gmm1RefIdeal.main_arg1)
      ∧ r.2.mem ((c.tc : Thread Cert.Gmm1RefIdeal.nD Cert.Gmm1RefIdeal.τ).loc Cert.Gmm1RefIdeal.main_arg2) = m ((c.tc : Thread Cert.Gmm1RefIdeal.nD Cert.Gmm1RefIdeal.τ).loc Cert.Gmm1RefIdeal.main_arg2)
      ∧ r.2.mem ((c.tc : Thread Cert.Gmm1RefIdeal.nD Cert.Gmm1RefIdeal.τ).loc Cert.Gmm1RefIdeal.main_arg3) = m ((c.tc : Thread Cert.Gmm1RefIdeal.nD Cert.Gmm1RefIdeal.τ).loc Cert.Gmm1RefIdeal.main_arg3)
      ∧ r.2.mem ((c.tc : Thread Cert.Gmm1RefIdeal.nD Cert.Gmm1RefIdeal.τ).loc Cert.Gmm1RefIdeal.main_arg4) = m ((c.tc : Thread Cert.Gmm1RefIdeal.nD Cert.Gmm1RefIdeal.τ).loc Cert.Gmm1RefIdeal.main_arg4))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v11) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Gmm2_Gmm2Ideal : Prop :=
  True

def algebraic_Gmm2Ideal_Gmm2RefIdeal [hGmm2Ideal : Cert.Gmm2Ideal.Facts] [hGmm2RefIdeal : Cert.Gmm2RefIdeal.Facts] [hPre_tile_tables : Cert.Pre_tile_tables.Facts] : Prop :=
  ∀ (m : (ℓ : Loc Cert.Gmm2Ideal.nD Cert.Gmm2Ideal.τ Cert.Gmm2Ideal.sig) → Buf (Elt Ideal) ℓ) (g : Dev Cert.Gmm2Ideal.nD → PrngReg)
    (m' : (ℓ : Loc Cert.Gmm2RefIdeal.nD Cert.Gmm2RefIdeal.τ Cert.Gmm2RefIdeal.sig) → Buf (Elt Ideal) ℓ) (g' : Dev Cert.Gmm2RefIdeal.nD → PrngReg), Pre_Gmm2Ideal m →
    (∀ c : Dev Cert.Gmm2Ideal.nD,
      m' ((c.tc : Thread Cert.Gmm2RefIdeal.nD Cert.Gmm2RefIdeal.τ).loc Cert.Gmm2RefIdeal.main_arg0) = m ((c.tc : Thread Cert.Gmm2Ideal.nD Cert.Gmm2Ideal.τ).loc Cert.Gmm2Ideal.main_arg0)
      ∧ m' ((c.tc : Thread Cert.Gmm2RefIdeal.nD Cert.Gmm2RefIdeal.τ).loc Cert.Gmm2RefIdeal.main_arg1) = m ((c.tc : Thread Cert.Gmm2Ideal.nD Cert.Gmm2Ideal.τ).loc Cert.Gmm2Ideal.main_arg1)
      ∧ m' ((c.tc : Thread Cert.Gmm2RefIdeal.nD Cert.Gmm2RefIdeal.τ).loc Cert.Gmm2RefIdeal.main_arg2) = m ((c.tc : Thread Cert.Gmm2Ideal.nD Cert.Gmm2Ideal.τ).loc Cert.Gmm2Ideal.main_arg2)
      ∧ m' ((c.tc : Thread Cert.Gmm2RefIdeal.nD Cert.Gmm2RefIdeal.τ).loc Cert.Gmm2RefIdeal.main_arg3) = m ((c.tc : Thread Cert.Gmm2Ideal.nD Cert.Gmm2Ideal.τ).loc Cert.Gmm2Ideal.main_arg3)
      ∧ m' ((c.tc : Thread Cert.Gmm2RefIdeal.nD Cert.Gmm2RefIdeal.τ).loc Cert.Gmm2RefIdeal.main_arg4) = m ((c.tc : Thread Cert.Gmm2Ideal.nD Cert.Gmm2Ideal.τ).loc Cert.Gmm2Ideal.main_arg4)) →
    ∃ (v0 : (c : Dev Cert.Gmm2Ideal.nD) → Buf (Elt Ideal) ((c.tc : Thread Cert.Gmm2Ideal.nD Cert.Gmm2Ideal.τ).loc Cert.Gmm2Ideal.main_v1)),
      θ_run (Cert.Gmm2Ideal.defs (F := Ideal)) (onTc (τ := Cert.Gmm2Ideal.τ) (Cert.Gmm2Ideal.main (F := Ideal))) ⟨m, fun _ => 0, g⟩ (fun r => ∀ c : Dev Cert.Gmm2Ideal.nD,
          r.2.mem ((c.tc : Thread Cert.Gmm2Ideal.nD Cert.Gmm2Ideal.τ).loc Cert.Gmm2Ideal.main_v1) = v0 c
          ∧ r.2.mem ((c.tc : Thread Cert.Gmm2Ideal.nD Cert.Gmm2Ideal.τ).loc Cert.Gmm2Ideal.main_arg0) = m ((c.tc : Thread Cert.Gmm2Ideal.nD Cert.Gmm2Ideal.τ).loc Cert.Gmm2Ideal.main_arg0)
          ∧ r.2.mem ((c.tc : Thread Cert.Gmm2Ideal.nD Cert.Gmm2Ideal.τ).loc Cert.Gmm2Ideal.main_arg1) = m ((c.tc : Thread Cert.Gmm2Ideal.nD Cert.Gmm2Ideal.τ).loc Cert.Gmm2Ideal.main_arg1)
          ∧ r.2.mem ((c.tc : Thread Cert.Gmm2Ideal.nD Cert.Gmm2Ideal.τ).loc Cert.Gmm2Ideal.main_arg2) = m ((c.tc : Thread Cert.Gmm2Ideal.nD Cert.Gmm2Ideal.τ).loc Cert.Gmm2Ideal.main_arg2)
          ∧ r.2.mem ((c.tc : Thread Cert.Gmm2Ideal.nD Cert.Gmm2Ideal.τ).loc Cert.Gmm2Ideal.main_arg3) = m ((c.tc : Thread Cert.Gmm2Ideal.nD Cert.Gmm2Ideal.τ).loc Cert.Gmm2Ideal.main_arg3)
          ∧ r.2.mem ((c.tc : Thread Cert.Gmm2Ideal.nD Cert.Gmm2Ideal.τ).loc Cert.Gmm2Ideal.main_arg4) = m ((c.tc : Thread Cert.Gmm2Ideal.nD Cert.Gmm2Ideal.τ).loc Cert.Gmm2Ideal.main_arg4))
      ∧ θ_run (Cert.Gmm2RefIdeal.defs (F := Ideal)) (onTc (τ := Cert.Gmm2RefIdeal.τ) (Cert.Gmm2RefIdeal.main (F := Ideal))) ⟨m', fun _ => 0, g'⟩ (fun r => ∀ c : Dev Cert.Gmm2RefIdeal.nD,
          r.2.mem ((c.tc : Thread Cert.Gmm2RefIdeal.nD Cert.Gmm2RefIdeal.τ).loc Cert.Gmm2RefIdeal.main_v23) = v0 c
          ∧ r.2.mem ((c.tc : Thread Cert.Gmm2RefIdeal.nD Cert.Gmm2RefIdeal.τ).loc Cert.Gmm2RefIdeal.main_arg0) = m' ((c.tc : Thread Cert.Gmm2RefIdeal.nD Cert.Gmm2RefIdeal.τ).loc Cert.Gmm2RefIdeal.main_arg0)
          ∧ r.2.mem ((c.tc : Thread Cert.Gmm2RefIdeal.nD Cert.Gmm2RefIdeal.τ).loc Cert.Gmm2RefIdeal.main_arg1) = m' ((c.tc : Thread Cert.Gmm2RefIdeal.nD Cert.Gmm2RefIdeal.τ).loc Cert.Gmm2RefIdeal.main_arg1)
          ∧ r.2.mem ((c.tc : Thread Cert.Gmm2RefIdeal.nD Cert.Gmm2RefIdeal.τ).loc Cert.Gmm2RefIdeal.main_arg2) = m' ((c.tc : Thread Cert.Gmm2RefIdeal.nD Cert.Gmm2RefIdeal.τ).loc Cert.Gmm2RefIdeal.main_arg2)
          ∧ r.2.mem ((c.tc : Thread Cert.Gmm2RefIdeal.nD Cert.Gmm2RefIdeal.τ).loc Cert.Gmm2RefIdeal.main_arg3) = m' ((c.tc : Thread Cert.Gmm2RefIdeal.nD Cert.Gmm2RefIdeal.τ).loc Cert.Gmm2RefIdeal.main_arg3)
          ∧ r.2.mem ((c.tc : Thread Cert.Gmm2RefIdeal.nD Cert.Gmm2RefIdeal.τ).loc Cert.Gmm2RefIdeal.main_arg4) = m' ((c.tc : Thread Cert.Gmm2RefIdeal.nD Cert.Gmm2RefIdeal.τ).loc Cert.Gmm2RefIdeal.main_arg4))

def preserves_Gmm1_Gmm1Ideal : Prop :=
  True

def algebraic_Gmm1Ideal_Gmm1RefIdeal [hGmm1Ideal : Cert.Gmm1Ideal.Facts] [hGmm1RefIdeal : Cert.Gmm1RefIdeal.Facts] [hPre_tile_tables1 : Cert.Pre_tile_tables1.Facts] : Prop :=
  ∀ (m : (ℓ : Loc Cert.Gmm1Ideal.nD Cert.Gmm1Ideal.τ Cert.Gmm1Ideal.sig) → Buf (Elt Ideal) ℓ) (g : Dev Cert.Gmm1Ideal.nD → PrngReg)
    (m' : (ℓ : Loc Cert.Gmm1RefIdeal.nD Cert.Gmm1RefIdeal.τ Cert.Gmm1RefIdeal.sig) → Buf (Elt Ideal) ℓ) (g' : Dev Cert.Gmm1RefIdeal.nD → PrngReg), Pre_Gmm1Ideal m →
    (∀ c : Dev Cert.Gmm1Ideal.nD,
      m' ((c.tc : Thread Cert.Gmm1RefIdeal.nD Cert.Gmm1RefIdeal.τ).loc Cert.Gmm1RefIdeal.main_arg0) = m ((c.tc : Thread Cert.Gmm1Ideal.nD Cert.Gmm1Ideal.τ).loc Cert.Gmm1Ideal.main_arg0)
      ∧ m' ((c.tc : Thread Cert.Gmm1RefIdeal.nD Cert.Gmm1RefIdeal.τ).loc Cert.Gmm1RefIdeal.main_arg1) = m ((c.tc : Thread Cert.Gmm1Ideal.nD Cert.Gmm1Ideal.τ).loc Cert.Gmm1Ideal.main_arg1)
      ∧ m' ((c.tc : Thread Cert.Gmm1RefIdeal.nD Cert.Gmm1RefIdeal.τ).loc Cert.Gmm1RefIdeal.main_arg2) = m ((c.tc : Thread Cert.Gmm1Ideal.nD Cert.Gmm1Ideal.τ).loc Cert.Gmm1Ideal.main_arg2)
      ∧ m' ((c.tc : Thread Cert.Gmm1RefIdeal.nD Cert.Gmm1RefIdeal.τ).loc Cert.Gmm1RefIdeal.main_arg3) = m ((c.tc : Thread Cert.Gmm1Ideal.nD Cert.Gmm1Ideal.τ).loc Cert.Gmm1Ideal.main_arg3)
      ∧ m' ((c.tc : Thread Cert.Gmm1RefIdeal.nD Cert.Gmm1RefIdeal.τ).loc Cert.Gmm1RefIdeal.main_arg4) = m ((c.tc : Thread Cert.Gmm1Ideal.nD Cert.Gmm1Ideal.τ).loc Cert.Gmm1Ideal.main_arg4)) →
    ∃ (v0 : (c : Dev Cert.Gmm1Ideal.nD) → Buf (Elt Ideal) ((c.tc : Thread Cert.Gmm1Ideal.nD Cert.Gmm1Ideal.τ).loc Cert.Gmm1Ideal.main_v1)),
      θ_run (Cert.Gmm1Ideal.defs (F := Ideal)) (onTc (τ := Cert.Gmm1Ideal.τ) (Cert.Gmm1Ideal.main (F := Ideal))) ⟨m, fun _ => 0, g⟩ (fun r => ∀ c : Dev Cert.Gmm1Ideal.nD,
          r.2.mem ((c.tc : Thread Cert.Gmm1Ideal.nD Cert.Gmm1Ideal.τ).loc Cert.Gmm1Ideal.main_v1) = v0 c
          ∧ r.2.mem ((c.tc : Thread Cert.Gmm1Ideal.nD Cert.Gmm1Ideal.τ).loc Cert.Gmm1Ideal.main_arg0) = m ((c.tc : Thread Cert.Gmm1Ideal.nD Cert.Gmm1Ideal.τ).loc Cert.Gmm1Ideal.main_arg0)
          ∧ r.2.mem ((c.tc : Thread Cert.Gmm1Ideal.nD Cert.Gmm1Ideal.τ).loc Cert.Gmm1Ideal.main_arg1) = m ((c.tc : Thread Cert.Gmm1Ideal.nD Cert.Gmm1Ideal.τ).loc Cert.Gmm1Ideal.main_arg1)
          ∧ r.2.mem ((c.tc : Thread Cert.Gmm1Ideal.nD Cert.Gmm1Ideal.τ).loc Cert.Gmm1Ideal.main_arg2) = m ((c.tc : Thread Cert.Gmm1Ideal.nD Cert.Gmm1Ideal.τ).loc Cert.Gmm1Ideal.main_arg2)
          ∧ r.2.mem ((c.tc : Thread Cert.Gmm1Ideal.nD Cert.Gmm1Ideal.τ).loc Cert.Gmm1Ideal.main_arg3) = m ((c.tc : Thread Cert.Gmm1Ideal.nD Cert.Gmm1Ideal.τ).loc Cert.Gmm1Ideal.main_arg3)
          ∧ r.2.mem ((c.tc : Thread Cert.Gmm1Ideal.nD Cert.Gmm1Ideal.τ).loc Cert.Gmm1Ideal.main_arg4) = m ((c.tc : Thread Cert.Gmm1Ideal.nD Cert.Gmm1Ideal.τ).loc Cert.Gmm1Ideal.main_arg4))
      ∧ θ_run (Cert.Gmm1RefIdeal.defs (F := Ideal)) (onTc (τ := Cert.Gmm1RefIdeal.τ) (Cert.Gmm1RefIdeal.main (F := Ideal))) ⟨m', fun _ => 0, g'⟩ (fun r => ∀ c : Dev Cert.Gmm1RefIdeal.nD,
          r.2.mem ((c.tc : Thread Cert.Gmm1RefIdeal.nD Cert.Gmm1RefIdeal.τ).loc Cert.Gmm1RefIdeal.main_v40) = v0 c
          ∧ r.2.mem ((c.tc : Thread Cert.Gmm1RefIdeal.nD Cert.Gmm1RefIdeal.τ).loc Cert.Gmm1RefIdeal.main_arg0) = m' ((c.tc : Thread Cert.Gmm1RefIdeal.nD Cert.Gmm1RefIdeal.τ).loc Cert.Gmm1RefIdeal.main_arg0)
          ∧ r.2.mem ((c.tc : Thread Cert.Gmm1RefIdeal.nD Cert.Gmm1RefIdeal.τ).loc Cert.Gmm1RefIdeal.main_arg1) = m' ((c.tc : Thread Cert.Gmm1RefIdeal.nD Cert.Gmm1RefIdeal.τ).loc Cert.Gmm1RefIdeal.main_arg1)
          ∧ r.2.mem ((c.tc : Thread Cert.Gmm1RefIdeal.nD Cert.Gmm1RefIdeal.τ).loc Cert.Gmm1RefIdeal.main_arg2) = m' ((c.tc : Thread Cert.Gmm1RefIdeal.nD Cert.Gmm1RefIdeal.τ).loc Cert.Gmm1RefIdeal.main_arg2)
          ∧ r.2.mem ((c.tc : Thread Cert.Gmm1RefIdeal.nD Cert.Gmm1RefIdeal.τ).loc Cert.Gmm1RefIdeal.main_arg3) = m' ((c.tc : Thread Cert.Gmm1RefIdeal.nD Cert.Gmm1RefIdeal.τ).loc Cert.Gmm1RefIdeal.main_arg3)
          ∧ r.2.mem ((c.tc : Thread Cert.Gmm1RefIdeal.nD Cert.Gmm1RefIdeal.τ).loc Cert.Gmm1RefIdeal.main_arg4) = m' ((c.tc : Thread Cert.Gmm1RefIdeal.nD Cert.Gmm1RefIdeal.τ).loc Cert.Gmm1RefIdeal.main_arg4))

def Claim : Prop :=
  ∃ (hMerge : Cert.Merge.Facts) (hMergeIdeal : Cert.MergeIdeal.Facts) (hMergeRefIdeal : Cert.MergeRefIdeal.Facts) (hGmm2 : Cert.Gmm2.Facts) (hGmm2Ideal : Cert.Gmm2Ideal.Facts) (hGmm2RefIdeal : Cert.Gmm2RefIdeal.Facts) (hGmm1 : Cert.Gmm1.Facts) (hGmm1Ideal : Cert.Gmm1Ideal.Facts) (hGmm1RefIdeal : Cert.Gmm1RefIdeal.Facts) (hPre_tile_tables : Cert.Pre_tile_tables.Facts) (hPre_tile_tables1 : Cert.Pre_tile_tables1.Facts),
    quiescent_Merge (hMerge := hMerge)
    ∧ quiescent_MergeIdeal (hMergeIdeal := hMergeIdeal)
    ∧ quiescent_MergeRefIdeal (hMergeRefIdeal := hMergeRefIdeal)
    ∧ quiescent_Gmm2 (hGmm2 := hGmm2) (hPre_tile_tables := hPre_tile_tables)
    ∧ quiescent_Gmm2Ideal (hGmm2Ideal := hGmm2Ideal) (hPre_tile_tables := hPre_tile_tables)
    ∧ quiescent_Gmm2RefIdeal (hGmm2RefIdeal := hGmm2RefIdeal) (hPre_tile_tables := hPre_tile_tables)
    ∧ quiescent_Gmm1 (hGmm1 := hGmm1) (hPre_tile_tables1 := hPre_tile_tables1)
    ∧ quiescent_Gmm1Ideal (hGmm1Ideal := hGmm1Ideal) (hPre_tile_tables1 := hPre_tile_tables1)
    ∧ quiescent_Gmm1RefIdeal (hGmm1RefIdeal := hGmm1RefIdeal) (hPre_tile_tables1 := hPre_tile_tables1)
    ∧ preserves_Merge_MergeIdeal
    ∧ algebraic_MergeIdeal_MergeRefIdeal (hMergeIdeal := hMergeIdeal) (hMergeRefIdeal := hMergeRefIdeal)
    ∧ preserves_Gmm2_Gmm2Ideal
    ∧ algebraic_Gmm2Ideal_Gmm2RefIdeal (hGmm2Ideal := hGmm2Ideal) (hGmm2RefIdeal := hGmm2RefIdeal) (hPre_tile_tables := hPre_tile_tables)
    ∧ preserves_Gmm1_Gmm1Ideal
    ∧ algebraic_Gmm1Ideal_Gmm1RefIdeal (hGmm1Ideal := hGmm1Ideal) (hGmm1RefIdeal := hGmm1RefIdeal) (hPre_tile_tables1 := hPre_tile_tables1)
-- ==== Pre_tile_tables.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S1 : Shape := ⟨1, ![1]⟩
abbrev S_ : Shape := ⟨0, ![]⟩
abbrev S31 : Shape := ⟨1, ![31]⟩

class Facts : Prop where
  slices_S32_S1_0 : S32.Slices ![0] S1
  bcast_S_S1 : S_.BroadcastsInDim S1 (![] : Fin 0 → Fin S1.rank)
  slices_S32_S31_1 : S32.Slices ![1] S31
  slices_S32_S31_0 : S32.Slices ![0] S31
  bcast_S_S32 : S_.BroadcastsInDim S32 (![] : Fin 0 → Fin S32.rank)

variable [Facts]

def fn_part1 {F : FTy → Type} [FloatOps F] (main_v2 : IVec S1 1) (main_v7 : IVec S31 1) (main_v12 : IVec S32 1) (main_v17 : IVec S32 1) (main_v18 : IVec S32 32) : IVec S1 1 × IVec S31 1 × IVec S32 1 × IVec S32 1 :=
  let main_c_4 : IVec S_ 32 := constantI S_ 32 288#32
  let main_v19 : IVec S32 32 := broadcastInDim S32 ![] bcast_S_S32 main_c_4
  let main_v20 : IVec S32 1 := cmpi .sle main_v18 main_v19
  let main_v21 : IVec S32 1 := andi main_v17 main_v20
  (main_v2, main_v7, main_v12, main_v21)

def fn {F : FTy → Type} [FloatOps F] (main_arg0 : IVec S32 32) (main_arg1 : IVec S32 32) (main_arg2 : FVec F S73728x2048 .bf16) (main_arg3 : FVec F S32x2048x2048 .f32) (main_arg4 : FVec F S32x2048 .f32) : IVec S1 1 × IVec S31 1 × IVec S32 1 × IVec S32 1 :=
  let main_v0 : IVec S1 32 := (extractStridedSlice S1 ![0] · slices_S32_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S31 32 := (extractStridedSlice S31 ![1] · slices_S32_S31_1) main_arg0
  let main_v4 : IVec S31 32 := (extractStridedSlice S31 ![0] · slices_S32_S31_0) main_arg0
  let main_v5 : IVec S31 32 := (extractStridedSlice S31 ![0] · slices_S32_S31_0) main_arg1
  let main_v6 : IVec S31 32 := addi main_v4 main_v5
  let main_v7 : IVec S31 1 := cmpi .eq main_v3 main_v6
  let main_c_0 : IVec S_ 32 := constantI S_ 32 0#32
  let main_v8 : IVec S32 32 := broadcastInDim S32 ![] bcast_S_S32 main_c_0
  let main_v9 : IVec S32 1 := cmpi .sge main_arg1 main_v8
  let main_c_1 : IVec S_ 32 := constantI S_ 32 288#32
  let main_v10 : IVec S32 32 := broadcastInDim S32 ![] bcast_S_S32 main_c_1
  let main_v11 : IVec S32 1 := cmpi .sle main_arg1 main_v10
  let main_v12 : IVec S32 1 := andi main_v9 main_v11
  let main_c_2 : IVec S_ 32 := constantI S_ 32 0#32
  let main_v13 : IVec S32 32 := broadcastInDim S32 ![] bcast_S_S32 main_c_2
  let main_v14 : IVec S32 1 := cmpi .sge main_arg0 main_v13
  let main_c_3 : IVec S_ 32 := constantI S_ 32 288#32
  let main_v15 : IVec S32 32 := broadcastInDim S32 ![] bcast_S_S32 main_c_3
  let main_v16 : IVec S32 1 := cmpi .sle main_arg0 main_v15
  let main_v17 : IVec S32 1 := andi main_v14 main_v16
  let main_v18 : IVec S32 32 := addi main_arg0 main_arg1
  fn_part1 (F := F) main_v2 main_v7 main_v12 main_v17 main_v18
-- ==== Pre_tile_tables1.lean ====
abbrev S32 : Shape := ⟨1, ![32]⟩
abbrev S73728x2048 : Shape := ⟨2, ![73728, 2048]⟩
abbrev S32x2048x4096 : Shape := ⟨3, ![32, 2048, 4096]⟩
abbrev S32x4096 : Shape := ⟨2, ![32, 4096]⟩
abbrev S1 : Shape := ⟨1, ![1]⟩
abbrev S_ : Shape := ⟨0, ![]⟩
abbrev S31 : Shape := ⟨1, ![31]⟩

class Facts : Prop where
  slices_S32_S1_0 : S32.Slices ![0] S1
  bcast_S_S1 : S_.BroadcastsInDim S1 (![] : Fin 0 → Fin S1.rank)
  slices_S32_S31_1 : S32.Slices ![1] S31
  slices_S32_S31_0 : S32.Slices ![0] S31
  bcast_S_S32 : S_.BroadcastsInDim S32 (![] : Fin 0 → Fin S32.rank)

variable [Facts]

def fn_part1 {F : FTy → Type} [FloatOps F] (main_v2 : IVec S1 1) (main_v7 : IVec S31 1) (main_v12 : IVec S32 1) (main_v17 : IVec S32 1) (main_v18 : IVec S32 32) : IVec S1 1 × IVec S31 1 × IVec S32 1 × IVec S32 1 :=
  let main_c_4 : IVec S_ 32 := constantI S_ 32 288#32
  let main_v19 : IVec S32 32 := broadcastInDim S32 ![] bcast_S_S32 main_c_4
  let main_v20 : IVec S32 1 := cmpi .sle main_v18 main_v19
  let main_v21 : IVec S32 1 := andi main_v17 main_v20
  (main_v2, main_v7, main_v12, main_v21)

def fn {F : FTy → Type} [FloatOps F] (main_arg0 : IVec S32 32) (main_arg1 : IVec S32 32) (main_arg2 : FVec F S73728x2048 .f32) (main_arg3 : FVec F S32x2048x4096 .f32) (main_arg4 : FVec F S32x4096 .f32) : IVec S1 1 × IVec S31 1 × IVec S32 1 × IVec S32 1 :=
  let main_v0 : IVec S1 32 := (extractStridedSlice S1 ![0] · slices_S32_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S31 32 := (extractStridedSlice S31 ![1] · slices_S32_S31_1) main_arg0
  let main_v4 : IVec S31 32 := (extractStridedSlice S31 ![0] · slices_S32_S31_0) main_arg0
  let main_v5 : IVec S31 32 := (extractStridedSlice S31 ![0] · slices_S32_S31_0) main_arg1
  let main_v6 : IVec S31 32 := addi main_v4 main_v5
  let main_v7 : IVec S31 1 := cmpi .eq main_v3 main_v6
  let main_c_0 : IVec S_ 32 := constantI S_ 32 0#32
  let main_v8 : IVec S32 32 := broadcastInDim S32 ![] bcast_S_S32 main_c_0
  let main_v9 : IVec S32 1 := cmpi .sge main_arg1 main_v8
  let main_c_1 : IVec S_ 32 := constantI S_ 32 288#32
  let main_v10 : IVec S32 32 := broadcastInDim S32 ![] bcast_S_S32 main_c_1
  let main_v11 : IVec S32 1 := cmpi .sle main_arg1 main_v10
  let main_v12 : IVec S32 1 := andi main_v9 main_v11
  let main_c_2 : IVec S_ 32 := constantI S_ 32 0#32
  let main_v13 : IVec S32 32 := broadcastInDim S32 ![] bcast_S_S32 main_c_2
  let main_v14 : IVec S32 1 := cmpi .sge main_arg0 main_v13
  let main_c_3 : IVec S_ 32 := constantI S_ 32 288#32
  let main_v15 : IVec S32 32 := broadcastInDim S32 ![] bcast_S_S32 main_c_3
  let main_v16 : IVec S32 1 := cmpi .sle main_arg0 main_v15
  let main_v17 : IVec S32 1 := andi main_v14 main_v16
  let main_v18 : IVec S32 32 := addi main_arg0 main_arg1
  fn_part1 (F := F) main_v2 main_v7 main_v12 main_v17 main_v18
-- ==== Merge.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S256x1024 : Shape := ⟨2, ![256, 1024]⟩
abbrev S256x4096 : Shape := ⟨2, ![256, 4096]⟩
abbrev S256x2048 : Shape := ⟨2, ![256, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x4096, .f32⟩
  | .hbm, ⟨8, _⟩ => ⟨S16384x1024, .f32⟩
  | .hbm, ⟨9, _⟩ => ⟨S16384x2048, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Gmm2.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S1x1x2048 : Shape := ⟨3, ![1, 1, 2048]⟩
abbrev S2x2048x2048 : Shape := ⟨3, ![2, 2048, 2048]⟩
abbrev S2 : Shape := ⟨1, ![2]⟩
abbrev S2048x2048 : Shape := ⟨2, ![2048, 2048]⟩
abbrev S2x256x2048 : Shape := ⟨3, ![2, 256, 2048]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x2048x2048 : Shape := ⟨3, ![1, 2048, 2048]⟩
abbrev S1x2048 : Shape := ⟨2, ![1, 2048]⟩

abbrev nBuf : Space → Nat
  | .hbm => 5
  | .vmem => 6
  | .smem => 2
  | _ => 0

abbrev bufTy : (tb : Table) → Fin (tcTables nBuf tb) → BufTy
  | .hbm, ⟨0, _⟩ => ⟨S73728x2048, .bf16⟩
  | .hbm, ⟨1, _⟩ => ⟨S32x2048x2048, .f32⟩
  | .hbm, ⟨2, _⟩ => ⟨S32x2048, .f32⟩
  | .hbm, ⟨3, _⟩ => ⟨S32x1x2048, .f32⟩
  | .hbm, ⟨4, _⟩ => ⟨S73728x2048, .f32⟩
  | .local _ .vmem, ⟨0, _⟩ => ⟨S1x1x2048, .f32⟩
  | .local _ .vmem, ⟨1, _⟩ => ⟨S1x1x2048, .f32⟩
  | .local _ .vmem, ⟨2, _⟩ => ⟨S2x2048x2048, .f32⟩
  | .local _ .vmem, ⟨3, _⟩ => ⟨S2048x2048, .bf16⟩
  | .local _ .vmem, ⟨4, _⟩ => ⟨S2x256x2048, .bf16⟩
  | .local _ .vmem, ⟨5, _⟩ => ⟨S2x256x2048, .f32⟩
  | .local _ .smem, ⟨0, _⟩ => ⟨S32, .i32⟩
  | .local _ .smem, ⟨1, _⟩ => ⟨S32, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![1, 32], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c256_i32 : BitVec 32 := 256#32
  let v47 : BitVec 32 := Scalar.muli v1 c256_i32
  v47
def k0_cond1 (v3 : BitVec 32) : BitVec 1 :=
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k0_off2 (v1 : BitVec 32) : Fin 2 → Nat :=
  let c256_i32 : BitVec 32 := 256#32
  let v47 : BitVec 32 := Scalar.muli v1 c256_i32
  let v48 : BitVec 32 := v47
  let c0_i32_26 : BitVec 32 := 0#32
  ![v48.toNat, 0]
def k0_cond2 (i : grid0.Coords) : BitVec 1 :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c0_i32_1 : BitVec 32 := 0#32
  let v10 : BitVec 1 := Scalar.cmpi .eq v8 c0_i32_1
  let v11 : BitVec 32 := Scalar.extui v10
  let c0_i32_2 : BitVec 32 := 0#32
  let v12 : BitVec 1 := Scalar.cmpi .ne v11 c0_i32_2
  v12

def k0_mult2 : BitVec 32 :=
  let c0_i32_22 : BitVec 32 := 0#32
  c0_i32_22
def k0_cond3 (i : grid0.Coords) : BitVec 1 :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32_3 : BitVec 32 := 1#32
  let v13 : BitVec 32 := Scalar.addi v8 c1_i32_3
  let c32_i32_4 : BitVec 32 := 32#32
  let v14 : BitVec 1 := Scalar.cmpi .slt v13 c32_i32_4
  let v15 : BitVec 32 := Scalar.extui v14
  let c0_i32_5 : BitVec 32 := 0#32
  let v16 : BitVec 1 := Scalar.cmpi .ne v15 c0_i32_5
  v16

def k0_mult3 (i : grid0.Coords) : BitVec 32 :=
  let arg1 : BitVec 32 := BitVec.ofNat 32 (i 1).val
  let c1_i32_22 : BitVec 32 := 1#32
  let v47 : BitVec 32 := Scalar.addi arg1 c1_i32_22
  let c32_i32_23 : BitVec 32 := 32#32
  let v48 : BitVec 1 := Scalar.cmpi .eq v47 c32_i32_23
  let arg0 : BitVec 32 := BitVec.ofNat 32 (i 0).val
  let c1_i32_25 : BitVec 32 := 1#32
  let v50 : BitVec 32 := Scalar.addi arg0 c1_i32_25
  let v51 : BitVec 32 := Scalar.select v48 v50 arg0
  let c2048_i32_28 : BitVec 32 := 2048#32
  let v54 : BitVec 32 := Scalar.muli v51 c2048_i32_28
  v54
def k0_off3 (i : grid0.Coords) : Fin 1 → Nat :=
  let c1_i32_24 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v49 : BitVec 32 := Scalar.subi c1_i32_24 v9
  ![v49.toNat]
def k0_off4 (i : grid0.Coords) : Fin 3 → Nat :=
  let c1_i32_24 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v49 : BitVec 32 := Scalar.subi c1_i32_24 v9
  let c0_i32_29 : BitVec 32 := 0#32
  let c0_i32_30 : BitVec 32 := 0#32
  ![v49.toNat, 0, 0]
def k0_off5 (i : grid0.Coords) : Fin 3 → Nat :=
  let arg1 : BitVec 32 := BitVec.ofNat 32 (i 1).val
  let c1_i32_22 : BitVec 32 := 1#32
  let v47 : BitVec 32 := Scalar.addi arg1 c1_i32_22
  let c32_i32_23 : BitVec 32 := 32#32
  let v48 : BitVec 1 := Scalar.cmpi .eq v47 c32_i32_23
  let c0_i32_27 : BitVec 32 := 0#32
  let c1_i32_26 : BitVec 32 := 1#32
  let v52 : BitVec 32 := Scalar.addi arg1 c1_i32_26
  let v53 : BitVec 32 := Scalar.select v48 c0_i32_27 v52
  let c0_i32_31 : BitVec 32 := 0#32
  let arg0 : BitVec 32 := BitVec.ofNat 32 (i 0).val
  let c1_i32_25 : BitVec 32 := 1#32
  let v50 : BitVec 32 := Scalar.addi arg0 c1_i32_25
  let v51 : BitVec 32 := Scalar.select v48 v50 arg0
  let c2048_i32_28 : BitVec 32 := 2048#32
  let v54 : BitVec 32 := Scalar.muli v51 c2048_i32_28
  let v55 : BitVec 32 := v54
  ![v53.toNat, 0, v55.toNat]
def k0_mult4 (i : grid0.Coords) : BitVec 32 :=
  let arg0 : BitVec 32 := BitVec.ofNat 32 (i 0).val
  let c2048_i32 : BitVec 32 := 2048#32
  let v17 : BitVec 32 := Scalar.muli arg0 c2048_i32
  v17
def k0_off6 (i : grid0.Coords) : Fin 1 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  ![v9.toNat]
def k0_off7 (i : grid0.Coords) : Fin 3 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let c0_i32_6 : BitVec 32 := 0#32
  let c0_i32_7 : BitVec 32 := 0#32
  ![v9.toNat, 0, 0]
def k0_off8 (i : grid0.Coords) : Fin 3 → Nat :=
  let arg1 : BitVec 32 := BitVec.ofNat 32 (i 1).val
  let c0_i32_8 : BitVec 32 := 0#32
  let arg0 : BitVec 32 := BitVec.ofNat 32 (i 0).val
  let c2048_i32 : BitVec 32 := 2048#32
  let v17 : BitVec 32 := Scalar.muli arg0 c2048_i32
  let v18 : BitVec 32 := v17
  ![arg1.toNat, 0, v18.toNat]
def k0_off9 (i : grid0.Coords) : Fin 3 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v47 : Index := Scalar.indexCast v9
  let c0 : Index := 0#32
  let c0_22 : Index := 0#32
  ![v47.toNat, 0, 0]
def k0_mult5 (i : grid0.Coords) : BitVec 32 :=
  let arg0 : BitVec 32 := BitVec.ofNat 32 (i 0).val
  let c2048_i32_12 : BitVec 32 := 2048#32
  let v32 : BitVec 32 := Scalar.muli arg0 c2048_i32_12
  v32
@[reducible] def k0_t1_loop (v3 : BitVec 32) : Scf.Loop 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_16 : BitVec 32 := 1#32
  ⟨c0_i32_14, v38, c1_i32_16⟩
def k0_mult6 (v1 : BitVec 32) (v3 : BitVec 32) (k0_t1 : Fin (k0_t1_loop v3).trips) : BitVec 32 :=
  let c0_i32_14 : BitVec 32 := 0#32
  let c1_i32_16 : BitVec 32 := 1#32
  let arg15 : BitVec 32 := Scf.iv c0_i32_14 c1_i32_16 k0_t1
  let v48 : BitVec 32 := Scalar.addi v1 arg15
  let c256_i32 : BitVec 32 := 256#32
  let v49 : BitVec 32 := Scalar.muli v48 c256_i32
  v49
def k0_off10 (v3 : BitVec 32) (k0_t1 : Fin (k0_t1_loop v3).trips) : Fin 1 → Nat :=
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  ![v47.toNat]
def k0_off11 (v3 : BitVec 32) (k0_t1 : Fin (k0_t1_loop v3).trips) : Fin 3 → Nat :=
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  let c0_i32_23 : BitVec 32 := 0#32
  let c0_i32_24 : BitVec 32 := 0#32
  ![v47.toNat, 0, 0]
def k0_off12 (v1 : BitVec 32) (v3 : BitVec 32) (k0_t1 : Fin (k0_t1_loop v3).trips) : Fin 2 → Nat :=
  let c0_i32_14 : BitVec 32 := 0#32
  let c1_i32_16 : BitVec 32 := 1#32
  let arg15 : BitVec 32 := Scf.iv c0_i32_14 c1_i32_16 k0_t1
  let v48 : BitVec 32 := Scalar.addi v1 arg15
  let c256_i32 : BitVec 32 := 256#32
  let v49 : BitVec 32 := Scalar.muli v48 c256_i32
  let v50 : BitVec 32 := v49
  let c0_i32_25 : BitVec 32 := 0#32
  ![v50.toNat, 0]
def k0_mult7 (v1 : BitVec 32) (v3 : BitVec 32) (k0_t1 : Fin (k0_t1_loop v3).trips) : BitVec 32 :=
  let c0_i32_14 : BitVec 32 := 0#32
  let c1_i32_16 : BitVec 32 := 1#32
  let arg15 : BitVec 32 := Scf.iv c0_i32_14 c1_i32_16 k0_t1
  let v85 : BitVec 32 := Scalar.addi v1 arg15
  let c1_i32_42 : BitVec 32 := 1#32
  let v86 : BitVec 32 := Scalar.addi v85 c1_i32_42
  let c256_i32_43 : BitVec 32 := 256#32
  let v87 : BitVec 32 := Scalar.muli v86 c256_i32_43
  v87
def k0_cond5 (v3 : BitVec 32) (k0_t1 : Fin (k0_t1_loop v3).trips) : BitVec 1 :=
  let c0_i32_14 : BitVec 32 := 0#32
  let c1_i32_16 : BitVec 32 := 1#32
  let arg15 : BitVec 32 := Scf.iv c0_i32_14 c1_i32_16 k0_t1
  let c1_i32_26 : BitVec 32 := 1#32
  let v56 : BitVec 32 := Scalar.addi arg15 c1_i32_26
  let v57 : BitVec 1 := Scalar.cmpi .slt v56 v3
  let v58 : BitVec 32 := Scalar.extui v57
  let c0_i32_27 : BitVec 32 := 0#32
  let v59 : BitVec 1 := Scalar.cmpi .ne v58 c0_i32_27
  v59

def k0_off13 (v3 : BitVec 32) (k0_t1 : Fin (k0_t1_loop v3).trips) : Fin 1 → Nat :=
  let c1_i32_41 : BitVec 32 := 1#32
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  let v84 : BitVec 32 := Scalar.subi c1_i32_41 v47
  ![v84.toNat]
def k0_off14 (v3 : BitVec 32) (k0_t1 : Fin (k0_t1_loop v3).trips) : Fin 3 → Nat :=
  let c1_i32_41 : BitVec 32 := 1#32
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  let v84 : BitVec 32 := Scalar.subi c1_i32_41 v47
  let c0_i32_44 : BitVec 32 := 0#32
  let c0_i32_45 : BitVec 32 := 0#32
  ![v84.toNat, 0, 0]
def k0_off15 (v1 : BitVec 32) (v3 : BitVec 32) (k0_t1 : Fin (k0_t1_loop v3).trips) : Fin 2 → Nat :=
  let c0_i32_14 : BitVec 32 := 0#32
  let c1_i32_16 : BitVec 32 := 1#32
  let arg15 : BitVec 32 := Scf.iv c0_i32_14 c1_i32_16 k0_t1
  let v85 : BitVec 32 := Scalar.addi v1 arg15
  let c1_i32_42 : BitVec 32 := 1#32
  let v86 : BitVec 32 := Scalar.addi v85 c1_i32_42
  let c256_i32_43 : BitVec 32 := 256#32
  let v87 : BitVec 32 := Scalar.muli v86 c256_i32_43
  let v88 : BitVec 32 := v87
  let c0_i32_46 : BitVec 32 := 0#32
  ![v88.toNat, 0]
def k0_off16 (v3 : BitVec 32) (k0_t1 : Fin (k0_t1_loop v3).trips) : Fin 3 → Nat :=
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  let v60 : Index := Scalar.indexCast v47
  let c0 : Index := 0#32
  let c0_28 : Index := 0#32
  ![v60.toNat, 0, 0]
def k0_cond6 (v3 : BitVec 32) (k0_t1 : Fin (k0_t1_loop v3).trips) : BitVec 1 :=
  let c0_i32_14 : BitVec 32 := 0#32
  let c1_i32_16 : BitVec 32 := 1#32
  let arg15 : BitVec 32 := Scf.iv c0_i32_14 c1_i32_16 k0_t1
  let c2_i32_34 : BitVec 32 := 2#32
  let v69 : BitVec 1 := Scalar.cmpi .sge arg15 c2_i32_34
  let v70 : BitVec 32 := Scalar.extui v69
  let c0_i32_35 : BitVec 32 := 0#32
  let v71 : BitVec 1 := Scalar.cmpi .ne v70 c0_i32_35
  v71

def k0_mult8 (v1 : BitVec 32) (v3 : BitVec 32) (k0_t1 : Fin (k0_t1_loop v3).trips) : BitVec 32 :=
  let c0_i32_14 : BitVec 32 := 0#32
  let c1_i32_16 : BitVec 32 := 1#32
  let arg15 : BitVec 32 := Scf.iv c0_i32_14 c1_i32_16 k0_t1
  let v84 : BitVec 32 := Scalar.addi v1 arg15
  let c2_i32_41 : BitVec 32 := 2#32
  let v85 : BitVec 32 := Scalar.subi v84 c2_i32_41
  let c256_i32_42 : BitVec 32 := 256#32
  let v86 : BitVec 32 := Scalar.muli v85 c256_i32_42
  v86
def k0_off17 (v3 : BitVec 32) (k0_t1 : Fin (k0_t1_loop v3).trips) : Fin 1 → Nat :=
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  ![v47.toNat]
def k0_off18 (i : grid0.Coords) (v1 : BitVec 32) (v3 : BitVec 32) (k0_t1 : Fin (k0_t1_loop v3).trips) : Fin 2 → Nat :=
  let c0_i32_14 : BitVec 32 := 0#32
  let c1_i32_16 : BitVec 32 := 1#32
  let arg15 : BitVec 32 := Scf.iv c0_i32_14 c1_i32_16 k0_t1
  let v84 : BitVec 32 := Scalar.addi v1 arg15
  let c2_i32_41 : BitVec 32 := 2#32
  let v85 : BitVec 32 := Scalar.subi v84 c2_i32_41
  let c256_i32_42 : BitVec 32 := 256#32
  let v86 : BitVec 32 := Scalar.muli v85 c256_i32_42
  let v87 : BitVec 32 := v86
  let arg0 : BitVec 32 := BitVec.ofNat 32 (i 0).val
  let c2048_i32_12 : BitVec 32 := 2048#32
  let v32 : BitVec 32 := Scalar.muli arg0 c2048_i32_12
  let v33 : BitVec 32 := v32
  ![v87.toNat, v33.toNat]
def k0_off19 (v3 : BitVec 32) (k0_t1 : Fin (k0_t1_loop v3).trips) : Fin 3 → Nat :=
  let c0_i32_14 : BitVec 32 := 0#32
  let c1_i32_16 : BitVec 32 := 1#32
  let arg15 : BitVec 32 := Scf.iv c0_i32_14 c1_i32_16 k0_t1
  let c1_i32_22 : BitVec 32 := 1#32
  let v47 : BitVec 32 := Scalar.andi arg15 c1_i32_22
  let c0_i32_43 : BitVec 32 := 0#32
  let c0_i32_44 : BitVec 32 := 0#32
  ![v47.toNat, 0, 0]
def k0_mult9 (v1 : BitVec 32) (v3 : BitVec 32) (k0_t1 : Fin (k0_t1_loop v3).trips) : BitVec 32 :=
  let c0_i32_14 : BitVec 32 := 0#32
  let c1_i32_16 : BitVec 32 := 1#32
  let arg15 : BitVec 32 := Scf.iv c0_i32_14 c1_i32_16 k0_t1
  let v76 : BitVec 32 := Scalar.addi v1 arg15
  let c256_i32_38 : BitVec 32 := 256#32
  let v77 : BitVec 32 := Scalar.muli v76 c256_i32_38
  v77
def k0_off20 (i : grid0.Coords) (v1 : BitVec 32) (v3 : BitVec 32) (k0_t1 : Fin (k0_t1_loop v3).trips) : Fin 2 → Nat :=
  let c0_i32_14 : BitVec 32 := 0#32
  let c1_i32_16 : BitVec 32 := 1#32
  let arg15 : BitVec 32 := Scf.iv c0_i32_14 c1_i32_16 k0_t1
  let v76 : BitVec 32 := Scalar.addi v1 arg15
  let c256_i32_38 : BitVec 32 := 256#32
  let v77 : BitVec 32 := Scalar.muli v76 c256_i32_38
  let v78 : BitVec 32 := v77
  let arg0 : BitVec 32 := BitVec.ofNat 32 (i 0).val
  let c2048_i32_12 : BitVec 32 := 2048#32
  let v32 : BitVec 32 := Scalar.muli arg0 c2048_i32_12
  let v33 : BitVec 32 := v32
  ![v78.toNat, v33.toNat]
@[reducible] def k0_t2_loop (v3 : BitVec 32) : Scf.Loop 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let v35 : BitVec 32 := Scalar.addi c0_i32_14 v34
  let c1_i32_17 : BitVec 32 := 1#32
  ⟨v38, v35, c1_i32_17⟩
def k0_mult10 (v1 : BitVec 32) (v3 : BitVec 32) (k0_t2 : Fin (k0_t2_loop v3).trips) : BitVec 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v48 : BitVec 32 := Scalar.addi v1 arg15
  let c256_i32 : BitVec 32 := 256#32
  let v49 : BitVec 32 := Scalar.muli v48 c256_i32
  v49
def k0_off21 (v3 : BitVec 32) (k0_t2 : Fin (k0_t2_loop v3).trips) : Fin 1 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  ![v47.toNat]
def k0_off22 (v3 : BitVec 32) (k0_t2 : Fin (k0_t2_loop v3).trips) : Fin 3 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  let c0_i32_23 : BitVec 32 := 0#32
  let c0_i32_24 : BitVec 32 := 0#32
  ![v47.toNat, 0, 0]
def k0_off23 (v1 : BitVec 32) (v3 : BitVec 32) (k0_t2 : Fin (k0_t2_loop v3).trips) : Fin 2 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v48 : BitVec 32 := Scalar.addi v1 arg15
  let c256_i32 : BitVec 32 := 256#32
  let v49 : BitVec 32 := Scalar.muli v48 c256_i32
  let v50 : BitVec 32 := v49
  let c0_i32_25 : BitVec 32 := 0#32
  ![v50.toNat, 0]
def k0_mult11 (v1 : BitVec 32) (v3 : BitVec 32) (k0_t2 : Fin (k0_t2_loop v3).trips) : BitVec 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v85 : BitVec 32 := Scalar.addi v1 arg15
  let c1_i32_42 : BitVec 32 := 1#32
  let v86 : BitVec 32 := Scalar.addi v85 c1_i32_42
  let c256_i32_43 : BitVec 32 := 256#32
  let v87 : BitVec 32 := Scalar.muli v86 c256_i32_43
  v87
def k0_cond7 (v3 : BitVec 32) (k0_t2 : Fin (k0_t2_loop v3).trips) : BitVec 1 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_26 : BitVec 32 := 1#32
  let v56 : BitVec 32 := Scalar.addi arg15 c1_i32_26
  let v57 : BitVec 1 := Scalar.cmpi .slt v56 v3
  let v58 : BitVec 32 := Scalar.extui v57
  let c0_i32_27 : BitVec 32 := 0#32
  let v59 : BitVec 1 := Scalar.cmpi .ne v58 c0_i32_27
  v59

def k0_off24 (v3 : BitVec 32) (k0_t2 : Fin (k0_t2_loop v3).trips) : Fin 1 → Nat :=
  let c1_i32_41 : BitVec 32 := 1#32
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  let v84 : BitVec 32 := Scalar.subi c1_i32_41 v47
  ![v84.toNat]
def k0_off25 (v3 : BitVec 32) (k0_t2 : Fin (k0_t2_loop v3).trips) : Fin 3 → Nat :=
  let c1_i32_41 : BitVec 32 := 1#32
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  let v84 : BitVec 32 := Scalar.subi c1_i32_41 v47
  let c0_i32_44 : BitVec 32 := 0#32
  let c0_i32_45 : BitVec 32 := 0#32
  ![v84.toNat, 0, 0]
def k0_off26 (v1 : BitVec 32) (v3 : BitVec 32) (k0_t2 : Fin (k0_t2_loop v3).trips) : Fin 2 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v85 : BitVec 32 := Scalar.addi v1 arg15
  let c1_i32_42 : BitVec 32 := 1#32
  let v86 : BitVec 32 := Scalar.addi v85 c1_i32_42
  let c256_i32_43 : BitVec 32 := 256#32
  let v87 : BitVec 32 := Scalar.muli v86 c256_i32_43
  let v88 : BitVec 32 := v87
  let c0_i32_46 : BitVec 32 := 0#32
  ![v88.toNat, 0]
def k0_off27 (v3 : BitVec 32) (k0_t2 : Fin (k0_t2_loop v3).trips) : Fin 3 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  let v60 : Index := Scalar.indexCast v47
  let c0 : Index := 0#32
  let c0_28 : Index := 0#32
  ![v60.toNat, 0, 0]
def k0_mult12 (v1 : BitVec 32) (v3 : BitVec 32) (k0_t2 : Fin (k0_t2_loop v3).trips) : BitVec 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v84 : BitVec 32 := Scalar.addi v1 arg15
  let c2_i32_41 : BitVec 32 := 2#32
  let v85 : BitVec 32 := Scalar.subi v84 c2_i32_41
  let c256_i32_42 : BitVec 32 := 256#32
  let v86 : BitVec 32 := Scalar.muli v85 c256_i32_42
  v86
def k0_cond8 (v3 : BitVec 32) (k0_t2 : Fin (k0_t2_loop v3).trips) : BitVec 1 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c2_i32_34 : BitVec 32 := 2#32
  let v69 : BitVec 1 := Scalar.cmpi .sge arg15 c2_i32_34
  let v70 : BitVec 32 := Scalar.extui v69
  let c0_i32_35 : BitVec 32 := 0#32
  let v71 : BitVec 1 := Scalar.cmpi .ne v70 c0_i32_35
  v71

def k0_off28 (v3 : BitVec 32) (k0_t2 : Fin (k0_t2_loop v3).trips) : Fin 1 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  ![v47.toNat]
def k0_off29 (i : grid0.Coords) (v1 : BitVec 32) (v3 : BitVec 32) (k0_t2 : Fin (k0_t2_loop v3).trips) : Fin 2 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v84 : BitVec 32 := Scalar.addi v1 arg15
  let c2_i32_41 : BitVec 32 := 2#32
  let v85 : BitVec 32 := Scalar.subi v84 c2_i32_41
  let c256_i32_42 : BitVec 32 := 256#32
  let v86 : BitVec 32 := Scalar.muli v85 c256_i32_42
  let v87 : BitVec 32 := v86
  let arg0 : BitVec 32 := BitVec.ofNat 32 (i 0).val
  let c2048_i32_12 : BitVec 32 := 2048#32
  let v32 : BitVec 32 := Scalar.muli arg0 c2048_i32_12
  let v33 : BitVec 32 := v32
  ![v87.toNat, v33.toNat]
def k0_off30 (v3 : BitVec 32) (k0_t2 : Fin (k0_t2_loop v3).trips) : Fin 3 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let c1_i32_22 : BitVec 32 := 1#32
  let v47 : BitVec 32 := Scalar.andi arg15 c1_i32_22
  let c0_i32_43 : BitVec 32 := 0#32
  let c0_i32_44 : BitVec 32 := 0#32
  ![v47.toNat, 0, 0]
def k0_mult13 (v1 : BitVec 32) (v3 : BitVec 32) (k0_t2 : Fin (k0_t2_loop v3).trips) : BitVec 32 :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v76 : BitVec 32 := Scalar.addi v1 arg15
  let c256_i32_38 : BitVec 32 := 256#32
  let v77 : BitVec 32 := Scalar.muli v76 c256_i32_38
  v77
def k0_off31 (i : grid0.Coords) (v1 : BitVec 32) (v3 : BitVec 32) (k0_t2 : Fin (k0_t2_loop v3).trips) : Fin 2 → Nat :=
  let c0_i32_14 : BitVec 32 := 0#32
  let v34 : BitVec 32 := Scalar.subi v3 c0_i32_14
  let c1_i32_15 : BitVec 32 := 1#32
  let v36 : BitVec 32 := Scalar.divsi v34 c1_i32_15
  let v37 : BitVec 32 := Scalar.muli v36 c1_i32_15
  let v38 : BitVec 32 := Scalar.addi c0_i32_14 v37
  let c1_i32_17 : BitVec 32 := 1#32
  let arg15 : BitVec 32 := Scf.iv v38 c1_i32_17 k0_t2
  let v76 : BitVec 32 := Scalar.addi v1 arg15
  let c256_i32_38 : BitVec 32 := 256#32
  let v77 : BitVec 32 := Scalar.muli v76 c256_i32_38
  let v78 : BitVec 32 := v77
  let arg0 : BitVec 32 := BitVec.ofNat 32 (i 0).val
  let c2048_i32_12 : BitVec 32 := 2048#32
  let v32 : BitVec 32 := Scalar.muli arg0 c2048_i32_12
  let v33 : BitVec 32 := v32
  ![v78.toNat, v33.toNat]
def k0_mult14 (v1 : BitVec 32) (v3 : BitVec 32) : BitVec 32 :=
  let v48 : BitVec 32 := Scalar.addi v1 v3
  let c2_i32_23 : BitVec 32 := 2#32
  let v49 : BitVec 32 := Scalar.subi v48 c2_i32_23
  let c256_i32 : BitVec 32 := 256#32
  let v50 : BitVec 32 := Scalar.muli v49 c256_i32
  v50
def k0_cond9 (v3 : BitVec 32) : BitVec 1 :=
  let c2_i32 : BitVec 32 := 2#32
  let v39 : BitVec 1 := Scalar.cmpi .sge v3 c2_i32
  let v40 : BitVec 32 := Scalar.extui v39
  let c0_i32_18 : BitVec 32 := 0#32
  let v41 : BitVec 1 := Scalar.cmpi .ne v40 c0_i32_18
  v41

def k0_off32 (v3 : BitVec 32) : Fin 1 → Nat :=
  let c1_i32_22 : BitVec 32 := 1#32
  let v47 : BitVec 32 := Scalar.andi v3 c1_i32_22
  ![v47.toNat]
def k0_off33 (i : grid0.Coords) (v1 : BitVec 32) (v3 : BitVec 32) : Fin 2 → Nat :=
  let v48 : BitVec 32 := Scalar.addi v1 v3
  let c2_i32_23 : BitVec 32 := 2#32
  let v49 : BitVec 32 := Scalar.subi v48 c2_i32_23
  let c256_i32 : BitVec 32 := 256#32
  let v50 : BitVec 32 := Scalar.muli v49 c256_i32
  let v51 : BitVec 32 := v50
  let arg0 : BitVec 32 := BitVec.ofNat 32 (i 0).val
  let c2048_i32_12 : BitVec 32 := 2048#32
  let v32 : BitVec 32 := Scalar.muli arg0 c2048_i32_12
  let v33 : BitVec 32 := v32
  ![v51.toNat, v33.toNat]
def k0_off34 (v3 : BitVec 32) : Fin 3 → Nat :=
  let c1_i32_22 : BitVec 32 := 1#32
  let v47 : BitVec 32 := Scalar.andi v3 c1_i32_22
  let c0_i32_24 : BitVec 32 := 0#32
  let c0_i32_25 : BitVec 32 := 0#32
  ![v47.toNat, 0, 0]
def k0_mult15 (v1 : BitVec 32) (v3 : BitVec 32) : BitVec 32 :=
  let v49 : BitVec 32 := Scalar.addi v1 v3
  let c1_i32_24 : BitVec 32 := 1#32
  let v50 : BitVec 32 := Scalar.subi v49 c1_i32_24
  let c256_i32 : BitVec 32 := 256#32
  let v51 : BitVec 32 := Scalar.muli v50 c256_i32
  v51
def k0_cond10 (v3 : BitVec 32) : BitVec 1 :=
  let c1_i32_19 : BitVec 32 := 1#32
  let v42 : BitVec 1 := Scalar.cmpi .sge v3 c1_i32_19
  let v43 : BitVec 32 := Scalar.extui v42
  let c0_i32_20 : BitVec 32 := 0#32
  let v44 : BitVec 1 := Scalar.cmpi .ne v43 c0_i32_20
  v44

def k0_off35 (v3 : BitVec 32) : Fin 1 → Nat :=
  let c1_i32_22 : BitVec 32 := 1#32
  let v47 : BitVec 32 := Scalar.subi v3 c1_i32_22
  let c1_i32_23 : BitVec 32 := 1#32
  let v48 : BitVec 32 := Scalar.andi v47 c1_i32_23
  ![v48.toNat]
def k0_off36 (i : grid0.Coords) (v1 : BitVec 32) (v3 : BitVec 32) : Fin 2 → Nat :=
  let v49 : BitVec 32 := Scalar.addi v1 v3
  let c1_i32_24 : BitVec 32 := 1#32
  let v50 : BitVec 32 := Scalar.subi v49 c1_i32_24
  let c256_i32 : BitVec 32 := 256#32
  let v51 : BitVec 32 := Scalar.muli v50 c256_i32
  let v52 : BitVec 32 := v51
  let arg0 : BitVec 32 := BitVec.ofNat 32 (i 0).val
  let c2048_i32_12 : BitVec 32 := 2048#32
  let v32 : BitVec 32 := Scalar.muli arg0 c2048_i32_12
  let v33 : BitVec 32 := v32
  ![v52.toNat, v33.toNat]
def k0_off37 (v3 : BitVec 32) : Fin 3 → Nat :=
  let c1_i32_22 : BitVec 32 := 1#32
  let v47 : BitVec 32 := Scalar.subi v3 c1_i32_22
  let c1_i32_23 : BitVec 32 := 1#32
  let v48 : BitVec 32 := Scalar.andi v47 c1_i32_23
  let c0_i32_25 : BitVec 32 := 0#32
  let c0_i32_26 : BitVec 32 := 0#32
  ![v48.toNat, 0, 0]

def k0_chk1_0 (i : grid0.Coords) (v1 : BitVec 32) (v3 : BitVec 32) : Prop :=
  (∀ (k0_h1 : k0_cond1 v3 = 1#1), 256 ∣ (k0_mult1 v1).toNat) ∧
  (∀ (k0_h1 : k0_cond1 v3 = 1#1), ∀ a, (k0_off2 v1) a + S256x2048.size a ≤ S73728x2048.size a) ∧
  (∀ (k0_h1 : k0_cond1 v3 = 1#1), ∀ (hinb : ∀ a, (k0_off2 v1) a + S256x2048.size a ≤ S73728x2048.size a), (Rect.unit (s := S73728x2048) (k0_off2 v1) S256x2048.size hinb).WholeWords (EltTy.packing .bf16)) ∧
  ((k0_t1_loop v3).OK) ∧
  (∀ k0_t1 : Fin (k0_t1_loop v3).trips, 256 ∣ (k0_mult6 v1 v3 k0_t1).toNat) ∧
  (∀ k0_t1 : Fin (k0_t1_loop v3).trips, ∀ a, (k0_off10 v3 k0_t1) a + S1.size a ≤ S2.size a) ∧
  (∀ k0_t1 : Fin (k0_t1_loop v3).trips, ∀ a, (k0_off11 v3 k0_t1) a + S1x256x2048.size a ≤ S2x256x2048.size a) ∧
  (∀ k0_t1 : Fin (k0_t1_loop v3).trips, ∀ a, (k0_off12 v1 v3 k0_t1) a + S256x2048.size a ≤ S73728x2048.size a) ∧
  (∀ k0_t1 : Fin (k0_t1_loop v3).trips, ∀ (hinb : ∀ a, (k0_off12 v1 v3 k0_t1) a + S256x2048.size a ≤ S73728x2048.size a), (Rect.unit (s := S73728x2048) (k0_off12 v1 v3 k0_t1) S256x2048.size hinb).WholeWords (EltTy.packing .bf16)) ∧
  (∀ k0_t1 : Fin (k0_t1_loop v3).trips, ∀ (hinb : ∀ a, (k0_off11 v3 k0_t1) a + S1x256x2048.size a ≤ S2x256x2048.size a), (Rect.unit (s := S2x256x2048) (k0_off11 v3 k0_t1) S1x256x2048.size hinb).WholeWords (EltTy.packing .bf16)) ∧
  (∀ k0_t1 : Fin (k0_t1_loop v3).trips, ∀ (k0_h5 : k0_cond5 v3 k0_t1 = 1#1), 256 ∣ (k0_mult7 v1 v3 k0_t1).toNat) ∧
  (∀ k0_t1 : Fin (k0_t1_loop v3).trips, ∀ (k0_h5 : k0_cond5 v3 k0_t1 = 1#1), ∀ a, (k0_off13 v3 k0_t1) a + S1.size a ≤ S2.size a) ∧
  (∀ k0_t1 : Fin (k0_t1_loop v3).trips, ∀ (k0_h5 : k0_cond5 v3 k0_t1 = 1#1), ∀ a, (k0_off14 v3 k0_t1) a + S1x256x2048.size a ≤ S2x256x2048.size a) ∧
  (∀ k0_t1 : Fin (k0_t1_loop v3).trips, ∀ (k0_h5 : k0_cond5 v3 k0_t1 = 1#1), ∀ a, (k0_off15 v1 v3 k0_t1) a + S256x2048.size a ≤ S73728x2048.size a) ∧
  (∀ k0_t1 : Fin (k0_t1_loop v3).trips, ∀ (k0_h5 : k0_cond5 v3 k0_t1 = 1#1), ∀ (hinb : ∀ a, (k0_off15 v1 v3 k0_t1) a + S256x2048.size a ≤ S73728x2048.size a), (Rect.unit (s := S73728x2048) (k0_off15 v1 v3 k0_t1) S256x2048.size hinb).WholeWords (EltTy.packing .bf16)) ∧
  (∀ k0_t1 : Fin (k0_t1_loop v3).trips, ∀ (k0_h5 : k0_cond5 v3 k0_t1 = 1#1), ∀ (hinb : ∀ a, (k0_off14 v3 k0_t1) a + S1x256x2048.size a ≤ S2x256x2048.size a), (Rect.unit (s := S2x256x2048) (k0_off14 v3 k0_t1) S1x256x2048.size hinb).WholeWords (EltTy.packing .bf16)) ∧
  (∀ k0_t1 : Fin (k0_t1_loop v3).trips, ∀ a, (k0_off16 v3 k0_t1) a + S1x256x2048.size a ≤ S2x256x2048.size a) ∧
  (∀ k0_t1 : Fin (k0_t1_loop v3).trips, ∀ (k0_h6 : k0_cond6 v3 k0_t1 = 1#1), 256 ∣ (k0_mult8 v1 v3 k0_t1).toNat) ∧
  (∀ k0_t1 : Fin (k0_t1_loop v3).trips, ∀ (k0_h6 : k0_cond6 v3 k0_t1 = 1#1), ∀ a, (k0_off17 v3 k0_t1) a + S1.size a ≤ S2.size a) ∧
  (∀ k0_t1 : Fin (k0_t1_loop v3).trips, ∀ (k0_h6 : k0_cond6 v3 k0_t1 = 1#1), ∀ a, (k0_off18 i v1 v3 k0_t1) a + S256x2048.size a ≤ S73728x2048.size a) ∧
  (∀ k0_t1 : Fin (k0_t1_loop v3).trips, ∀ (k0_h6 : k0_cond6 v3 k0_t1 = 1#1), ∀ a, (k0_off19 v3 k0_t1) a + S1x256x2048.size a ≤ S2x256x2048.size a) ∧
  (∀ k0_t1 : Fin (k0_t1_loop v3).trips, 256 ∣ (k0_mult9 v1 v3 k0_t1).toNat) ∧
  (∀ k0_t1 : Fin (k0_t1_loop v3).trips, ∀ a, (k0_off20 i v1 v3 k0_t1) a + S256x2048.size a ≤ S73728x2048.size a) ∧
  ((k0_t2_loop v3).OK) ∧
  (∀ k0_t2 : Fin (k0_t2_loop v3).trips, 256 ∣ (k0_mult10 v1 v3 k0_t2).toNat) ∧
  (∀ k0_t2 : Fin (k0_t2_loop v3).trips, ∀ a, (k0_off21 v3 k0_t2) a + S1.size a ≤ S2.size a) ∧
  (∀ k0_t2 : Fin (k0_t2_loop v3).trips, ∀ a, (k0_off22 v3 k0_t2) a + S1x256x2048.size a ≤ S2x256x2048.size a) ∧
  (∀ k0_t2 : Fin (k0_t2_loop v3).trips, ∀ a, (k0_off23 v1 v3 k0_t2) a + S256x2048.size a ≤ S73728x2048.size a) ∧
  (∀ k0_t2 : Fin (k0_t2_loop v3).trips, ∀ (hinb : ∀ a, (k0_off23 v1 v3 k0_t2) a + S256x2048.size a ≤ S73728x2048.size a), (Rect.unit (s := S73728x2048) (k0_off23 v1 v3 k0_t2) S256x2048.size hinb).WholeWords (EltTy.packing .bf16)) ∧
  (∀ k0_t2 : Fin (k0_t2_loop v3).trips, ∀ (hinb : ∀ a, (k0_off22 v3 k0_t2) a + S1x256x2048.size a ≤ S2x256x2048.size a), (Rect.unit (s := S2x256x2048) (k0_off22 v3 k0_t2) S1x256x2048.size hinb).WholeWords (EltTy.packing .bf16)) ∧
  (∀ k0_t2 : Fin (k0_t2_loop v3).trips, ∀ (k0_h7 : k0_cond7 v3 k0_t2 = 1#1), 256 ∣ (k0_mult11 v1 v3 k0_t2).toNat) ∧
  (∀ k0_t2 : Fin (k0_t2_loop v3).trips, ∀ (k0_h7 : k0_cond7 v3 k0_t2 = 1#1), ∀ a, (k0_off24 v3 k0_t2) a + S1.size a ≤ S2.size a)
def k0_chk1_1 (i : grid0.Coords) (v1 : BitVec 32) (v3 : BitVec 32) : Prop :=
  (∀ k0_t2 : Fin (k0_t2_loop v3).trips, ∀ (k0_h7 : k0_cond7 v3 k0_t2 = 1#1), ∀ a, (k0_off25 v3 k0_t2) a + S1x256x2048.size a ≤ S2x256x2048.size a) ∧
  (∀ k0_t2 : Fin (k0_t2_loop v3).trips, ∀ (k0_h7 : k0_cond7 v3 k0_t2 = 1#1), ∀ a, (k0_off26 v1 v3 k0_t2) a + S256x2048.size a ≤ S73728x2048.size a) ∧
  (∀ k0_t2 : Fin (k0_t2_loop v3).trips, ∀ (k0_h7 : k0_cond7 v3 k0_t2 = 1#1), ∀ (hinb : ∀ a, (k0_off26 v1 v3 k0_t2) a + S256x2048.size a ≤ S73728x2048.size a), (Rect.unit (s := S73728x2048) (k0_off26 v1 v3 k0_t2) S256x2048.size hinb).WholeWords (EltTy.packing .bf16)) ∧
  (∀ k0_t2 : Fin (k0_t2_loop v3).trips, ∀ (k0_h7 : k0_cond7 v3 k0_t2 = 1#1), ∀ (hinb : ∀ a, (k0_off25 v3 k0_t2) a + S1x256x2048.size a ≤ S2x256x2048.size a), (Rect.unit (s := S2x256x2048) (k0_off25 v3 k0_t2) S1x256x2048.size hinb).WholeWords (EltTy.packing .bf16)) ∧
  (∀ k0_t2 : Fin (k0_t2_loop v3).trips, ∀ a, (k0_off27 v3 k0_t2) a + S1x256x2048.size a ≤ S2x256x2048.size a) ∧
  (∀ k0_t2 : Fin (k0_t2_loop v3).trips, ∀ (k0_h8 : k0_cond8 v3 k0_t2 = 1#1), 256 ∣ (k0_mult12 v1 v3 k0_t2).toNat) ∧
  (∀ k0_t2 : Fin (k0_t2_loop v3).trips, ∀ (k0_h8 : k0_cond8 v3 k0_t2 = 1#1), ∀ a, (k0_off28 v3 k0_t2) a + S1.size a ≤ S2.size a) ∧
  (∀ k0_t2 : Fin (k0_t2_loop v3).trips, ∀ (k0_h8 : k0_cond8 v3 k0_t2 = 1#1), ∀ a, (k0_off29 i v1 v3 k0_t2) a + S256x2048.size a ≤ S73728x2048.size a) ∧
  (∀ k0_t2 : Fin (k0_t2_loop v3).trips, ∀ (k0_h8 : k0_cond8 v3 k0_t2 = 1#1), ∀ a, (k0_off30 v3 k0_t2) a + S1x256x2048.size a ≤ S2x256x2048.size a) ∧
  (∀ k0_t2 : Fin (k0_t2_loop v3).trips, 256 ∣ (k0_mult13 v1 v3 k0_t2).toNat) ∧
  (∀ k0_t2 : Fin (k0_t2_loop v3).trips, ∀ a, (k0_off31 i v1 v3 k0_t2) a + S256x2048.size a ≤ S73728x2048.size a) ∧
  (∀ (k0_h9 : k0_cond9 v3 = 1#1), 256 ∣ (k0_mult14 v1 v3).toNat) ∧
  (∀ (k0_h9 : k0_cond9 v3 = 1#1), ∀ a, (k0_off32 v3) a + S1.size a ≤ S2.size a) ∧
  (∀ (k0_h9 : k0_cond9 v3 = 1#1), ∀ a, (k0_off33 i v1 v3) a + S256x2048.size a ≤ S73728x2048.size a) ∧
  (∀ (k0_h9 : k0_cond9 v3 = 1#1), ∀ a, (k0_off34 v3) a + S1x256x2048.size a ≤ S2x256x2048.size a) ∧
  (∀ (k0_h10 : k0_cond10 v3 = 1#1), 256 ∣ (k0_mult15 v1 v3).toNat) ∧
  (∀ (k0_h10 : k0_cond10 v3 = 1#1), ∀ a, (k0_off35 v3) a + S1.size a ≤ S2.size a) ∧
  (∀ (k0_h10 : k0_cond10 v3 = 1#1), ∀ a, (k0_off36 i v1 v3) a + S256x2048.size a ≤ S73728x2048.size a) ∧
  (∀ (k0_h10 : k0_cond10 v3 = 1#1), ∀ a, (k0_off37 v3) a + S1x256x2048.size a ≤ S2x256x2048.size a)
def k0_chk1 (i : grid0.Coords) (v1 : BitVec 32) (v3 : BitVec 32) : Prop :=
  k0_chk1_0 i v1 v3 ∧
  k0_chk1_1 i v1 v3
theorem k0_mult1_dvd : ∀ (i : grid0.Coords) (v1 : BitVec 32) (v3 : BitVec 32) (k0_hw1 : k0_chk1 i v1 v3), ∀ (k0_h1 : k0_cond1 v3 = 1#1), 256 ∣ (k0_mult1 v1).toNat := fun i v1 v3 k0_hw1 k0_h1 => k0_hw1.1.1 k0_h1
theorem k0_off2_inb : ∀ (i : grid0.Coords) (v1 : BitVec 32) (v3 : BitVec 32) (k0_hw1 : k0_chk1 i v1 v3), ∀ (k0_h1 : k0_cond1 v3 = 1#1), ∀ a, (k0_off2 v1) a + S256x2048.size a ≤ S73728x2048.size a := fun i v1 v3 k0_hw1 k0_h1 => k0_hw1.1.2.1 k0_h1
theorem k0_off2_wordsbf16 : ∀ (i : grid0.Coords) (v1 : BitVec 32) (v3 : BitVec 32) (k0_hw1 : k0_chk1 i v1 v3), ∀ (k0_h1 : k0_cond1 v3 = 1#1), (Rect.unit (s := S73728x2048) (k0_off2 v1) S256x2048.size (k0_off2_inb i v1 v3 k0_hw1 k0_h1)).WholeWords (EltTy.packing .bf16) := fun i v1 v3 k0_hw1 k0_h1 => k0_hw1.1.2.2.1 k0_h1 (k0_off2_inb i v1 v3 k0_hw1 k0_h1)
theorem k0_t1_ok : ∀ (i : grid0.Coords) (v1 : BitVec 32) (v3 : BitVec 32) (k0_hw1 : k0_chk1 i v1 v3), (k0_t1_loop v3).OK := fun i v1 v3 k0_hw1 => k0_hw1.1.2.2.2.1
theorem k0_mult6_dvd : ∀ (i : grid0.Coords) (v1 : BitVec 32) (v3 : BitVec 32) (k0_hw1 : k0_chk1 i v1 v3) (k0_t1 : Fin (k0_t1_loop v3).trips), 256 ∣ (k0_mult6 v1 v3 k0_t1).toNat := fun i v1 v3 k0_hw1 k0_t1 => k0_hw1.1.2.2.2.2.1 k0_t1
theorem k0_off10_inb : ∀ (i : grid0.Coords) (v1 : BitVec 32) (v3 : BitVec 32) (k0_hw1 : k0_chk1 i v1 v3) (k0_t1 : Fin (k0_t1_loop v3).trips), ∀ a, (k0_off10 v3 k0_t1) a + S1.size a ≤ S2.size a := fun i v1 v3 k0_hw1 k0_t1 => k0_hw1.1.2.2.2.2.2.1 k0_t1
theorem k0_off11_inb : ∀ (i : grid0.Coords) (v1 : BitVec 32) (v3 : BitVec 32) (k0_hw1 : k0_chk1 i v1 v3) (k0_t1 : Fin (k0_t1_loop v3).trips), ∀ a, (k0_off11 v3 k0_t1) a + S1x256x2048.size a ≤ S2x256x2048.size a := fun i v1 v3 k0_hw1 k0_t1 => k0_hw1.1.2.2.2.2.2.2.1 k0_t1
theorem k0_off12_inb : ∀ (i : grid0.Coords) (v1 : BitVec 32) (v3 : BitVec 32) (k0_hw1 : k0_chk1 i v1 v3) (k0_t1 : Fin (k0_t1_loop v3).trips), ∀ a, (k0_off12 v1 v3 k0_t1) a + S256x2048.size a ≤ S73728x2048.size a := fun i v1 v3 k0_hw1 k0_t1 => k0_hw1.1.2.2.2.2.2.2.2.1 k0_t1
theorem k0_off12_wordsbf16 : ∀ (i : grid0.Coords) (v1 : BitVec 32) (v3 : BitVec 32) (k0_hw1 : k0_chk1 i v1 v3) (k0_t1 : Fin (k0_t1_loop v3).trips), (Rect.unit (s := S73728x2048) (k0_off12 v1 v3 k0_t1) S256x2048.size (k0_off12_inb i v1 v3 k0_hw1 k0_t1)).WholeWords (EltTy.packing .bf16) := fun i v1 v3 k0_hw1 k0_t1 => k0_hw1.1.2.2.2.2.2.2.2.2.1 k0_t1 (k0_off12_inb i v1 v3 k0_hw1 k0_t1)
theorem k0_off11_wordsbf16 : ∀ (i : grid0.Coords) (v1 : BitVec 32) (v3 : BitVec 32) (k0_hw1 : k0_chk1 i v1 v3) (k0_t1 : Fin (k0_t1_loop v3).trips), (Rect.unit (s := S2x256x2048) (k0_off11 v3 k0_t1) S1x256x2048.size (k0_off11_inb i v1 v3 k0_hw1 k0_t1)).WholeWords (EltTy.packing .bf16) := fun i v1 v3 k0_hw1 k0_t1 => k0_hw1.1.2.2.2.2.2.2.2.2.2.1 k0_t1 (k0_off11_inb i v1 v3 k0_hw1 k0_t1)
theorem k0_mult7_dvd : ∀ (i : grid0.Coords) (v1 : BitVec 32) (v3 : BitVec 32) (k0_hw1 : k0_chk1 i v1 v3) (k0_t1 : Fin (k0_t1_loop v3).trips), ∀ (k0_h5 : k0_cond5 v3 k0_t1 = 1#1), 256 ∣ (k0_mult7 v1 v3 k0_t1).toNat := fun i v1 v3 k0_hw1 k0_t1 k0_h5 => k0_hw1.1.2.2.2.2.2.2.2.2.2.2.1 k0_t1 k0_h5
theorem k0_off13_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off13 v3 k0_t1) a + S1.size a ≤ S2.size a := fun i v1 v3 k0_hw1 k0_t1 k0_h5 => k0_hw1.1.2.2.2.2.2.2.2.2.2.2.2.1 k0_t1 k0_h5
theorem k0_off14_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off14 v3 k0_t1) a + S1x256x2048.size a ≤ S2x256x2048.size a := fun i v1 v3 k0_hw1 k0_t1 k0_h5 => k0_hw1.1.2.2.2.2.2.2.2.2.2.2.2.2.1 k0_t1 k0_h5
theorem k0_off15_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off15 v1 v3 k0_t1) a + S256x2048.size a ≤ S73728x2048.size a := fun i v1 v3 k0_hw1 k0_t1 k0_h5 => k0_hw1.1.2.2.2.2.2.2.2.2.2.2.2.2.2.1 k0_t1 k0_h5
theorem k0_off15_wordsbf16 : ∀ (i : grid0.Coords) (v1 : BitVec 32) (v3 : BitVec 32) (k0_hw1 : k0_chk1 i v1 v3) (k0_t1 : Fin (k0_t1_loop v3).trips), ∀ (k0_h5 : k0_cond5 v3 k0_t1 = 1#1), (Rect.unit (s := S73728x2048) (k0_off15 v1 v3 k0_t1) S256x2048.size (k0_off15_inb i v1 v3 k0_hw1 k0_t1 k0_h5)).WholeWords (EltTy.packing .bf16) := fun i v1 v3 k0_hw1 k0_t1 k0_h5 => k0_hw1.1.2.2.2.2.2.2.2.2.2.2.2.2.2.2.1 k0_t1 k0_h5 (k0_off15_inb i v1 v3 k0_hw1 k0_t1 k0_h5)
theorem k0_off14_wordsbf16 : ∀ (i : grid0.Coords) (v1 : BitVec 32) (v3 : BitVec 32) (k0_hw1 : k0_chk1 i v1 v3) (k0_t1 : Fin (k0_t1_loop v3).trips), ∀ (k0_h5 : k0_cond5 v3 k0_t1 = 1#1), (Rect.unit (s := S2x256x2048) (k0_off14 v3 k0_t1) S1x256x2048.size (k0_off14_inb i v1 v3 k0_hw1 k0_t1 k0_h5)).WholeWords (EltTy.packing .bf16) := fun i v1 v3 k0_hw1 k0_t1 k0_h5 => k0_hw1.1.2.2.2.2.2.2.2.2.2.2.2.2.2.2.2.1 k0_t1 k0_h5 (k0_off14_inb i v1 v3 k0_hw1 k0_t1 k0_h5)
theorem k0_off16_inb : ∀ (i : grid0.Coords) (v1 : BitVec 32) (v3 : BitVec 32) (k0_hw1 : k0_chk1 i v1 v3) (k0_t1 : Fin (k0_t1_loop v3).trips), ∀ a, (k0_off16 v3 k0_t1) a + S1x256x2048.size a ≤ S2x256x2048.size a := fun i v1 v3 k0_hw1 k0_t1 => k0_hw1.1.2.2.2.2.2.2.2.2.2.2.2.2.2.2.2.2.1 k0_t1
theorem k0_mult8_dvd : ∀ (i : grid0.Coords) (v1 : BitVec 32) (v3 : BitVec 32) (k0_hw1 : k0_chk1 i v1 v3) (k0_t1 : Fin (k0_t1_loop v3).trips), ∀ (k0_h6 : k0_cond6 v3 k0_t1 = 1#1), 256 ∣ (k0_mult8 v1 v3 k0_t1).toNat := fun i v1 v3 k0_hw1 k0_t1 k0_h6 => k0_hw1.1.2.2.2.2.2.2.2.2.2.2.2.2.2.2.2.2.2.1 k0_t1 k0_h6
theorem k0_off17_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off17 v3 k0_t1) a + S1.size a ≤ S2.size a := fun i v1 v3 k0_hw1 k0_t1 k0_h6 => k0_hw1.1.2.2.2.2.2.2.2.2.2.2.2.2.2.2.2.2.2.2.1 k0_t1 k0_h6
theorem k0_off18_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off18 i v1 v3 k0_t1) a + S256x2048.size a ≤ S73728x2048.size a := fun i v1 v3 k0_hw1 k0_t1 k0_h6 => k0_hw1.1.2.2.2.2.2.2.2.2.2.2.2.2.2.2.2.2.2.2.2.1 k0_t1 k0_h6
theorem k0_off19_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off19 v3 k0_t1) a + S1x256x2048.size a ≤ S2x256x2048.size a := fun i v1 v3 k0_hw1 k0_t1 k0_h6 => k0_hw1.1.2.2.2.2.2.2.2.2.2.2.2.2.2.2.2.2.2.2.2.2.1 k0_t1 k0_h6
theorem k0_mult9_dvd : ∀ (i : grid0.Coords) (v1 : BitVec 32) (v3 : BitVec 32) (k0_hw1 : k0_chk1 i v1 v3) (k0_t1 : Fin (k0_t1_loop v3).trips), 256 ∣ (k0_mult9 v1 v3 k0_t1).toNat := fun i v1 v3 k0_hw1 k0_t1 => k0_hw1.1.2.2.2.2.2.2.2.2.2.2.2.2.2.2.2.2.2.2.2.2.2.1 k0_t1
theorem k0_off20_inb : ∀ (i : grid0.Coords) (v1 : BitVec 32) (v3 : BitVec 32) (k0_hw1 : k0_chk1 i v1 v3) (k0_t1 : Fin (k0_t1_loop v3).trips), ∀ a, (k0_off20 i v1 v3 k0_t1) a + S256x2048.size a ≤ S73728x2048.size a := fun i v1 v3 k0_hw1 k0_t1 => k0_hw1.1.2.2.2.2.2.2.2.2.2.2.2.2.2.2.2.2.2.2.2.2.2.2.1 k0_t1
theorem k0_t2_ok : ∀ (i : grid0.Coords) (v1 : BitVec 32) (v3 : BitVec 32) (k0_hw1 : k0_chk1 i v1 v3), (k0_t2_loop v3).OK := fun i v1 v3 k0_hw1 => k0_hw1.1.2.2.2.2.2.2.2.2.2.2.2.2.2.2.2.2.2.2.2.2.2.2.2.1
theorem k0_mult10_dvd : ∀ (i : grid0.Coords) (v1 : BitVec 32) (v3 : BitVec 32) (k0_hw1 : k0_chk1 i v1 v3) (k0_t2 : Fin (k0_t2_loop v3).trips), 256 ∣ (k0_mult10 v1 v3 k0_t2).toNat := fun i v1 v3 k0_hw1 k0_t2 => k0_hw1.1.2.2.2.2.2.2.2.2.2.2.2.2.2.2.2.2.2.2.2.2.2.2.2.2.1 k0_t2
theorem k0_off21_inb : ∀ (i : grid0.Coords) (v1 : BitVec 32) (v3 : BitVec 32) (k0_hw1 : k0_chk1 i v1 v3) (k0_t2 : Fin (k0_t2_loop v3).trips), ∀ a, (k0_off21 v3 k0_t2) a + S1.size a ≤ S2.size a := fun i v1 v3 k0_hw1 k0_t2 => k0_hw1.1.2.2.2.2.2.2.2.2.2.2.2.2.2.2.2.2.2.2.2.2.2.2.2.2.2.1 k0_t2
theorem k0_off22_inb : ∀ (i : grid0.Coords) (v1 : BitVec 32) (v3 : BitVec 32) (k0_hw1 : k0_chk1 i v1 v3) (k0_t2 : Fin (k0_t2_loop v3).trips), ∀ a, (k0_off22 v3 k0_t2) a + S1x256x2048.size a ≤ S2x256x2048.size a := fun i v1 v3 k0_hw1 k0_t2 => k0_hw1.1.2.2.2.2.2.2.2.2.2.2.2.2.2.2.2.2.2.2.2.2.2.2.2.2.2.2.1 k0_t2
theorem k0_off23_inb : ∀ (i : grid0.Coords) (v1 : BitVec 32) (v3 : BitVec 32) (k0_hw1 : k0_chk1 i v1 v3) (k0_t2 : Fin (k0_t2_loop v3).trips), ∀ a, (k0_off23 v1 v3 k0_t2) a + S256x2048.size a ≤ S73728x2048.size a := fun i v1 v3 k0_hw1 k0_t2 => k0_hw1.1.2.2.2.2.2.2.2.2.2.2.2.2.2.2.2.2.2.2.2.2.2.2.2.2.2.2.2.1 k0_t2
theorem k0_off23_wordsbf16 : ∀ (i : grid0.Coords) (v1 : BitVec 32) (v3 : BitVec 32) (k0_hw1 : k0_chk1 i v1 v3) (k0_t2 : Fin (k0_t2_loop v3).trips), (Rect.unit (s := S73728x2048) (k0_off23 v1 v3 k0_t2) S256x2048.size (k0_off23_inb i v1 v3 k0_hw1 k0_t2)).WholeWords (EltTy.packing .bf16) := fun i v1 v3 k0_hw1 k0_t2 => k0_hw1.1.2.2.2.2.2.2.2.2.2.2.2.2.2.2.2.2.2.2.2.2.2.2.2.2.2.2.2.2.1 k0_t2 (k0_off23_inb i v1 v3 k0_hw1 k0_t2)
theorem k0_off22_wordsbf16 : ∀ (i : grid0.Coords) (v1 : BitVec 32) (v3 : BitVec 32) (k0_hw1 : k0_chk1 i v1 v3) (k0_t2 : Fin (k0_t2_loop v3).trips), (Rect.unit (s := S2x256x2048) (k0_off22 v3 k0_t2) S1x256x2048.size (k0_off22_inb i v1 v3 k0_hw1 k0_t2)).WholeWords (EltTy.packing .bf16) := fun i v1 v3 k0_hw1 k0_t2 => k0_hw1.1.2.2.2.2.2.2.2.2.2.2.2.2.2.2.2.2.2.2.2.2.2.2.2.2.2.2.2.2.2.1 k0_t2 (k0_off22_inb i v1 v3 k0_hw1 k0_t2)
theorem k0_mult11_dvd : ∀ (i : grid0.Coords) (v1 : BitVec 32) (v3 : BitVec 32) (k0_hw1 : k0_chk1 i v1 v3) (k0_t2 : Fin (k0_t2_loop v3).trips), ∀ (k0_h7 : k0_cond7 v3 k0_t2 = 1#1), 256 ∣ (k0_mult11 v1 v3 k0_t2).toNat := fun i v1 v3 k0_hw1 k0_t2 k0_h7 => k0_hw1.1.2.2.2.2.2.2.2.2.2.2.2.2.2.2.2.2.2.2.2.2.2.2.2.2.2.2.2.2.2.2.1 k0_t2 k0_h7
theorem k0_off24_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off24 v3 k0_t2) a + S1.size a ≤ S2.size a := fun i v1 v3 k0_hw1 k0_t2 k0_h7 => k0_hw1.1.2.2.2.2.2.2.2.2.2.2.2.2.2.2.2.2.2.2.2.2.2.2.2.2.2.2.2.2.2.2.2 k0_t2 k0_h7
theorem k0_off25_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off25 v3 k0_t2) a + S1x256x2048.size a ≤ S2x256x2048.size a := fun i v1 v3 k0_hw1 k0_t2 k0_h7 => k0_hw1.2.1 k0_t2 k0_h7
theorem k0_off26_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off26 v1 v3 k0_t2) a + S256x2048.size a ≤ S73728x2048.size a := fun i v1 v3 k0_hw1 k0_t2 k0_h7 => k0_hw1.2.2.1 k0_t2 k0_h7
theorem k0_off26_wordsbf16 : ∀ (i : grid0.Coords) (v1 : BitVec 32) (v3 : BitVec 32) (k0_hw1 : k0_chk1 i v1 v3) (k0_t2 : Fin (k0_t2_loop v3).trips), ∀ (k0_h7 : k0_cond7 v3 k0_t2 = 1#1), (Rect.unit (s := S73728x2048) (k0_off26 v1 v3 k0_t2) S256x2048.size (k0_off26_inb i v1 v3 k0_hw1 k0_t2 k0_h7)).WholeWords (EltTy.packing .bf16) := fun i v1 v3 k0_hw1 k0_t2 k0_h7 => k0_hw1.2.2.2.1 k0_t2 k0_h7 (k0_off26_inb i v1 v3 k0_hw1 k0_t2 k0_h7)
theorem k0_off25_wordsbf16 : ∀ (i : grid0.Coords) (v1 : BitVec 32) (v3 : BitVec 32) (k0_hw1 : k0_chk1 i v1 v3) (k0_t2 : Fin (k0_t2_loop v3).trips), ∀ (k0_h7 : k0_cond7 v3 k0_t2 = 1#1), (Rect.unit (s := S2x256x2048) (k0_off25 v3 k0_t2) S1x256x2048.size (k0_off25_inb i v1 v3 k0_hw1 k0_t2 k0_h7)).WholeWords (EltTy.packing .bf16) := fun i v1 v3 k0_hw1 k0_t2 k0_h7 => k0_hw1.2.2.2.2.1 k0_t2 k0_h7 (k0_off25_inb i v1 v3 k0_hw1 k0_t2 k0_h7)
theorem k0_off27_inb : ∀ (i : grid0.Coords) (v1 : BitVec 32) (v3 : BitVec 32) (k0_hw1 : k0_chk1 i v1 v3) (k0_t2 : Fin (k0_t2_loop v3).trips), ∀ a, (k0_off27 v3 k0_t2) a + S1x256x2048.size a ≤ S2x256x2048.size a := fun i v1 v3 k0_hw1 k0_t2 => k0_hw1.2.2.2.2.2.1 k0_t2
theorem k0_mult12_dvd : ∀ (i : grid0.Coords) (v1 : BitVec 32) (v3 : BitVec 32) (k0_hw1 : k0_chk1 i v1 v3) (k0_t2 : Fin (k0_t2_loop v3).trips), ∀ (k0_h8 : k0_cond8 v3 k0_t2 = 1#1), 256 ∣ (k0_mult12 v1 v3 k0_t2).toNat := fun i v1 v3 k0_hw1 k0_t2 k0_h8 => k0_hw1.2.2.2.2.2.2.1 k0_t2 k0_h8
theorem k0_off28_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off28 v3 k0_t2) a + S1.size a ≤ S2.size a := fun i v1 v3 k0_hw1 k0_t2 k0_h8 => k0_hw1.2.2.2.2.2.2.2.1 k0_t2 k0_h8
theorem k0_off29_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off29 i v1 v3 k0_t2) a + S256x2048.size a ≤ S73728x2048.size a := fun i v1 v3 k0_hw1 k0_t2 k0_h8 => k0_hw1.2.2.2.2.2.2.2.2.1 k0_t2 k0_h8
theorem k0_off30_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off30 v3 k0_t2) a + S1x256x2048.size a ≤ S2x256x2048.size a := fun i v1 v3 k0_hw1 k0_t2 k0_h8 => k0_hw1.2.2.2.2.2.2.2.2.2.1 k0_t2 k0_h8
theorem k0_mult13_dvd : ∀ (i : grid0.Coords) (v1 : BitVec 32) (v3 : BitVec 32) (k0_hw1 : k0_chk1 i v1 v3) (k0_t2 : Fin (k0_t2_loop v3).trips), 256 ∣ (k0_mult13 v1 v3 k0_t2).toNat := fun i v1 v3 k0_hw1 k0_t2 => k0_hw1.2.2.2.2.2.2.2.2.2.2.1 k0_t2
theorem k0_off31_inb : ∀ (i : grid0.Coords) (v1 : BitVec 32) (v3 : BitVec 32) (k0_hw1 : k0_chk1 i v1 v3) (k0_t2 : Fin (k0_t2_loop v3).trips), ∀ a, (k0_off31 i v1 v3 k0_t2) a + S256x2048.size a ≤ S73728x2048.size a := fun i v1 v3 k0_hw1 k0_t2 => k0_hw1.2.2.2.2.2.2.2.2.2.2.2.1 k0_t2
theorem k0_mult14_dvd : ∀ (i : grid0.Coords) (v1 : BitVec 32) (v3 : BitVec 32) (k0_hw1 : k0_chk1 i v1 v3), ∀ (k0_h9 : k0_cond9 v3 = 1#1), 256 ∣ (k0_mult14 v1 v3).toNat := fun i v1 v3 k0_hw1 k0_h9 => k0_hw1.2.2.2.2.2.2.2.2.2.2.2.2.1 k0_h9
theorem k0_off32_inb : ∀ (i : grid0.Coords) (v1 : BitVec 32) (v3 : BitVec 32) (k0_hw1 : k0_chk1 i v1 v3), ∀ (k0_h9 : k0_cond9 v3 = 1#1), ∀ a, (k0_off32 v3) a + S1.size a ≤ S2.size a := fun i v1 v3 k0_hw1 k0_h9 => k0_hw1.2.2.2.2.2.2.2.2.2.2.2.2.2.1 k0_h9
theorem k0_off33_inb : ∀ (i : grid0.Coords) (v1 : BitVec 32) (v3 : BitVec 32) (k0_hw1 : k0_chk1 i v1 v3), ∀ (k0_h9 : k0_cond9 v3 = 1#1), ∀ a, (k0_off33 i v1 v3) a + S256x2048.size a ≤ S73728x2048.size a := fun i v1 v3 k0_hw1 k0_h9 => k0_hw1.2.2.2.2.2.2.2.2.2.2.2.2.2.2.1 k0_h9
theorem k0_off34_inb : ∀ (i : grid0.Coords) (v1 : BitVec 32) (v3 : BitVec 32) (k0_hw1 : k0_chk1 i v1 v3), ∀ (k0_h9 : k0_cond9 v3 = 1#1), ∀ a, (k0_off34 v3) a + S1x256x2048.size a ≤ S2x256x2048.size a := fun i v1 v3 k0_hw1 k0_h9 => k0_hw1.2.2.2.2.2.2.2.2.2.2.2.2.2.2.2.1 k0_h9
theorem k0_mult15_dvd : ∀ (i : grid0.Coords) (v1 : BitVec 32) (v3 : BitVec 32) (k0_hw1 : k0_chk1 i v1 v3), ∀ (k0_h10 : k0_cond10 v3 = 1#1), 256 ∣ (k0_mult15 v1 v3).toNat := fun i v1 v3 k0_hw1 k0_h10 => k0_hw1.2.2.2.2.2.2.2.2.2.2.2.2.2.2.2.2.1 k0_h10
theorem k0_off35_inb : ∀ (i : grid0.Coords) (v1 : BitVec 32) (v3 : BitVec 32) (k0_hw1 : k0_chk1 i v1 v3), ∀ (k0_h10 : k0_cond10 v3 = 1#1), ∀ a, (k0_off35 v3) a + S1.size a ≤ S2.size a := fun i v1 v3 k0_hw1 k0_h10 => k0_hw1.2.2.2.2.2.2.2.2.2.2.2.2.2.2.2.2.2.1 k0_h10
theorem k0_off36_inb : ∀ (i : grid0.Coords) (v1 : BitVec 32) (v3 : BitVec 32) (k0_hw1 : k0_chk1 i v1 v3), ∀ (k0_h10 : k0_cond10 v3 = 1#1), ∀ a, (k0_off36 i v1 v3) a + S256x2048.size a ≤ S73728x2048.size a := fun i v1 v3 k0_hw1 k0_h10 => k0_hw1.2.2.2.2.2.2.2.2.2.2.2.2.2.2.2.2.2.2.1 k0_h10
theorem k0_off37_inb : ∀ (i : grid0.Coords) (v1 : BitVec 32) (v3 : BitVec 32) (k0_hw1 : k0_chk1 i v1 v3), ∀ (k0_h10 : k0_cond10 v3 = 1#1), ∀ a, (k0_off37 v3) a + S1x256x2048.size a ≤ S2x256x2048.size a := fun i v1 v3 k0_hw1 k0_h10 => k0_hw1.2.2.2.2.2.2.2.2.2.2.2.2.2.2.2.2.2.2.2 k0_h10

def k0_cond11 (i : grid0.Coords) : BitVec 1 :=
  let arg1 : BitVec 32 := BitVec.ofNat 32 (i 1).val
  let c31_i32 : BitVec 32 := 31#32
  let v31 : BitVec 1 := Scalar.cmpi .eq arg1 c31_i32
  let v45 : BitVec 32 := Scalar.extui v31
  let c0_i32_21 : BitVec 32 := 0#32
  let v46 : BitVec 1 := Scalar.cmpi .ne v45 c0_i32_21
  v46

@[reducible] def k0_t3_loop (v28 : BitVec 32) (v29 : BitVec 32) : Scf.Loop 32 :=
  let v30 : BitVec 32 := Scalar.addi v28 v29
  let c288_i32 : BitVec 32 := 288#32
  let v51 : BitVec 32 := Scalar.subi c288_i32 v30
  let c1_i32_25 : BitVec 32 := 1#32
  let v53 : BitVec 32 := Scalar.divsi v51 c1_i32_25
  let v54 : BitVec 32 := Scalar.muli v53 c1_i32_25
  let v55 : BitVec 32 := Scalar.addi v30 v54
  let c1_i32_26 : BitVec 32 := 1#32
  ⟨v30, v55, c1_i32_26⟩

def k0_mult16 (v28 : BitVec 32) (v29 : BitVec 32) (k0_t3 : Fin (k0_t3_loop v28 v29).trips) : BitVec 32 :=
  let v30 : BitVec 32 := Scalar.addi v28 v29
  let c1_i32_26 : BitVec 32 := 1#32
  let arg15 : BitVec 32 := Scf.iv v30 c1_i32_26 k0_t3
  let c256_i32 : BitVec 32 := 256#32
  let v56 : BitVec 32 := Scalar.muli arg15 c256_i32
  v56
def k0_off38 (i : grid0.Coords) (v28 : BitVec 32) (v29 : BitVec 32) (k0_t3 : Fin (k0_t3_loop v28 v29).trips) : Fin 2 → Nat :=
  let v30 : BitVec 32 := Scalar.addi v28 v29
  let c1_i32_26 : BitVec 32 := 1#32
  let arg15 : BitVec 32 := Scf.iv v30 c1_i32_26 k0_t3
  let c256_i32 : BitVec 32 := 256#32
  let v56 : BitVec 32 := Scalar.muli arg15 c256_i32
  let v57 : BitVec 32 := v56
  let arg0 : BitVec 32 := BitVec.ofNat 32 (i 0).val
  let c2048_i32_12 : BitVec 32 := 2048#32
  let v32 : BitVec 32 := Scalar.muli arg0 c2048_i32_12
  let v33 : BitVec 32 := v32
  ![v57.toNat, v33.toNat]
def k0_mult17 (v28 : BitVec 32) (v29 : BitVec 32) (k0_t3 : Fin (k0_t3_loop v28 v29).trips) : BitVec 32 :=
  let v30 : BitVec 32 := Scalar.addi v28 v29
  let c1_i32_26 : BitVec 32 := 1#32
  let arg15 : BitVec 32 := Scf.iv v30 c1_i32_26 k0_t3
  let c256_i32_32 : BitVec 32 := 256#32
  let v63 : BitVec 32 := Scalar.muli arg15 c256_i32_32
  v63
@[reducible] def k0_t4_loop (v28 : BitVec 32) (v29 : BitVec 32) : Scf.Loop 32 :=
  let v30 : BitVec 32 := Scalar.addi v28 v29
  let c288_i32 : BitVec 32 := 288#32
  let v51 : BitVec 32 := Scalar.subi c288_i32 v30
  let c1_i32_25 : BitVec 32 := 1#32
  let v53 : BitVec 32 := Scalar.divsi v51 c1_i32_25
  let v54 : BitVec 32 := Scalar.muli v53 c1_i32_25
  let v55 : BitVec 32 := Scalar.addi v30 v54
  let v52 : BitVec 32 := Scalar.addi v30 v51
  let c1_i32_27 : BitVec 32 := 1#32
  ⟨v55, v52, c1_i32_27⟩
def k0_mult18 (v28 : BitVec 32) (v29 : BitVec 32) (k0_t4 : Fin (k0_t4_loop v28 v29).trips) : BitVec 32 :=
  let v30 : BitVec 32 := Scalar.addi v28 v29
  let c288_i32 : BitVec 32 := 288#32
  let v51 : BitVec 32 := Scalar.subi c288_i32 v30
  let c1_i32_25 : BitVec 32 := 1#32
  let v53 : BitVec 32 := Scalar.divsi v51 c1_i32_25
  let v54 : BitVec 32 := Scalar.muli v53 c1_i32_25
  let v55 : BitVec 32 := Scalar.addi v30 v54
  let c1_i32_27 : BitVec 32 := 1#32
  let arg15 : BitVec 32 := Scf.iv v55 c1_i32_27 k0_t4
  let c256_i32 : BitVec 32 := 256#32
  let v56 : BitVec 32 := Scalar.muli arg15 c256_i32
  v56
def k0_off39 (i : grid0.Coords) (v28 : BitVec 32) (v29 : BitVec 32) (k0_t4 : Fin (k0_t4_loop v28 v29).trips) : Fin 2 → Nat :=
  let v30 : BitVec 32 := Scalar.addi v28 v29
  let c288_i32 : BitVec 32 := 288#32
  let v51 : BitVec 32 := Scalar.subi c288_i32 v30
  let c1_i32_25 : BitVec 32 := 1#32
  let v53 : BitVec 32 := Scalar.divsi v51 c1_i32_25
  let v54 : BitVec 32 := Scalar.muli v53 c1_i32_25
  let v55 : BitVec 32 := Scalar.addi v30 v54
  let c1_i32_27 : BitVec 32 := 1#32
  let arg15 : BitVec 32 := Scf.iv v55 c1_i32_27 k0_t4
  let c256_i32 : BitVec 32 := 256#32
  let v56 : BitVec 32 := Scalar.muli arg15 c256_i32
  let v57 : BitVec 32 := v56
  let arg0 : BitVec 32 := BitVec.ofNat 32 (i 0).val
  let c2048_i32_12 : BitVec 32 := 2048#32
  let v32 : BitVec 32 := Scalar.muli arg0 c2048_i32_12
  let v33 : BitVec 32 := v32
  ![v57.toNat, v33.toNat]
def k0_mult19 (v28 : BitVec 32) (v29 : BitVec 32) (k0_t4 : Fin (k0_t4_loop v28 v29).trips) : BitVec 32 :=
  let v30 : BitVec 32 := Scalar.addi v28 v29
  let c288_i32 : BitVec 32 := 288#32
  let v51 : BitVec 32 := Scalar.subi c288_i32 v30
  let c1_i32_25 : BitVec 32 := 1#32
  let v53 : BitVec 32 := Scalar.divsi v51 c1_i32_25
  let v54 : BitVec 32 := Scalar.muli v53 c1_i32_25
  let v55 : BitVec 32 := Scalar.addi v30 v54
  let c1_i32_27 : BitVec 32 := 1#32
  let arg15 : BitVec 32 := Scf.iv v55 c1_i32_27 k0_t4
  let c256_i32_32 : BitVec 32 := 256#32
  let v63 : BitVec 32 := Scalar.muli arg15 c256_i32_32
  v63

def k0_chk2 (i : grid0.Coords) (v28 : BitVec 32) (v29 : BitVec 32) : Prop :=
  (∀ (k0_h11 : k0_cond11 i = 1#1), (k0_t3_loop v28 v29).OK) ∧
  (∀ k0_t3 : Fin (k0_t3_loop v28 v29).trips, ∀ (k0_h11 : k0_cond11 i = 1#1), 256 ∣ (k0_mult16 v28 v29 k0_t3).toNat) ∧
  (∀ k0_t3 : Fin (k0_t3_loop v28 v29).trips, ∀ (k0_h11 : k0_cond11 i = 1#1), ∀ a, (k0_off38 i v28 v29 k0_t3) a + S256x2048.size a ≤ S73728x2048.size a) ∧
  (∀ k0_t3 : Fin (k0_t3_loop v28 v29).trips, ∀ (k0_h11 : k0_cond11 i = 1#1), 256 ∣ (k0_mult17 v28 v29 k0_t3).toNat) ∧
  (∀ (k0_h11 : k0_cond11 i = 1#1), (k0_t4_loop v28 v29).OK) ∧
  (∀ k0_t4 : Fin (k0_t4_loop v28 v29).trips, ∀ (k0_h11 : k0_cond11 i = 1#1), 256 ∣ (k0_mult18 v28 v29 k0_t4).toNat) ∧
  (∀ k0_t4 : Fin (k0_t4_loop v28 v29).trips, ∀ (k0_h11 : k0_cond11 i = 1#1), ∀ a, (k0_off39 i v28 v29 k0_t4) a + S256x2048.size a ≤ S73728x2048.size a) ∧
  (∀ k0_t4 : Fin (k0_t4_loop v28 v29).trips, ∀ (k0_h11 : k0_cond11 i = 1#1), 256 ∣ (k0_mult19 v28 v29 k0_t4).toNat)
theorem k0_t3_ok : ∀ (i : grid0.Coords) (v28 : BitVec 32) (v29 : BitVec 32) (k0_hw2 : k0_chk2 i v28 v29), ∀ (k0_h11 : k0_cond11 i = 1#1), (k0_t3_loop v28 v29).OK := fun i v28 v29 k0_hw2 k0_h11 => k0_hw2.1 k0_h11
theorem k0_mult16_dvd : ∀ (i : grid0.Coords) (v28 : BitVec 32) (v29 : BitVec 32) (k0_hw2 : k0_chk2 i v28 v29) (k0_t3 : Fin (k0_t3_loop v28 v29).trips), ∀ (k0_h11 : k0_cond11 i = 1#1), 256 ∣ (k0_mult16 v28 v29 k0_t3).toNat := fun i v28 v29 k0_hw2 k0_t3 k0_h11 => k0_hw2.2.1 k0_t3 k0_h11
theorem k0_off38_inb : ∀ (i : grid0.Coords) (v28 : BitVec 32) (v29 : BitVec 32) (k0_hw2 : k0_chk2 i v28 v29) (k0_t3 : Fin (k0_t3_loop v28 v29).trips), ∀ (k0_h11 : k0_cond11 i = 1#1), ∀ a, (k0_off38 i v28 v29 k0_t3) a + S256x2048.size a ≤ S73728x2048.size a := fun i v28 v29 k0_hw2 k0_t3 k0_h11 => k0_hw2.2.2.1 k0_t3 k0_h11
theorem k0_mult17_dvd : ∀ (i : grid0.Coords) (v28 : BitVec 32) (v29 : BitVec 32) (k0_hw2 : k0_chk2 i v28 v29) (k0_t3 : Fin (k0_t3_loop v28 v29).trips), ∀ (k0_h11 : k0_cond11 i = 1#1), 256 ∣ (k0_mult17 v28 v29 k0_t3).toNat := fun i v28 v29 k0_hw2 k0_t3 k0_h11 => k0_hw2.2.2.2.1 k0_t3 k0_h11
theorem k0_t4_ok : ∀ (i : grid0.Coords) (v28 : BitVec 32) (v29 : BitVec 32) (k0_hw2 : k0_chk2 i v28 v29), ∀ (k0_h11 : k0_cond11 i = 1#1), (k0_t4_loop v28 v29).OK := fun i v28 v29 k0_hw2 k0_h11 => k0_hw2.2.2.2.2.1 k0_h11
theorem k0_mult18_dvd : ∀ (i : grid0.Coords) (v28 : BitVec 32) (v29 : BitVec 32) (k0_hw2 : k0_chk2 i v28 v29) (k0_t4 : Fin (k0_t4_loop v28 v29).trips), ∀ (k0_h11 : k0_cond11 i = 1#1), 256 ∣ (k0_mult18 v28 v29 k0_t4).toNat := fun i v28 v29 k0_hw2 k0_t4 k0_h11 => k0_hw2.2.2.2.2.2.1 k0_t4 k0_h11
theorem k0_off39_inb : ∀ (i : grid0.Coords) (v28 : BitVec 32) (v29 : BitVec 32) (k0_hw2 : k0_chk2 i v28 v29) (k0_t4 : Fin (k0_t4_loop v28 v29).trips), ∀ (k0_h11 : k0_cond11 i = 1#1), ∀ a, (k0_off39 i v28 v29 k0_t4) a + S256x2048.size a ≤ S73728x2048.size a := fun i v28 v29 k0_hw2 k0_t4 k0_h11 => k0_hw2.2.2.2.2.2.2.1 k0_t4 k0_h11
theorem k0_mult19_dvd : ∀ (i : grid0.Coords) (v28 : BitVec 32) (v29 : BitVec 32) (k0_hw2 : k0_chk2 i v28 v29) (k0_t4 : Fin (k0_t4_loop v28 v29).trips), ∀ (k0_h11 : k0_cond11 i = 1#1), 256 ∣ (k0_mult19 v28 v29 k0_t4).toNat := fun i v28 v29 k0_hw2 k0_t4 k0_h11 => k0_hw2.2.2.2.2.2.2.2 k0_t4 k0_h11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== Gmm2RefIdeal.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S73728 : Shape := ⟨1, ![73728]⟩
abbrev S73728x1 : Shape := ⟨2, ![73728, 1]⟩
abbrev S1x32 : Shape := ⟨2, ![1, 32]⟩
abbrev S_ : Shape := ⟨0, ![]⟩
abbrev S73728x32 : Shape := ⟨2, ![73728, 32]⟩
abbrev S73728x32x2048 : Shape := ⟨3, ![73728, 32, 2048]⟩
abbrev S1x32x2048 : Shape := ⟨3, ![1, 32, 2048]⟩
abbrev S73728x32x1 : Shape := ⟨3, ![73728, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S73728x2048, .bf16⟩
  | .hbm, ⟨3, _⟩ => ⟨S32x2048x2048, .f32⟩
  | .hbm, ⟨4, _⟩ => ⟨S32x2048, .f32⟩
  | .hbm, ⟨5, _⟩ => ⟨S73728, .i32⟩
  | .hbm, ⟨6, _⟩ => ⟨S73728x1, .i32⟩
  | .hbm, ⟨7, _⟩ => ⟨S1x32, .i32⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S73728x32, .i32⟩
  | .hbm, ⟨12, _⟩ => ⟨S73728x32, .i32⟩
  | .hbm, ⟨13, _⟩ => ⟨S73728x32, .i1⟩
  | .hbm, ⟨14, _⟩ => ⟨S32, .i32⟩
  | .hbm, ⟨15, _⟩ => ⟨S1x32, .i32⟩
  | .hbm, ⟨16, _⟩ => ⟨S_, .i32⟩
  | .hbm, ⟨17, _⟩ => ⟨S1x32, .i32⟩
  | .hbm, ⟨18, _⟩ => ⟨S1x32, .i32⟩
  | .hbm, ⟨19, _⟩ => ⟨S73728x32, .i32⟩
  | .hbm, ⟨20, _⟩ => ⟨S73728x32, .i32⟩
  | .hbm, ⟨21, _⟩ => ⟨S73728x32, .i1⟩
  | .hbm, ⟨22, _⟩ => ⟨S73728x32, .i1⟩
  | .hbm, ⟨23, _⟩ => ⟨S73728x2048, .f32⟩
  | .hbm, ⟨24, _⟩ => ⟨S73728x32x2048, .f32⟩
  | .hbm, ⟨25, _⟩ => ⟨S1x32x2048, .f32⟩
  | .hbm, ⟨26, _⟩ => ⟨S73728x32x2048, .f32⟩
  | .hbm, ⟨27, _⟩ => ⟨S73728x32x2048, .f32⟩
  | .hbm, ⟨28, _⟩ => ⟨S73728x32x1, .i1⟩
  | .hbm, ⟨29, _⟩ => ⟨S_, .f32⟩
  | .hbm, ⟨30, _⟩ => ⟨S_, .f32⟩
  | .hbm, ⟨31, _⟩ => ⟨S73728x32x2048, .i1⟩
  | .hbm, ⟨32, _⟩ => ⟨S73728x32x2048, .f32⟩
  | .hbm, ⟨33, _⟩ => ⟨S73728x32x2048, .f32⟩
  | .hbm, ⟨34, _⟩ => ⟨S_, .f32⟩
  | .hbm, ⟨35, _⟩ => ⟨S73728x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Gmm1.lean ====
abbrev S32 : Shape := ⟨1, ![32]⟩
abbrev S73728x2048 : Shape := ⟨2, ![73728, 2048]⟩
abbrev S32x2048x4096 : Shape := ⟨3, ![32, 2048, 4096]⟩
abbrev S32x4096 : Shape := ⟨2, ![32, 4096]⟩
abbrev S32x1x4096 : Shape := ⟨3, ![32, 1, 4096]⟩
abbrev S1x1x1024 : Shape := ⟨3, ![1, 1, 1024]⟩
abbrev S2x2x2048x1024 : Shape := ⟨4, ![2, 2, 2048, 1024]⟩
abbrev S2x2 : Shape := ⟨2, ![2, 2]⟩
abbrev S2048x1024 : Shape := ⟨2, ![2048, 1024]⟩
abbrev S2x256x2048 : Shape := ⟨3, ![2, 256, 2048]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x1 : Shape := ⟨2, ![1, 1]⟩
abbrev S1x1x2048x1024 : Shape := ⟨4, ![1, 1, 2048, 1024]⟩
abbrev S1x2048x1024 : Shape := ⟨3, ![1, 2048, 1024]⟩
abbrev S256x1024 : Shape := ⟨2, ![256, 1024]⟩
abbrev S1x1024 : Shape := ⟨2, ![1, 1024]⟩
abbrev S1x256x1024 : Shape := ⟨3, ![1, 256, 1024]⟩

abbrev nBuf : Space → Nat
  | .hbm => 5
  | .vmem => 9
  | .smem => 2
  | _ => 0

abbrev bufTy : (tb : Table) → Fin (tcTables nBuf tb) → BufTy
  | .hbm, ⟨0, _⟩ => ⟨S73728x2048, .f32⟩
  | .hbm, ⟨1, _⟩ => ⟨S32x2048x4096, .f32⟩
  | .hbm, ⟨2, _⟩ => ⟨S32x4096, .f32⟩
  | .hbm, ⟨3, _⟩ => ⟨S32x1x4096, .f32⟩
  | .hbm, ⟨4, _⟩ => ⟨S73728x2048, .bf16⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S2x2x2048x1024, .f32⟩
  | .local _ .vmem, ⟨5, _⟩ => ⟨S2048x1024, .bf16⟩
  | .local _ .vmem, ⟨6, _⟩ => ⟨S2048x1024, .bf16⟩
  | .local _ .vmem, ⟨7, _⟩ => ⟨S2x256x2048, .f32⟩
  | .local _ .vmem, ⟨8, _⟩ => ⟨S2x256x1024, .bf16⟩
  | .local _ .smem, ⟨0, _⟩ => ⟨S32, .i32⟩
  | .local _ .smem, ⟨1, _⟩ => ⟨S32, .i32⟩
  | _, _ => ⟨S73728x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c256_i32 : BitVec 32 := 256#32
  let v57 : BitVec 32 := Scalar.muli v1 c256_i32
  v57
def k0_cond1 (v3 : BitVec 32) : BitVec 1 :=
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k0_off2 (v1 : BitVec 32) : Fin 2 → Nat :=
  let c256_i32 : BitVec 32 := 256#32
  let v57 : BitVec 32 := Scalar.muli v1 c256_i32
  let v58 : BitVec 32 := v57
  let c0_i32_35 : BitVec 32 := 0#32
  ![v58.toNat, 0]
def k0_cond2 (i : grid0.Coords) : BitVec 1 :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c0_i32_1 : BitVec 32 := 0#32
  let v10 : BitVec 1 := Scalar.cmpi .eq v8 c0_i32_1
  let v11 : BitVec 32 := Scalar.extui v10
  let c0_i32_2 : BitVec 32 := 0#32
  let v12 : BitVec 1 := Scalar.cmpi .ne v11 c0_i32_2
  v12

def k0_mult2 : BitVec 32 :=
  let c0_i32_31 : BitVec 32 := 0#32
  c0_i32_31
def k0_mult3 : BitVec 32 :=
  let c2048_i32 : BitVec 32 := 2048#32
  c2048_i32
def k0_cond3 (i : grid0.Coords) : BitVec 1 :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32_3 : BitVec 32 := 1#32
  let v13 : BitVec 32 := Scalar.addi v8 c1_i32_3
  let c64_i32 : BitVec 32 := 64#32
  let v14 : BitVec 1 := Scalar.cmpi .slt v13 c64_i32
  let v15 : BitVec 32 := Scalar.extui v14
  let c0_i32_4 : BitVec 32 := 0#32
  let v16 : BitVec 1 := Scalar.cmpi .ne v15 c0_i32_4
  v16

def k0_mult4 (i : grid0.Coords) : BitVec 32 :=
  let c0_i32_37 : BitVec 32 := 0#32
  let arg1 : BitVec 32 := BitVec.ofNat 32 (i 1).val
  let c1_i32_31 : BitVec 32 := 1#32
  let v57 : BitVec 32 := Scalar.addi arg1 c1_i32_31
  let c32_i32_32 : BitVec 32 := 32#32
  let v58 : BitVec 1 := Scalar.cmpi .eq v57 c32_i32_32
  let arg0 : BitVec 32 := BitVec.ofNat 32 (i 0).val
  let c1_i32_34 : BitVec 32 := 1#32
  let v60 : BitVec 32 := Scalar.addi arg0 c1_i32_34
  let v61 : BitVec 32 := Scalar.select v58 v60 arg0
  let v64 : BitVec 32 := Scalar.addi c0_i32_37 v61
  let c1024_i32_38 : BitVec 32 := 1024#32
  let v65 : BitVec 32 := Scalar.muli v64 c1024_i32_38
  v65
def k0_mult5 (i : grid0.Coords) : BitVec 32 :=
  let c2_i32_39 : BitVec 32 := 2#32
  let arg1 : BitVec 32 := BitVec.ofNat 32 (i 1).val
  let c1_i32_31 : BitVec 32 := 1#32
  let v57 : BitVec 32 := Scalar.addi arg1 c1_i32_31
  let c32_i32_32 : BitVec 32 := 32#32
  let v58 : BitVec 1 := Scalar.cmpi .eq v57 c32_i32_32
  let arg0 : BitVec 32 := BitVec.ofNat 32 (i 0).val
  let c1_i32_34 : BitVec 32 := 1#32
  let v60 : BitVec 32 := Scalar.addi arg0 c1_i32_34
  let v61 : BitVec 32 := Scalar.select v58 v60 arg0
  let v67 : BitVec 32 := Scalar.addi c2_i32_39 v61
  let c1024_i32_40 : BitVec 32 := 1024#32
  let v68 : BitVec 32 := Scalar.muli v67 c1024_i32_40
  v68
def k0_off3 (i : grid0.Coords) : Fin 2 → Nat :=
  let c1_i32_33 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v59 : BitVec 32 := Scalar.subi c1_i32_33 v9
  let c0_i32_42 : BitVec 32 := 0#32
  ![v59.toNat, 0]
def k0_off4 (i : grid0.Coords) : Fin 4 → Nat :=
  let c1_i32_33 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v59 : BitVec 32 := Scalar.subi c1_i32_33 v9
  let c0_i32_41 : BitVec 32 := 0#32
  let c0_i32_43 : BitVec 32 := 0#32
  let c0_i32_44 : BitVec 32 := 0#32
  ![v59.toNat, 0, 0, 0]
def k0_off5 (i : grid0.Coords) (c0_i32_37 : BitVec 32) : Fin 3 → Nat :=
  let arg1 : BitVec 32 := BitVec.ofNat 32 (i 1).val
  let c1_i32_31 : BitVec 32 := 1#32
  let v57 : BitVec 32 := Scalar.addi arg1 c1_i32_31
  let c32_i32_32 : BitVec 32 := 32#32
  let v58 : BitVec 1 := Scalar.cmpi .eq v57 c32_i32_32
  let c0_i32_36 : BitVec 32 := 0#32
  let c1_i32_35 : BitVec 32 := 1#32
  let v62 : BitVec 32 := Scalar.addi arg1 c1_i32_35
  let v63 : BitVec 32 := Scalar.select v58 c0_i32_36 v62
  let c0_i32_45 : BitVec 32 := 0#32
  let arg0 : BitVec 32 := BitVec.ofNat 32 (i 0).val
  let c1_i32_34 : BitVec 32 := 1#32
  let v60 : BitVec 32 := Scalar.addi arg0 c1_i32_34
  let v61 : BitVec 32 := Scalar.select v58 v60 arg0
  let v64 : BitVec 32 := Scalar.addi c0_i32_37 v61
  let c1024_i32_38 : BitVec 32 := 1024#32
  let v65 : BitVec 32 := Scalar.muli v64 c1024_i32_38
  let v66 : BitVec 32 := v65
  ![v63.toNat, 0, v66.toNat]
def k0_off6 (i : grid0.Coords) : Fin 2 → Nat :=
  let c1_i32_33 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v59 : BitVec 32 := Scalar.subi c1_i32_33 v9
  let c1_i32_47 : BitVec 32 := 1#32
  ![v59.toNat, 1]
def k0_off7 (i : grid0.Coords) : Fin 4 → Nat :=
  let c1_i32_33 : BitVec 32 := 1#32
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v59 : BitVec 32 := Scalar.subi c1_i32_33 v9
  let c1_i32_46 : BitVec 32 := 1#32
  let c0_i32_48 : BitVec 32 := 0#32
  let c0_i32_49 : BitVec 32 := 0#32
  ![v59.toNat, 1, 0, 0]
def k0_mult6 (i : grid0.Coords) : BitVec 32 :=
  let c0_i32_5 : BitVec 32 := 0#32
  let arg0 : BitVec 32 := BitVec.ofNat 32 (i 0).val
  let v17 : BitVec 32 := Scalar.addi c0_i32_5 arg0
  let c1024_i32 : BitVec 32 := 1024#32
  let v18 : BitVec 32 := Scalar.muli v17 c1024_i32
  v18
def k0_mult7 (i : grid0.Coords) : BitVec 32 :=
  let c2_i32 : BitVec 32 := 2#32
  let arg0 : BitVec 32 := BitVec.ofNat 32 (i 0).val
  let v20 : BitVec 32 := Scalar.addi c2_i32 arg0
  let c1024_i32_6 : BitVec 32 := 1024#32
  let v21 : BitVec 32 := Scalar.muli v20 c1024_i32_6
  v21
def k0_off8 (i : grid0.Coords) : Fin 2 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let c0_i32_8 : BitVec 32 := 0#32
  ![v9.toNat, 0]
def k0_off9 (i : grid0.Coords) : Fin 4 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let c0_i32_7 : BitVec 32 := 0#32
  let c0_i32_9 : BitVec 32 := 0#32
  let c0_i32_10 : BitVec 32 := 0#32
  ![v9.toNat, 0, 0, 0]
def k0_off10 (i : grid0.Coords) (c0_i32_5 : BitVec 32) : Fin 3 → Nat :=
  let arg1 : BitVec 32 := BitVec.ofNat 32 (i 1).val
  let c0_i32_11 : BitVec 32 := 0#32
  let arg0 : BitVec 32 := BitVec.ofNat 32 (i 0).val
  let v17 : BitVec 32 := Scalar.addi c0_i32_5 arg0
  let c1024_i32 : BitVec 32 := 1024#32
  let v18 : BitVec 32 := Scalar.muli v17 c1024_i32
  let v19 : BitVec 32 := v18
  ![arg1.toNat, 0, v19.toNat]
def k0_off11 (i : grid0.Coords) : Fin 2 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let c1_i32_13 : BitVec 32 := 1#32
  ![v9.toNat, 1]
def k0_off12 (i : grid0.Coords) : Fin 4 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let c1_i32_12 : BitVec 32 := 1#32
  let c0_i32_14 : BitVec 32 := 0#32
  let c0_i32_15 : BitVec 32 := 0#32
  ![v9.toNat, 1, 0, 0]
def k0_off13 (i : grid0.Coords) : Fin 4 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v57 : Index := Scalar.indexCast v9
  let c0 : Index := 0#32
  let c0_31 : Index := 0#32
  let c0_32 : Index := 0#32
  ![v57.toNat, 0, 0, 0]
def k0_off14 (i : grid0.Coords) : Fin 4 → Nat :=
  let arg0 : BitVec 32 := BitVec.ofNat 32 (i 0).val
  let c32_i32 : BitVec 32 := 32#32
  let v7 : BitVec 32 := Scalar.muli arg0 c32_i32
  let arg1 : BitVec 32 := BitVec.ofNat 32 (i 1).val
  let v8 : BitVec 32 := Scalar.addi v7 arg1
  let c1_i32 : BitVec 32 := 1#32
  let v9 : BitVec 32 := Scalar.andi v8 c1_i32
  let v64 : Index := Scalar.indexCast v9
  let c1 : Index := 1#32
  let c0_35 : Index := 0#32
  let c0_36 : Index := 0#32
  ![v64.toNat, 1, 0, 0]
def k0_mult8 (i : grid0.Coords) : BitVec 32 :=
  let arg0 : BitVec 32 := BitVec.ofNat 32 (i 0).val
  let c1024_i32_20 : BitVec 32 := 1024#32
  let v42 : BitVec 32 := Scalar.muli arg0 c1024_i32_20
  v42
@[reducible] def k0_t1_loop (v3 : BitVec 32) : Scf.Loop 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_24 : BitVec 32 := 1#32
  ⟨c0_i32_22, v48, c1_i32_24⟩
def k0_mult9 (v1 : BitVec 32) (v3 : BitVec 32) (k0_t1 : Fin (k0_t1_loop v3).trips) : BitVec 32 :=
  let c0_i32_22 : BitVec 32 := 0#32
  let c1_i32_24 : BitVec 32 := 1#32
  let arg17 : BitVec 32 := Scf.iv c0_i32_22 c1_i32_24 k0_t1
  let v58 : BitVec 32 := Scalar.addi v1 arg17
  let c256_i32 : BitVec 32 := 256#32
  let v59 : BitVec 32 := Scalar.muli v58 c256_i32
  v59
def k0_off15 (v3 : BitVec 32) (k0_t1 : Fin (k0_t1_loop v3).trips) : Fin 1 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  ![v57.toNat]
def k0_off16 (v3 : BitVec 32) (k0_t1 : Fin (k0_t1_loop v3).trips) : Fin 3 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let c0_i32_32 : BitVec 32 := 0#32
  let c0_i32_33 : BitVec 32 := 0#32
  ![v57.toNat, 0, 0]
def k0_off17 (v1 : BitVec 32) (v3 : BitVec 32) (k0_t1 : Fin (k0_t1_loop v3).trips) : Fin 2 → Nat :=
  let c0_i32_22 : BitVec 32 := 0#32
  let c1_i32_24 : BitVec 32 := 1#32
  let arg17 : BitVec 32 := Scf.iv c0_i32_22 c1_i32_24 k0_t1
  let v58 : BitVec 32 := Scalar.addi v1 arg17
  let c256_i32 : BitVec 32 := 256#32
  let v59 : BitVec 32 := Scalar.muli v58 c256_i32
  let v60 : BitVec 32 := v59
  let c0_i32_34 : BitVec 32 := 0#32
  ![v60.toNat, 0]
def k0_mult10 (v1 : BitVec 32) (v3 : BitVec 32) (k0_t1 : Fin (k0_t1_loop v3).trips) : BitVec 32 :=
  let c0_i32_22 : BitVec 32 := 0#32
  let c1_i32_24 : BitVec 32 := 1#32
  let arg17 : BitVec 32 := Scf.iv c0_i32_22 c1_i32_24 k0_t1
  let v116 : BitVec 32 := Scalar.addi v1 arg17
  let c1_i32_62 : BitVec 32 := 1#32
  let v117 : BitVec 32 := Scalar.addi v116 c1_i32_62
  let c256_i32_63 : BitVec 32 := 256#32
  let v118 : BitVec 32 := Scalar.muli v117 c256_i32_63
  v118
def k0_cond5 (v3 : BitVec 32) (k0_t1 : Fin (k0_t1_loop v3).trips) : BitVec 1 :=
  let c0_i32_22 : BitVec 32 := 0#32
  let c1_i32_24 : BitVec 32 := 1#32
  let arg17 : BitVec 32 := Scf.iv c0_i32_22 c1_i32_24 k0_t1
  let c1_i32_35 : BitVec 32 := 1#32
  let v66 : BitVec 32 := Scalar.addi arg17 c1_i32_35
  let v67 : BitVec 1 := Scalar.cmpi .slt v66 v3
  let v68 : BitVec 32 := Scalar.extui v67
  let c0_i32_36 : BitVec 32 := 0#32
  let v69 : BitVec 1 := Scalar.cmpi .ne v68 c0_i32_36
  v69

def k0_off18 (v3 : BitVec 32) (k0_t1 : Fin (k0_t1_loop v3).trips) : Fin 1 → Nat :=
  let c1_i32_61 : BitVec 32 := 1#32
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let v115 : BitVec 32 := Scalar.subi c1_i32_61 v57
  ![v115.toNat]
def k0_off19 (v3 : BitVec 32) (k0_t1 : Fin (k0_t1_loop v3).trips) : Fin 3 → Nat :=
  let c1_i32_61 : BitVec 32 := 1#32
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let v115 : BitVec 32 := Scalar.subi c1_i32_61 v57
  let c0_i32_64 : BitVec 32 := 0#32
  let c0_i32_65 : BitVec 32 := 0#32
  ![v115.toNat, 0, 0]
def k0_off20 (v1 : BitVec 32) (v3 : BitVec 32) (k0_t1 : Fin (k0_t1_loop v3).trips) : Fin 2 → Nat :=
  let c0_i32_22 : BitVec 32 := 0#32
  let c1_i32_24 : BitVec 32 := 1#32
  let arg17 : BitVec 32 := Scf.iv c0_i32_22 c1_i32_24 k0_t1
  let v116 : BitVec 32 := Scalar.addi v1 arg17
  let c1_i32_62 : BitVec 32 := 1#32
  let v117 : BitVec 32 := Scalar.addi v116 c1_i32_62
  let c256_i32_63 : BitVec 32 := 256#32
  let v118 : BitVec 32 := Scalar.muli v117 c256_i32_63
  let v119 : BitVec 32 := v118
  let c0_i32_66 : BitVec 32 := 0#32
  ![v119.toNat, 0]
def k0_off21 (v3 : BitVec 32) (k0_t1 : Fin (k0_t1_loop v3).trips) : Fin 3 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let v70 : Index := Scalar.indexCast v57
  let c0 : Index := 0#32
  let c0_37 : Index := 0#32
  ![v70.toNat, 0, 0]
def k0_cond6 (v3 : BitVec 32) (k0_t1 : Fin (k0_t1_loop v3).trips) : BitVec 1 :=
  let c0_i32_22 : BitVec 32 := 0#32
  let c1_i32_24 : BitVec 32 := 1#32
  let arg17 : BitVec 32 := Scf.iv c0_i32_22 c1_i32_24 k0_t1
  let c2_i32_54 : BitVec 32 := 2#32
  let v100 : BitVec 1 := Scalar.cmpi .sge arg17 c2_i32_54
  let v101 : BitVec 32 := Scalar.extui v100
  let c0_i32_55 : BitVec 32 := 0#32
  let v102 : BitVec 1 := Scalar.cmpi .ne v101 c0_i32_55
  v102

def k0_mult11 (v1 : BitVec 32) (v3 : BitVec 32) (k0_t1 : Fin (k0_t1_loop v3).trips) : BitVec 32 :=
  let c0_i32_22 : BitVec 32 := 0#32
  let c1_i32_24 : BitVec 32 := 1#32
  let arg17 : BitVec 32 := Scf.iv c0_i32_22 c1_i32_24 k0_t1
  let v115 : BitVec 32 := Scalar.addi v1 arg17
  let c2_i32_61 : BitVec 32 := 2#32
  let v116 : BitVec 32 := Scalar.subi v115 c2_i32_61
  let c256_i32_62 : BitVec 32 := 256#32
  let v117 : BitVec 32 := Scalar.muli v116 c256_i32_62
  v117
def k0_off22 (v3 : BitVec 32) (k0_t1 : Fin (k0_t1_loop v3).trips) : Fin 1 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  ![v57.toNat]
def k0_off23 (i : grid0.Coords) (v1 : BitVec 32) (v3 : BitVec 32) (k0_t1 : Fin (k0_t1_loop v3).trips) : Fin 2 → Nat :=
  let c0_i32_22 : BitVec 32 := 0#32
  let c1_i32_24 : BitVec 32 := 1#32
  let arg17 : BitVec 32 := Scf.iv c0_i32_22 c1_i32_24 k0_t1
  let v115 : BitVec 32 := Scalar.addi v1 arg17
  let c2_i32_61 : BitVec 32 := 2#32
  let v116 : BitVec 32 := Scalar.subi v115 c2_i32_61
  let c256_i32_62 : BitVec 32 := 256#32
  let v117 : BitVec 32 := Scalar.muli v116 c256_i32_62
  let v118 : BitVec 32 := v117
  let arg0 : BitVec 32 := BitVec.ofNat 32 (i 0).val
  let c1024_i32_20 : BitVec 32 := 1024#32
  let v42 : BitVec 32 := Scalar.muli arg0 c1024_i32_20
  let v43 : BitVec 32 := v42
  ![v118.toNat, v43.toNat]
def k0_off24 (v3 : BitVec 32) (k0_t1 : Fin (k0_t1_loop v3).trips) : Fin 3 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let c0_i32_63 : BitVec 32 := 0#32
  let c0_i32_64 : BitVec 32 := 0#32
  ![v57.toNat, 0, 0]
def k0_off25 (v3 : BitVec 32) (k0_t1 : Fin (k0_t1_loop v3).trips) : Fin 3 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let v103 : Index := Scalar.indexCast v57
  let c0_56 : Index := 0#32
  let c0_57 : Index := 0#32
  ![v103.toNat, 0, 0]
def k0_mult12 (v1 : BitVec 32) (v3 : BitVec 32) (k0_t1 : Fin (k0_t1_loop v3).trips) : BitVec 32 :=
  let c0_i32_22 : BitVec 32 := 0#32
  let c1_i32_24 : BitVec 32 := 1#32
  let arg17 : BitVec 32 := Scf.iv c0_i32_22 c1_i32_24 k0_t1
  let v107 : BitVec 32 := Scalar.addi v1 arg17
  let c256_i32_58 : BitVec 32 := 256#32
  let v108 : BitVec 32 := Scalar.muli v107 c256_i32_58
  v108
def k0_off26 (i : grid0.Coords) (v1 : BitVec 32) (v3 : BitVec 32) (k0_t1 : Fin (k0_t1_loop v3).trips) : Fin 2 → Nat :=
  let c0_i32_22 : BitVec 32 := 0#32
  let c1_i32_24 : BitVec 32 := 1#32
  let arg17 : BitVec 32 := Scf.iv c0_i32_22 c1_i32_24 k0_t1
  let v107 : BitVec 32 := Scalar.addi v1 arg17
  let c256_i32_58 : BitVec 32 := 256#32
  let v108 : BitVec 32 := Scalar.muli v107 c256_i32_58
  let v109 : BitVec 32 := v108
  let arg0 : BitVec 32 := BitVec.ofNat 32 (i 0).val
  let c1024_i32_20 : BitVec 32 := 1024#32
  let v42 : BitVec 32 := Scalar.muli arg0 c1024_i32_20
  let v43 : BitVec 32 := v42
  ![v109.toNat, v43.toNat]
def k0_off27 (v3 : BitVec 32) (k0_t1 : Fin (k0_t1_loop v3).trips) : Fin 3 → Nat :=
  let c0_i32_22 : BitVec 32 := 0#32
  let c1_i32_24 : BitVec 32 := 1#32
  let arg17 : BitVec 32 := Scf.iv c0_i32_22 c1_i32_24 k0_t1
  let c1_i32_31 : BitVec 32 := 1#32
  let v57 : BitVec 32 := Scalar.andi arg17 c1_i32_31
  let c0_i32_59 : BitVec 32 := 0#32
  let c0_i32_60 : BitVec 32 := 0#32
  ![v57.toNat, 0, 0]
@[reducible] def k0_t2_loop (v3 : BitVec 32) : Scf.Loop 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let v45 : BitVec 32 := Scalar.addi c0_i32_22 v44
  let c1_i32_25 : BitVec 32 := 1#32
  ⟨v48, v45, c1_i32_25⟩
def k0_mult13 (v1 : BitVec 32) (v3 : BitVec 32) (k0_t2 : Fin (k0_t2_loop v3).trips) : BitVec 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v58 : BitVec 32 := Scalar.addi v1 arg17
  let c256_i32 : BitVec 32 := 256#32
  let v59 : BitVec 32 := Scalar.muli v58 c256_i32
  v59
def k0_off28 (v3 : BitVec 32) (k0_t2 : Fin (k0_t2_loop v3).trips) : Fin 1 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  ![v57.toNat]
def k0_off29 (v3 : BitVec 32) (k0_t2 : Fin (k0_t2_loop v3).trips) : Fin 3 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let c0_i32_32 : BitVec 32 := 0#32
  let c0_i32_33 : BitVec 32 := 0#32
  ![v57.toNat, 0, 0]
def k0_off30 (v1 : BitVec 32) (v3 : BitVec 32) (k0_t2 : Fin (k0_t2_loop v3).trips) : Fin 2 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v58 : BitVec 32 := Scalar.addi v1 arg17
  let c256_i32 : BitVec 32 := 256#32
  let v59 : BitVec 32 := Scalar.muli v58 c256_i32
  let v60 : BitVec 32 := v59
  let c0_i32_34 : BitVec 32 := 0#32
  ![v60.toNat, 0]
def k0_mult14 (v1 : BitVec 32) (v3 : BitVec 32) (k0_t2 : Fin (k0_t2_loop v3).trips) : BitVec 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v116 : BitVec 32 := Scalar.addi v1 arg17
  let c1_i32_62 : BitVec 32 := 1#32
  let v117 : BitVec 32 := Scalar.addi v116 c1_i32_62
  let c256_i32_63 : BitVec 32 := 256#32
  let v118 : BitVec 32 := Scalar.muli v117 c256_i32_63
  v118
def k0_cond7 (v3 : BitVec 32) (k0_t2 : Fin (k0_t2_loop v3).trips) : BitVec 1 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_35 : BitVec 32 := 1#32
  let v66 : BitVec 32 := Scalar.addi arg17 c1_i32_35
  let v67 : BitVec 1 := Scalar.cmpi .slt v66 v3
  let v68 : BitVec 32 := Scalar.extui v67
  let c0_i32_36 : BitVec 32 := 0#32
  let v69 : BitVec 1 := Scalar.cmpi .ne v68 c0_i32_36
  v69

def k0_off31 (v3 : BitVec 32) (k0_t2 : Fin (k0_t2_loop v3).trips) : Fin 1 → Nat :=
  let c1_i32_61 : BitVec 32 := 1#32
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let v115 : BitVec 32 := Scalar.subi c1_i32_61 v57
  ![v115.toNat]
def k0_off32 (v3 : BitVec 32) (k0_t2 : Fin (k0_t2_loop v3).trips) : Fin 3 → Nat :=
  let c1_i32_61 : BitVec 32 := 1#32
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let v115 : BitVec 32 := Scalar.subi c1_i32_61 v57
  let c0_i32_64 : BitVec 32 := 0#32
  let c0_i32_65 : BitVec 32 := 0#32
  ![v115.toNat, 0, 0]
def k0_off33 (v1 : BitVec 32) (v3 : BitVec 32) (k0_t2 : Fin (k0_t2_loop v3).trips) : Fin 2 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v116 : BitVec 32 := Scalar.addi v1 arg17
  let c1_i32_62 : BitVec 32 := 1#32
  let v117 : BitVec 32 := Scalar.addi v116 c1_i32_62
  let c256_i32_63 : BitVec 32 := 256#32
  let v118 : BitVec 32 := Scalar.muli v117 c256_i32_63
  let v119 : BitVec 32 := v118
  let c0_i32_66 : BitVec 32 := 0#32
  ![v119.toNat, 0]
def k0_off34 (v3 : BitVec 32) (k0_t2 : Fin (k0_t2_loop v3).trips) : Fin 3 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let v70 : Index := Scalar.indexCast v57
  let c0 : Index := 0#32
  let c0_37 : Index := 0#32
  ![v70.toNat, 0, 0]
def k0_mult15 (v1 : BitVec 32) (v3 : BitVec 32) (k0_t2 : Fin (k0_t2_loop v3).trips) : BitVec 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v115 : BitVec 32 := Scalar.addi v1 arg17
  let c2_i32_61 : BitVec 32 := 2#32
  let v116 : BitVec 32 := Scalar.subi v115 c2_i32_61
  let c256_i32_62 : BitVec 32 := 256#32
  let v117 : BitVec 32 := Scalar.muli v116 c256_i32_62
  v117
def k0_cond8 (v3 : BitVec 32) (k0_t2 : Fin (k0_t2_loop v3).trips) : BitVec 1 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c2_i32_54 : BitVec 32 := 2#32
  let v100 : BitVec 1 := Scalar.cmpi .sge arg17 c2_i32_54
  let v101 : BitVec 32 := Scalar.extui v100
  let c0_i32_55 : BitVec 32 := 0#32
  let v102 : BitVec 1 := Scalar.cmpi .ne v101 c0_i32_55
  v102

def k0_off35 (v3 : BitVec 32) (k0_t2 : Fin (k0_t2_loop v3).trips) : Fin 1 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  ![v57.toNat]
def k0_off36 (i : grid0.Coords) (v1 : BitVec 32) (v3 : BitVec 32) (k0_t2 : Fin (k0_t2_loop v3).trips) : Fin 2 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v115 : BitVec 32 := Scalar.addi v1 arg17
  let c2_i32_61 : BitVec 32 := 2#32
  let v116 : BitVec 32 := Scalar.subi v115 c2_i32_61
  let c256_i32_62 : BitVec 32 := 256#32
  let v117 : BitVec 32 := Scalar.muli v116 c256_i32_62
  let v118 : BitVec 32 := v117
  let arg0 : BitVec 32 := BitVec.ofNat 32 (i 0).val
  let c1024_i32_20 : BitVec 32 := 1024#32
  let v42 : BitVec 32 := Scalar.muli arg0 c1024_i32_20
  let v43 : BitVec 32 := v42
  ![v118.toNat, v43.toNat]
def k0_off37 (v3 : BitVec 32) (k0_t2 : Fin (k0_t2_loop v3).trips) : Fin 3 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let c0_i32_63 : BitVec 32 := 0#32
  let c0_i32_64 : BitVec 32 := 0#32
  ![v57.toNat, 0, 0]
def k0_off38 (v3 : BitVec 32) (k0_t2 : Fin (k0_t2_loop v3).trips) : Fin 3 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let v103 : Index := Scalar.indexCast v57
  let c0_56 : Index := 0#32
  let c0_57 : Index := 0#32
  ![v103.toNat, 0, 0]
def k0_mult16 (v1 : BitVec 32) (v3 : BitVec 32) (k0_t2 : Fin (k0_t2_loop v3).trips) : BitVec 32 :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v107 : BitVec 32 := Scalar.addi v1 arg17
  let c256_i32_58 : BitVec 32 := 256#32
  let v108 : BitVec 32 := Scalar.muli v107 c256_i32_58
  v108
def k0_off39 (i : grid0.Coords) (v1 : BitVec 32) (v3 : BitVec 32) (k0_t2 : Fin (k0_t2_loop v3).trips) : Fin 2 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let v107 : BitVec 32 := Scalar.addi v1 arg17
  let c256_i32_58 : BitVec 32 := 256#32
  let v108 : BitVec 32 := Scalar.muli v107 c256_i32_58
  let v109 : BitVec 32 := v108
  let arg0 : BitVec 32 := BitVec.ofNat 32 (i 0).val
  let c1024_i32_20 : BitVec 32 := 1024#32
  let v42 : BitVec 32 := Scalar.muli arg0 c1024_i32_20
  let v43 : BitVec 32 := v42
  ![v109.toNat, v43.toNat]
def k0_off40 (v3 : BitVec 32) (k0_t2 : Fin (k0_t2_loop v3).trips) : Fin 3 → Nat :=
  let c0_i32_22 : BitVec 32 := 0#32
  let v44 : BitVec 32 := Scalar.subi v3 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg17 : BitVec 32 := Scf.iv v48 c1_i32_25 k0_t2
  let c1_i32_31 : BitVec 32 := 1#32
  let v57 : BitVec 32 := Scalar.andi arg17 c1_i32_31
  let c0_i32_59 : BitVec 32 := 0#32
  let c0_i32_60 : BitVec 32 := 0#32
  ![v57.toNat, 0, 0]
def k0_mult17 (v1 : BitVec 32) (v3 : BitVec 32) : BitVec 32 :=
  let v58 : BitVec 32 := Scalar.addi v1 v3
  let c2_i32_32 : BitVec 32 := 2#32
  let v59 : BitVec 32 := Scalar.subi v58 c2_i32_32
  let c256_i32 : BitVec 32 := 256#32
  let v60 : BitVec 32 := Scalar.muli v59 c256_i32
  v60
def k0_cond9 (v3 : BitVec 32) : BitVec 1 :=
  let c2_i32_26 : BitVec 32 := 2#32
  let v49 : BitVec 1 := Scalar.cmpi .sge v3 c2_i32_26
  let v50 : BitVec 32 := Scalar.extui v49
  let c0_i32_27 : BitVec 32 := 0#32
  let v51 : BitVec 1 := Scalar.cmpi .ne v50 c0_i32_27
  v51

def k0_off41 (v3 : BitVec 32) : Fin 1 → Nat :=
  let c1_i32_31 : BitVec 32 := 1#32
  let v57 : BitVec 32 := Scalar.andi v3 c1_i32_31
  ![v57.toNat]
def k0_off42 (i : grid0.Coords) (v1 : BitVec 32) (v3 : BitVec 32) : Fin 2 → Nat :=
  let v58 : BitVec 32 := Scalar.addi v1 v3
  let c2_i32_32 : BitVec 32 := 2#32
  let v59 : BitVec 32 := Scalar.subi v58 c2_i32_32
  let c256_i32 : BitVec 32 := 256#32
  let v60 : BitVec 32 := Scalar.muli v59 c256_i32
  let v61 : BitVec 32 := v60
  let arg0 : BitVec 32 := BitVec.ofNat 32 (i 0).val
  let c1024_i32_20 : BitVec 32 := 1024#32
  let v42 : BitVec 32 := Scalar.muli arg0 c1024_i32_20
  let v43 : BitVec 32 := v42
  ![v61.toNat, v43.toNat]
def k0_off43 (v3 : BitVec 32) : Fin 3 → Nat :=
  let c1_i32_31 : BitVec 32 := 1#32
  let v57 : BitVec 32 := Scalar.andi v3 c1_i32_31
  let c0_i32_33 : BitVec 32 := 0#32
  let c0_i32_34 : BitVec 32 := 0#32
  ![v57.toNat, 0, 0]
def k0_mult18 (v1 : BitVec 32) (v3 : BitVec 32) : BitVec 32 :=
  let v59 : BitVec 32 := Scalar.addi v1 v3
  let c1_i32_33 : BitVec 32 := 1#32
  let v60 : BitVec 32 := Scalar.subi v59 c1_i32_33
  let c256_i32 : BitVec 32 := 256#32
  let v61 : BitVec 32 := Scalar.muli v60 c256_i32
  v61
def k0_cond10 (v3 : BitVec 32) : BitVec 1 :=
  let c1_i32_28 : BitVec 32 := 1#32
  let v52 : BitVec 1 := Scalar.cmpi .sge v3 c1_i32_28
  let v53 : BitVec 32 := Scalar.extui v52
  let c0_i32_29 : BitVec 32 := 0#32
  let v54 : BitVec 1 := Scalar.cmpi .ne v53 c0_i32_29
  v54

def k0_off44 (v3 : BitVec 32) : Fin 1 → Nat :=
  let c1_i32_31 : BitVec 32 := 1#32
  let v57 : BitVec 32 := Scalar.subi v3 c1_i32_31
  let c1_i32_32 : BitVec 32 := 1#32
  let v58 : BitVec 32 := Scalar.andi v57 c1_i32_32
  ![v58.toNat]
def k0_off45 (i : grid0.Coords) (v1 : BitVec 32) (v3 : BitVec 32) : Fin 2 → Nat :=
  let v59 : BitVec 32 := Scalar.addi v1 v3
  let c1_i32_33 : BitVec 32 := 1#32
  let v60 : BitVec 32 := Scalar.subi v59 c1_i32_33
  let c256_i32 : BitVec 32 := 256#32
  let v61 : BitVec 32 := Scalar.muli v60 c256_i32
  let v62 : BitVec 32 := v61
  let arg0 : BitVec 32 := BitVec.ofNat 32 (i 0).val
  let c1024_i32_20 : BitVec 32 := 1024#32
  let v42 : BitVec 32 := Scalar.muli arg0 c1024_i32_20
  let v43 : BitVec 32 := v42
  ![v62.toNat, v43.toNat]
def k0_off46 (v3 : BitVec 32) : Fin 3 → Nat :=
  let c1_i32_31 : BitVec 32 := 1#32
  let v57 : BitVec 32 := Scalar.subi v3 c1_i32_31
  let c1_i32_32 : BitVec 32 := 1#32
  let v58 : BitVec 32 := Scalar.andi v57 c1_i32_32
  let c0_i32_34 : BitVec 32 := 0#32
  let c0_i32_35 : BitVec 32 := 0#32
  ![v58.toNat, 0, 0]

def k0_chk1_0 (i : grid0.Coords) (v1 : BitVec 32) (v3 : BitVec 32) : Prop :=
  (∀ (k0_h1 : k0_cond1 v3 = 1#1), 256 ∣ (k0_mult1 v1).toNat) ∧
  (∀ (k0_h1 : k0_cond1 v3 = 1#1), ∀ a, (k0_off2 v1) a + S256x2048.size a ≤ S73728x2048.size a) ∧
  ((k0_t1_loop v3).OK) ∧
  (∀ k0_t1 : Fin (k0_t1_loop v3).trips, 256 ∣ (k0_mult9 v1 v3 k0_t1).toNat) ∧
  (∀ k0_t1 : Fin (k0_t1_loop v3).trips, ∀ a, (k0_off15 v3 k0_t1) a + S1.size a ≤ S2.size a) ∧
  (∀ k0_t1 : Fin (k0_t1_loop v3).trips, ∀ a, (k0_off16 v3 k0_t1) a + S1x256x2048.size a ≤ S2x256x2048.size a) ∧
  (∀ k0_t1 : Fin (k0_t1_loop v3).trips, ∀ a, (k0_off17 v1 v3 k0_t1) a + S256x2048.size a ≤ S73728x2048.size a) ∧
  (∀ k0_t1 : Fin (k0_t1_loop v3).trips, ∀ (k0_h5 : k0_cond5 v3 k0_t1 = 1#1), 256 ∣ (k0_mult10 v1 v3 k0_t1).toNat) ∧
  (∀ k0_t1 : Fin (k0_t1_loop v3).trips, ∀ (k0_h5 : k0_cond5 v3 k0_t1 = 1#1), ∀ a, (k0_off18 v3 k0_t1) a + S1.size a ≤ S2.size a) ∧
  (∀ k0_t1 : Fin (k0_t1_loop v3).trips, ∀ (k0_h5 : k0_cond5 v3 k0_t1 = 1#1), ∀ a, (k0_off19 v3 k0_t1) a + S1x256x2048.size a ≤ S2x256x2048.size a) ∧
  (∀ k0_t1 : Fin (k0_t1_loop v3).trips, ∀ (k0_h5 : k0_cond5 v3 k0_t1 = 1#1), ∀ a, (k0_off20 v1 v3 k0_t1) a + S256x2048.size a ≤ S73728x2048.size a) ∧
  (∀ k0_t1 : Fin (k0_t1_loop v3).trips, ∀ a, (k0_off21 v3 k0_t1) a + S1x256x2048.size a ≤ S2x256x2048.size a) ∧
  (∀ k0_t1 : Fin (k0_t1_loop v3).trips, ∀ (k0_h6 : k0_cond6 v3 k0_t1 = 1#1), 256 ∣ (k0_mult11 v1 v3 k0_t1).toNat) ∧
  (∀ k0_t1 : Fin (k0_t1_loop v3).trips, ∀ (k0_h6 : k0_cond6 v3 k0_t1 = 1#1), ∀ a, (k0_off22 v3 k0_t1) a + S1.size a ≤ S2.size a) ∧
  (∀ k0_t1 : Fin (k0_t1_loop v3).trips, ∀ (k0_h6 : k0_cond6 v3 k0_t1 = 1#1), ∀ a, (k0_off23 i v1 v3 k0_t1) a + S256x1024.size a ≤ S73728x2048.size a) ∧
  (∀ k0_t1 : Fin (k0_t1_loop v3).trips, ∀ (k0_h6 : k0_cond6 v3 k0_t1 = 1#1), ∀ a, (k0_off24 v3 k0_t1) a + S1x256x1024.size a ≤ S2x256x1024.size a) ∧
  (∀ k0_t1 : Fin (k0_t1_loop v3).trips, ∀ (k0_h6 : k0_cond6 v3 k0_t1 = 1#1), ∀ (hinb : ∀ a, (k0_off24 v3 k0_t1) a + S1x256x1024.size a ≤ S2x256x1024.size a), (Rect.unit (s := S2x256x1024) (k0_off24 v3 k0_t1) S1x256x1024.size hinb).WholeWords (EltTy.packing .bf16)) ∧
  (∀ k0_t1 : Fin (k0_t1_loop v3).trips, ∀ (k0_h6 : k0_cond6 v3 k0_t1 = 1#1), ∀ (hinb : ∀ a, (k0_off23 i v1 v3 k0_t1) a + S256x1024.size a ≤ S73728x2048.size a), (Rect.unit (s := S73728x2048) (k0_off23 i v1 v3 k0_t1) S256x1024.size hinb).WholeWords (EltTy.packing .bf16)) ∧
  (∀ k0_t1 : Fin (k0_t1_loop v3).trips, ∀ a, (k0_off25 v3 k0_t1) a + S1x256x1024.size a ≤ S2x256x1024.size a) ∧
  (∀ k0_t1 : Fin (k0_t1_loop v3).trips, ∀ (hinb : ∀ a, (k0_off25 v3 k0_t1) a + S1x256x1024.size a ≤ S2x256x1024.size a), (Rect.unit (s := S2x256x1024) (k0_off25 v3 k0_t1) S1x256x1024.size hinb).PackedRows (EltTy.packing .bf16)) ∧
  (∀ k0_t1 : Fin (k0_t1_loop v3).trips, 256 ∣ (k0_mult12 v1 v3 k0_t1).toNat) ∧
  (∀ k0_t1 : Fin (k0_t1_loop v3).trips, ∀ a, (k0_off26 i v1 v3 k0_t1) a + S256x1024.size a ≤ S73728x2048.size a) ∧
  (∀ k0_t1 : Fin (k0_t1_loop v3).trips, ∀ a, (k0_off27 v3 k0_t1) a + S1x256x1024.size a ≤ S2x256x1024.size a) ∧
  (∀ k0_t1 : Fin (k0_t1_loop v3).trips, ∀ (hinb : ∀ a, (k0_off27 v3 k0_t1) a + S1x256x1024.size a ≤ S2x256x1024.size a), (Rect.unit (s := S2x256x1024) (k0_off27 v3 k0_t1) S1x256x1024.size hinb).WholeWords (EltTy.packing .bf16)) ∧
  (∀ k0_t1 : Fin (k0_t1_loop v3).trips, ∀ (hinb : ∀ a, (k0_off26 i v1 v3 k0_t1) a + S256x1024.size a ≤ S73728x2048.size a), (Rect.unit (s := S73728x2048) (k0_off26 i v1 v3 k0_t1) S256x1024.size hinb).WholeWords (EltTy.packing .bf16)) ∧
  ((k0_t2_loop v3).OK) ∧
  (∀ k0_t2 : Fin (k0_t2_loop v3).trips, 256 ∣ (k0_mult13 v1 v3 k0_t2).toNat) ∧
  (∀ k0_t2 : Fin (k0_t2_loop v3).trips, ∀ a, (k0_off28 v3 k0_t2) a + S1.size a ≤ S2.size a) ∧
  (∀ k0_t2 : Fin (k0_t2_loop v3).trips, ∀ a, (k0_off29 v3 k0_t2) a + S1x256x2048.size a ≤ S2x256x2048.size a) ∧
  (∀ k0_t2 : Fin (k0_t2_loop v3).trips, ∀ a, (k0_off30 v1 v3 k0_t2) a + S256x2048.size a ≤ S73728x2048.size a) ∧
  (∀ k0_t2 : Fin (k0_t2_loop v3).trips, ∀ (k0_h7 : k0_cond7 v3 k0_t2 = 1#1), 256 ∣ (k0_mult14 v1 v3 k0_t2).toNat) ∧
  (∀ k0_t2 : Fin (k0_t2_loop v3).trips, ∀ (k0_h7 : k0_cond7 v3 k0_t2 = 1#1), ∀ a, (k0_off31 v3 k0_t2) a + S1.size a ≤ S2.size a)
def k0_chk1_1 (i : grid0.Coords) (v1 : BitVec 32) (v3 : BitVec 32) : Prop :=
  (∀ k0_t2 : Fin (k0_t2_loop v3).trips, ∀ (k0_h7 : k0_cond7 v3 k0_t2 = 1#1), ∀ a, (k0_off32 v3 k0_t2) a + S1x256x2048.size a ≤ S2x256x2048.size a) ∧
  (∀ k0_t2 : Fin (k0_t2_loop v3).trips, ∀ (k0_h7 : k0_cond7 v3 k0_t2 = 1#1), ∀ a, (k0_off33 v1 v3 k0_t2) a + S256x2048.size a ≤ S73728x2048.size a) ∧
  (∀ k0_t2 : Fin (k0_t2_loop v3).trips, ∀ a, (k0_off34 v3 k0_t2) a + S1x256x2048.size a ≤ S2x256x2048.size a) ∧
  (∀ k0_t2 : Fin (k0_t2_loop v3).trips, ∀ (k0_h8 : k0_cond8 v3 k0_t2 = 1#1), 256 ∣ (k0_mult15 v1 v3 k0_t2).toNat) ∧
  (∀ k0_t2 : Fin (k0_t2_loop v3).trips, ∀ (k0_h8 : k0_cond8 v3 k0_t2 = 1#1), ∀ a, (k0_off35 v3 k0_t2) a + S1.size a ≤ S2.size a) ∧
  (∀ k0_t2 : Fin (k0_t2_loop v3).trips, ∀ (k0_h8 : k0_cond8 v3 k0_t2 = 1#1), ∀ a, (k0_off36 i v1 v3 k0_t2) a + S256x1024.size a ≤ S73728x2048.size a) ∧
  (∀ k0_t2 : Fin (k0_t2_loop v3).trips, ∀ (k0_h8 : k0_cond8 v3 k0_t2 = 1#1), ∀ a, (k0_off37 v3 k0_t2) a + S1x256x1024.size a ≤ S2x256x1024.size a) ∧
  (∀ k0_t2 : Fin (k0_t2_loop v3).trips, ∀ (k0_h8 : k0_cond8 v3 k0_t2 = 1#1), ∀ (hinb : ∀ a, (k0_off37 v3 k0_t2) a + S1x256x1024.size a ≤ S2x256x1024.size a), (Rect.unit (s := S2x256x1024) (k0_off37 v3 k0_t2) S1x256x1024.size hinb).WholeWords (EltTy.packing .bf16)) ∧
  (∀ k0_t2 : Fin (k0_t2_loop v3).trips, ∀ (k0_h8 : k0_cond8 v3 k0_t2 = 1#1), ∀ (hinb : ∀ a, (k0_off36 i v1 v3 k0_t2) a + S256x1024.size a ≤ S73728x2048.size a), (Rect.unit (s := S73728x2048) (k0_off36 i v1 v3 k0_t2) S256x1024.size hinb).WholeWords (EltTy.packing .bf16)) ∧
  (∀ k0_t2 : Fin (k0_t2_loop v3).trips, ∀ a, (k0_off38 v3 k0_t2) a + S1x256x1024.size a ≤ S2x256x1024.size a) ∧
  (∀ k0_t2 : Fin (k0_t2_loop v3).trips, ∀ (hinb : ∀ a, (k0_off38 v3 k0_t2) a + S1x256x1024.size a ≤ S2x256x1024.size a), (Rect.unit (s := S2x256x1024) (k0_off38 v3 k0_t2) S1x256x1024.size hinb).PackedRows (EltTy.packing .bf16)) ∧
  (∀ k0_t2 : Fin (k0_t2_loop v3).trips, 256 ∣ (k0_mult16 v1 v3 k0_t2).toNat) ∧
  (∀ k0_t2 : Fin (k0_t2_loop v3).trips, ∀ a, (k0_off39 i v1 v3 k0_t2) a + S256x1024.size a ≤ S73728x2048.size a) ∧
  (∀ k0_t2 : Fin (k0_t2_loop v3).trips, ∀ a, (k0_off40 v3 k0_t2) a + S1x256x1024.size a ≤ S2x256x1024.size a) ∧
  (∀ k0_t2 : Fin (k0_t2_loop v3).trips, ∀ (hinb : ∀ a, (k0_off40 v3 k0_t2) a + S1x256x1024.size a ≤ S2x256x1024.size a), (Rect.unit (s := S2x256x1024) (k0_off40 v3 k0_t2) S1x256x1024.size hinb).WholeWords (EltTy.packing .bf16)) ∧
  (∀ k0_t2 : Fin (k0_t2_loop v3).trips, ∀ (hinb : ∀ a, (k0_off39 i v1 v3 k0_t2) a + S256x1024.size a ≤ S73728x2048.size a), (Rect.unit (s := S73728x2048) (k0_off39 i v1 v3 k0_t2) S256x1024.size hinb).WholeWords (EltTy.packing .bf16)) ∧
  (∀ (k0_h9 : k0_cond9 v3 = 1#1), 256 ∣ (k0_mult17 v1 v3).toNat) ∧
  (∀ (k0_h9 : k0_cond9 v3 = 1#1), ∀ a, (k0_off41 v3) a + S1.size a ≤ S2.size a) ∧
  (∀ (k0_h9 : k0_cond9 v3 = 1#1), ∀ a, (k0_off42 i v1 v3) a + S256x1024.size a ≤ S73728x2048.size a) ∧
  (∀ (k0_h9 : k0_cond9 v3 = 1#1), ∀ a, (k0_off43 v3) a + S1x256x1024.size a ≤ S2x256x1024.size a) ∧
  (∀ (k0_h9 : k0_cond9 v3 = 1#1), ∀ (hinb : ∀ a, (k0_off43 v3) a + S1x256x1024.size a ≤ S2x256x1024.size a), (Rect.unit (s := S2x256x1024) (k0_off43 v3) S1x256x1024.size hinb).WholeWords (EltTy.packing .bf16)) ∧
  (∀ (k0_h9 : k0_cond9 v3 = 1#1), ∀ (hinb : ∀ a, (k0_off42 i v1 v3) a + S256x1024.size a ≤ S73728x2048.size a), (Rect.unit (s := S73728x2048) (k0_off42 i v1 v3) S256x1024.size hinb).WholeWords (EltTy.packing .bf16)) ∧
  (∀ (k0_h10 : k0_cond10 v3 = 1#1), 256 ∣ (k0_mult18 v1 v3).toNat) ∧
  (∀ (k0_h10 : k0_cond10 v3 = 1#1), ∀ a, (k0_off44 v3) a + S1.size a ≤ S2.size a) ∧
  (∀ (k0_h10 : k0_cond10 v3 = 1#1), ∀ a, (k0_off45 i v1 v3) a + S256x1024.size a ≤ S73728x2048.size a) ∧
  (∀ (k0_h10 : k0_cond10 v3 = 1#1), ∀ a, (k0_off46 v3) a + S1x256x1024.size a ≤ S2x256x1024.size a) ∧
  (∀ (k0_h10 : k0_cond10 v3 = 1#1), ∀ (hinb : ∀ a, (k0_off46 v3) a + S1x256x1024.size a ≤ S2x256x1024.size a), (Rect.unit (s := S2x256x1024) (k0_off46 v3) S1x256x1024.size hinb).WholeWords (EltTy.packing .bf16)) ∧
  (∀ (k0_h10 : k0_cond10 v3 = 1#1), ∀ (hinb : ∀ a, (k0_off45 i v1 v3) a + S256x1024.size a ≤ S73728x2048.size a), (Rect.unit (s := S73728x2048) (k0_off45 i v1 v3) S256x1024.size hinb).WholeWords (EltTy.packing .bf16))
def k0_chk1 (i : grid0.Coords) (v1 : BitVec 32) (v3 : BitVec 32) : Prop :=
  k0_chk1_0 i v1 v3 ∧
  k0_chk1_1 i v1 v3
theorem k0_mult1_dvd : ∀ (i : grid0.Coords) (v1 : BitVec 32) (v3 : BitVec 32) (k0_hw1 : k0_chk1 i v1 v3), ∀ (k0_h1 : k0_cond1 v3 = 1#1), 256 ∣ (k0_mult1 v1).toNat := fun i v1 v3 k0_hw1 k0_h1 => k0_hw1.1.1 k0_h1
theorem k0_off2_inb : ∀ (i : grid0.Coords) (v1 : BitVec 32) (v3 : BitVec 32) (k0_hw1 : k0_chk1 i v1 v3), ∀ (k0_h1 : k0_cond1 v3 = 1#1), ∀ a, (k0_off2 v1) a + S256x2048.size a ≤ S73728x2048.size a := fun i v1 v3 k0_hw1 k0_h1 => k0_hw1.1.2.1 k0_h1
theorem k0_t1_ok : ∀ (i : grid0.Coords) (v1 : BitVec 32) (v3 : BitVec 32) (k0_hw1 : k0_chk1 i v1 v3), (k0_t1_loop v3).OK := fun i v1 v3 k0_hw1 => k0_hw1.1.2.2.1
theorem k0_mult9_dvd : ∀ (i : grid0.Coords) (v1 : BitVec 32) (v3 : BitVec 32) (k0_hw1 : k0_chk1 i v1 v3) (k0_t1 : Fin (k0_t1_loop v3).trips), 256 ∣ (k0_mult9 v1 v3 k0_t1).toNat := fun i v1 v3 k0_hw1 k0_t1 => k0_hw1.1.2.2.2.1 k0_t1
theorem k0_off15_inb : ∀ (i : grid0.Coords) (v1 : BitVec 32) (v3 : BitVec 32) (k0_hw1 : k0_chk1 i v1 v3) (k0_t1 : Fin (k0_t1_loop v3).trips), ∀ a, (k0_off15 v3 k0_t1) a + S1.size a ≤ S2.size a := fun i v1 v3 k0_hw1 k0_t1 => k0_hw1.1.2.2.2.2.1 k0_t1
theorem k0_off16_inb : ∀ (i : grid0.Coords) (v1 : BitVec 32) (v3 : BitVec 32) (k0_hw1 : k0_chk1 i v1 v3) (k0_t1 : Fin (k0_t1_loop v3).trips), ∀ a, (k0_off16 v3 k0_t1) a + S1x256x2048.size a ≤ S2x256x2048.size a := fun i v1 v3 k0_hw1 k0_t1 => k0_hw1.1.2.2.2.2.2.1 k0_t1
theorem k0_off17_inb : ∀ (i : grid0.Coords) (v1 : BitVec 32) (v3 : BitVec 32) (k0_hw1 : k0_chk1 i v1 v3) (k0_t1 : Fin (k0_t1_loop v3).trips), ∀ a, (k0_off17 v1 v3 k0_t1) a + S256x2048.size a ≤ S73728x2048.size a := fun i v1 v3 k0_hw1 k0_t1 => k0_hw1.1.2.2.2.2.2.2.1 k0_t1
theorem k0_mult10_dvd : ∀ (i : grid0.Coords) (v1 : BitVec 32) (v3 : BitVec 32) (k0_hw1 : k0_chk1 i v1 v3) (k0_t1 : Fin (k0_t1_loop v3).trips), ∀ (k0_h5 : k0_cond5 v3 k0_t1 = 1#1), 256 ∣ (k0_mult10 v1 v3 k0_t1).toNat := fun i v1 v3 k0_hw1 k0_t1 k0_h5 => k0_hw1.1.2.2.2.2.2.2.2.1 k0_t1 k0_h5
theorem k0_off18_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off18 v3 k0_t1) a + S1.size a ≤ S2.size a := fun i v1 v3 k0_hw1 k0_t1 k0_h5 => k0_hw1.1.2.2.2.2.2.2.2.2.1 k0_t1 k0_h5
theorem k0_off19_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off19 v3 k0_t1) a + S1x256x2048.size a ≤ S2x256x2048.size a := fun i v1 v3 k0_hw1 k0_t1 k0_h5 => k0_hw1.1.2.2.2.2.2.2.2.2.2.1 k0_t1 k0_h5
theorem k0_off20_inb : ∀ (i : grid0.Coords) (v1 : BitVec 32) (v3 : BitVec 32) (k0_hw1 : k0_chk1 i v1 v3) (k0_t1 : Fin (k0_t1_loop v3).trips), ∀ (k0_h5 : k0_cond5 v3 k0_t1 = 1#1), ∀ a, (k0_off20 v1 v3 k0_t1) a + S256x2048.size a ≤ S73728x2048.size a := fun i v1 v3 k0_hw1 k0_t1 k0_h5 => k0_hw1.1.2.2.2.2.2.2.2.2.2.2.1 k0_t1 k0_h5
theorem k0_off21_inb : ∀ (i : grid0.Coords) (v1 : BitVec 32) (v3 : BitVec 32) (k0_hw1 : k0_chk1 i v1 v3) (k0_t1 : Fin (k0_t1_loop v3).trips), ∀ a, (k0_off21 v3 k0_t1) a + S1x256x2048.size a ≤ S2x256x2048.size a := fun i v1 v3 k0_hw1 k0_t1 => k0_hw1.1.2.2.2.2.2.2.2.2.2.2.2.1 k0_t1
theorem k0_mult11_dvd : ∀ (i : grid0.Coords) (v1 : BitVec 32) (v3 : BitVec 32) (k0_hw1 : k0_chk1 i v1 v3) (k0_t1 : Fin (k0_t1_loop v3).trips), ∀ (k0_h6 : k0_cond6 v3 k0_t1 = 1#1), 256 ∣ (k0_mult11 v1 v3 k0_t1).toNat := fun i v1 v3 k0_hw1 k0_t1 k0_h6 => k0_hw1.1.2.2.2.2.2.2.2.2.2.2.2.2.1 k0_t1 k0_h6
theorem k0_off22_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off22 v3 k0_t1) a + S1.size a ≤ S2.size a := fun i v1 v3 k0_hw1 k0_t1 k0_h6 => k0_hw1.1.2.2.2.2.2.2.2.2.2.2.2.2.2.1 k0_t1 k0_h6
theorem k0_off23_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off23 i v1 v3 k0_t1) a + S256x1024.size a ≤ S73728x2048.size a := fun i v1 v3 k0_hw1 k0_t1 k0_h6 => k0_hw1.1.2.2.2.2.2.2.2.2.2.2.2.2.2.2.1 k0_t1 k0_h6
theorem k0_off24_inb : ∀ (i : grid0.Coords) (v1 : BitVec 32) (v3 : BitVec 32) (k0_hw1 : k0_chk1 i v1 v3) (k0_t1 : Fin (k0_t1_loop v3).trips), ∀ (k0_h6 : k0_cond6 v3 k0_t1 = 1#1), ∀ a, (k0_off24 v3 k0_t1) a + S1x256x1024.size a ≤ S2x256x1024.size a := fun i v1 v3 k0_hw1 k0_t1 k0_h6 => k0_hw1.1.2.2.2.2.2.2.2.2.2.2.2.2.2.2.2.1 k0_t1 k0_h6
theorem k0_off24_wordsbf16 : ∀ (i : grid0.Coords) (v1 : BitVec 32) (v3 : BitVec 32) (k0_hw1 : k0_chk1 i v1 v3) (k0_t1 : Fin (k0_t1_loop v3).trips), ∀ (k0_h6 : k0_cond6 v3 k0_t1 = 1#1), (Rect.unit (s := S2x256x1024) (k0_off24 v3 k0_t1) S1x256x1024.size (k0_off24_inb i v1 v3 k0_hw1 k0_t1 k0_h6)).WholeWords (EltTy.packing .bf16) := fun i v1 v3 k0_hw1 k0_t1 k0_h6 => k0_hw1.1.2.2.2.2.2.2.2.2.2.2.2.2.2.2.2.2.1 k0_t1 k0_h6 (k0_off24_inb i v1 v3 k0_hw1 k0_t1 k0_h6)
theorem k0_off23_wordsbf16 : ∀ (i : grid0.Coords) (v1 : BitVec 32) (v3 : BitVec 32) (k0_hw1 : k0_chk1 i v1 v3) (k0_t1 : Fin (k0_t1_loop v3).trips), ∀ (k0_h6 : k0_cond6 v3 k0_t1 = 1#1), (Rect.unit (s := S73728x2048) (k0_off23 i v1 v3 k0_t1) S256x1024.size (k0_off23_inb i v1 v3 k0_hw1 k0_t1 k0_h6)).WholeWords (EltTy.packing .bf16) := fun i v1 v3 k0_hw1 k0_t1 k0_h6 => k0_hw1.1.2.2.2.2.2.2.2.2.2.2.2.2.2.2.2.2.2.1 k0_t1 k0_h6 (k0_off23_inb i v1 v3 k0_hw1 k0_t1 k0_h6)
theorem k0_off25_inb : ∀ (i : grid0.Coords) (v1 : BitVec 32) (v3 : BitVec 32) (k0_hw1 : k0_chk1 i v1 v3) (k0_t1 : Fin (k0_t1_loop v3).trips), ∀ a, (k0_off25 v3 k0_t1) a + S1x256x1024.size a ≤ S2x256x1024.size a := fun i v1 v3 k0_hw1 k0_t1 => k0_hw1.1.2.2.2.2.2.2.2.2.2.2.2.2.2.2.2.2.2.2.1 k0_t1
theorem k0_off25_packedbf16 : ∀ (i : grid0.Coords) (v1 : BitVec 32) (v3 : BitVec 32) (k0_hw1 : k0_chk1 i v1 v3) (k0_t1 : Fin (k0_t1_loop v3).trips), (Rect.unit (s := S2x256x1024) (k0_off25 v3 k0_t1) S1x256x1024.size (k0_off25_inb i v1 v3 k0_hw1 k0_t1)).PackedRows (EltTy.packing .bf16) := fun i v1 v3 k0_hw1 k0_t1 => k0_hw1.1.2.2.2.2.2.2.2.2.2.2.2.2.2.2.2.2.2.2.2.1 k0_t1 (k0_off25_inb i v1 v3 k0_hw1 k0_t1)
theorem k0_mult12_dvd : ∀ (i : grid0.Coords) (v1 : BitVec 32) (v3 : BitVec 32) (k0_hw1 : k0_chk1 i v1 v3) (k0_t1 : Fin (k0_t1_loop v3).trips), 256 ∣ (k0_mult12 v1 v3 k0_t1).toNat := fun i v1 v3 k0_hw1 k0_t1 => k0_hw1.1.2.2.2.2.2.2.2.2.2.2.2.2.2.2.2.2.2.2.2.2.1 k0_t1
theorem k0_off26_inb : ∀ (i : grid0.Coords) (v1 : BitVec 32) (v3 : BitVec 32) (k0_hw1 : k0_chk1 i v1 v3) (k0_t1 : Fin (k0_t1_loop v3).trips), ∀ a, (k0_off26 i v1 v3 k0_t1) a + S256x1024.size a ≤ S73728x2048.size a := fun i v1 v3 k0_hw1 k0_t1 => k0_hw1.1.2.2.2.2.2.2.2.2.2.2.2.2.2.2.2.2.2.2.2.2.2.1 k0_t1
theorem k0_off27_inb : ∀ (i : grid0.Coords) (v1 : BitVec 32) (v3 : BitVec 32) (k0_hw1 : k0_chk1 i v1 v3) (k0_t1 : Fin (k0_t1_loop v3).trips), ∀ a, (k0_off27 v3 k0_t1) a + S1x256x1024.size a ≤ S2x256x1024.size a := fun i v1 v3 k0_hw1 k0_t1 => k0_hw1.1.2.2.2.2.2.2.2.2.2.2.2.2.2.2.2.2.2.2.2.2.2.2.1 k0_t1
theorem k0_off27_wordsbf16 : ∀ (i : grid0.Coords) (v1 : BitVec 32) (v3 : BitVec 32) (k0_hw1 : k0_chk1 i v1 v3) (k0_t1 : Fin (k0_t1_loop v3).trips), (Rect.unit (s := S2x256x1024) (k0_off27 v3 k0_t1) S1x256x1024.size (k0_off27_inb i v1 v3 k0_hw1 k0_t1)).WholeWords (EltTy.packing .bf16) := fun i v1 v3 k0_hw1 k0_t1 => k0_hw1.1.2.2.2.2.2.2.2.2.2.2.2.2.2.2.2.2.2.2.2.2.2.2.2.1 k0_t1 (k0_off27_inb i v1 v3 k0_hw1 k0_t1)
theorem k0_off26_wordsbf16 : ∀ (i : grid0.Coords) (v1 : BitVec 32) (v3 : BitVec 32) (k0_hw1 : k0_chk1 i v1 v3) (k0_t1 : Fin (k0_t1_loop v3).trips), (Rect.unit (s := S73728x2048) (k0_off26 i v1 v3 k0_t1) S256x1024.size (k0_off26_inb i v1 v3 k0_hw1 k0_t1)).WholeWords (EltTy.packing .bf16) := fun i v1 v3 k0_hw1 k0_t1 => k0_hw1.1.2.2.2.2.2.2.2.2.2.2.2.2.2.2.2.2.2.2.2.2.2.2.2.2.1 k0_t1 (k0_off26_inb i v1 v3 k0_hw1 k0_t1)
theorem k0_t2_ok : ∀ (i : grid0.Coords) (v1 : BitVec 32) (v3 : BitVec 32) (k0_hw1 : k0_chk1 i v1 v3), (k0_t2_loop v3).OK := fun i v1 v3 k0_hw1 => k0_hw1.1.2.2.2.2.2.2.2.2.2.2.2.2.2.2.2.2.2.2.2.2.2.2.2.2.2.1
theorem k0_mult13_dvd : ∀ (i : grid0.Coords) (v1 : BitVec 32) (v3 : BitVec 32) (k0_hw1 : k0_chk1 i v1 v3) (k0_t2 : Fin (k0_t2_loop v3).trips), 256 ∣ (k0_mult13 v1 v3 k0_t2).toNat := fun i v1 v3 k0_hw1 k0_t2 => k0_hw1.1.2.2.2.2.2.2.2.2.2.2.2.2.2.2.2.2.2.2.2.2.2.2.2.2.2.2.1 k0_t2
theorem k0_off28_inb : ∀ (i : grid0.Coords) (v1 : BitVec 32) (v3 : BitVec 32) (k0_hw1 : k0_chk1 i v1 v3) (k0_t2 : Fin (k0_t2_loop v3).trips), ∀ a, (k0_off28 v3 k0_t2) a + S1.size a ≤ S2.size a := fun i v1 v3 k0_hw1 k0_t2 => k0_hw1.1.2.2.2.2.2.2.2.2.2.2.2.2.2.2.2.2.2.2.2.2.2.2.2.2.2.2.2.1 k0_t2
theorem k0_off29_inb : ∀ (i : grid0.Coords) (v1 : BitVec 32) (v3 : BitVec 32) (k0_hw1 : k0_chk1 i v1 v3) (k0_t2 : Fin (k0_t2_loop v3).trips), ∀ a, (k0_off29 v3 k0_t2) a + S1x256x2048.size a ≤ S2x256x2048.size a := fun i v1 v3 k0_hw1 k0_t2 => k0_hw1.1.2.2.2.2.2.2.2.2.2.2.2.2.2.2.2.2.2.2.2.2.2.2.2.2.2.2.2.2.1 k0_t2
theorem k0_off30_inb : ∀ (i : grid0.Coords) (v1 : BitVec 32) (v3 : BitVec 32) (k0_hw1 : k0_chk1 i v1 v3) (k0_t2 : Fin (k0_t2_loop v3).trips), ∀ a, (k0_off30 v1 v3 k0_t2) a + S256x2048.size a ≤ S73728x2048.size a := fun i v1 v3 k0_hw1 k0_t2 => k0_hw1.1.2.2.2.2.2.2.2.2.2.2.2.2.2.2.2.2.2.2.2.2.2.2.2.2.2.2.2.2.2.1 k0_t2
theorem k0_mult14_dvd : ∀ (i : grid0.Coords) (v1 : BitVec 32) (v3 : BitVec 32) (k0_hw1 : k0_chk1 i v1 v3) (k0_t2 : Fin (k0_t2_loop v3).trips), ∀ (k0_h7 : k0_cond7 v3 k0_t2 = 1#1), 256 ∣ (k0_mult14 v1 v3 k0_t2).toNat := fun i v1 v3 k0_hw1 k0_t2 k0_h7 => k0_hw1.1.2.2.2.2.2.2.2.2.2.2.2.2.2.2.2.2.2.2.2.2.2.2.2.2.2.2.2.2.2.2.1 k0_t2 k0_h7
theorem k0_off31_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off31 v3 k0_t2) a + S1.size a ≤ S2.size a := fun i v1 v3 k0_hw1 k0_t2 k0_h7 => k0_hw1.1.2.2.2.2.2.2.2.2.2.2.2.2.2.2.2.2.2.2.2.2.2.2.2.2.2.2.2.2.2.2.2 k0_t2 k0_h7
theorem k0_off32_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off32 v3 k0_t2) a + S1x256x2048.size a ≤ S2x256x2048.size a := fun i v1 v3 k0_hw1 k0_t2 k0_h7 => k0_hw1.2.1 k0_t2 k0_h7
theorem k0_off33_inb : ∀ (i : grid0.Coords) (v1 : BitVec 32) (v3 : BitVec 32) (k0_hw1 : k0_chk1 i v1 v3) (k0_t2 : Fin (k0_t2_loop v3).trips), ∀ (k0_h7 : k0_cond7 v3 k0_t2 = 1#1), ∀ a, (k0_off33 v1 v3 k0_t2) a + S256x2048.size a ≤ S73728x2048.size a := fun i v1 v3 k0_hw1 k0_t2 k0_h7 => k0_hw1.2.2.1 k0_t2 k0_h7
theorem k0_off34_inb : ∀ (i : grid0.Coords) (v1 : BitVec 32) (v3 : BitVec 32) (k0_hw1 : k0_chk1 i v1 v3) (k0_t2 : Fin (k0_t2_loop v3).trips), ∀ a, (k0_off34 v3 k0_t2) a + S1x256x2048.size a ≤ S2x256x2048.size a := fun i v1 v3 k0_hw1 k0_t2 => k0_hw1.2.2.2.1 k0_t2
theorem k0_mult15_dvd : ∀ (i : grid0.Coords) (v1 : BitVec 32) (v3 : BitVec 32) (k0_hw1 : k0_chk1 i v1 v3) (k0_t2 : Fin (k0_t2_loop v3).trips), ∀ (k0_h8 : k0_cond8 v3 k0_t2 = 1#1), 256 ∣ (k0_mult15 v1 v3 k0_t2).toNat := fun i v1 v3 k0_hw1 k0_t2 k0_h8 => k0_hw1.2.2.2.2.1 k0_t2 k0_h8
theorem k0_off35_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off35 v3 k0_t2) a + S1.size a ≤ S2.size a := fun i v1 v3 k0_hw1 k0_t2 k0_h8 => k0_hw1.2.2.2.2.2.1 k0_t2 k0_h8
theorem k0_off36_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off36 i v1 v3 k0_t2) a + S256x1024.size a ≤ S73728x2048.size a := fun i v1 v3 k0_hw1 k0_t2 k0_h8 => k0_hw1.2.2.2.2.2.2.1 k0_t2 k0_h8
theorem k0_off37_inb : ∀ (i : grid0.Coords) (v1 : BitVec 32) (v3 : BitVec 32) (k0_hw1 : k0_chk1 i v1 v3) (k0_t2 : Fin (k0_t2_loop v3).trips), ∀ (k0_h8 : k0_cond8 v3 k0_t2 = 1#1), ∀ a, (k0_off37 v3 k0_t2) a + S1x256x1024.size a ≤ S2x256x1024.size a := fun i v1 v3 k0_hw1 k0_t2 k0_h8 => k0_hw1.2.2.2.2.2.2.2.1 k0_t2 k0_h8
theorem k0_off37_wordsbf16 : ∀ (i : grid0.Coords) (v1 : BitVec 32) (v3 : BitVec 32) (k0_hw1 : k0_chk1 i v1 v3) (k0_t2 : Fin (k0_t2_loop v3).trips), ∀ (k0_h8 : k0_cond8 v3 k0_t2 = 1#1), (Rect.unit (s := S2x256x1024) (k0_off37 v3 k0_t2) S1x256x1024.size (k0_off37_inb i v1 v3 k0_hw1 k0_t2 k0_h8)).WholeWords (EltTy.packing .bf16) := fun i v1 v3 k0_hw1 k0_t2 k0_h8 => k0_hw1.2.2.2.2.2.2.2.2.1 k0_t2 k0_h8 (k0_off37_inb i v1 v3 k0_hw1 k0_t2 k0_h8)
theorem k0_off36_wordsbf16 : ∀ (i : grid0.Coords) (v1 : BitVec 32) (v3 : BitVec 32) (k0_hw1 : k0_chk1 i v1 v3) (k0_t2 : Fin (k0_t2_loop v3).trips), ∀ (k0_h8 : k0_cond8 v3 k0_t2 = 1#1), (Rect.unit (s := S73728x2048) (k0_off36 i v1 v3 k0_t2) S256x1024.size (k0_off36_inb i v1 v3 k0_hw1 k0_t2 k0_h8)).WholeWords (EltTy.packing .bf16) := fun i v1 v3 k0_hw1 k0_t2 k0_h8 => k0_hw1.2.2.2.2.2.2.2.2.2.1 k0_t2 k0_h8 (k0_off36_inb i v1 v3 k0_hw1 k0_t2 k0_h8)
theorem k0_off38_inb : ∀ (i : grid0.Coords) (v1 : BitVec 32) (v3 : BitVec 32) (k0_hw1 : k0_chk1 i v1 v3) (k0_t2 : Fin (k0_t2_loop v3).trips), ∀ a, (k0_off38 v3 k0_t2) a + S1x256x1024.size a ≤ S2x256x1024.size a := fun i v1 v3 k0_hw1 k0_t2 => k0_hw1.2.2.2.2.2.2.2.2.2.2.1 k0_t2
theorem k0_off38_packedbf16 : ∀ (i : grid0.Coords) (v1 : BitVec 32) (v3 : BitVec 32) (k0_hw1 : k0_chk1 i v1 v3) (k0_t2 : Fin (k0_t2_loop v3).trips), (Rect.unit (s := S2x256x1024) (k0_off38 v3 k0_t2) S1x256x1024.size (k0_off38_inb i v1 v3 k0_hw1 k0_t2)).PackedRows (EltTy.packing .bf16) := fun i v1 v3 k0_hw1 k0_t2 => k0_hw1.2.2.2.2.2.2.2.2.2.2.2.1 k0_t2 (k0_off38_inb i v1 v3 k0_hw1 k0_t2)
theorem k0_mult16_dvd : ∀ (i : grid0.Coords) (v1 : BitVec 32) (v3 : BitVec 32) (k0_hw1 : k0_chk1 i v1 v3) (k0_t2 : Fin (k0_t2_loop v3).trips), 256 ∣ (k0_mult16 v1 v3 k0_t2).toNat := fun i v1 v3 k0_hw1 k0_t2 => k0_hw1.2.2.2.2.2.2.2.2.2.2.2.2.1 k0_t2
theorem k0_off39_inb : ∀ (i : grid0.Coords) (v1 : BitVec 32) (v3 : BitVec 32) (k0_hw1 : k0_chk1 i v1 v3) (k0_t2 : Fin (k0_t2_loop v3).trips), ∀ a, (k0_off39 i v1 v3 k0_t2) a + S256x1024.size a ≤ S73728x2048.size a := fun i v1 v3 k0_hw1 k0_t2 => k0_hw1.2.2.2.2.2.2.2.2.2.2.2.2.2.1 k0_t2
theorem k0_off40_inb : ∀ (i : grid0.Coords) (v1 : BitVec 32) (v3 : BitVec 32) (k0_hw1 : k0_chk1 i v1 v3) (k0_t2 : Fin (k0_t2_loop v3).trips), ∀ a, (k0_off40 v3 k0_t2) a + S1x256x1024.size a ≤ S2x256x1024.size a := fun i v1 v3 k0_hw1 k0_t2 => k0_hw1.2.2.2.2.2.2.2.2.2.2.2.2.2.2.1 k0_t2
theorem k0_off40_wordsbf16 : ∀ (i : grid0.Coords) (v1 : BitVec 32) (v3 : BitVec 32) (k0_hw1 : k0_chk1 i v1 v3) (k0_t2 : Fin (k0_t2_loop v3).trips), (Rect.unit (s := S2x256x1024) (k0_off40 v3 k0_t2) S1x256x1024.size (k0_off40_inb i v1 v3 k0_hw1 k0_t2)).WholeWords (EltTy.packing .bf16) := fun i v1 v3 k0_hw1 k0_t2 => k0_hw1.2.2.2.2.2.2.2.2.2.2.2.2.2.2.2.1 k0_t2 (k0_off40_inb i v1 v3 k0_hw1 k0_t2)
theorem k0_off39_wordsbf16 : ∀ (i : grid0.Coords) (v1 : BitVec 32) (v3 : BitVec 32) (k0_hw1 : k0_chk1 i v1 v3) (k0_t2 : Fin (k0_t2_loop v3).trips), (Rect.unit (s := S73728x2048) (k0_off39 i v1 v3 k0_t2) S256x1024.size (k0_off39_inb i v1 v3 k0_hw1 k0_t2)).WholeWords (EltTy.packing .bf16) := fun i v1 v3 k0_hw1 k0_t2 => k0_hw1.2.2.2.2.2.2.2.2.2.2.2.2.2.2.2.2.1 k0_t2 (k0_off39_inb i v1 v3 k0_hw1 k0_t2)
theorem k0_mult17_dvd : ∀ (i : grid0.Coords) (v1 : BitVec 32) (v3 : BitVec 32) (k0_hw1 : k0_chk1 i v1 v3), ∀ (k0_h9 : k0_cond9 v3 = 1#1), 256 ∣ (k0_mult17 v1 v3).toNat := fun i v1 v3 k0_hw1 k0_h9 => k0_hw1.2.2.2.2.2.2.2.2.2.2.2.2.2.2.2.2.2.1 k0_h9
theorem k0_off41_inb : ∀ (i : grid0.Coords) (v1 : BitVec 32) (v3 : BitVec 32) (k0_hw1 : k0_chk1 i v1 v3), ∀ (k0_h9 : k0_cond9 v3 = 1#1), ∀ a, (k0_off41 v3) a + S1.size a ≤ S2.size a := fun i v1 v3 k0_hw1 k0_h9 => k0_hw1.2.2.2.2.2.2.2.2.2.2.2.2.2.2.2.2.2.2.1 k0_h9
theorem k0_off42_inb : ∀ (i : grid0.Coords) (v1 : BitVec 32) (v3 : BitVec 32) (k0_hw1 : k0_chk1 i v1 v3), ∀ (k0_h9 : k0_cond9 v3 = 1#1), ∀ a, (k0_off42 i v1 v3) a + S256x1024.size a ≤ S73728x2048.size a := fun i v1 v3 k0_hw1 k0_h9 => k0_hw1.2.2.2.2.2.2.2.2.2.2.2.2.2.2.2.2.2.2.2.1 k0_h9
theorem k0_off43_inb : ∀ (i : grid0.Coords) (v1 : BitVec 32) (v3 : BitVec 32) (k0_hw1 : k0_chk1 i v1 v3), ∀ (k0_h9 : k0_cond9 v3 = 1#1), ∀ a, (k0_off43 v3) a + S1x256x1024.size a ≤ S2x256x1024.size a := fun i v1 v3 k0_hw1 k0_h9 => k0_hw1.2.2.2.2.2.2.2.2.2.2.2.2.2.2.2.2.2.2.2.2.1 k0_h9
theorem k0_off43_wordsbf16 : ∀ (i : grid0.Coords) (v1 : BitVec 32) (v3 : BitVec 32) (k0_hw1 : k0_chk1 i v1 v3), ∀ (k0_h9 : k0_cond9 v3 = 1#1), (Rect.unit (s := S2x256x1024) (k0_off43 v3) S1x256x1024.size (k0_off43_inb i v1 v3 k0_hw1 k0_h9)).WholeWords (EltTy.packing .bf16) := fun i v1 v3 k0_hw1 k0_h9 => k0_hw1.2.2.2.2.2.2.2.2.2.2.2.2.2.2.2.2.2.2.2.2.2.1 k0_h9 (k0_off43_inb i v1 v3 k0_hw1 k0_h9)
theorem k0_off42_wordsbf16 : ∀ (i : grid0.Coords) (v1 : BitVec 32) (v3 : BitVec 32) (k0_hw1 : k0_chk1 i v1 v3), ∀ (k0_h9 : k0_cond9 v3 = 1#1), (Rect.unit (s := S73728x2048) (k0_off42 i v1 v3) S256x1024.size (k0_off42_inb i v1 v3 k0_hw1 k0_h9)).WholeWords (EltTy.packing .bf16) := fun i v1 v3 k0_hw1 k0_h9 => k0_hw1.2.2.2.2.2.2.2.2.2.2.2.2.2.2.2.2.2.2.2.2.2.2.1 k0_h9 (k0_off42_inb i v1 v3 k0_hw1 k0_h9)
theorem k0_mult18_dvd : ∀ (i : grid0.Coords) (v1 : BitVec 32) (v3 : BitVec 32) (k0_hw1 : k0_chk1 i v1 v3), ∀ (k0_h10 : k0_cond10 v3 = 1#1), 256 ∣ (k0_mult18 v1 v3).toNat := fun i v1 v3 k0_hw1 k0_h10 => k0_hw1.2.2.2.2.2.2.2.2.2.2.2.2.2.2.2.2.2.2.2.2.2.2.2.1 k0_h10
theorem k0_off44_inb : ∀ (i : grid0.Coords) (v1 : BitVec 32) (v3 : BitVec 32) (k0_hw1 : k0_chk1 i v1 v3), ∀ (k0_h10 : k0_cond10 v3 = 1#1), ∀ a, (k0_off44 v3) a + S1.size a ≤ S2.size a := fun i v1 v3 k0_hw1 k0_h10 => k0_hw1.2.2.2.2.2.2.2.2.2.2.2.2.2.2.2.2.2.2.2.2.2.2.2.2.1 k0_h10
theorem k0_off45_inb : ∀ (i : grid0.Coords) (v1 : BitVec 32) (v3 : BitVec 32) (k0_hw1 : k0_chk1 i v1 v3), ∀ (k0_h10 : k0_cond10 v3 = 1#1), ∀ a, (k0_off45 i v1 v3) a + S256x1024.size a ≤ S73728x2048.size a := fun i v1 v3 k0_hw1 k0_h10 => k0_hw1.2.2.2.2.2.2.2.2.2.2.2.2.2.2.2.2.2.2.2.2.2.2.2.2.2.1 k0_h10
theorem k0_off46_inb : ∀ (i : grid0.Coords) (v1 : BitVec 32) (v3 : BitVec 32) (k0_hw1 : k0_chk1 i v1 v3), ∀ (k0_h10 : k0_cond10 v3 = 1#1), ∀ a, (k0_off46 v3) a + S1x256x1024.size a ≤ S2x256x1024.size a := fun i v1 v3 k0_hw1 k0_h10 => k0_hw1.2.2.2.2.2.2.2.2.2.2.2.2.2.2.2.2.2.2.2.2.2.2.2.2.2.2.1 k0_h10
theorem k0_off46_wordsbf16 : ∀ (i : grid0.Coords) (v1 : BitVec 32) (v3 : BitVec 32) (k0_hw1 : k0_chk1 i v1 v3), ∀ (k0_h10 : k0_cond10 v3 = 1#1), (Rect.unit (s := S2x256x1024) (k0_off46 v3) S1x256x1024.size (k0_off46_inb i v1 v3 k0_hw1 k0_h10)).WholeWords (EltTy.packing .bf16) := fun i v1 v3 k0_hw1 k0_h10 => k0_hw1.2.2.2.2.2.2.2.2.2.2.2.2.2.2.2.2.2.2.2.2.2.2.2.2.2.2.2.1 k0_h10 (k0_off46_inb i v1 v3 k0_hw1 k0_h10)
theorem k0_off45_wordsbf16 : ∀ (i : grid0.Coords) (v1 : BitVec 32) (v3 : BitVec 32) (k0_hw1 : k0_chk1 i v1 v3), ∀ (k0_h10 : k0_cond10 v3 = 1#1), (Rect.unit (s := S73728x2048) (k0_off45 i v1 v3) S256x1024.size (k0_off45_inb i v1 v3 k0_hw1 k0_h10)).WholeWords (EltTy.packing .bf16) := fun i v1 v3 k0_hw1 k0_h10 => k0_hw1.2.2.2.2.2.2.2.2.2.2.2.2.2.2.2.2.2.2.2.2.2.2.2.2.2.2.2.2 k0_h10 (k0_off45_inb i v1 v3 k0_hw1 k0_h10)

def k0_cond11 (i : grid0.Coords) : BitVec 1 :=
  let arg1 : BitVec 32 := BitVec.ofNat 32 (i 1).val
  let c31_i32 : BitVec 32 := 31#32
  let v41 : BitVec 1 := Scalar.cmpi .eq arg1 c31_i32
  let v55 : BitVec 32 := Scalar.extui v41
  let c0_i32_30 : BitVec 32 := 0#32
  let v56 : BitVec 1 := Scalar.cmpi .ne v55 c0_i32_30
  v56

@[reducible] def k0_t3_loop (v38 : BitVec 32) (v39 : BitVec 32) : Scf.Loop 32 :=
  let v40 : BitVec 32 := Scalar.addi v38 v39
  let c288_i32 : BitVec 32 := 288#32
  let v61 : BitVec 32 := Scalar.subi c288_i32 v40
  let c1_i32_34 : BitVec 32 := 1#32
  let v63 : BitVec 32 := Scalar.divsi v61 c1_i32_34
  let v64 : BitVec 32 := Scalar.muli v63 c1_i32_34
  let v65 : BitVec 32 := Scalar.addi v40 v64
  let c1_i32_35 : BitVec 32 := 1#32
  ⟨v40, v65, c1_i32_35⟩

def k0_mult19 (v38 : BitVec 32) (v39 : BitVec 32) (k0_t3 : Fin (k0_t3_loop v38 v39).trips) : BitVec 32 :=
  let v40 : BitVec 32 := Scalar.addi v38 v39
  let c1_i32_35 : BitVec 32 := 1#32
  let arg17 : BitVec 32 := Scf.iv v40 c1_i32_35 k0_t3
  let c256_i32 : BitVec 32 := 256#32
  let v66 : BitVec 32 := Scalar.muli arg17 c256_i32
  v66
def k0_off47 (i : grid0.Coords) (v38 : BitVec 32) (v39 : BitVec 32) (k0_t3 : Fin (k0_t3_loop v38 v39).trips) : Fin 2 → Nat :=
  let v40 : BitVec 32 := Scalar.addi v38 v39
  let c1_i32_35 : BitVec 32 := 1#32
  let arg17 : BitVec 32 := Scf.iv v40 c1_i32_35 k0_t3
  let c256_i32 : BitVec 32 := 256#32
  let v66 : BitVec 32 := Scalar.muli arg17 c256_i32
  let v67 : BitVec 32 := v66
  let arg0 : BitVec 32 := BitVec.ofNat 32 (i 0).val
  let c1024_i32_20 : BitVec 32 := 1024#32
  let v42 : BitVec 32 := Scalar.muli arg0 c1024_i32_20
  let v43 : BitVec 32 := v42
  ![v67.toNat, v43.toNat]
def k0_mult20 (v38 : BitVec 32) (v39 : BitVec 32) (k0_t3 : Fin (k0_t3_loop v38 v39).trips) : BitVec 32 :=
  let v40 : BitVec 32 := Scalar.addi v38 v39
  let c1_i32_35 : BitVec 32 := 1#32
  let arg17 : BitVec 32 := Scf.iv v40 c1_i32_35 k0_t3
  let c256_i32_41 : BitVec 32 := 256#32
  let v73 : BitVec 32 := Scalar.muli arg17 c256_i32_41
  v73
@[reducible] def k0_t4_loop (v38 : BitVec 32) (v39 : BitVec 32) : Scf.Loop 32 :=
  let v40 : BitVec 32 := Scalar.addi v38 v39
  let c288_i32 : BitVec 32 := 288#32
  let v61 : BitVec 32 := Scalar.subi c288_i32 v40
  let c1_i32_34 : BitVec 32 := 1#32
  let v63 : BitVec 32 := Scalar.divsi v61 c1_i32_34
  let v64 : BitVec 32 := Scalar.muli v63 c1_i32_34
  let v65 : BitVec 32 := Scalar.addi v40 v64
  let v62 : BitVec 32 := Scalar.addi v40 v61
  let c1_i32_36 : BitVec 32 := 1#32
  ⟨v65, v62, c1_i32_36⟩
def k0_mult21 (v38 : BitVec 32) (v39 : BitVec 32) (k0_t4 : Fin (k0_t4_loop v38 v39).trips) : BitVec 32 :=
  let v40 : BitVec 32 := Scalar.addi v38 v39
  let c288_i32 : BitVec 32 := 288#32
  let v61 : BitVec 32 := Scalar.subi c288_i32 v40
  let c1_i32_34 : BitVec 32 := 1#32
  let v63 : BitVec 32 := Scalar.divsi v61 c1_i32_34
  let v64 : BitVec 32 := Scalar.muli v63 c1_i32_34
  let v65 : BitVec 32 := Scalar.addi v40 v64
  let c1_i32_36 : BitVec 32 := 1#32
  let arg17 : BitVec 32 := Scf.iv v65 c1_i32_36 k0_t4
  let c256_i32 : BitVec 32 := 256#32
  let v66 : BitVec 32 := Scalar.muli arg17 c256_i32
  v66
def k0_off48 (i : grid0.Coords) (v38 : BitVec 32) (v39 : BitVec 32) (k0_t4 : Fin (k0_t4_loop v38 v39).trips) : Fin 2 → Nat :=
  let v40 : BitVec 32 := Scalar.addi v38 v39
  let c288_i32 : BitVec 32 := 288#32
  let v61 : BitVec 32 := Scalar.subi c288_i32 v40
  let c1_i32_34 : BitVec 32 := 1#32
  let v63 : BitVec 32 := Scalar.divsi v61 c1_i32_34
  let v64 : BitVec 32 := Scalar.muli v63 c1_i32_34
  let v65 : BitVec 32 := Scalar.addi v40 v64
  let c1_i32_36 : BitVec 32 := 1#32
  let arg17 : BitVec 32 := Scf.iv v65 c1_i32_36 k0_t4
  let c256_i32 : BitVec 32 := 256#32
  let v66 : BitVec 32 := Scalar.muli arg17 c256_i32
  let v67 : BitVec 32 := v66
  let arg0 : BitVec 32 := BitVec.ofNat 32 (i 0).val
  let c1024_i32_20 : BitVec 32 := 1024#32
  let v42 : BitVec 32 := Scalar.muli arg0 c1024_i32_20
  let v43 : BitVec 32 := v42
  ![v67.toNat, v43.toNat]
def k0_mult22 (v38 : BitVec 32) (v39 : BitVec 32) (k0_t4 : Fin (k0_t4_loop v38 v39).trips) : BitVec 32 :=
  let v40 : BitVec 32 := Scalar.addi v38 v39
  let c288_i32 : BitVec 32 := 288#32
  let v61 : BitVec 32 := Scalar.subi c288_i32 v40
  let c1_i32_34 : BitVec 32 := 1#32
  let v63 : BitVec 32 := Scalar.divsi v61 c1_i32_34
  let v64 : BitVec 32 := Scalar.muli v63 c1_i32_34
  let v65 : BitVec 32 := Scalar.addi v40 v64
  let c1_i32_36 : BitVec 32 := 1#32
  let arg17 : BitVec 32 := Scf.iv v65 c1_i32_36 k0_t4
  let c256_i32_41 : BitVec 32 := 256#32
  let v73 : BitVec 32 := Scalar.muli arg17 c256_i32_41
  v73

def k0_chk2 (i : grid0.Coords) (v38 : BitVec 32) (v39 : BitVec 32) : Prop :=
  (∀ (k0_h11 : k0_cond11 i = 1#1), (k0_t3_loop v38 v39).OK) ∧
  (∀ k0_t3 : Fin (k0_t3_loop v38 v39).trips, ∀ (k0_h11 : k0_cond11 i = 1#1), 256 ∣ (k0_mult19 v38 v39 k0_t3).toNat) ∧
  (∀ k0_t3 : Fin (k0_t3_loop v38 v39).trips, ∀ (k0_h11 : k0_cond11 i = 1#1), ∀ a, (k0_off47 i v38 v39 k0_t3) a + S256x1024.size a ≤ S73728x2048.size a) ∧
  (∀ k0_t3 : Fin (k0_t3_loop v38 v39).trips, ∀ (k0_h11 : k0_cond11 i = 1#1), ∀ (hinb : ∀ a, (k0_off47 i v38 v39 k0_t3) a + S256x1024.size a ≤ S73728x2048.size a), (Rect.unit (s := S73728x2048) (k0_off47 i v38 v39 k0_t3) S256x1024.size hinb).WholeWords (EltTy.packing .bf16)) ∧
  (∀ k0_t3 : Fin (k0_t3_loop v38 v39).trips, ∀ (k0_h11 : k0_cond11 i = 1#1), 256 ∣ (k0_mult20 v38 v39 k0_t3).toNat) ∧
  (∀ (k0_h11 : k0_cond11 i = 1#1), (k0_t4_loop v38 v39).OK) ∧
  (∀ k0_t4 : Fin (k0_t4_loop v38 v39).trips, ∀ (k0_h11 : k0_cond11 i = 1#1), 256 ∣ (k0_mult21 v38 v39 k0_t4).toNat) ∧
  (∀ k0_t4 : Fin (k0_t4_loop v38 v39).trips, ∀ (k0_h11 : k0_cond11 i = 1#1), ∀ a, (k0_off48 i v38 v39 k0_t4) a + S256x1024.size a ≤ S73728x2048.size a) ∧
  (∀ k0_t4 : Fin (k0_t4_loop v38 v39).trips, ∀ (k0_h11 : k0_cond11 i = 1#1), ∀ (hinb : ∀ a, (k0_off48 i v38 v39 k0_t4) a + S256x1024.size a ≤ S73728x2048.size a), (Rect.unit (s := S73728x2048) (k0_off48 i v38 v39 k0_t4) S256x1024.size hinb).WholeWords (EltTy.packing .bf16)) ∧
  (∀ k0_t4 : Fin (k0_t4_loop v38 v39).trips, ∀ (k0_h11 : k0_cond11 i = 1#1), 256 ∣ (k0_mult22 v38 v39 k0_t4).toNat)
theorem k0_t3_ok : ∀ (i : grid0.Coords) (v38 : BitVec 32) (v39 : BitVec 32) (k0_hw2 : k0_chk2 i v38 v39), ∀ (k0_h11 : k0_cond11 i = 1#1), (k0_t3_loop v38 v39).OK := fun i v38 v39 k0_hw2 k0_h11 => k0_hw2.1 k0_h11
theorem k0_mult19_dvd : ∀ (i : grid0.Coords) (v38 : BitVec 32) (v39 : BitVec 32) (k0_hw2 : k0_chk2 i v38 v39) (k0_t3 : Fin (k0_t3_loop v38 v39).trips), ∀ (k0_h11 : k0_cond11 i = 1#1), 256 ∣ (k0_mult19 v38 v39 k0_t3).toNat := fun i v38 v39 k0_hw2 k0_t3 k0_h11 => k0_hw2.2.1 k0_t3 k0_h11
theorem k0_off47_inb : ∀ (i : grid0.Coords) (v38 : BitVec 32) (v39 : BitVec 32) (k0_hw2 : k0_chk2 i v38 v39) (k0_t3 : Fin (k0_t3_loop v38 v39).trips), ∀ (k0_h11 : k0_cond11 i = 1#1), ∀ a, (k0_off47 i v38 v39 k0_t3) a + S256x1024.size a ≤ S73728x2048.size a := fun i v38 v39 k0_hw2 k0_t3 k0_h11 => k0_hw2.2.2.1 k0_t3 k0_h11
theorem k0_off47_wordsbf16 : ∀ (i : grid0.Coords) (v38 : BitVec 32) (v39 : BitVec 32) (k0_hw2 : k0_chk2 i v38 v39) (k0_t3 : Fin (k0_t3_loop v38 v39).trips), ∀ (k0_h11 : k0_cond11 i = 1#1), (Rect.unit (s := S73728x2048) (k0_off47 i v38 v39 k0_t3) S256x1024.size (k0_off47_inb i v38 v39 k0_hw2 k0_t3 k0_h11)).WholeWords (EltTy.packing .bf16) := fun i v38 v39 k0_hw2 k0_t3 k0_h11 => k0_hw2.2.2.2.1 k0_t3 k0_h11 (k0_off47_inb i v38 v39 k0_hw2 k0_t3 k0_h11)
theorem k0_mult20_dvd : ∀ (i : grid0.Coords) (v38 : BitVec 32) (v39 : BitVec 32) (k0_hw2 : k0_chk2 i v38 v39) (k0_t3 : Fin (k0_t3_loop v38 v39).trips), ∀ (k0_h11 : k0_cond11 i = 1#1), 256 ∣ (k0_mult20 v38 v39 k0_t3).toNat := fun i v38 v39 k0_hw2 k0_t3 k0_h11 => k0_hw2.2.2.2.2.1 k0_t3 k0_h11
theorem k0_t4_ok : ∀ (i : grid0.Coords) (v38 : BitVec 32) (v39 : BitVec 32) (k0_hw2 : k0_chk2 i v38 v39), ∀ (k0_h11 : k0_cond11 i = 1#1), (k0_t4_loop v38 v39).OK := fun i v38 v39 k0_hw2 k0_h11 => k0_hw2.2.2.2.2.2.1 k0_h11
theorem k0_mult21_dvd : ∀ (i : grid0.Coords) (v38 : BitVec 32) (v39 : BitVec 32) (k0_hw2 : k0_chk2 i v38 v39) (k0_t4 : Fin (k0_t4_loop v38 v39).trips), ∀ (k0_h11 : k0_cond11 i = 1#1), 256 ∣ (k0_mult21 v38 v39 k0_t4).toNat := fun i v38 v39 k0_hw2 k0_t4 k0_h11 => k0_hw2.2.2.2.2.2.2.1 k0_t4 k0_h11
theorem k0_off48_inb : ∀ (i : grid0.Coords) (v38 : BitVec 32) (v39 : BitVec 32) (k0_hw2 : k0_chk2 i v38 v39) (k0_t4 : Fin (k0_t4_loop v38 v39).trips), ∀ (k0_h11 : k0_cond11 i = 1#1), ∀ a, (k0_off48 i v38 v39 k0_t4) a + S256x1024.size a ≤ S73728x2048.size a := fun i v38 v39 k0_hw2 k0_t4 k0_h11 => k0_hw2.2.2.2.2.2.2.2.1 k0_t4 k0_h11
theorem k0_off48_wordsbf16 : ∀ (i : grid0.Coords) (v38 : BitVec 32) (v39 : BitVec 32) (k0_hw2 : k0_chk2 i v38 v39) (k0_t4 : Fin (k0_t4_loop v38 v39).trips), ∀ (k0_h11 : k0_cond11 i = 1#1), (Rect.unit (s := S73728x2048) (k0_off48 i v38 v39 k0_t4) S256x1024.size (k0_off48_inb i v38 v39 k0_hw2 k0_t4 k0_h11)).WholeWords (EltTy.packing .bf16) := fun i v38 v39 k0_hw2 k0_t4 k0_h11 => k0_hw2.2.2.2.2.2.2.2.2.1 k0_t4 k0_h11 (k0_off48_inb i v38 v39 k0_hw2 k0_t4 k0_h11)
theorem k0_mult22_dvd : ∀ (i : grid0.Coords) (v38 : BitVec 32) (v39 : BitVec 32) (k0_hw2 : k0_chk2 i v38 v39) (k0_t4 : Fin (k0_t4_loop v38 v39).trips), ∀ (k0_h11 : k0_cond11 i = 1#1), 256 ∣ (k0_mult22 v38 v39 k0_t4).toNat := fun i v38 v39 k0_hw2 k0_t4 k0_h11 => k0_hw2.2.2.2.2.2.2.2.2.2 k0_t4 k0_h11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Gmm1RefIdeal.lean ====
abbrev S32 : Shape := ⟨1, ![32]⟩
abbrev S73728x2048 : Shape := ⟨2, ![73728, 2048]⟩
abbrev S32x2048x4096 : Shape := ⟨3, ![32, 2048, 4096]⟩
abbrev S32x4096 : Shape := ⟨2, ![32, 4096]⟩
abbrev S73728 : Shape := ⟨1, ![73728]⟩
abbrev S73728x1 : Shape := ⟨2, ![73728, 1]⟩
abbrev S1x32 : Shape := ⟨2, ![1, 32]⟩
abbrev S_ : Shape := ⟨0, ![]⟩
abbrev S73728x32 : Shape := ⟨2, ![73728, 32]⟩
abbrev S73728x32x4096 : Shape := ⟨3, ![73728, 32, 4096]⟩
abbrev S1x32x4096 : Shape := ⟨3, ![1, 32, 4096]⟩
abbrev S73728x32x2048 : Shape := ⟨3, ![73728, 32, 2048]⟩
abbrev S73728x32x1 : Shape := ⟨3, ![73728, 32, 1]⟩

abbrev nBuf : Space → Nat
  | .hbm => 65
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S73728x2048, .f32⟩
  | .hbm, ⟨3, _⟩ => ⟨S32x2048x4096, .f32⟩
  | .hbm, ⟨4, _⟩ => ⟨S32x4096, .f32⟩
  | .hbm, ⟨5, _⟩ => ⟨S73728, .i32⟩
  | .hbm, ⟨6, _⟩ => ⟨S73728x1, .i32⟩
  | .hbm, ⟨7, _⟩ => ⟨S1x32, .i32⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S73728x32, .i32⟩
  | .hbm, ⟨12, _⟩ => ⟨S73728x32, .i32⟩
  | .hbm, ⟨13, _⟩ => ⟨S73728x32, .i1⟩
  | .hbm, ⟨14, _⟩ => ⟨S32, .i32⟩
  | .hbm, ⟨15, _⟩ => ⟨S1x32, .i32⟩
  | .hbm, ⟨16, _⟩ => ⟨S_, .i32⟩
  | .hbm, ⟨17, _⟩ => ⟨S1x32, .i32⟩
  | .hbm, ⟨18, _⟩ => ⟨S1x32, .i32⟩
  | .hbm, ⟨19, _⟩ => ⟨S73728x32, .i32⟩
  | .hbm, ⟨20, _⟩ => ⟨S73728x32, .i32⟩
  | .hbm, ⟨21, _⟩ => ⟨S73728x32, .i1⟩
  | .hbm, ⟨22, _⟩ => ⟨S73728x32, .i1⟩
  | .hbm, ⟨23, _⟩ => ⟨S73728x32x4096, .f32⟩
  | .hbm, ⟨24, _⟩ => ⟨S1x32x4096, .f32⟩
  | .hbm, ⟨25, _⟩ => ⟨S73728x32x4096, .f32⟩
  | .hbm, ⟨26, _⟩ => ⟨S73728x32x4096, .f32⟩
  | .hbm, ⟨27, _⟩ => ⟨S73728x32x2048, .f32⟩
  | .hbm, ⟨28, _⟩ => ⟨S73728x32x2048, .f32⟩
  | .hbm, ⟨29, _⟩ => ⟨S_, .f32⟩
  | .hbm, ⟨30, _⟩ => ⟨S73728x32x2048, .f32⟩
  | .hbm, ⟨31, _⟩ => ⟨S73728x32x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S73728x32x2048, .f32⟩
  | .hbm, ⟨36, _⟩ => ⟨S73728x32x2048, .f32⟩
  | .hbm, ⟨37, _⟩ => ⟨S_, .f32⟩
  | .hbm, ⟨38, _⟩ => ⟨S73728x32x2048, .f32⟩
  | .hbm, ⟨39, _⟩ => ⟨S73728x32x2048, .f32⟩
  | .hbm, ⟨40, _⟩ => ⟨S_, .f32⟩
  | .hbm, ⟨41, _⟩ => ⟨S73728x32x2048, .f32⟩
  | .hbm, ⟨42, _⟩ => ⟨S73728x32x2048, .f32⟩
  | .hbm, ⟨43, _⟩ => ⟨S73728x32x2048, .f32⟩
  | .hbm, ⟨44, _⟩ => ⟨S73728x32x2048, .f32⟩
  | .hbm, ⟨45, _⟩ => ⟨S_, .f32⟩
  | .hbm, ⟨46, _⟩ => ⟨S73728x32x2048, .f32⟩
  | .hbm, ⟨47, _⟩ => ⟨S73728x32x2048, .f32⟩
  | .hbm, ⟨48, _⟩ => ⟨S_, .f32⟩
  | .hbm, ⟨49, _⟩ => ⟨S73728x32x2048, .f32⟩
  | .hbm, ⟨50, _⟩ => ⟨S73728x32x2048, .f32⟩
  | .hbm, ⟨51, _⟩ => ⟨S73728x32x2048, .f32⟩
  | .hbm, ⟨52, _⟩ => ⟨S_, .f32⟩
  | .hbm, ⟨53, _⟩ => ⟨S73728x32x2048, .f32⟩
  | .hbm, ⟨54, _⟩ => ⟨S73728x32x2048, .f32⟩
  | .hbm, ⟨55, _⟩ => ⟨S73728x32x2048, .f32⟩
  | .hbm, ⟨56, _⟩ => ⟨S73728x32x1, .i1⟩
  | .hbm, ⟨57, _⟩ => ⟨S_, .f32⟩
  | .hbm, ⟨58, _⟩ => ⟨S_, .f32⟩
  | .hbm, ⟨59, _⟩ => ⟨S73728x32x2048, .i1⟩
  | .hbm, ⟨60, _⟩ => ⟨S73728x32x2048, .f32⟩
  | .hbm, ⟨61, _⟩ => ⟨S73728x32x2048, .f32⟩
  | .hbm, ⟨62, _⟩ => ⟨S_, .f32⟩
  | .hbm, ⟨63, _⟩ => ⟨S73728x2048, .f32⟩
  | .hbm, ⟨64, _⟩ => ⟨S73728x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Proof.Mix.Merge.lean ====
/-
  The merge call: the gated sum of the two mixers' projections, its output projection and the residual add. Each grid
  point works on 256 rows; the result array ends holding the reference's composed term of the arguments.
-/
module

public import proofs.«01_k».proof.Defs
public import proofs.«01_k».proof.Proof.Gen.MergeIdeal.Value
public import proofs.«01_k».proof.Proof.Gen.MergeRefIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Mix.Merge

open Cert.MergeIdeal Cert.MergeIdeal.Gen

/-- The layer's merge as a function of whole arrays: `x + (g₁ · (c W₁) + g₂ · (q W₂)) W₃`. -/
def G (c q : Vec Ideal S16384x1024 .bf16) (sg : Vec Ideal S16384x4096 .bf16) (x : Vec Ideal S16384x2048 .f32)
    (wc wp : Vec Ideal S1024x2048 .f32) (wo : Vec Ideal S2048x2048 .f32) : Vec Ideal S16384x2048 .f32 := fun j =>
  (x j : EReal) + ∑ k : Fin 2048,
    ((sg (ix2 (n0 := 16384) (n1 := 4096) (j 0) ⟨k.val, by omega⟩) : EReal)
        * (∑ l : Fin 1024, (c (ix2 (n0 := 16384) (n1 := 1024) (j 0) l) : EReal) * wc (ix2 (n0 := 1024) (n1 := 2048) l k))
      + (sg (ix2 (n0 := 16384) (n1 := 4096) (j 0) ⟨2048 + k.val, by omega⟩) : EReal)
        * (∑ l : Fin 1024, (q (ix2 (n0 := 16384) (n1 := 1024) (j 0) l) : EReal) * wp (ix2 (n0 := 1024) (n1 := 2048) l k)))
    * wo (ix2 (n0 := 2048) (n1 := 2048) k (j 1))

variable (m : (ℓ : Loc nD τ sig) → Buf (Elt Ideal) ℓ) (ρ : Dev nD → PrngReg)

/-- The function of the launch contents. -/
abbrev res (c : Dev nD) : Vec Ideal S16384x2048 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz : (![0, 0] : Fin 2 → Nat) = fun _ => 0 := funext fun a => by fin_cases a <;> rfl

/-- The three weight arrays at the region's entry are the arguments, cast (over the reals, the same). -/
theorem V_w1 (c : Dev nD) : (V (F := Ideal) m c main_v0 : S1024x2048.Idx → EReal)
    = (m ((c : Thread nD τ).loc main_arg4) : S1024x2048.Idx → EReal) := by
  unfold V; after_results; rfl
theorem V_w2 (c : Dev nD) : (V (F := Ideal) m c main_v1 : S1024x2048.Idx → EReal)
    = (m ((c : Thread nD τ).loc main_arg5) : S1024x2048.Idx → EReal) := by
  unfold V; after_results; rfl
theorem V_w3 (c : Dev nD) : (V (F := Ideal) m c main_v2 : S2048x2048.Idx → EReal)
    = (m ((c : Thread nD τ).loc main_arg6) : S2048x2048.Idx → EReal) := by
  unfold V; after_results; rfl

/-- The payload at an index. -/
theorem pay_apply (v0 : Vec Ideal S256x1024 .bf16) (v1 : Vec Ideal S1024x2048 .bf16) (v4 : Vec Ideal S256x1024 .bf16)
    (v5 : Vec Ideal S1024x2048 .bf16) (v8 v11 : Vec Ideal S256x2048 .bf16) (v15 : Vec Ideal S256x2048 .f32)
    (v17 : Vec Ideal S2048x2048 .bf16) (r : Fin 256) (l : Fin 2048) :
    k0_pay1 (F := Ideal) v0 v1 v4 v5 v8 v11 v15 v17 (ix2 r l) = (v15 (ix2 r l) : EReal) + ∑ x : Fin 2048,
        ((v8 (ix2 r x) : EReal) * (∑ y : Fin 1024, (v0 (ix2 r y) : EReal) * v1 (ix2 y x))
          + (v11 (ix2 r x) : EReal) * (∑ y : Fin 1024, (v4 (ix2 r y) : EReal) * v5 (ix2 y x)))
        * v17 (ix2 x l) := by
  pointwise [k0_pay1]

/-- The index maps: the row windows move with the point, the weights stay. -/
theorem maps : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) :=
  (by decide +kernel : ∀ t : Fin grid0.N, _)

theorem tlt (t : Fin cfg0.N) : t.val < 64 := lt_of_lt_of_eq t.isLt N_0

theorem blk0 (c : Dev nD) (t : Fin cfg0.N) (r : Fin 256) (l : Fin 1024) :
    iblk m c 0 t (ix2 r l) = m ((c : Thread nD τ).loc main_arg0)
      (ix2 (n0 := 16384) (n1 := 1024) ⟨t.val * 256 + r.val, by have := tlt t; omega⟩ l) := by
  unfold iblk
  rw [← V_main_arg0 m c]
  refine congrArg (V m c main_arg0) ?_
  funext a; apply Fin.ext
  match a with
  | ⟨0, _⟩ => show win0_0.index t 0 * 256 + 1 * r.val = t.val * 256 + r.val; rw [(maps t).1.1]; omega
  | ⟨1, _⟩ => show win0_0.index t 1 * 1024 + 1 * l.val = l.val; rw [(maps t).1.2]; omega

theorem blk1 (c : Dev nD) (t : Fin cfg0.N) (r : Fin 256) (l : Fin 1024) :
    iblk m c 1 t (ix2 r l) = m ((c : Thread nD τ).loc main_arg1)
      (ix2 (n0 := 16384) (n1 := 1024) ⟨t.val * 256 + r.val, by have := tlt t; omega⟩ l) := by
  unfold iblk
  rw [← V_main_arg1 m c]
  refine congrArg (V m c main_arg1) ?_
  funext a; apply Fin.ext
  match a with
  | ⟨0, _⟩ => show win0_1.index t 0 * 256 + 1 * r.val = t.val * 256 + r.val; rw [(maps t).2.1.1]; omega
  | ⟨1, _⟩ => show win0_1.index t 1 * 1024 + 1 * l.val = l.val; rw [(maps t).2.1.2]; omega

theorem blk2 (c : Dev nD) (t : Fin cfg0.N) (r : Fin 256) (l : Fin 4096) :
    iblk m c 2 t (ix2 r l) = m ((c : Thread nD τ).loc main_arg2)
      (ix2 (n0 := 16384) (n1 := 4096) ⟨t.val * 256 + r.val, by have := tlt t; omega⟩ l) := by
  unfold iblk
  rw [← V_main_arg2 m c]
  refine congrArg (V m c main_arg2) ?_
  funext a; apply Fin.ext
  match a with
  | ⟨0, _⟩ => show win0_2.index t 0 * 256 + 1 * r.val = t.val * 256 + r.val; rw [(maps t).2.2.1.1]; omega
  | ⟨1, _⟩ => show win0_2.index t 1 * 4096 + 1 * l.val = l.val; rw [(maps t).2.2.1.2]; omega

theorem blk3 (c : Dev nD) (t : Fin cfg0.N) (r : Fin 256) (l : Fin 2048) :
    iblk m c 3 t (ix2 r l) = m ((c : Thread nD τ).loc main_arg3)
      (ix2 (n0 := 16384) (n1 := 2048) ⟨t.val * 256 + r.val, by have := tlt t; omega⟩ l) := by
  unfold iblk
  rw [← V_main_arg3 m c]
  refine congrArg (V m c main_arg3) ?_
  funext a; apply Fin.ext
  match a with
  | ⟨0, _⟩ => show win0_3.index t 0 * 256 + 1 * r.val = t.val * 256 + r.val; rw [(maps t).2.2.2.1.1]; omega
  | ⟨1, _⟩ => show win0_3.index t 1 * 2048 + 1 * l.val = l.val; rw [(maps t).2.2.2.1.2]; omega

theorem blk4 (c : Dev nD) (t : Fin cfg0.N) (r : Fin 1024) (l : Fin 2048) :
    (iblk m c 4 t (ix2 r l) : EReal) = m ((c : Thread nD τ).loc main_arg4) (ix2 (n0 := 1024) (n1 := 2048) r l) := by
  rw [← V_w1 m c]; unfold iblk
  refine congrArg (V m c main_v0) ?_
  funext a; apply Fin.ext
  match a with
  | ⟨0, _⟩ => show win0_4.index t 0 * 1024 + 1 * r.val = r.val; rw [(maps t).2.2.2.2.1.1]; omega
  | ⟨1, _⟩ => show win0_4.index t 1 * 2048 + 1 * l.val = l.val; rw [(maps t).2.2.2.2.1.2]; omega

theorem blk5 (c : Dev nD) (t : Fin cfg0.N) (r : Fin 1024) (l : Fin 2048) :
    (iblk m c 5 t (ix2 r l) : EReal) = m ((c : Thread nD τ).loc main_arg5) (ix2 (n0 := 1024) (n1 := 2048) r l) := by
  rw [← V_w2 m c]; unfold iblk
  refine congrArg (V m c main_v1) ?_
  funext a; apply Fin.ext
  match a with
  | ⟨0, _⟩ => show win0_5.index t 0 * 1024 + 1 * r.val = r.val; rw [(maps t).2.2.2.2.2.1.1]; omega
  | ⟨1, _⟩ => show win0_5.index t 1 * 2048 + 1 * l.val = l.val; rw [(maps t).2.2.2.2.2.1.2]; omega

theorem blk6 (c : Dev nD) (t : Fin cfg0.N) (r : Fin 2048) (l : Fin 2048) :
    (iblk m c 6 t (ix2 r l) : EReal) = m ((c : Thread nD τ).loc main_arg6) (ix2 (n0 := 2048) (n1 := 2048) r l) := by
  rw [← V_w3 m c]; unfold iblk
  refine congrArg (V m c main_v2) ?_
  funext a; apply Fin.ext
  match a with
  | ⟨0, _⟩ => show win0_6.index t 0 * 2048 + 1 * r.val = r.val; rw [(maps t).2.2.2.2.2.2.1.1]; omega
  | ⟨1, _⟩ => show win0_6.index t 1 * 2048 + 1 * l.val = l.val; rw [(maps t).2.2.2.2.2.2.1.2]; omega

/-- The two halves of the gates' block. -/
theorem ldlo (v : Vec Ideal S256x4096 .bf16) (r : Fin 256) (k : Fin 2048) :
    View.ld v r0_2 (ix2 r k) = v (ix2 (n0 := 256) (n1 := 4096) r ⟨k.val, by omega⟩) := by
  refine congrArg v ?_
  funext a; apply Fin.ext
  match a with
  | ⟨0, _⟩ => show 0 + 1 * r.val = r.val; omega
  | ⟨1, _⟩ => show 0 + 1 * k.val = k.val; omega
theorem ldhi (v : Vec Ideal S256x4096 .bf16) (r : Fin 256) (k : Fin 2048) :
    View.ld v r0_3 (ix2 r k) = v (ix2 (n0 := 256) (n1 := 4096) r ⟨2048 + k.val, by omega⟩) := by
  refine congrArg v ?_
  funext a; apply Fin.ext
  match a with
  | ⟨0, _⟩ => show 0 + 1 * r.val = r.val; omega
  | ⟨1, _⟩ => show 2048 + 1 * k.val = 2048 + k.val; omega

theorem G_apply (c q : Vec Ideal S16384x1024 .bf16) (sg : Vec Ideal S16384x4096 .bf16) (x : Vec Ideal S16384x2048 .f32)
    (wc wp : Vec Ideal S1024x2048 .f32) (wo : Vec Ideal S2048x2048 .f32) (r : Fin 16384) (l : Fin 2048) :
    G c q sg x wc wp wo (ix2 r l) = (x (ix2 r l) : EReal) + ∑ k : Fin 2048,
      ((sg (ix2 (n0 := 16384) (n1 := 4096) r ⟨k.val, by omega⟩) : EReal) * (∑ y : Fin 1024, (c (ix2 r y) : EReal) * wc (ix2 y k))
        + (sg (ix2 (n0 := 16384) (n1 := 4096) r ⟨2048 + k.val, by omega⟩) : EReal) * (∑ y : Fin 1024, (q (ix2 r y) : EReal) * wp (ix2 y k)))
      * wo (ix2 k l) := rfl

theorem pay_blk (c : Dev nD) (t : Fin cfg0.N) (r : Fin 256) (l : Fin 2048) :
    k0_pay1 (F := Ideal) (iblk m c 0 t) (iblk m c 4 t) (iblk m c 1 t) (iblk m c 5 t) (View.ld (iblk m c 2 t) r0_2)
      (View.ld (iblk m c 2 t) r0_3) (iblk m c 3 t) (iblk m c 6 t) (ix2 r l)
    = res m c (ix2 (n0 := 16384) (n1 := 2048) ⟨t.val * 256 + r.val, by have := tlt t; omega⟩ l) := by
  refine (pay_apply _ _ _ _ _ _ _ _ r l).trans ?_
  unfold res
  rw [G_apply]
  refine congrArg₂ (· + ·) (blk3 m c t r l) (Finset.sum_congr rfl fun k _ => ?_)
  refine congrArg₂ (· * ·) (congrArg₂ (· + ·) (congrArg₂ (· * ·) ?_ (Finset.sum_congr rfl fun y _ => ?_))
    (congrArg₂ (· * ·) ?_ (Finset.sum_congr rfl fun y _ => ?_))) (blk6 m c t k l)
  · exact (ldlo _ r k).trans (blk2 m c t r _)
  · exact congrArg₂ (· * ·) (blk0 m c t r y) (blk4 m c t y k)
  · exact (ldhi _ r k).trans (blk2 m c t r _)
  · exact congrArg₂ (· * ·) (blk1 m c t r y) (blk5 m c t y k)

/-- What point `t` writes back is block `t` of the whole result. -/
theorem flushed_eq (c : Dev nD) (t : Fin cfg0.N) :
    (dats m 0 c).flushed 7 t = (win0_7.blk t).view.read (Elt Ideal) (res m c) := by
  rw [Cert.MergeIdeal.Value.flushed7]
  unfold out0_7
  rw [View.canon_unit_zero hz, View.ld_unit_zero hz, View.ld_unit_zero hz, View.ld_unit_zero hz, View.ld_unit_zero hz, View.ld_unit_zero hz, View.ld_unit_zero hz]
  funext j
  obtain ⟨r, l, rfl⟩ : ∃ (r : Fin 256) (l : Fin 2048), j = ix2 r l :=
    ⟨j 0, j 1, by funext a; match a with | ⟨0, _⟩ => rfl | ⟨1, _⟩ => rfl⟩
  have e : (win0_7.blk t).view.read (Elt Ideal) (res m c) (ix2 r l) = res m c
      (ix2 (n0 := 16384) (n1 := 2048) ⟨t.val * 256 + r.val, by have := tlt t; omega⟩ l) := by
    refine congrArg (res m c) ?_
    funext a; apply Fin.ext
    match a with
    | ⟨0, _⟩ => show win0_7.index t 0 * 256 + 1 * r.val = t.val * 256 + r.val; rw [(maps t).2.2.2.2.2.2.2.1]; omega
    | ⟨1, _⟩ => show win0_7.index t 1 * 2048 + 1 * l.val = l.val; rw [(maps t).2.2.2.2.2.2.2.2]; omega
  refine Eq.trans ?_ e.symm
  exact pay_blk m c t r l

/-- An index of the result array is in point `t`'s block when its row is among the point's 256. -/
theorem mem_blk (t : Fin cfg0.N) (i : S16384x2048.Idx) :
    i ∈ ((cfg0.win 7).blk t).view.set ↔ t.val * 256 ≤ (i 0).val ∧ (i 0).val < t.val * 256 + 256 := by
  show i ∈ ((View.whole main_v3).slice (win0_7.rect t)).set ↔ _
  rw [View.set_slice_whole, Rect.mem_set_unit]
  have h1 : (i 1).val < 2048 := (i 1).isLt
  have key : ∀ n : ℕ, n < 2048 → 0 * 2048 ≤ n ∧ n < 0 * 2048 + 2048 := fun n h => by omega
  have e0 := (maps t).2.2.2.2.2.2.2
  refine ⟨fun h => ?_, fun h a => ?_⟩
  · have : win0_7.index t 0 * 256 ≤ (i 0).val ∧ (i 0).val < win0_7.index t 0 * 256 + 256 := h 0
    rw [e0.1] at this; exact this
  · match a with
    | ⟨0, _⟩ => show win0_7.index t 0 * 256 ≤ (i 0).val ∧ (i 0).val < win0_7.index t 0 * 256 + 256
                rw [e0.1]; exact h
    | ⟨1, _⟩ => show win0_7.index t 1 * 2048 ≤ (i 1).val ∧ (i 1).val < win0_7.index t 1 * 2048 + 2048
                rw [e0.2]; exact key _ h1

/-- The result array after the run. -/
theorem final (c : Dev nD) : (dats m 0 c).arrAt 7 cfg0.N = res m c :=
  (dats m 0 c).arrAt_eq_of_cover 7 (res m c) (fun t _ => flushed_eq m c t) fun i => by
    have h0 : (i 0).val < 16384 := (i 0).isLt
    have hb : (i 0).val / 256 < cfg0.N := by show _ < grid0.N; rw [N_0]; omega
    exact ⟨⟨(i 0).val / 256, hb⟩, flush0_7 _, (mem_blk _ i).mpr (by dsimp only; omega)⟩

end Cert.Proof.Mix.Merge

namespace Cert.Proof.Mix.MergeRef

open Cert.MergeRefIdeal Cert.MergeRefIdeal.Gen

/-- The reference's composed term is the same function. -/
theorem ref_eq (c q : Vec Ideal S16384x1024 .bf16) (sg : Vec Ideal S16384x4096 .bf16) (x : Vec Ideal S16384x2048 .f32)
    (wc wp : Vec Ideal S1024x2048 .f32) (wo : Vec Ideal S2048x2048 .f32) :
    addf x (Host.dotGeneral (F := Ideal) (φ₁ := .f32) (φ₂ := .f32) dot_S16384x2048_S2048x2048_S16384x2048_1_0_0_1_n_n none
      (addf (mulf (extractStridedSlice S16384x2048 ![0, 0] (extf .f32 sg bitsLt_bf16_f32) slices_S16384x4096_S16384x2048_0_0)
          (Host.dotGeneral (F := Ideal) (φ₁ := .f32) (φ₂ := .f32) dot_S16384x1024_S1024x2048_S16384x2048_1_0_0_1_n_n none (extf .f32 c bitsLt_bf16_f32) wc))
        (mulf (extractStridedSlice S16384x2048 ![0, 2048] (extf .f32 sg bitsLt_bf16_f32) slices_S16384x4096_S16384x2048_0_2048)
          (Host.dotGeneral (F := Ideal) (φ₁ := .f32) (φ₂ := .f32) dot_S16384x1024_S1024x2048_S16384x2048_1_0_0_1_n_n none (extf .f32 q bitsLt_bf16_f32) wp))) wo)
    = Merge.G c q sg x wc wp wo := by
  funext j
  obtain ⟨r, l, rfl⟩ : ∃ (r : Fin 16384) (l : Fin 2048), j = ix2 r l :=
    ⟨j 0, j 1, by funext a; match a with | ⟨0, _⟩ => rfl | ⟨1, _⟩ => rfl⟩
  pointwise [Merge.G]

end Cert.Proof.Mix.MergeRef

namespace Cert.Proof.Mix

/-- The reference of the merge leaves its arguments and has no semaphore. -/
theorem frame_merge_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Kernel and reference of the merge compute the same function over the extended reals. -/
theorem algebraic_merge : Cert.algebraic_MergeIdeal_MergeRefIdeal := by
  intro m ρ m' ρ' _ hag
  refine ⟨fun c => Merge.res m c, ?_, ?_⟩
  · exact (θ_run Cert.MergeIdeal.defs _ _).mono (fun _ h c => ⟨(h c).1.trans (Merge.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨h0, h1, h2, h3, h4, h5, h6⟩ := hag c
    refine (MergeRef.ref_eq _ _ _ _ _ _ _).trans ?_
    rw [h0, h1, h2, h3, h4, h5, h6]

end Cert.Proof.Mix

end
-- ==== Proof.Moe.Gmm2IdealNames.lean ====
/-
  The same over the ideal program's names.
  The second grouped product of the experts: names for the parts of its buffers.

  A tile is 256 rows of the packed rows; the kernel moves a tile of activations in, a tile of results out, and one
  expert's matrix in, each into one of two slots. Here those parts get names that do not depend on how the kernel
  computes their offsets, and the offsets it computes are shown to be those of the named parts.
-/
module

public import proofs.«01_k».proof.Proof.Moe.Gmm2Names
public import proofs.«01_k».proof.Defs
public import proofs.«01_k».proof.Proof.Gen.Gmm2Ideal
public import proofs.«01_k».proof.Proof.Gen.Gmm2Ideal.Launch
public import proofs.«01_k».proof.Proof.Gen.Gmm2Ideal.Skeleton
public import proofs.«01_k».proof.Proof.Gen.Gmm2Ideal.Skeleton
public import Idealize.ShloMosaic.Lib.Exec
public import Idealize.ShloMosaic.Lib.Tactic
public import Idealize.ShloMosaic.Lib.Pipeline.Kit
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open Idealize.SL.Sem

variable {F : FTy → Type} [FloatOps F]

/-! ## The whole buffers and their parts -/

abbrev tM : Memref sig .tc .smem S32 .i32 := Memref.whole main_arg0
abbrev nM : Memref sig .tc .smem S32 .i32 := Memref.whole main_arg1
abbrev wM : Memref sig .tc .hbm S32x2048x2048 .f32 := Memref.whole main_arg3
abbrev aM : Memref sig .tc .hbm S73728x2048 .bf16 := Memref.whole main_arg2
abbrev oM : Memref sig .tc .hbm S73728x2048 .f32 := Memref.whole main_v1
abbrev rawM : Memref sig .tc .vmem S2x2048x2048 .f32 := Memref.whole cc0_scratch0
abbrev wsM : Memref sig .tc .vmem S2048x2048 .bf16 := Memref.whole cc0_scratch2
abbrev inM : Memref sig .tc .vmem S2x256x2048 .bf16 := Memref.whole cc0_scratch3
abbrev outM : Memref sig .tc .vmem S2x256x2048 .f32 := Memref.whole cc0_scratch4

abbrev tileOff (b : Fin 288) : Fin 2 → Nat := ![b.val * 256, 0]
theorem tileOff_inb (b : Fin 288) : ∀ a, tileOff b a + S256x2048.size a ≤ S73728x2048.size a := by
  have := b.isLt; intro a; fin_cases a
  · show b.val * 256 + 256 ≤ 73728; omega
  · show 0 + 2048 ≤ 2048; omega
abbrev slotOff (s : Fin 2) : Fin 3 → Nat := ![s.val, 0, 0]
theorem slotOff_inb (s : Fin 2) : ∀ a, slotOff s a + S1x256x2048.size a ≤ S2x256x2048.size a := by
  have := s.isLt; intro a; fin_cases a
  · show s.val + 1 ≤ 2; omega
  · show 0 + 256 ≤ 256; omega
  · show 0 + 2048 ≤ 2048; omega
theorem rawOff_inb (s : Fin 2) : ∀ a, slotOff s a + S1x2048x2048.size a ≤ S2x2048x2048.size a := by
  have := s.isLt; intro a; fin_cases a
  · show s.val + 1 ≤ 2; omega
  · show 0 + 2048 ≤ 2048; omega
  · show 0 + 2048 ≤ 2048; omega
abbrev expOff (e : Fin 32) : Fin 3 → Nat := ![e.val, 0, 0]
theorem expOff_inb (e : Fin 32) : ∀ a, expOff e a + S1x2048x2048.size a ≤ S32x2048x2048.size a := by
  have := e.isLt; intro a; fin_cases a
  · show e.val + 1 ≤ 32; omega
  · show 0 + 2048 ≤ 2048; omega
  · show 0 + 2048 ≤ 2048; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Tile `b` of the activations; of the results. -/
def aTile (b : Fin 288) : Memref sig .tc .hbm S256x2048 .bf16 :=
  aM.slice (Rect.unit (s := S73728x2048) (tileOff b) S256x2048.size (tileOff_inb b)) (fun _ => rfl)
def oTile (b : Fin 288) : Memref sig .tc .hbm S256x2048 .f32 :=
  oM.slice (Rect.unit (s := S73728x2048) (tileOff b) S256x2048.size (tileOff_inb b)) (fun _ => rfl)
/-- Expert `e`'s matrix. -/
def wExp (e : Fin 32) : Memref sig .tc .hbm S2048x2048 .f32 :=
  (wM.slice (Rect.unit (s := S32x2048x2048) (expOff e) S1x2048x2048.size (expOff_inb e)) (fun _ => rfl)).squeeze S2048x2048 squeezes_S1x2048x2048_S2048x2048
/-- Slot `s` of the matrix buffer, of the tiles in, of the tiles out. -/
def rawSlot (s : Fin 2) : Memref sig .tc .vmem S2048x2048 .f32 :=
  (rawM.slice (Rect.unit (s := S2x2048x2048) (slotOff s) S1x2048x2048.size (rawOff_inb s)) (fun _ => rfl)).squeeze S2048x2048 squeezes_S1x2048x2048_S2048x2048
def inSlot (s : Fin 2) : Memref sig .tc .vmem S256x2048 .bf16 :=
  (inM.slice (Rect.unit (s := S2x256x2048) (slotOff s) S1x256x2048.size (slotOff_inb s)) (fun _ => rfl)).squeeze S256x2048 squeezes_S1x256x2048_S256x2048
def outSlot (s : Fin 2) : Memref sig .tc .vmem S256x2048 .f32 :=
  (outM.slice (Rect.unit (s := S2x256x2048) (slotOff s) S1x256x2048.size (slotOff_inb s)) (fun _ => rfl)).squeeze S256x2048 squeezes_S1x256x2048_S256x2048
/-- Their semaphores. -/
def rawSem (s : Fin 2) : DmaSems sig S_ := (cc0_scratch1.slice (Rect.unit (s := S2) (semOff s) S1.size (semOff_inb s))).squeeze S_ squeezes_S1_S_
def inSem (s : Fin 2) : DmaSems sig S_ := (cc0_scratch5.slice (Rect.unit (s := S2) (semOff s) S1.size (semOff_inb s))).squeeze S_ squeezes_S1_S_
def outSem (s : Fin 2) : DmaSems sig S_ := (cc0_scratch6.slice (Rect.unit (s := S2) (semOff s) S1.size (semOff_inb s))).squeeze S_ squeezes_S1_S_

instance (s : Fin 2) : ClosedOff (slotOff s) := ⟨slotOff s, rfl⟩
instance (b : Fin 288) : ClosedOff (tileOff b) := ⟨tileOff b, rfl⟩
instance (e : Fin 32) : ClosedOff (expOff e) := ⟨expOff e, rfl⟩

/-! ## Words -/

/-- A table's two words for one expert name tiles of the array: the first tile and how many. -/
def Fits (v1 v3 : BitVec 32) : Prop := v1.toNat + v3.toNat ≤ 288

theorem toInt_small {v : BitVec 32} (h : v.toNat < 2 ^ 31) : v.toInt = v.toNat := by
  have := BitVec.toInt_eq_toNat_cond v; split at this <;> omega
theorem iv_small (k : Nat) (h : k < 2 ^ 31) : (Scf.iv 0#32 1#32 k).toNat = k := by
  unfold Scf.iv; simp; omega
theorem iv_from (v : BitVec 32) (k : Nat) (h : v.toNat + k < 2 ^ 31) : (Scf.iv v 1#32 k).toNat = v.toNat + k := by
  unfold Scf.iv; simp; omega
theorem and_one (v : BitVec 32) : (Scalar.andi v 1#32).toNat = v.toNat % 2 := by
  simp [Scalar.andi, IntOp.andi, BitVec.toNat_and, Nat.and_one_is_mod]
theorem add_nat (v w : BitVec 32) (h : v.toNat + w.toNat < 2 ^ 32) : (Scalar.addi v w).toNat = v.toNat + w.toNat := by
  simp only [Scalar.addi, IntOp.addi, BitVec.toNat_add]; omega
theorem sub_nat (v w : BitVec 32) (h : w.toNat ≤ v.toNat) : (Scalar.subi v w).toNat = v.toNat - w.toNat := by
  have := v.isLt; have := w.isLt
  simp only [Scalar.subi, IntOp.subi, BitVec.toNat_sub]; omega
theorem mul_256 (v : BitVec 32) (h : v.toNat ≤ 288) : (Scalar.muli v 256#32).toNat = v.toNat * 256 := by
  simp only [Scalar.muli, IntOp.muli, BitVec.toNat_mul, BitVec.toNat_ofNat]; omega
theorem sub_zero_word (v : BitVec 32) : Scalar.subi v 0#32 = v := by simp [Scalar.subi, IntOp.subi]
theorem toInt_of_isInt {x : BitVec 32} {e : Int} (h : Idealize.ShloMosaic.Affine.IsInt x e) : x.toInt = e := by
  delta Idealize.ShloMosaic.Affine.IsInt at h; exact h
theorem div_one (v : BitVec 32) : Scalar.divsi v 1#32 = v := by
  apply BitVec.eq_of_toInt_eq
  exact toInt_of_isInt (Idealize.ShloMosaic.Affine.divsi_one (Idealize.ShloMosaic.Affine.word v) (Idealize.ShloMosaic.Affine.ofNat (e := 1) 1 ⟨rfl, by decide⟩) ⟨rfl, rfl⟩)
theorem mul_one_word (v : BitVec 32) : Scalar.muli v 1#32 = v := by simp [Scalar.muli, IntOp.muli]
theorem zero_add_word (v : BitVec 32) : Scalar.addi 0#32 v = v := by simp [Scalar.addi, IntOp.addi]

/-- A comparison of words that are small naturals, as the kernel tests it. -/
theorem test_eq (b : BitVec 1) : Scalar.cmpi .ne (Scalar.extui b) 0#32 = b := by revert b; decide
theorem sgt_iff (v w : BitVec 32) (hv : v.toNat < 2 ^ 31) (hw : w.toNat < 2 ^ 31) : Scalar.cmpi .sgt v w = 1#1 ↔ w.toNat < v.toNat := by
  rw [show Scalar.cmpi .sgt v w = IntOp.cmpi .sgt v w from rfl, IntOp.cmpi_sgt, toInt_small hv, toInt_small hw]; omega
theorem slt_iff (v w : BitVec 32) (hv : v.toNat < 2 ^ 31) (hw : w.toNat < 2 ^ 31) : Scalar.cmpi .slt v w = 1#1 ↔ v.toNat < w.toNat := by
  rw [show Scalar.cmpi .slt v w = IntOp.cmpi .slt v w from rfl, IntOp.cmpi_slt, toInt_small hv, toInt_small hw]; omega
theorem sge_iff (v w : BitVec 32) (hv : v.toNat < 2 ^ 31) (hw : w.toNat < 2 ^ 31) : Scalar.cmpi .sge v w = 1#1 ↔ w.toNat ≤ v.toNat := by
  rw [show Scalar.cmpi .sge v w = IntOp.cmpi .sge v w from rfl, IntOp.cmpi_sge, toInt_small hv, toInt_small hw]; omega

/-! ## The loops' trips -/

theorem t1_loop (v3 : BitVec 32) : k0_t1_loop v3 = ⟨0#32, v3, 1#32⟩ := by
  show (⟨0#32, Scalar.addi 0#32 (Scalar.muli (Scalar.divsi (Scalar.subi v3 0#32) 1#32) 1#32), 1#32⟩ : Scf.Loop 32) = _
  rw [sub_zero_word, div_one, mul_one_word, zero_add_word]
theorem t2_loop (v3 : BitVec 32) : k0_t2_loop v3 = ⟨v3, v3, 1#32⟩ := by
  show (⟨Scalar.addi 0#32 (Scalar.muli (Scalar.divsi (Scalar.subi v3 0#32) 1#32) 1#32), Scalar.addi 0#32 (Scalar.subi v3 0#32), 1#32⟩ : Scf.Loop 32) = _
  rw [sub_zero_word, div_one, mul_one_word, zero_add_word]
theorem trips_one (a b : BitVec 32) (ha : a.toNat < 2 ^ 31) (hb : b.toNat < 2 ^ 31) : (⟨a, b, 1#32⟩ : Scf.Loop 32).trips = b.toNat - a.toNat := by
  show Scf.trips a b 1#32 = _; unfold Scf.trips
  rw [toInt_small ha, toInt_small hb, show (1#32).toInt = 1 from rfl]
  simp
theorem ok_one (a b : BitVec 32) (ha : a.toNat < 2 ^ 31) (hb : b.toNat < 2 ^ 31) (h : a.toNat ≤ b.toNat) : (⟨a, b, 1#32⟩ : Scf.Loop 32).OK := by
  show Scf.OK a b 1#32
  have e : Scf.trips a b 1#32 = b.toNat - a.toNat := trips_one a b ha hb
  unfold Scf.OK
  rw [e, toInt_small ha, show (1#32).toInt = 1 from rfl]; simp; omega
theorem trips1 {v3 : BitVec 32} (h : v3.toNat ≤ 288) : (k0_t1_loop v3).trips = v3.toNat := by
  rw [t1_loop]; rw [trips_one _ _ (by simp) (by omega)]; simp
theorem trips2 {v3 : BitVec 32} (h : v3.toNat ≤ 288) : (k0_t2_loop v3).trips = 0 := by
  rw [t2_loop]; rw [trips_one _ _ (by omega) (by omega)]; omega
theorem ok1 {v3 : BitVec 32} (h : v3.toNat ≤ 288) : (k0_t1_loop v3).OK := by
  rw [t1_loop]; exact ok_one _ _ (by simp) (by omega) (by simp)
theorem ok2 {v3 : BitVec 32} (h : v3.toNat ≤ 288) : (k0_t2_loop v3).OK := by
  rw [t2_loop]; exact ok_one _ _ (by omega) (by omega) (by omega)

section Fill
variable {v28 v29 : BitVec 32} (hF : Fits v28 v29)
include hF
theorem fill_lb : (Scalar.addi v28 v29).toNat = v28.toNat + v29.toNat := by unfold Fits at hF; exact add_nat _ _ (by omega)
theorem fill_ub : (Scalar.addi (Scalar.addi v28 v29) (Scalar.subi 288#32 (Scalar.addi v28 v29))).toNat = 288 := by
  have h := fill_lb hF; unfold Fits at hF
  have hs : (Scalar.subi 288#32 (Scalar.addi v28 v29)).toNat = 288 - (v28.toNat + v29.toNat) := by
    rw [sub_nat _ _ (by rw [h]; simp; omega), h]; simp
  rw [add_nat _ _ (by rw [hs, h]; omega), hs, h]; omega
theorem t3_loop : k0_t3_loop v28 v29 = ⟨Scalar.addi v28 v29, Scalar.addi (Scalar.addi v28 v29) (Scalar.subi 288#32 (Scalar.addi v28 v29)), 1#32⟩ := by
  show (⟨Scalar.addi v28 v29, Scalar.addi (Scalar.addi v28 v29) (Scalar.muli (Scalar.divsi (Scalar.subi 288#32 (Scalar.addi v28 v29)) 1#32) 1#32), 1#32⟩ : Scf.Loop 32) = _
  rw [div_one, mul_one_word]
theorem t4_loop : k0_t4_loop v28 v29 = ⟨Scalar.addi (Scalar.addi v28 v29) (Scalar.subi 288#32 (Scalar.addi v28 v29)), Scalar.addi (Scalar.addi v28 v29) (Scalar.subi 288#32 (Scalar.addi v28 v29)), 1#32⟩ := by
  show (⟨Scalar.addi (Scalar.addi v28 v29) (Scalar.muli (Scalar.divsi (Scalar.subi 288#32 (Scalar.addi v28 v29)) 1#32) 1#32), Scalar.addi (Scalar.addi v28 v29) (Scalar.subi 288#32 (Scalar.addi v28 v29)), 1#32⟩ : Scf.Loop 32) = _
  rw [div_one, mul_one_word]
theorem trips3 : (k0_t3_loop v28 v29).trips = 288 - (v28.toNat + v29.toNat) := by
  have hl := fill_lb hF; have hu := fill_ub hF; rw [t3_loop hF]; unfold Fits at hF
  rw [trips_one _ _ (by omega) (by omega), hl, hu]
theorem trips4 : (k0_t4_loop v28 v29).trips = 0 := by
  have hu := fill_ub hF; rw [t4_loop hF]
  rw [trips_one _ _ (by omega) (by omega)]; omega
theorem ok3 : (k0_t3_loop v28 v29).OK := by
  have hl := fill_lb hF; have hu := fill_ub hF; rw [t3_loop hF]; unfold Fits at hF; exact ok_one _ _ (by omega) (by omega) (by omega)
theorem ok4 : (k0_t4_loop v28 v29).OK := by
  have hu := fill_ub hF; rw [t4_loop hF]; exact ok_one _ _ (by omega) (by omega) (by omega)
end Fill

/-! ## The offsets -/

/-- Tile number `n`, of the 288. -/
def tl (n : Nat) : Fin 288 := ⟨n % 288, Nat.mod_lt _ (by decide)⟩
theorem tl_val {n : Nat} (h : n < 288) : (tl n).val = n := Nat.mod_eq_of_lt h
/-- The slot a running number falls to. -/
def sl (n : Nat) : Fin 2 := ⟨n % 2, Nat.mod_lt _ (by decide)⟩
theorem sl_add_two (n : Nat) : sl (n + 2) = sl n := Fin.ext (by simp [sl])
/-- The expert of a point, and its number. -/
def ex (n : Nat) : Fin 32 := ⟨n % 32, Nat.mod_lt _ (by decide)⟩
theorem ex_val {n : Nat} (h : n < 32) : (ex n).val = n := Nat.mod_eq_of_lt h

theorem i0 (i : grid0.Coords) : (i 0).val = 0 := by have h : (i 0).val < 1 := (i 0).isLt; omega
theorem i1 (i : grid0.Coords) : (i 1).val < 32 := (i 1).isLt
theorem col0 (i : grid0.Coords) : (Scalar.muli (BitVec.ofNat 32 (i 0).val) 2048#32).toNat = 0 := by rw [i0]; rfl

theorem tile_word (v : BitVec 32) (n : Nat) (hv : v.toNat = n) (hn : n < 288) : (Scalar.muli v 256#32).toNat = (tl n).val * 256 := by
  rw [mul_256 _ (by omega), tl_val hn, hv]
theorem tile_dvd (v : BitVec 32) (hn : v.toNat ≤ 288) : 256 ∣ (Scalar.muli v 256#32).toNat := by
  rw [mul_256 _ hn]; exact Dvd.intro_left _ rfl

theorem off1_eq (i : grid0.Coords) : k0_off1 i = ![(i 1).val] := by
  have h := i1 i
  show ![(BitVec.ofNat 32 (i 1).val).toNat] = _
  rw [BitVec.toNat_ofNat, Nat.mod_eq_of_lt (by omega)]

section Points
variable (i : grid0.Coords)
theorem off3_eq : k0_off3 i = semOff (sl ((i 1).val + 1)) := by
  have h := i1 i; have h0 := i0 i; unfold k0_off3; rw [h0]; generalize (i 1).val = n at *; interval_cases n <;> rfl
theorem off4_eq : k0_off4 i = slotOff (sl ((i 1).val + 1)) := by
  have h := i1 i; have h0 := i0 i; unfold k0_off4; rw [h0]; generalize (i 1).val = n at *; interval_cases n <;> rfl
theorem off5_eq (hn : (i 1).val + 1 < 32) : k0_off5 i = expOff (ex ((i 1).val + 1)) := by
  have h0 := i0 i; unfold k0_off5; rw [h0]; generalize (i 1).val = n at *
  have h : n < 31 := by omega
  clear hn; interval_cases n <;> rfl
theorem off6_eq : k0_off6 i = semOff (sl (i 1).val) := by
  have h := i1 i; have h0 := i0 i; unfold k0_off6; rw [h0]; generalize (i 1).val = n at *; interval_cases n <;> rfl
theorem off7_eq : k0_off7 i = slotOff (sl (i 1).val) := by
  have h := i1 i; have h0 := i0 i; unfold k0_off7; rw [h0]; generalize (i 1).val = n at *; interval_cases n <;> rfl
theorem off8_eq : k0_off8 i = expOff (ex (i 1).val) := by
  have h := i1 i; have h0 := i0 i; unfold k0_off8; try rw [h0]
  generalize (i 1).val = n at *; interval_cases n <;> rfl
theorem off9_eq : k0_off9 i = slotOff (sl (i 1).val) := by
  have h := i1 i; have h0 := i0 i; unfold k0_off9; rw [h0]; generalize (i 1).val = n at *; interval_cases n <;> rfl
theorem cond2_iff : k0_cond2 i = 1#1 ↔ (i 1).val = 0 := by
  have h := i1 i; have h0 := i0 i; unfold k0_cond2; rw [h0]; generalize (i 1).val = n at *; interval_cases n <;> decide
theorem cond3_iff : k0_cond3 i = 1#1 ↔ (i 1).val + 1 < 32 := by
  have h := i1 i; have h0 := i0 i; unfold k0_cond3; rw [h0]; generalize (i 1).val = n at *; interval_cases n <;> decide
theorem cond11_iff : k0_cond11 i = 1#1 ↔ (i 1).val = 31 := by
  have h := i1 i; unfold k0_cond11; generalize (i 1).val = n at *; interval_cases n <;> decide
end Points

section Words
variable (i : grid0.Coords) {v1 v3 : BitVec 32}

theorem cond1_iff (h : v3.toNat ≤ 288) : k0_cond1 v3 = 1#1 ↔ 0 < v3.toNat := by
  show Scalar.cmpi .ne (Scalar.extui (Scalar.cmpi .sgt v3 0#32)) 0#32 = 1#1 ↔ _
  rw [test_eq, sgt_iff _ _ (by omega) (by simp)]; simp
theorem cond9_iff (h : v3.toNat ≤ 288) : k0_cond9 v3 = 1#1 ↔ 2 ≤ v3.toNat := by
  show Scalar.cmpi .ne (Scalar.extui (Scalar.cmpi .sge v3 2#32)) 0#32 = 1#1 ↔ _
  rw [test_eq, sge_iff _ _ (by omega) (by simp)]; simp
theorem cond10_iff (h : v3.toNat ≤ 288) : k0_cond10 v3 = 1#1 ↔ 1 ≤ v3.toNat := by
  show Scalar.cmpi .ne (Scalar.extui (Scalar.cmpi .sge v3 1#32)) 0#32 = 1#1 ↔ _
  rw [test_eq, sge_iff _ _ (by omega) (by simp)]; simp
theorem cond5_iff (h : v3.toNat ≤ 288) (k : Fin (k0_t1_loop v3).trips) : k0_cond5 v3 k = 1#1 ↔ k.val + 1 < v3.toNat := by
  have hk : k.val < v3.toNat := lt_of_lt_of_eq k.isLt (trips1 h)
  show Scalar.cmpi .ne (Scalar.extui (Scalar.cmpi .slt (Scalar.addi (Scf.iv 0#32 1#32 k) 1#32) v3)) 0#32 = 1#1 ↔ _
  have e : (Scalar.addi (Scf.iv 0#32 1#32 k) 1#32).toNat = k.val + 1 := by
    rw [add_nat _ _ (by rw [iv_small _ (by omega)]; simp; omega), iv_small _ (by omega)]; rfl
  rw [test_eq, slt_iff _ _ (by omega) (by omega), e]
theorem cond6_iff (h : v3.toNat ≤ 288) (k : Fin (k0_t1_loop v3).trips) : k0_cond6 v3 k = 1#1 ↔ 2 ≤ k.val := by
  have hk : k.val < v3.toNat := lt_of_lt_of_eq k.isLt (trips1 h)
  show Scalar.cmpi .ne (Scalar.extui (Scalar.cmpi .sge (Scf.iv 0#32 1#32 k) 2#32)) 0#32 = 1#1 ↔ _
  have e := iv_small k.val (by omega)
  rw [test_eq, sge_iff _ _ (by omega) (by simp), e]; simp

theorem par_iv (k : Nat) : (Scalar.andi (Scf.iv 0#32 1#32 k) 1#32).toNat = (sl k).val := by
  rw [and_one]; show _ = k % 2; unfold Scf.iv; simp
theorem npar_iv (k : Nat) : (Scalar.subi 1#32 (Scalar.andi (Scf.iv 0#32 1#32 k) 1#32)).toNat = (sl (k + 1)).val := by
  have h := par_iv k; have h2 : (sl k).val < 2 := (sl k).isLt
  rw [sub_nat _ _ (by rw [h]; simp; omega), h]; show 1 - k % 2 = (k + 1) % 2; omega

theorem off2_eq (h : v1.toNat < 288) : k0_off2 v1 = tileOff (tl v1.toNat) := by
  show ![_, 0] = ![_, 0]; rw [tile_word _ _ rfl h]
variable (k : Fin (k0_t1_loop v3).trips)
theorem off10_eq : k0_off10 v3 k = semOff (sl k.val) := by show ![_] = ![_]; rw [par_iv]
theorem off11_eq : k0_off11 v3 k = slotOff (sl k.val) := by show ![_, 0, 0] = ![_, 0, 0]; rw [par_iv]
theorem off13_eq : k0_off13 v3 k = semOff (sl (k.val + 1)) := by show ![_] = ![_]; rw [npar_iv]
theorem off14_eq : k0_off14 v3 k = slotOff (sl (k.val + 1)) := by show ![_, 0, 0] = ![_, 0, 0]; rw [npar_iv]
theorem off16_eq : k0_off16 v3 k = slotOff (sl k.val) := by show ![_, 0, 0] = ![_, 0, 0]; rw [← par_iv]; rfl
theorem off17_eq : k0_off17 v3 k = semOff (sl k.val) := by show ![_] = ![_]; rw [par_iv]
theorem off19_eq : k0_off19 v3 k = slotOff (sl k.val) := by show ![_, 0, 0] = ![_, 0, 0]; rw [par_iv]

theorem at_word (j : Nat) (h : v1.toNat + j < 288) : (Scalar.addi v1 (Scf.iv 0#32 1#32 j)).toNat = v1.toNat + j := by
  rw [add_nat _ _ (by rw [iv_small _ (by omega)]; omega), iv_small _ (by omega)]
theorem next_word (j : Nat) (h : v1.toNat + (j + 1) < 288) : (Scalar.addi (Scalar.addi v1 (Scf.iv 0#32 1#32 j)) 1#32).toNat = v1.toNat + (j + 1) := by
  have e := at_word (v1 := v1) j (by omega)
  rw [add_nat _ _ (by rw [e]; simp; omega), e]; rfl
theorem back_word (j : Nat) (h : v1.toNat + j < 288) (h2 : 2 ≤ j) : (Scalar.subi (Scalar.addi v1 (Scf.iv 0#32 1#32 j)) 2#32).toNat = v1.toNat + (j - 2) := by
  have e := at_word (v1 := v1) j h
  rw [sub_nat _ _ (by rw [e]; simp; omega), e]; simp; omega
theorem off12_eq (h : v1.toNat + k.val < 288) : k0_off12 v1 v3 k = tileOff (tl (v1.toNat + k.val)) := by
  show ![_, 0] = ![_, 0]; rw [tile_word _ _ (at_word k.val h) h]
theorem off15_eq (h : v1.toNat + (k.val + 1) < 288) : k0_off15 v1 v3 k = tileOff (tl (v1.toNat + (k.val + 1))) := by
  show ![_, 0] = ![_, 0]; rw [tile_word _ _ (next_word k.val h) h]
theorem off18_eq (h : v1.toNat + k.val < 288) (h2 : 2 ≤ k.val) : k0_off18 i v1 v3 k = tileOff (tl (v1.toNat + (k.val - 2))) := by
  show ![_, _] = ![_, 0]; rw [tile_word _ _ (back_word k.val h h2) (by omega)]; exact congrArg (fun x => ![_, x]) (col0 i)
theorem off20_eq (h : v1.toNat + k.val < 288) : k0_off20 i v1 v3 k = tileOff (tl (v1.toNat + k.val)) := by
  show ![_, _] = ![_, 0]; rw [tile_word _ _ (at_word k.val h) h]; exact congrArg (fun x => ![_, x]) (col0 i)

theorem end_word (hF : Fits v1 v3) (d : Nat) (hd : d ≤ v3.toNat) (h2 : d < 3) :
    (Scalar.subi (Scalar.addi v1 v3) (BitVec.ofNat 32 d)).toNat = v1.toNat + (v3.toNat - d) := by
  have e := fill_lb hF; unfold Fits at hF
  have ed : (BitVec.ofNat 32 d).toNat = d := by simp; omega
  rw [sub_nat _ _ (by rw [e, ed]; omega), e, ed]; omega
theorem off32_eq : k0_off32 v3 = semOff (sl v3.toNat) := by show ![_] = ![_]; rw [and_one]; rfl
theorem off34_eq : k0_off34 v3 = slotOff (sl v3.toNat) := by show ![_, 0, 0] = ![_, 0, 0]; rw [and_one]; rfl
theorem off33_eq (hF : Fits v1 v3) (h2 : 2 ≤ v3.toNat) : k0_off33 i v1 v3 = tileOff (tl (v1.toNat + (v3.toNat - 2))) := by
  have e := end_word hF 2 h2 (by omega); unfold Fits at hF
  show ![_, _] = ![_, 0]; rw [tile_word _ _ e (by omega)]; exact congrArg (fun x => ![_, x]) (col0 i)
theorem par_last (h : 1 ≤ v3.toNat) : (Scalar.andi (Scalar.subi v3 1#32) 1#32).toNat = (sl (v3.toNat + 1)).val := by
  rw [and_one, sub_nat _ _ (by simpa using h)]; show (v3.toNat - 1) % 2 = (v3.toNat + 1) % 2; omega
theorem off35_eq (h : 1 ≤ v3.toNat) : k0_off35 v3 = semOff (sl (v3.toNat + 1)) := by show ![_] = ![_]; rw [par_last h]
theorem off37_eq (h : 1 ≤ v3.toNat) : k0_off37 v3 = slotOff (sl (v3.toNat + 1)) := by show ![_, 0, 0] = ![_, 0, 0]; rw [par_last h]
theorem off36_eq (hF : Fits v1 v3) (h2 : 1 ≤ v3.toNat) : k0_off36 i v1 v3 = tileOff (tl (v1.toNat + (v3.toNat - 1))) := by
  have e := end_word hF 1 h2 (by omega); unfold Fits at hF
  show ![_, _] = ![_, 0]; rw [tile_word _ _ e (by omega)]; exact congrArg (fun x => ![_, x]) (col0 i)
theorem off38_eq {v28 v29 : BitVec 32} (hF : Fits v28 v29) (j : Fin (k0_t3_loop v28 v29).trips) :
    k0_off38 i v28 v29 j = tileOff (tl (v28.toNat + v29.toNat + j.val)) := by
  have hl0 := fill_lb hF
  have hj : j.val < 288 - (v28.toNat + v29.toNat) := lt_of_lt_of_eq j.isLt (trips3 hF); unfold Fits at hF; have hl := hl0
  have e : (Scf.iv (Scalar.addi v28 v29) 1#32 j).toNat = v28.toNat + v29.toNat + j.val := by
    rw [iv_from _ _ (by omega), hl]
  show ![_, _] = ![_, 0]; rw [tile_word _ _ e (by omega)]; exact congrArg (fun x => ![_, x]) (col0 i)
end Words

/-! ## The kernel's assumptions -/

theorem row_tile : S73728x2048.rowAx (show 2 ≤ 2 by decide) = (0 : Fin 2) := rfl
theorem row_slot : S2x256x2048.rowAx (show 2 ≤ 3 by decide) = (1 : Fin 3) := rfl
theorem tile_words (b : Fin 288) (hinb : ∀ a, tileOff b a + S256x2048.size a ≤ S73728x2048.size a) :
    (Rect.unit (s := S73728x2048) (tileOff b) S256x2048.size hinb).WholeWords (EltTy.packing .bf16) :=
  Idealize.ShloMosaic.Affine.words_of_packed (Idealize.ShloMosaic.Affine.packed_dvd (s := S73728x2048) (show 2 ≤ 2 by decide)
    (by rw [row_tile]; exact Dvd.dvd.mul_left (show 2 ∣ 256 by decide) b.val) (by rw [row_tile]; exact (show 2 ∣ 256 by decide)))
theorem slot_words (s : Fin 2) (hinb : ∀ a, slotOff s a + S1x256x2048.size a ≤ S2x256x2048.size a) :
    (Rect.unit (s := S2x256x2048) (slotOff s) S1x256x2048.size hinb).WholeWords (EltTy.packing .bf16) :=
  Idealize.ShloMosaic.Affine.words_rows (s := S2x256x2048) (show 2 ≤ 3 by decide) (by rw [row_slot]; rfl) (by rw [row_slot]; rfl)

theorem tile_words' {off : Fin 2 → Nat} {b : Fin 288} (e : off = tileOff b) (hinb : ∀ a, off a + S256x2048.size a ≤ S73728x2048.size a) :
    (Rect.unit (s := S73728x2048) off S256x2048.size hinb).WholeWords (EltTy.packing .bf16) := by
  subst e; exact tile_words b hinb
theorem slot_words' {off : Fin 3 → Nat} {s : Fin 2} (e : off = slotOff s) (hinb : ∀ a, off a + S1x256x2048.size a ≤ S2x256x2048.size a) :
    (Rect.unit (s := S2x256x2048) off S1x256x2048.size hinb).WholeWords (EltTy.packing .bf16) := by
  subst e; exact slot_words s hinb

theorem k_lt {v1 v3 : BitVec 32} (hF : Fits v1 v3) (k : Fin (k0_t1_loop v3).trips) : k.val < v3.toNat ∧ v1.toNat + k.val < 288 := by
  have hk : k.val < v3.toNat := lt_of_lt_of_eq k.isLt (trips1 (by unfold Fits at hF; omega)); unfold Fits at hF; omega
theorem no_t2 {v1 v3 : BitVec 32} (hF : Fits v1 v3) (k : Fin (k0_t2_loop v3).trips) : False :=
  (Nat.not_lt_zero _ (lt_of_lt_of_eq k.isLt (trips2 (by unfold Fits at hF; omega))))
theorem no_t4 {v28 v29 : BitVec 32} (hF : Fits v28 v29) (k : Fin (k0_t4_loop v28 v29).trips) : False :=
  (Nat.not_lt_zero _ (lt_of_lt_of_eq k.isLt (trips4 hF)))

/-- A pair of words that name tiles of the array pass the kernel's check of them. -/
theorem chk1_of (i : grid0.Coords) {v1 v3 : BitVec 32} (hF : Fits v1 v3) : k0_chk1 i v1 v3 := by
  have h3 : v3.toNat ≤ 288 := by unfold Fits at hF; omega
  have c1 : k0_cond1 v3 = 1#1 → v1.toNat < 288 := fun h => by have := (cond1_iff h3).mp h; unfold Fits at hF; omega
  have c5 : ∀ k, k0_cond5 v3 k = 1#1 → v1.toNat + (k.val + 1) < 288 := fun k h => by have := (cond5_iff h3 k).mp h; unfold Fits at hF; omega
  have hb : ∀ {n}, n < 288 → n ≤ 288 := fun h => Nat.le_of_lt h
  have et : ∀ {off : Fin 2 → Nat} {b : Fin 288}, off = tileOff b → ∀ a, off a + S256x2048.size a ≤ S73728x2048.size a := fun e => by subst e; exact tileOff_inb _
  have es : ∀ {off : Fin 3 → Nat} {b : Fin 2}, off = slotOff b → ∀ a, off a + S1x256x2048.size a ≤ S2x256x2048.size a := fun e => by subst e; exact slotOff_inb _
  have em : ∀ {off : Fin 1 → Nat} {b : Fin 2}, off = semOff b → ∀ a, off a + S1.size a ≤ S2.size a := fun e => by subst e; exact semOff_inb _
  refine ⟨⟨fun h => tile_dvd _ (hb (c1 h)), fun h => et (off2_eq (c1 h)), fun h => tile_words' (off2_eq (c1 h)), ok1 h3,
    fun k => tile_dvd _ (by rw [at_word _ (k_lt hF k).2]; exact hb (k_lt hF k).2),
    fun k => em (off10_eq k), fun k => es (off11_eq k), fun k => et (off12_eq k (k_lt hF k).2), fun k => tile_words' (off12_eq k (k_lt hF k).2),
    fun k => slot_words' (off11_eq k),
    fun k h => tile_dvd _ (by rw [next_word _ (c5 k h)]; exact hb (c5 k h)),
    fun k h => em (off13_eq k), fun k h => es (off14_eq k), fun k h => et (off15_eq k (c5 k h)), fun k h => tile_words' (off15_eq k (c5 k h)),
    fun k h => slot_words' (off14_eq k), fun k => es (off16_eq k),
    fun k h => tile_dvd _ (by have h6 := (cond6_iff h3 k).mp h; have := (k_lt hF k).2; rw [back_word _ (k_lt hF k).2 h6]; omega),
    fun k h => em (off17_eq k), fun k h => et (off18_eq i k (k_lt hF k).2 ((cond6_iff h3 k).mp h)), fun k h => es (off19_eq k),
    fun k => tile_dvd _ (by rw [at_word _ (k_lt hF k).2]; exact hb (k_lt hF k).2),
    fun k => et (off20_eq i k (k_lt hF k).2), ok2 h3, fun k => (no_t2 hF k).elim, fun k => (no_t2 hF k).elim, fun k => (no_t2 hF k).elim,
    fun k => (no_t2 hF k).elim, fun k => (no_t2 hF k).elim, fun k => (no_t2 hF k).elim, fun k => (no_t2 hF k).elim, fun k => (no_t2 hF k).elim⟩,
    fun k => (no_t2 hF k).elim, fun k => (no_t2 hF k).elim, fun k => (no_t2 hF k).elim, fun k => (no_t2 hF k).elim, fun k => (no_t2 hF k).elim,
    fun k => (no_t2 hF k).elim, fun k => (no_t2 hF k).elim, fun k => (no_t2 hF k).elim, fun k => (no_t2 hF k).elim, fun k => (no_t2 hF k).elim,
    fun k => (no_t2 hF k).elim,
    fun h => tile_dvd _ (by have h9 := (cond9_iff h3).mp h; rw [end_word hF 2 h9 (by omega)]; unfold Fits at hF; omega),
    fun h => em off32_eq, fun h => et (off33_eq i hF ((cond9_iff h3).mp h)), fun h => es off34_eq,
    fun h => tile_dvd _ (by have h9 := (cond10_iff h3).mp h; rw [end_word hF 1 h9 (by omega)]; unfold Fits at hF; omega),
    fun h => em (off35_eq ((cond10_iff h3).mp h)), fun h => et (off36_eq i hF ((cond10_iff h3).mp h)), fun h => es (off37_eq ((cond10_iff h3).mp h))⟩

theorem chk2_of (i : grid0.Coords) {v28 v29 : BitVec 32} (hF : Fits v28 v29) : k0_chk2 i v28 v29 := by
  have hw : ∀ j : Fin (k0_t3_loop v28 v29).trips, (Scf.iv (Scalar.addi v28 v29) 1#32 j).toNat ≤ 288 := fun j => by
    have hj : j.val < 288 - (v28.toNat + v29.toNat) := lt_of_lt_of_eq j.isLt (trips3 hF)
    have hl := fill_lb hF
    rw [iv_from _ _ (by omega)]; omega
  have et : ∀ {off : Fin 2 → Nat} {b : Fin 288}, off = tileOff b → ∀ a, off a + S256x2048.size a ≤ S73728x2048.size a := fun e => by subst e; exact tileOff_inb _
  exact ⟨fun _ => ok3 hF, fun j _ => tile_dvd _ (hw j), fun j _ => et (off38_eq i hF j), fun j _ => tile_dvd _ (hw j), fun _ => ok4 hF,
    fun k => (no_t4 hF k).elim, fun k => (no_t4 hF k).elim, fun k => (no_t4 hF k).elim⟩

/-! ## The parts the kernel names are the named parts -/

theorem rawSem_congr {off : Fin 1 → Nat} {s : Fin 2} (e : off = semOff s) (hh) :
    (cc0_scratch1.slice (Rect.unit (s := S2) off S1.size hh)).squeeze S_ squeezes_S1_S_ = rawSem s :=
  congrArg (fun A : DmaSems sig S1 => A.squeeze S_ squeezes_S1_S_) (SemArray.slice_unit_congr _ e _ _)
theorem inSem_congr {off : Fin 1 → Nat} {s : Fin 2} (e : off = semOff s) (hh) :
    (cc0_scratch5.slice (Rect.unit (s := S2) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 2} (e : off = semOff s) (hh) :
    (cc0_scratch6.slice (Rect.unit (s := S2) off S1.size hh)).squeeze S_ squeezes_S1_S_ = outSem s :=
  congrArg (fun A : DmaSems sig S1 => A.squeeze S_ squeezes_S1_S_) (SemArray.slice_unit_congr _ e _ _)
theorem rawSlot_congr {off : Fin 3 → Nat} {s : Fin 2} (e : off = slotOff s) (hh hs) :
    (rawM.slice (Rect.unit (s := S2x2048x2048) off S1x2048x2048.size hh) hs).squeeze S2048x2048 squeezes_S1x2048x2048_S2048x2048 = rawSlot s :=
  congrArg (fun M : Memref sig .tc .vmem S1x2048x2048 .f32 => M.squeeze S2048x2048 squeezes_S1x2048x2048_S2048x2048) (Memref.slice_unit_congr _ e _ _ _ _)
theorem wExp_congr {off : Fin 3 → Nat} {s : Fin 32} (e : off = expOff s) (hh hs) :
    (wM.slice (Rect.unit (s := S32x2048x2048) off S1x2048x2048.size hh) hs).squeeze S2048x2048 squeezes_S1x2048x2048_S2048x2048 = wExp s :=
  congrArg (fun M : Memref sig .tc .hbm S1x2048x2048 .f32 => M.squeeze S2048x2048 squeezes_S1x2048x2048_S2048x2048) (Memref.slice_unit_congr _ e _ _ _ _)
theorem inSlot_congr {off : Fin 3 → Nat} {s : Fin 2} (e : off = slotOff s) (hh hs) :
    (inM.slice (Rect.unit (s := S2x256x2048) off S1x256x2048.size hh) hs).squeeze S256x2048 squeezes_S1x256x2048_S256x2048 = inSlot s :=
  congrArg (fun M : Memref sig .tc .vmem S1x256x2048 .bf16 => M.squeeze S256x2048 squeezes_S1x256x2048_S256x2048) (Memref.slice_unit_congr _ e _ _ _ _)
theorem outSlot_congr {off : Fin 3 → Nat} {s : Fin 2} (e : off = slotOff s) (hh hs) :
    (outM.slice (Rect.unit (s := S2x256x2048) off S1x256x2048.size hh) hs).squeeze S256x2048 squeezes_S1x256x2048_S256x2048 = outSlot s :=
  congrArg (fun M : Memref sig .tc .vmem S1x256x2048 .f32 => M.squeeze S256x2048 squeezes_S1x256x2048_S256x2048) (Memref.slice_unit_congr _ e _ _ _ _)
theorem aTile_congr {off : Fin 2 → Nat} {b : Fin 288} (e : off = tileOff b) (hh hs) :
    aM.slice (Rect.unit (s := S73728x2048) off S256x2048.size hh) hs = aTile b := by subst e; rfl
theorem oTile_congr {off : Fin 2 → Nat} {b : Fin 288} (e : off = tileOff b) (hh hs) :
    oM.slice (Rect.unit (s := S73728x2048) off S256x2048.size hh) hs = oTile b := by subst e; rfl

section Canon
variable (i : grid0.Coords) {v1 v3 v28 v29 : BitVec 32} (k : Fin (k0_t1_loop v3).trips)

@[sl_canon] theorem in0 (hh) : (cc0_scratch5.slice (Rect.unit (s := S2) ![0] S1.size hh)).squeeze S_ squeezes_S1_S_ = inSem (sl 0) := inSem_congr (s := sl 0) (by decide) _
@[sl_canon] theorem raw0 (hh) : (cc0_scratch1.slice (Rect.unit (s := S2) ![0] S1.size hh)).squeeze S_ squeezes_S1_S_ = rawSem (sl 0) := rawSem_congr (s := sl 0) (by decide) _
@[sl_canon] theorem out0 (hh) : (cc0_scratch6.slice (Rect.unit (s := S2) ![0] S1.size hh)).squeeze S_ squeezes_S1_S_ = outSem (sl 0) := outSem_congr (s := sl 0) (by decide) _
@[sl_canon] theorem in0s (hh hs) : (inM.slice (Rect.unit (s := S2x256x2048) ![0, 0, 0] S1x256x2048.size hh) hs).squeeze S256x2048 squeezes_S1x256x2048_S256x2048 = inSlot (sl 0) := inSlot_congr (s := sl 0) (by decide) _ _
@[sl_canon] theorem out0s (hh hs) : (outM.slice (Rect.unit (s := S2x256x2048) ![0, 0, 0] S1x256x2048.size hh) hs).squeeze S256x2048 squeezes_S1x256x2048_S256x2048 = outSlot (sl 0) := outSlot_congr (s := sl 0) (by decide) _ _
@[sl_canon] theorem raw0s (hh hs) : (rawM.slice (Rect.unit (s := S2x2048x2048) ![0, 0, 0] S1x2048x2048.size hh) hs).squeeze S2048x2048 squeezes_S1x2048x2048_S2048x2048 = rawSlot (sl 0) := rawSlot_congr (s := sl 0) (by decide) _ _
@[sl_canon] theorem exp0 (hh hs) : (wM.slice (Rect.unit (s := S32x2048x2048) ![0, 0, 0] S1x2048x2048.size hh) hs).squeeze S2048x2048 squeezes_S1x2048x2048_S2048x2048 = wExp (ex 0) := wExp_congr (s := ex 0) (by decide) _ _
@[sl_canon] theorem a2 (h : v1.toNat < 288) (hh hs) : aM.slice (Rect.unit (s := S73728x2048) (k0_off2 v1) S256x2048.size hh) hs = aTile (tl v1.toNat) := aTile_congr (off2_eq h) _ _
@[sl_canon] theorem raw3 (hh) : (cc0_scratch1.slice (Rect.unit (s := S2) (k0_off3 i) S1.size hh)).squeeze S_ squeezes_S1_S_ = rawSem (sl ((i 1).val + 1)) := rawSem_congr (off3_eq i) _
@[sl_canon] theorem raw4 (hh hs) : (rawM.slice (Rect.unit (s := S2x2048x2048) (k0_off4 i) S1x2048x2048.size hh) hs).squeeze S2048x2048 squeezes_S1x2048x2048_S2048x2048 = rawSlot (sl ((i 1).val + 1)) := rawSlot_congr (off4_eq i) _ _
@[sl_canon] theorem exp5 (h : (i 1).val + 1 < 32) (hh hs) : (wM.slice (Rect.unit (s := S32x2048x2048) (k0_off5 i) S1x2048x2048.size hh) hs).squeeze S2048x2048 squeezes_S1x2048x2048_S2048x2048 = wExp (ex ((i 1).val + 1)) := wExp_congr (off5_eq i h) _ _
@[sl_canon] theorem raw6 (hh) : (cc0_scratch1.slice (Rect.unit (s := S2) (k0_off6 i) S1.size hh)).squeeze S_ squeezes_S1_S_ = rawSem (sl (i 1).val) := rawSem_congr (off6_eq i) _
@[sl_canon] theorem raw7 (hh hs) : (rawM.slice (Rect.unit (s := S2x2048x2048) (k0_off7 i) S1x2048x2048.size hh) hs).squeeze S2048x2048 squeezes_S1x2048x2048_S2048x2048 = rawSlot (sl (i 1).val) := rawSlot_congr (off7_eq i) _ _
@[sl_canon] theorem exp8 (hh hs) : (wM.slice (Rect.unit (s := S32x2048x2048) (k0_off8 i) S1x2048x2048.size hh) hs).squeeze S2048x2048 squeezes_S1x2048x2048_S2048x2048 = wExp (ex (i 1).val) := wExp_congr (off8_eq i) _ _
instance : ClosedOff (k0_off9 i) := ⟨_, off9_eq i⟩

@[sl_canon] theorem in10 (hh) : (cc0_scratch5.slice (Rect.unit (s := S2) (k0_off10 v3 k) S1.size hh)).squeeze S_ squeezes_S1_S_ = inSem (sl k.val) := inSem_congr (off10_eq k) _
@[sl_canon] theorem out10 (hh) : (cc0_scratch6.slice (Rect.unit (s := S2) (k0_off10 v3 k) S1.size hh)).squeeze S_ squeezes_S1_S_ = outSem (sl k.val) := outSem_congr (off10_eq k) _
@[sl_canon] theorem in11 (hh hs) : (inM.slice (Rect.unit (s := S2x256x2048) (k0_off11 v3 k) S1x256x2048.size hh) hs).squeeze S256x2048 squeezes_S1x256x2048_S256x2048 = inSlot (sl k.val) := inSlot_congr (off11_eq k) _ _
@[sl_canon] theorem out11 (hh hs) : (outM.slice (Rect.unit (s := S2x256x2048) (k0_off11 v3 k) S1x256x2048.size hh) hs).squeeze S256x2048 squeezes_S1x256x2048_S256x2048 = outSlot (sl k.val) := outSlot_congr (off11_eq k) _ _
@[sl_canon] theorem a12 (h : v1.toNat + k.val < 288) (hh hs) : aM.slice (Rect.unit (s := S73728x2048) (k0_off12 v1 v3 k) S256x2048.size hh) hs = aTile (tl (v1.toNat + k.val)) := aTile_congr (off12_eq k h) _ _
@[sl_canon] theorem in13 (hh) : (cc0_scratch5.slice (Rect.unit (s := S2) (k0_off13 v3 k) S1.size hh)).squeeze S_ squeezes_S1_S_ = inSem (sl (k.val + 1)) := inSem_congr (off13_eq k) _
@[sl_canon] theorem in14 (hh hs) : (inM.slice (Rect.unit (s := S2x256x2048) (k0_off14 v3 k) S1x256x2048.size hh) hs).squeeze S256x2048 squeezes_S1x256x2048_S256x2048 = inSlot (sl (k.val + 1)) := inSlot_congr (off14_eq k) _ _
@[sl_canon] theorem a15 (h : v1.toNat + (k.val + 1) < 288) (hh hs) : aM.slice (Rect.unit (s := S73728x2048) (k0_off15 v1 v3 k) S256x2048.size hh) hs = aTile (tl (v1.toNat + (k.val + 1))) := aTile_congr (off15_eq k h) _ _
instance : ClosedOff (k0_off16 v3 k) := ⟨_, off16_eq k⟩
@[sl_canon] theorem out17 (hh) : (cc0_scratch6.slice (Rect.unit (s := S2) (k0_off17 v3 k) S1.size hh)).squeeze S_ squeezes_S1_S_ = outSem (sl k.val) := outSem_congr (off17_eq k) _
@[sl_canon] theorem o18 (h : v1.toNat + k.val < 288) (h2 : 2 ≤ k.val) (hh hs) : oM.slice (Rect.unit (s := S73728x2048) (k0_off18 i v1 v3 k) S256x2048.size hh) hs = oTile (tl (v1.toNat + (k.val - 2))) := oTile_congr (off18_eq i k h h2) _ _
@[sl_canon] theorem out19 (hh hs) : (outM.slice (Rect.unit (s := S2x256x2048) (k0_off19 v3 k) S1x256x2048.size hh) hs).squeeze S256x2048 squeezes_S1x256x2048_S256x2048 = outSlot (sl k.val) := outSlot_congr (off19_eq k) _ _
@[sl_canon] theorem o20 (h : v1.toNat + k.val < 288) (hh hs) : oM.slice (Rect.unit (s := S73728x2048) (k0_off20 i v1 v3 k) S256x2048.size hh) hs = oTile (tl (v1.toNat + k.val)) := oTile_congr (off20_eq i k h) _ _

@[sl_canon] theorem out32 (hh) : (cc0_scratch6.slice (Rect.unit (s := S2) (k0_off32 v3) S1.size hh)).squeeze S_ squeezes_S1_S_ = outSem (sl v3.toNat) := outSem_congr off32_eq _
@[sl_canon] theorem o33 (hF : Fits v1 v3) (h2 : 2 ≤ v3.toNat) (hh hs) : oM.slice (Rect.unit (s := S73728x2048) (k0_off33 i v1 v3) S256x2048.size hh) hs = oTile (tl (v1.toNat + (v3.toNat - 2))) := oTile_congr (off33_eq i hF h2) _ _
@[sl_canon] theorem out34 (hh hs) : (outM.slice (Rect.unit (s := S2x256x2048) (k0_off34 v3) S1x256x2048.size hh) hs).squeeze S256x2048 squeezes_S1x256x2048_S256x2048 = outSlot (sl v3.toNat) := outSlot_congr off34_eq _ _
@[sl_canon] theorem out35 (h : 1 ≤ v3.toNat) (hh) : (cc0_scratch6.slice (Rect.unit (s := S2) (k0_off35 v3) S1.size hh)).squeeze S_ squeezes_S1_S_ = outSem (sl (v3.toNat + 1)) := outSem_congr (off35_eq h) _
@[sl_canon] theorem o36 (hF : Fits v1 v3) (h2 : 1 ≤ v3.toNat) (hh hs) : oM.slice (Rect.unit (s := S73728x2048) (k0_off36 i v1 v3) S256x2048.size hh) hs = oTile (tl (v1.toNat + (v3.toNat - 1))) := oTile_congr (off36_eq i hF h2) _ _
@[sl_canon] theorem out37 (h : 1 ≤ v3.toNat) (hh hs) : (outM.slice (Rect.unit (s := S2x256x2048) (k0_off37 v3) S1x256x2048.size hh) hs).squeeze S256x2048 squeezes_S1x256x2048_S256x2048 = outSlot (sl (v3.toNat + 1)) := outSlot_congr (off37_eq h) _ _
@[sl_canon] theorem o38 (hF : Fits v28 v29) (j : Fin (k0_t3_loop v28 v29).trips) (hh hs) : oM.slice (Rect.unit (s := S73728x2048) (k0_off38 i v28 v29 j) S256x2048.size hh) hs = oTile (tl (v28.toNat + v29.toNat + j.val)) := oTile_congr (off38_eq i hF j) _ _
end Canon

end Cert.Gmm2Ideal.Moe
-- ==== Proof.Moe.Gmm2IdealTrip.lean ====
/-
  The same over the ideal program's names.
  The second grouped product of the experts: one trip of an expert's tile loop.
-/
module

public import proofs.«01_k».proof.Proof.Moe.Gmm2Trip
public import proofs.«01_k».proof.Proof.Moe.Gmm2IdealNames
public import Idealize.ShloMosaic.Lib.Pipeline.KitQuiescent

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev 𝒱₀ : Variants := Variants.none
local notation "𝕄" => MT nD τ sig Unit (Elt F) ℕ (UU nD τ) ℕ

/-! ## The pieces -/

section Pieces
variable (c : Dev nD) (XA : Buf (Elt F) (aM.view.loc (c : Thread nD τ)))

abbrev inCell (s : Fin 2) : sProp 𝕄 := semVal ((c : Thread nD τ), SemLoc.dma (inSem s).sem) 0
abbrev outCell (s : Fin 2) : sProp 𝕄 := semVal ((c : Thread nD τ), SemLoc.dma (outSem s).sem) 0
abbrev rawCell (s : Fin 2) : sProp 𝕄 := semVal ((c : Thread nD τ), SemLoc.dma (rawSem s).sem) 0
abbrev inP (s : Fin 2) (f : Buf (Elt F) ((inSlot s).view.loc (c : Thread nD τ))) : sProp 𝕄 :=
  (inSlot s).view.loc (c : Thread nD τ) ↦[(inSlot s).view.set]{fullShare} f
abbrev outP (s : Fin 2) (f : Buf (Elt F) ((outSlot s).view.loc (c : Thread nD τ))) : sProp 𝕄 :=
  (outSlot s).view.loc (c : Thread nD τ) ↦[(outSlot s).view.set]{fullShare} f
abbrev rawP (s : Fin 2) (f : Buf (Elt F) ((rawSlot s).view.loc (c : Thread nD τ))) : sProp 𝕄 :=
  (rawSlot s).view.loc (c : Thread nD τ) ↦[(rawSlot s).view.set]{fullShare} f
/-- Tile `b` of the activations at home; tile `b` of the results at contents `f`; expert `e`'s matrix at home. -/
abbrev homeA (b : Fin 288) : sProp 𝕄 := (aTile b).view.loc (c : Thread nD τ) ↦[(aTile b).view.set]{fullShare} XA
abbrev tileO (b : Fin 288) (f : Buf (Elt F) (oM.view.loc (c : Thread nD τ))) : sProp 𝕄 :=
  (oTile b).view.loc (c : Thread nD τ) ↦[(oTile b).view.set]{fullShare} f
abbrev homeW (XW : Buf (Elt F) (wM.view.loc (c : Thread nD τ))) (e : Fin 32) : sProp 𝕄 :=
  (wExp e).view.loc (c : Thread nD τ) ↦[(wExp e).view.set]{fullShare} XW
/-- What tile `b` of the activations holds. -/
abbrev aVal (b : Fin 288) : S256x2048.Idx → Elt F .bf16 := (aTile b).view.read (Elt F) XA
/-- A slot on its way to hold tile `b`. -/
abbrev inFlight (s : Fin 2) (b : Fin 288) : sProp 𝕄 :=
  Transfers.Flight countersEmb (c : Thread nD τ) (SemLoc.dma (inSem s).sem) () 32768
    iprop(inP c s ((inSlot s).view.rep (aVal c XA b)) ∗ homeA c XA b)
/-- A slot of results on its way to its tile `b`, which will hold `R` there. -/
abbrev outFlight (R : Buf (Elt F) (oM.view.loc (c : Thread nD τ))) (s : Fin 2) (b : Fin 288) (f : Buf (Elt F) ((outSlot s).view.loc (c : Thread nD τ))) : sProp 𝕄 :=
  Transfers.Flight countersEmb (c : Thread nD τ) (SemLoc.dma (outSem s).sem) () 65536
    iprop(tileO c b R ∗ outP c s f)
end Pieces

section Trip
variable (c : Dev nD) (i : grid0.Coords) (arg4 : Memref sig .tc .vmem S1x1x2048 .f32) (harg4 : arg4.IsWhole)
  (v1 v3 : BitVec 32) (hw : k0_chk1 i v1 v3)
  (XA : Buf (Elt F) (aM.view.loc (c : Thread nD τ))) (XS : Buf (Elt F) (wsM.view.loc (c : Thread nD τ)))
  (XB : Buf (Elt F) (arg4.view.loc (c : Thread nD τ))) (R : Buf (Elt F) (oM.view.loc (c : Thread nD τ)))

abbrev biasP : sProp 𝕄 := arg4.view.loc (c : Thread nD τ) ↦[arg4.view.set]{fullShare} XB
abbrev wsP : sProp 𝕄 := wsM.view.loc (c : Thread nD τ) ↦[wsM.view.set]{fullShare} XS
abbrev bodyAt (k : Fin (k0_t1_loop v3).trips) : Prog (TpuEff nD τ sig (Elt F) Λ₀ .tc) Unit :=
  k0_t1_body (F := F) i tM (Memref.isWhole_whole _) nM (Memref.isWhole_whole _) arg4 harg4 wM (Memref.isWhole_whole _) aM (Memref.isWhole_whole _) oM (Memref.isWhole_whole _) rawM (Memref.isWhole_whole _) cc0_scratch1 wsM (Memref.isWhole_whole _) inM (Memref.isWhole_whole _) outM (Memref.isWhole_whole _) cc0_scratch5 cc0_scratch6 v1 v3 hw k ()

/-- A tile of results from a tile of activations, a matrix and a bias row, as the kernel computes it. -/
def outVal (A : S256x2048.Idx → Elt F .bf16) (S : Vec F S2048x2048 .bf16) (B : Vec F S1x1x2048 .f32) : S256x2048.Idx → Elt F .f32 :=
  fun j => k0_pay2 (F := F) (fun y => A ((Shape.reshapeEquiv squeezes_S1x256x2048_S256x2048.numel_eq).symm y)) S B
    (Shape.reshapeEquiv squeezes_S1x256x2048_S256x2048.numel_eq j)

/-- A load of a slot through the whole buffer reads the tile the slot holds. -/
theorem in_load {off : Fin 3 → Nat} {s : Fin 2} (e : off = slotOff s) (hh) (x : S256x2048.Idx → Elt F .bf16) :
    inM.view.readAt (Elt F) (Rect.unit (s := S2x256x2048) off S1x256x2048.size hh).toLoadRect ((inSlot s).view.rep x)
      = fun y => x ((Shape.reshapeEquiv squeezes_S1x256x2048_S256x2048.numel_eq).symm y) := by
  subst e; funext y
  obtain ⟨j, rfl⟩ := (Shape.reshapeEquiv squeezes_S1x256x2048_S256x2048.numel_eq).surjective y
  rw [Equiv.symm_apply_apply]
  exact congrFun (View.read_rep (inSlot s).view x) j

/-- A slot reads back the tile stored to it through the whole buffer. -/
theorem out_read {off : Fin 3 → Nat} {s : Fin 2} (e : off = slotOff s) (hh) (g : Buf (Elt F) (outM.view.loc (c : Thread nD τ))) (P : S1x256x2048.Idx → Elt F .f32) :
    (outSlot s).view.read (Elt F) (outM.view.writes (Elt F) g [⟨Rect.unit (s := S2x256x2048) off S1x256x2048.size hh, P⟩])
      = fun j => P (Shape.reshapeEquiv squeezes_S1x256x2048_S256x2048.numel_eq j) := by
  subst e; funext j
  exact View.read_writes_cons_emb outM.view g (Rect.unit (s := S2x256x2048) (slotOff s) S1x256x2048.size hh) P [] (Shape.reshapeEquiv squeezes_S1x256x2048_S256x2048.numel_eq j)

theorem stored_read {off : Fin 3 → Nat} {s : Fin 2} (e : off = slotOff s) (hh) (hh') (g : Buf (Elt F) (outM.view.loc (c : Thread nD τ)))
    (A : S256x2048.Idx → Elt F .bf16) (S : Vec F S2048x2048 .bf16) (B : Vec F S1x1x2048 .f32) :
    (outSlot s).view.read (Elt F) (outM.view.writes (Elt F) g [⟨Rect.unit (s := S2x256x2048) off S1x256x2048.size hh,
      k0_pay2 (F := F) (inM.view.readAt (Elt F) (Rect.unit (s := S2x256x2048) off S1x256x2048.size hh').toLoadRect ((inSlot s).view.rep A)) S B⟩])
      = outVal A S B := by
  rw [in_load e]; exact out_read c e hh g _

/-- A tile written whole with what `R` holds there is the tile at `R`. -/
theorem tileO_of (b : Fin 288) (f) (x : S256x2048.Idx → Elt F .f32) (hx : x = (oTile b).view.read (Elt F) R) :
    tileO c b ((oTile b).view.writes (Elt F) f [⟨Rect.whole S256x2048, x⟩]) = tileO c b R := by
  unfold tileO
  rw [pointsTo_rep (c : Thread nD τ) (oTile b) R, pointsTo_rep (c : Thread nD τ) (oTile b) ((oTile b).view.writes (Elt F) f _), View.read_writes_whole, hx]
theorem inP_of (s : Fin 2) (f) (x : S256x2048.Idx → Elt F .bf16) :
    inP c s ((inSlot s).view.writes (Elt F) f [⟨Rect.whole S256x2048, x⟩]) = inP c s ((inSlot s).view.rep x) := by
  unfold inP
  exact pointsTo_writes_whole_rebase (c : Thread nD τ) (inSlot s) f _ x _

theorem inFlight_of (s : Fin 2) (b : Fin 288) (f) (x : S256x2048.Idx → Elt F .bf16) (hx : x = aVal c XA b) :
    Transfers.Flight countersEmb (c : Thread nD τ) (SemLoc.dma (inSem s).sem) () 32768
      iprop(inP c s ((inSlot s).view.writes (Elt F) f [⟨Rect.whole S256x2048, x⟩]) ∗ homeA c XA b) ⊢ inFlight c XA s b := by
  rw [inP_of, hx]
theorem outFlight_of (s : Fin 2) (b : Fin 288) (f) (x : S256x2048.Idx → Elt F .f32) (hx : x = (oTile b).view.read (Elt F) R) (g) :
    Transfers.Flight countersEmb (c : Thread nD τ) (SemLoc.dma (outSem s).sem) () 65536
      iprop(tileO c b ((oTile b).view.writes (Elt F) f [⟨Rect.whole S256x2048, x⟩]) ∗ outP c s g) ⊢ outFlight c R s b g := by
  rw [tileO_of c R b f x hx]

/-- Result slot `s` before trip `k`, which last sent out the tile `d` trips back, if that trip was. -/
def oSt (k d : Nat) (s : Fin 2) : sProp 𝕄 :=
  if d ≤ k then iprop(∃ f, outFlight c R s (tl (v1.toNat + (k - d))) f) else iprop((∃ f, outP c s f) ∗ outCell c s)

/-- What `R` holds on the expert's tiles. -/
def Holds : Prop := ∀ k, k < v3.toNat → (oTile (tl (v1.toNat + k))).view.read (Elt F) R
  = outVal (aVal c XA (tl (v1.toNat + k)))
      (wsM.view.readAt (Elt F) (Rect.unit (s := S2048x2048) ![0, 0] S2048x2048.size inb_S2048x2048_S2048x2048_0_0).toLoadRect XS)
      (arg4.view.readAt (Elt F) (Rect.unit (s := S1x1x2048) ![0, 0, 0] S1x1x2048.size inb_S1x1x2048_S1x1x2048_0_0_0).toLoadRect XB)

def nextIn (k : Nat) : sProp 𝕄 :=
  if k + 1 < v3.toNat then homeA c XA (tl (v1.toNat + (k + 1))) else iprop(emp)
def nextIn' (k : Nat) : sProp 𝕄 :=
  if k + 1 < v3.toNat then inFlight c XA (sl (k + 1)) (tl (v1.toNat + (k + 1))) else iprop((∃ f, inP c (sl (k + 1)) f) ∗ inCell c (sl (k + 1)))
def backOut (k : Nat) : sProp 𝕄 :=
  if 2 ≤ k then tileO c (tl (v1.toNat + (k - 2))) R else iprop(emp)

def corePre (k : Nat) : sProp 𝕄 :=
  iprop(biasP c arg4 XB ∗ wsP c XS ∗ inFlight c XA (sl k) (tl (v1.toNat + k)) ∗ (∃ f, inP c (sl (k + 1)) f) ∗ inCell c (sl (k + 1))
    ∗ nextIn c v1 v3 XA k ∗ oSt c v1 R k 2 (sl k) ∗ (∃ f, tileO c (tl (v1.toNat + k)) f) ∗ ∃ W, owes (c : Thread nD τ) 0 W)
def corePost (k : Nat) : sProp 𝕄 :=
  iprop(biasP c arg4 XB ∗ wsP c XS ∗ (∃ f, inP c (sl k) f) ∗ inCell c (sl k) ∗ homeA c XA (tl (v1.toNat + k)) ∗ nextIn' c v1 v3 XA k
    ∗ (∃ f, outFlight c R (sl k) (tl (v1.toNat + k)) f) ∗ backOut c v1 R k ∗ ∃ W, owes (c : Thread nD τ) 0 W)

set_option maxHeartbeats 2000000 in
theorem tripCore (hF : Fits v1 v3) (hR : Holds c arg4 v1 v3 XA XS XB R) (k : Fin (k0_t1_loop v3).trips) :
    corePre c arg4 v1 v3 XA XS XB R k.val ⊢ wp frame (wpE (defs₀ (F := F)) 𝒱₀ (c : Thread nD τ) none) Set.univ (bodyAt i arg4 harg4 v1 v3 hw k)
      (fun _ => corePost c arg4 v1 v3 XA XS XB R k.val) := by
  have hk := (k_lt hF k).2
  have hv := hR k.val (k_lt hF k).1
  have h3 : v3.toNat ≤ 288 := by unfold Fits at hF; omega
  unfold corePre corePost nextIn nextIn' backOut oSt
  by_cases h1 : k.val + 1 < v3.toNat
  · have hk1 : v1.toNat + (k.val + 1) < 288 := by unfold Fits at hF; omega
    have c5 : k0_cond5 v3 k = 1#1 := (cond5_iff h3 k).mpr h1
    by_cases h2 : 2 ≤ k.val
    · have c6 : k0_cond6 v3 k = 1#1 := (cond6_iff h3 k).mpr h2
      simp only [if_pos h1, if_pos h2]
      iintro ⟨HB, HS, HI, ⟨%fi, HIN⟩, HIC, HA, ⟨%gg, HFO⟩, ⟨%fo, HO⟩, ⟨%W, HW⟩⟩
      dsimp only [bodyAt]
      sl_unfold [k0_t1_body]
      sl_exec
      sl_step
      isplitl [HB]; · iexact HB
      isplitl [HS]; · iexact HS
      isplitl [HI_dst]; · iexists _; iexact HI_dst
      isplitl [HI]; · iexact HI
      isplitl [HI_src]; · iexact HI_src
      isplitl [HIC]
      · iapply (inFlight_of c XA _ _ fi _ rfl); iexact HIC
      isplitl [HFO]
      · iexists _
        iapply (outFlight_of c R _ _ fo _ ?_ _)
        on_goal 2 => iexact HFO
        · exact (stored_read c (off16_eq k) (k0_off16_inb i v1 v3 hw k) (k0_off16_inb i v1 v3 hw k) gg _ _ _).trans hv.symm
      isplitl [HFO_dst]; · iexact HFO_dst
      iexists _; iexact HW
    · have c6 : ¬ k0_cond6 v3 k = 1#1 := fun h => h2 ((cond6_iff h3 k).mp h)
      simp only [if_pos h1, if_neg h2]
      iintro ⟨HB, HS, HI, ⟨%fi, HIN⟩, HIC, HA, ⟨⟨%gg, HG⟩, HFO⟩, ⟨%fo, HO⟩, ⟨%W, HW⟩⟩
      dsimp only [bodyAt]
      sl_unfold [k0_t1_body]
      sl_exec
      sl_step
      isplitl [HB]; · iexact HB
      isplitl [HS]; · iexact HS
      isplitl [HI_dst]; · iexists _; iexact HI_dst
      isplitl [HI]; · iexact HI
      isplitl [HI_src]; · iexact HI_src
      isplitl [HIC]
      · iapply (inFlight_of c XA _ _ fi _ rfl); iexact HIC
      isplitl [HFO]
      · iexists _
        iapply (outFlight_of c R _ _ fo _ ?_ _)
        on_goal 2 => iexact HFO
        · exact (stored_read c (off16_eq k) (k0_off16_inb i v1 v3 hw k) (k0_off16_inb i v1 v3 hw k) gg _ _ _).trans hv.symm
      isplitr; · iempintro
      iexists _; iexact HW
  · have c5 : ¬ k0_cond5 v3 k = 1#1 := fun h => h1 ((cond5_iff h3 k).mp h)
    by_cases h2 : 2 ≤ k.val
    · have c6 : k0_cond6 v3 k = 1#1 := (cond6_iff h3 k).mpr h2
      simp only [if_neg h1, if_pos h2]
      iintro ⟨HB, HS, HI, ⟨%fi, HIN⟩, HIC, HA, ⟨%gg, HFO⟩, ⟨%fo, HO⟩, ⟨%W, HW⟩⟩
      dsimp only [bodyAt]
      sl_unfold [k0_t1_body]
      sl_exec
      sl_step
      isplitl [HB]; · iexact HB
      isplitl [HS]; · iexact HS
      isplitl [HI_dst]; · iexists _; iexact HI_dst
      isplitl [HI]; · iexact HI
      isplitl [HI_src]; · iexact HI_src
      isplitl [HIN HIC]
      · isplitl [HIN]
        · iexists _; iexact HIN
        iexact HIC
      isplitl [HFO]
      · iexists _
        iapply (outFlight_of c R _ _ fo _ ?_ _)
        on_goal 2 => iexact HFO
        · exact (stored_read c (off16_eq k) (k0_off16_inb i v1 v3 hw k) (k0_off16_inb i v1 v3 hw k) gg _ _ _).trans hv.symm
      isplitl [HFO_dst]; · iexact HFO_dst
      iexists _; iexact HW
    · have c6 : ¬ k0_cond6 v3 k = 1#1 := fun h => h2 ((cond6_iff h3 k).mp h)
      simp only [if_neg h1, if_neg h2]
      iintro ⟨HB, HS, HI, ⟨%fi, HIN⟩, HIC, HA, ⟨⟨%gg, HG⟩, HFO⟩, ⟨%fo, HO⟩, ⟨%W, HW⟩⟩
      dsimp only [bodyAt]
      sl_unfold [k0_t1_body]
      sl_exec
      sl_step
      isplitl [HB]; · iexact HB
      isplitl [HS]; · iexact HS
      isplitl [HI_dst]; · iexists _; iexact HI_dst
      isplitl [HI]; · iexact HI
      isplitl [HI_src]; · iexact HI_src
      isplitl [HIN HIC]
      · isplitl [HIN]
        · iexists _; iexact HIN
        iexact HIC
      isplitl [HFO]
      · iexists _
        iapply (outFlight_of c R _ _ fo _ ?_ _)
        on_goal 2 => iexact HFO
        · exact (stored_read c (off16_eq k) (k0_off16_inb i v1 v3 hw k) (k0_off16_inb i v1 v3 hw k) gg _ _ _).trans hv.symm
      isplitl [HA]; · iexact HA
      iexists _; iexact HW
end Trip
end Cert.Gmm2Ideal.Moe
-- ==== Proof.Moe.Gmm2IdealLoop.lean ====
/-
  The same over the ideal program's names.
  The second grouped product of the experts: the tile loop and the loop that fills the rest, by their invariants.
-/
module

public import proofs.«01_k».proof.Proof.Moe.Gmm2Loop
public import proofs.«01_k».proof.Proof.Moe.Gmm2IdealTrip

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Tiles before a number and tiles from it on -/

def doneSet (n : Nat) : Finset (Fin 288) := Finset.univ.filter (fun b => b.val < n)
def todoSet (n : Nat) : Finset (Fin 288) := Finset.univ.filter (fun b => n ≤ b.val)

theorem done_zero : doneSet 0 = ∅ := by ext b; simp [doneSet]
theorem done_all : doneSet 288 = Finset.univ := by ext b; have := b.isLt; simp [doneSet]
theorem todo_zero : todoSet 0 = Finset.univ := by ext b; simp [todoSet]
theorem todo_all : todoSet 288 = ∅ := by ext b; have := b.isLt; simp [todoSet]
theorem done_succ (P : Fin 288 → sProp 𝕄) {n : Nat} (h : n < 288) : bigSep (doneSet (n + 1)) P = iprop(P (tl n) ∗ bigSep (doneSet n) P) := by
  have hv := tl_val h
  have e : doneSet (n + 1) = insert (tl n) (doneSet n) := by
    ext b; simp only [doneSet, Finset.mem_filter, Finset.mem_univ, true_and, Finset.mem_insert, Fin.ext_iff, hv]; omega
  rw [e]; exact bigSep_insert (by simp [doneSet, hv])
theorem todo_succ (P : Fin 288 → sProp 𝕄) {n : Nat} (h : n < 288) : bigSep (todoSet n) P = iprop(P (tl n) ∗ bigSep (todoSet (n + 1)) P) := by
  have hv := tl_val h
  have e : todoSet n = insert (tl n) (todoSet (n + 1)) := by
    ext b; simp only [todoSet, Finset.mem_filter, Finset.mem_univ, true_and, Finset.mem_insert, Fin.ext_iff, hv]; omega
  rw [e]; exact bigSep_insert (by simp [todoSet, hv])
/-- One part taken out of a family. -/
theorem take_one {ι : Type} [DecidableEq ι] (P : ι → sProp 𝕄) {s : Finset ι} {b : ι} (h : b ∈ s) : bigSep s P = iprop(P b ∗ bigSep (s.erase b) P) := by
  conv_lhs => rw [← Finset.insert_erase h]
  exact bigSep_insert (Finset.notMem_erase b s)

section Loop
variable (c : Dev nD) (i : grid0.Coords) (arg4 : Memref sig .tc .vmem S1x1x2048 .f32) (harg4 : arg4.IsWhole)
  (v1 v3 : BitVec 32) (hw : k0_chk1 i v1 v3)
  (XA : Buf (Elt F) (aM.view.loc (c : Thread nD τ))) (XS : Buf (Elt F) (wsM.view.loc (c : Thread nD τ)))
  (XB : Buf (Elt F) (arg4.view.loc (c : Thread nD τ))) (R : Buf (Elt F) (oM.view.loc (c : Thread nD τ)))

abbrev anyIn (s : Fin 2) : sProp 𝕄 := iprop((∃ f, inP (F := F) c s f) ∗ inCell c s)
abbrev anyOut (s : Fin 2) : sProp 𝕄 := iprop((∃ f, outP (F := F) c s f) ∗ outCell c s)
/-- The tiles done at `R`, and those to do at anything. -/
abbrev doneP (n : Nat) : sProp 𝕄 := bigSep (doneSet n) (fun b => tileO c b R)
abbrev todoP (n : Nat) : sProp 𝕄 := bigSep (todoSet n) (fun b => iprop(∃ f, tileO (F := F) c b f))
abbrev owesP : sProp 𝕄 := iprop(∃ W, owes (c : Thread nD τ) 0 W)

theorem todo_open {n : Nat} (h : n < 288) : todoP (F := F) c n ⊢ iprop((∃ f, tileO (F := F) c (tl n) f) ∗ todoP (F := F) c (n + 1)) := by
  rw [todoP, todo_succ _ h]
theorem done_close {n : Nat} (h : n < 288) : iprop(tileO c (tl n) R ∗ doneP c R n) ⊢ doneP c R (n + 1) := by
  unfold doneP; rw [done_succ _ h]

/-- The activations before trip `k`: tile `k` on its way in, the others at home; all at home after the last. -/
def actSt (k : Nat) : sProp 𝕄 :=
  if k < v3.toNat then iprop(inFlight c XA (sl k) (tl (v1.toNat + k)) ∗ bigSep (Finset.univ.erase (tl (v1.toNat + k))) (homeA c XA))
  else iprop(anyIn (F := F) c (sl k) ∗ bigSep Finset.univ (homeA c XA))
def actRest (k : Nat) : sProp 𝕄 :=
  if k + 1 < v3.toNat then bigSep ((Finset.univ.erase (tl (v1.toNat + k))).erase (tl (v1.toNat + (k + 1)))) (homeA c XA)
  else bigSep (Finset.univ.erase (tl (v1.toNat + k))) (homeA c XA)

theorem tl_ne {a b : Nat} (ha : a < 288) (hb : b < 288) (h : a ≠ b) : tl a ≠ tl b := fun e => h (by rw [← tl_val ha, ← tl_val hb, e])

theorem act_split (hF : Fits v1 v3) {k : Nat} (hk : k < v3.toNat) :
    actSt c v1 v3 XA k ⊢ iprop(inFlight c XA (sl k) (tl (v1.toNat + k)) ∗ nextIn c v1 v3 XA k ∗ actRest c v1 v3 XA k) := by
  unfold actSt nextIn actRest; rw [if_pos hk]
  by_cases h1 : k + 1 < v3.toNat
  · rw [if_pos h1, if_pos h1]
    have hne : tl (v1.toNat + (k + 1)) ≠ tl (v1.toNat + k) := by unfold Fits at hF; exact tl_ne (by omega) (by omega) (by omega)
    rw [take_one (homeA c XA) (Finset.mem_erase.mpr ⟨hne, Finset.mem_univ _⟩)]
  · rw [if_neg h1, if_neg h1]
    iintro ⟨H, HR⟩
    isplitl [H]; · iexact H
    isplitr; · iempintro
    iexact HR
theorem act_join (hF : Fits v1 v3) {k : Nat} (hk : k < v3.toNat) :
    iprop(homeA c XA (tl (v1.toNat + k)) ∗ nextIn' c v1 v3 XA k ∗ actRest c v1 v3 XA k) ⊢ actSt c v1 v3 XA (k + 1) := by
  unfold actSt nextIn' actRest
  by_cases h1 : k + 1 < v3.toNat
  · rw [if_pos h1, if_pos h1, if_pos h1]
    have hne : tl (v1.toNat + k) ≠ tl (v1.toNat + (k + 1)) := by unfold Fits at hF; exact tl_ne (by omega) (by omega) (by omega)
    rw [Finset.erase_right_comm, take_one (homeA c XA) (Finset.mem_erase.mpr ⟨hne, Finset.mem_univ _⟩)]
    iintro ⟨H, HN, HR⟩
    isplitl [HN]; · iexact HN
    isplitl [H]; · iexact H
    iexact HR
  · rw [if_neg h1, if_neg h1, if_neg h1, take_one (homeA c XA) (Finset.mem_univ (tl (v1.toNat + k)))]
    iintro ⟨H, HN, HR⟩
    isplitl [HN]; · iexact HN
    isplitl [H]; · iexact H
    iexact HR

theorem oSt_shift (k : Nat) (s : Fin 2) : oSt c v1 R k 1 s = oSt c v1 R (k + 1) 2 s := by
  unfold oSt
  by_cases h : 1 ≤ k
  · rw [if_pos h, if_pos (by omega), show k + 1 - 2 = k - 1 by omega]
  · rw [if_neg h, if_neg (by omega)]
theorem done_back (hF : Fits v1 v3) {k : Nat} (hk : k < v3.toNat) :
    iprop(backOut c v1 R k ∗ doneP c R (v1.toNat + (k - 2))) ⊢ doneP c R (v1.toNat + (k + 1 - 2)) := by
  unfold backOut doneP
  by_cases h : 2 ≤ k
  · rw [if_pos h, show v1.toNat + (k + 1 - 2) = (v1.toNat + (k - 2)) + 1 by omega, done_succ _ (by unfold Fits at hF; omega)]
  · rw [if_neg h, show k + 1 - 2 = k - 2 by omega]
    iintro ⟨_, H⟩; iexact H

/-- What the tile loop keeps from trip to trip. -/
def tripRes (k : Nat) : sProp 𝕄 :=
  iprop(biasP c arg4 XB ∗ wsP c XS ∗ actSt c v1 v3 XA k ∗ anyIn (F := F) c (sl (k + 1)) ∗ oSt c v1 R k 1 (sl (k + 1)) ∗ oSt c v1 R k 2 (sl k)
    ∗ doneP c R (v1.toNat + (k - 2)) ∗ todoP (F := F) c (v1.toNat + k) ∗ owesP (F := F) c)

theorem tripStep (hF : Fits v1 v3) (hR : Holds c arg4 v1 v3 XA XS XB R) (k : Fin (k0_t1_loop v3).trips) :
    tripRes c arg4 v1 v3 XA XS XB R k.val ⊢ wp frame (wpE (defs₀ (F := F)) 𝒱₀ (c : Thread nD τ) none) Set.univ (bodyAt i arg4 harg4 v1 v3 hw k)
      (fun _ => tripRes c arg4 v1 v3 XA XS XB R (k.val + 1)) := by
  have hk := (k_lt hF k).1
  have hk2 := (k_lt hF k).2
  unfold tripRes
  iintro ⟨HB, HS, HA, HI, HO1, HO2, HD, HT, HW⟩
  ihave HT2 := (todo_open c hk2) $$ HT
  icases HT2 with ⟨HT0, HT⟩
  ihave HA2 := (act_split c v1 v3 XA hF hk) $$ HA
  icases HA2 with ⟨HA0, HA1, HAR⟩
  icases HI with ⟨HI0, HI1⟩
  iapply (wp_wand_r Idealize.ShloMosaic.frame (wpE (defs₀ (F := F)) 𝒱₀ (c : Thread nD τ) none) Set.univ)
  isplitl [HB HS HA0 HI0 HI1 HA1 HO2 HT0 HW]
  · iapply (tripCore c i arg4 harg4 v1 v3 hw XA XS XB R hF hR k)
    unfold corePre
    isplitl [HB]; · iexact HB
    isplitl [HS]; · iexact HS
    isplitl [HA0]; · iexact HA0
    isplitl [HI0]; · iexact HI0
    isplitl [HI1]; · iexact HI1
    isplitl [HA1]; · iexact HA1
    isplitl [HO2]; · iexact HO2
    isplitl [HT0]; · iexact HT0
    iexact HW
  · iintro %_ HP
    unfold corePost
    icases HP with ⟨HB, HS, HI0, HI1, HA0, HA1, HO, HBk, HW⟩
    isplitl [HB]; · iexact HB
    isplitl [HS]; · iexact HS
    isplitl [HA0 HA1 HAR]
    · iapply (act_join c v1 v3 XA hF hk)
      isplitl [HA0]; · iexact HA0
      isplitl [HA1]; · iexact HA1
      iexact HAR
    isplitl [HI0 HI1]
    · rw [show k.val + 1 + 1 = k.val + 2 from rfl, sl_add_two]
      isplitl [HI0]; · iexact HI0
      iexact HI1
    isplitl [HO]
    · unfold oSt
      rw [if_pos (by omega : 1 ≤ k.val + 1), show k.val + 1 + 1 = k.val + 2 from rfl, sl_add_two, show k.val + 1 - 1 = k.val from rfl]
      iexact HO
    isplitl [HO1]
    · rw [← oSt_shift]; iexact HO1
    isplitl [HBk HD]
    · iapply (done_back c v1 v3 R hF hk)
      isplitl [HBk]; · iexact HBk
      iexact HD
    isplitl [HT]; · iexact HT
    iexact HW

end Loop

/-! ## The fill -/
section Fill
variable (c : Dev nD) (i : grid0.Coords) (arg4 : Memref sig .tc .vmem S1x1x2048 .f32) (harg4 : arg4.IsWhole)
  (v28 v29 : BitVec 32) (hw : k0_chk2 i v28 v29) (h11 : k0_cond11 i = 1#1)
  (R : Buf (Elt F) (oM.view.loc (c : Thread nD τ)))

abbrev fillAt (j : Fin (k0_t3_loop v28 v29).trips) : Prog (TpuEff nD τ sig (Elt F) Λ₀ .tc) Unit :=
  k0_t3_body (F := F) i tM (Memref.isWhole_whole _) nM (Memref.isWhole_whole _) arg4 harg4 wM (Memref.isWhole_whole _) aM (Memref.isWhole_whole _) oM (Memref.isWhole_whole _) rawM (Memref.isWhole_whole _) cc0_scratch1 wsM (Memref.isWhole_whole _) inM (Memref.isWhole_whole _) outM (Memref.isWhole_whole _) cc0_scratch5 cc0_scratch6 v28 v29 hw h11 j ()

/-- The tile the kernel writes where no expert has rows. -/
def zeroVal : S256x2048.Idx → Elt F .f32 :=
  fun j => k0_pay1 (F := F) (Shape.reshapeEquiv squeezes_S1x256x2048_S256x2048.numel_eq j)
def Zeros (a : Nat) : Prop := ∀ n, a ≤ n → n < 288 → (oTile (tl n)).view.read (Elt F) R = zeroVal (F := F)

def fillRes (f : Buf (Elt F) ((outSlot (sl 0)).view.loc (c : Thread nD τ))) (n : Nat) : sProp 𝕄 :=
  iprop(outP c (sl 0) f ∗ outCell c (sl 0) ∗ doneP c R n ∗ todoP (F := F) c n ∗ owesP (F := F) c)

set_option maxHeartbeats 1000000 in
theorem fillStep (hF : Fits v28 v29) (hR : Zeros c R (v28.toNat + v29.toNat)) (f) (hf : (outSlot (sl 0)).view.read (Elt F) f = zeroVal (F := F))
    (j : Fin (k0_t3_loop v28 v29).trips) :
    fillRes c R f (v28.toNat + v29.toNat + j.val) ⊢ wp frame (wpE (defs₀ (F := F)) 𝒱₀ (c : Thread nD τ) none) Set.univ (fillAt i arg4 harg4 v28 v29 hw h11 j)
      (fun _ => fillRes c R f (v28.toNat + v29.toNat + (j.val + 1))) := by
  have hj : j.val < 288 - (v28.toNat + v29.toNat) := lt_of_lt_of_eq j.isLt (trips3 hF)
  have hn : v28.toNat + v29.toNat + j.val < 288 := by omega
  unfold fillRes
  rw [← Nat.add_assoc]
  iintro ⟨HO, HC, HD, HT, ⟨%W, HW⟩⟩
  ihave HT2 := (todo_open c hn) $$ HT
  icases HT2 with ⟨⟨%fo, HT0⟩, HT⟩
  dsimp only [fillAt]
  sl_unfold [k0_t3_body]
  sl_exec
  sl_step
  isplitl [HO]; · iexact HO
  isplitl [HC]; · iexact HC
  isplitl [HT0 HD]
  · iapply (done_close c R hn)
    isplitl [HT0]
    · rw [← tileO_of c R (tl (v28.toNat + v29.toNat + j.val)) fo _ (hf.trans (hR _ (by omega) hn).symm)]
      iexact HT0
    iexact HD
  isplitl [HT]; · iexact HT
  iexists _; iexact HW
end Fill
end Cert.Gmm2Ideal.Moe
-- ==== Proof.Moe.Gmm2IdealPart.lean ====
/-
  The same over the ideal program's names.
  The second grouped product of the experts: the head of a point, up to its tile loop.
-/
module

public import proofs.«01_k».proof.Proof.Moe.Gmm2Part
public import proofs.«01_k».proof.Proof.Moe.Gmm2IdealLoop

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Part
variable (c : Dev nD) (i : grid0.Coords) (arg4 : Memref sig .tc .vmem S1x1x2048 .f32) (harg4 : arg4.IsWhole)
  (XT : Buf (Elt F) (tM.view.loc (c : Thread nD τ))) (XN : Buf (Elt F) (nM.view.loc (c : Thread nD τ)))
  (XA : Buf (Elt F) (aM.view.loc (c : Thread nD τ))) (XW : Buf (Elt F) (wM.view.loc (c : Thread nD τ)))

/-- The tables, as the body holds them; a word of each. -/
abbrev tabT : sProp 𝕄 := tM.view.loc (c : Thread nD τ) ↦{fullShare.right} XT
abbrev tabN : sProp 𝕄 := nM.view.loc (c : Thread nD τ) ↦{fullShare.right} XN
abbrev wordT (off : Fin 1 → Nat) (h : ∀ a, off a + S1.size a ≤ S32.size a) : BitVec 32 :=
  tM.view.readAt (Elt F) (Rect.unit (s := S32) off S1.size h).toLoadRect XT (Shape.Idx.first (s := S1) (by decide))
abbrev wordN (off : Fin 1 → Nat) (h : ∀ a, off a + S1.size a ≤ S32.size a) : BitVec 32 :=
  nM.view.readAt (Elt F) (Rect.unit (s := S32) off S1.size h).toLoadRect XN (Shape.Idx.first (s := S1) (by decide))

/-- What expert `e`'s matrix holds. -/
abbrev wVal (e : Fin 32) : S2048x2048.Idx → Elt F .f32 := (wExp e).view.read (Elt F) XW
abbrev anyRaw (s : Fin 2) : sProp 𝕄 := iprop((∃ f, rawP (F := F) c s f) ∗ rawCell c s)
abbrev rawFlight (s : Fin 2) (e : Fin 32) : sProp 𝕄 :=
  Transfers.Flight countersEmb (c : Thread nD τ) (SemLoc.dma (rawSem s).sem) () 524288
    iprop(rawP c s ((rawSlot s).view.rep (wVal c XW e)) ∗ homeW c XW e)
/-- The matrices before point `n`: matrix `n` on its way in, asked for by the point before it. -/
def wSt (n : Nat) : sProp 𝕄 :=
  if 1 ≤ n ∧ n < 32 then iprop(rawFlight c XW (sl n) (ex n) ∗ anyRaw (F := F) c (sl (n + 1)) ∗ bigSep (Finset.univ.erase (ex n)) (homeW c XW))
  else iprop(anyRaw (F := F) c (sl n) ∗ anyRaw (F := F) c (sl (n + 1)) ∗ bigSep Finset.univ (homeW c XW))

theorem rawP_of (s : Fin 2) (f) (x : S2048x2048.Idx → Elt F .f32) :
    rawP c s ((rawSlot s).view.writes (Elt F) f [⟨Rect.whole S2048x2048, x⟩]) = rawP c s ((rawSlot s).view.rep x) := by
  unfold rawP
  exact pointsTo_writes_whole_rebase (c : Thread nD τ) (rawSlot s) f _ x _
theorem rawFlight_of (s s' : Fin 2) (e e' : Fin 32) (hs : s' = s) (he : e' = e) (f) (x : S2048x2048.Idx → Elt F .f32) (hx : x = wVal c XW e) :
    Transfers.Flight countersEmb (c : Thread nD τ) (SemLoc.dma (rawSem s).sem) () 524288
      iprop(rawP c s ((rawSlot s).view.writes (Elt F) f [⟨Rect.whole S2048x2048, x⟩]) ∗ homeW c XW e) ⊢ rawFlight c XW s' e' := by
  subst hs he
  rw [rawP_of, hx]

/-- A load of a matrix slot through the whole buffer reads the matrix the slot holds. -/
theorem raw_load {off : Fin 3 → Nat} {s : Fin 2} (e : off = slotOff s) (hh) (x : S2048x2048.Idx → Elt F .f32) :
    rawM.view.readAt (Elt F) (Rect.unit (s := S2x2048x2048) off S1x2048x2048.size hh).toLoadRect ((rawSlot s).view.rep x)
      = fun y => x ((Shape.reshapeEquiv squeezes_S1x2048x2048_S2048x2048.numel_eq).symm y) := by
  subst e; funext y
  obtain ⟨j, rfl⟩ := (Shape.reshapeEquiv squeezes_S1x2048x2048_S2048x2048.numel_eq).surjective y
  rw [Equiv.symm_apply_apply]
  exact congrFun (View.read_rep (rawSlot s).view x) j

/-- An expert's matrix as the kernel multiplies by it. -/
def wUse (e : Fin 32) : Vec F S2048x2048 .bf16 :=
  k0_pay4 (F := F) (fun y => wVal c XW e ((Shape.reshapeEquiv squeezes_S1x2048x2048_S2048x2048.numel_eq).symm y))
/-- The matrix buffer holds expert `e`'s matrix. -/
def HasW (e : Fin 32) (XS : Buf (Elt F) (wsM.view.loc (c : Thread nD τ))) : Prop :=
  wsM.view.readAt (Elt F) (Rect.unit (s := S2048x2048) ![0, 0] S2048x2048.size inb_S2048x2048_S2048x2048_0_0).toLoadRect XS = wUse c XW e

theorem hasW_of (e : Fin 32) {off : Fin 3 → Nat} {s : Fin 2} (eo : off = slotOff s) (hh) (f) :
    HasW c XW e (wsM.view.writes (Elt F) f [⟨Rect.unit (s := S2048x2048) ![0, 0] S2048x2048.size inb_S2048x2048_S2048x2048_0_0,
      k0_pay4 (F := F) (rawM.view.readAt (Elt F) (Rect.unit (s := S2x2048x2048) off S1x2048x2048.size hh).toLoadRect ((rawSlot s).view.rep (wVal c XW e)))⟩]) := by
  unfold HasW; rw [raw_load eo]
  funext j
  exact View.read_writes_cons_emb wsM.view f (Rect.unit (s := S2048x2048) ![0, 0] S2048x2048.size inb_S2048x2048_S2048x2048_0_0) _ [] j

theorem wSt_free {n : Nat} (h : ¬ (1 ≤ n ∧ n < 32)) :
    wSt c XW n = iprop(anyRaw (F := F) c (sl n) ∗ anyRaw (F := F) c (sl (n + 1)) ∗ bigSep Finset.univ (homeW c XW)) := if_neg h
theorem wSt_busy {n : Nat} (h : 1 ≤ n ∧ n < 32) :
    wSt c XW n = iprop(rawFlight c XW (sl n) (ex n) ∗ anyRaw (F := F) c (sl (n + 1)) ∗ bigSep (Finset.univ.erase (ex n)) (homeW c XW)) := if_pos h

theorem ex_ne {a b : Nat} (ha : a < 32) (hb : b < 32) (h : a ≠ b) : ex a ≠ ex b := fun e => h (by rw [← ex_val ha, ← ex_val hb, e])

/-- The matrices after the first point asked for two of them; a middle point for one; the last for none. -/
theorem w_open0 : bigSep Finset.univ (homeW c XW) ⊢ iprop(homeW c XW (ex 0) ∗ homeW c XW (ex 1) ∗ bigSep ((Finset.univ.erase (ex 0)).erase (ex 1)) (homeW c XW)) := by
  rw [take_one (homeW c XW) (Finset.mem_univ (ex 0)), take_one (homeW c XW) (Finset.mem_erase.mpr ⟨ex_ne (a := 1) (b := 0) (by omega) (by omega) (by omega), Finset.mem_univ _⟩)]
theorem w_open {n : Nat} (h : n + 1 < 32) : bigSep (Finset.univ.erase (ex n)) (homeW c XW)
    ⊢ iprop(homeW c XW (ex (n + 1)) ∗ bigSep ((Finset.univ.erase (ex n)).erase (ex (n + 1))) (homeW c XW)) := by
  rw [take_one (homeW c XW) (Finset.mem_erase.mpr ⟨ex_ne (a := n + 1) (b := n) (by omega) (by omega) (by omega), Finset.mem_univ _⟩)]
theorem w_close {n : Nat} (h : n + 1 < 32) : iprop(homeW c XW (ex n) ∗ bigSep ((Finset.univ.erase (ex n)).erase (ex (n + 1))) (homeW c XW))
    ⊢ bigSep (Finset.univ.erase (ex (n + 1))) (homeW c XW) := by
  rw [Finset.erase_right_comm, ← take_one (homeW c XW) (Finset.mem_erase.mpr ⟨ex_ne (a := n) (b := n + 1) (by omega) (by omega) (by omega), Finset.mem_univ _⟩)]
theorem w_last {n : Nat} : iprop(homeW c XW (ex n) ∗ bigSep (Finset.univ.erase (ex n)) (homeW c XW)) ⊢ bigSep Finset.univ (homeW c XW) := by
  rw [← take_one (homeW c XW) (Finset.mem_univ (ex n))]
theorem anyRaw_eq {s s' : Fin 2} (h : s = s') : anyRaw (F := F) c s ⊢ anyRaw (F := F) c s' := by rw [h]

/-- The matrices' next state from a middle point's pieces. -/
theorem w_next {n : Nat} (h : n + 1 < 32) (f) (x : S2048x2048.Idx → Elt F .f32) (hx : x = wVal c XW (ex (n + 1))) :
    iprop(Transfers.Flight countersEmb (c : Thread nD τ) (SemLoc.dma (rawSem (sl (n + 1))).sem) () 524288
      iprop(rawP c (sl (n + 1)) ((rawSlot (sl (n + 1))).view.writes (Elt F) f [⟨Rect.whole S2048x2048, x⟩]) ∗ homeW c XW (ex (n + 1)))
      ∗ anyRaw (F := F) c (sl n) ∗ homeW c XW (ex n) ∗ bigSep ((Finset.univ.erase (ex n)).erase (ex (n + 1))) (homeW c XW)) ⊢ wSt c XW (n + 1) := by
  rw [wSt_busy c XW ⟨by omega, h⟩]
  iintro ⟨HF, HR, HW, HH⟩
  isplitl [HF]; · iapply (rawFlight_of c XW _ _ _ _ rfl rfl f x hx); iexact HF
  isplitl [HR]
  · iapply (anyRaw_eq (F := F) c (sl_add_two n).symm); iexact HR
  iapply (w_close c XW h)
  isplitl [HW]; · iexact HW
  iexact HH

theorem a_open (b : Fin 288) : bigSep Finset.univ (homeA c XA) ⊢ iprop(homeA c XA b ∗ bigSep (Finset.univ.erase b) (homeA c XA)) := by
  rw [take_one (homeA c XA) (Finset.mem_univ b)]
theorem w_open_first {n : Nat} (h : n = 0) : wSt c XW n ⊢ iprop(anyRaw (F := F) c (sl 0) ∗ anyRaw (F := F) c (sl (n + 1)) ∗ homeW c XW (ex 0) ∗ homeW c XW (ex (n + 1))
    ∗ bigSep ((Finset.univ.erase (ex n)).erase (ex (n + 1))) (homeW c XW)) := by
  subst h
  rw [wSt_free c XW (by omega)]
  iintro ⟨H0, H1, HH⟩
  isplitl [H0]; · iexact H0
  isplitl [H1]; · iexact H1
  iapply (w_open0 c XW); iexact HH
theorem w_open_mid {n : Nat} (h : ¬ n = 0) (h1 : n + 1 < 32) : wSt c XW n ⊢ iprop(rawFlight c XW (sl n) (ex n) ∗ anyRaw (F := F) c (sl (n + 1)) ∗ homeW c XW (ex (n + 1))
    ∗ bigSep ((Finset.univ.erase (ex n)).erase (ex (n + 1))) (homeW c XW)) := by
  rw [wSt_busy c XW (by omega)]
  iintro ⟨H0, H1, HH⟩
  isplitl [H0]; · iexact H0
  isplitl [H1]; · iexact H1
  iapply (w_open c XW h1); iexact HH
theorem w_open_end {n : Nat} (h : ¬ n = 0) (hn : n < 32) : wSt c XW n ⊢ iprop(rawFlight c XW (sl n) (ex n) ∗ anyRaw (F := F) c (sl (n + 1))
    ∗ bigSep (Finset.univ.erase (ex n)) (homeW c XW)) := by
  rw [wSt_busy c XW (by omega)]
theorem w_free {n : Nat} (h1 : ¬ n + 1 < 32) (hn : n < 32) : iprop(anyRaw (F := F) c (sl (n + 1)) ∗ anyRaw (F := F) c (sl n) ∗ homeW c XW (ex n)
    ∗ bigSep (Finset.univ.erase (ex n)) (homeW c XW)) ⊢ wSt c XW (n + 1) := by
  rw [wSt_free c XW (by omega)]
  iintro ⟨H0, H1, HW, HH⟩
  isplitl [H0]; · iexact H0
  isplitl [H1]
  · iapply (anyRaw_eq (F := F) c (sl_add_two n).symm); iexact H1
  iapply (w_last c XW (n := n))
  isplitl [HW]; · iexact HW
  iexact HH

abbrev partAt := k0_part3 (F := F) i tM (Memref.isWhole_whole _) nM (Memref.isWhole_whole _) arg4 harg4 wM (Memref.isWhole_whole _) aM (Memref.isWhole_whole _) oM (Memref.isWhole_whole _) rawM (Memref.isWhole_whole _) cc0_scratch1 wsM (Memref.isWhole_whole _) inM (Memref.isWhole_whole _) outM (Memref.isWhole_whole _) cc0_scratch5 cc0_scratch6

/-- A point's own words, and the last expert's. -/
abbrev v1At := wordT c XT (k0_off1 i) (k0_off1_inb i)
abbrev v3At := wordN c XN (k0_off1 i) (k0_off1_inb i)
abbrev v28At := wordT c XT ![31] inb_S32_S1_31
abbrev v29At := wordN c XN ![31] inb_S32_S1_31

def partPre (n : Nat) : sProp 𝕄 :=
  iprop(tabT c XT ∗ tabN c XN ∗ (∃ f, wsP (F := F) c f) ∗ wSt c XW n ∗ anyIn (F := F) c (sl 0) ∗ anyIn (F := F) c (sl 1) ∗ bigSep Finset.univ (homeA c XA) ∗ owesP (F := F) c)
/-- After the head: the matrix multiplied by is expert `e`'s if it has rows, the next is asked for, the first tile too. -/
def partPost (n : Nat) (v1 v3 : BitVec 32) : sProp 𝕄 :=
  iprop(tabT c XT ∗ tabN c XN ∗ (∃ f, ⌜0 < v3.toNat → HasW c XW (ex n) f⌝ ∗ wsP (F := F) c f) ∗ wSt c XW (n + 1) ∗ actSt c v1 v3 XA 0 ∗ anyIn (F := F) c (sl 1) ∗ owesP (F := F) c)

theorem act_open0 (v1 v3 : BitVec 32) (f) (x : S256x2048.Idx → Elt F .bf16) (hx : x = aVal c XA (tl v1.toNat)) (h0 : 0 < v3.toNat) :
    iprop(Transfers.Flight countersEmb (c : Thread nD τ) (SemLoc.dma (inSem (sl 0)).sem) () 32768
      iprop(inP c (sl 0) ((inSlot (sl 0)).view.writes (Elt F) f [⟨Rect.whole S256x2048, x⟩]) ∗ homeA c XA (tl v1.toNat))
      ∗ bigSep (Finset.univ.erase (tl v1.toNat)) (homeA c XA)) ⊢ actSt c v1 v3 XA 0 := by
  unfold actSt; rw [if_pos h0]
  iintro ⟨HF, HH⟩
  isplitl [HF]
  · iapply (inFlight_of c XA (sl 0) _ f x hx); iexact HF
  iexact HH
theorem act_idle (v1 v3 : BitVec 32) (h0 : ¬ 0 < v3.toNat) : iprop(anyIn (F := F) c (sl 0) ∗ bigSep Finset.univ (homeA c XA)) ⊢ actSt c v1 v3 XA 0 := by
  unfold actSt; rw [if_neg h0]

set_option maxHeartbeats 4000000 in
theorem part_run (hF : Fits (v1At c i XT) (v3At c i XN)) (hL : Fits (v28At c XT) (v29At c XN)) :
    partPre c XT XN XA XW (i 1).val ⊢ wp frame (wpE (defs₀ (F := F)) 𝒱₀ (c : Thread nD τ) none) Set.univ (partAt (F := F) i arg4 harg4)
      (fun st => iprop(⌜st.2.1 = v1At c i XT ∧ st.2.2.1 = v3At c i XN ∧ st.2.2.2.2.1 = v28At c XT ∧ st.2.2.2.2.2.1 = v29At c XN⌝
        ∗ partPost c XT XN XA XW (i 1).val (v1At c i XT) (v3At c i XN))) := by
  have hc2 := chk2_of i hL
  have hi := i1 i
  unfold partPre partPost
  iintro ⟨HT, HN, ⟨%fs, HS⟩, HR, HI, HI1, HA, ⟨%W, HW⟩⟩
  dsimp only [partAt]
  rw [k0_part3_eq_skeleton]
  sl_unfold [k0_part3_skel]
  sl_exec
  have hF' : Fits (part_run.sl.r c i XT) (part_run.sl.r_1 c i XN) := hF
  have e1 : part_run.sl.r c i XT = v1At c i XT := rfl
  have e3 : part_run.sl.r_1 c i XN = v3At c i XN := rfl
  rw [← e1, ← e3]
  clear e1 e3 hF
  generalize part_run.sl.r c i XT = v1 at *
  generalize part_run.sl.r_1 c i XN = v3 at *
  have hc1 := chk1_of i hF'
  have h3 : v3.toNat ≤ 288 := by unfold Fits at hF'; omega
  by_cases h0 : 0 < v3.toNat
  · have h1 : v1.toNat < 288 := by unfold Fits at hF'; omega
    have c1 : k0_cond1 v3 = 1#1 := (cond1_iff h3).mpr h0
    have c27 : Scalar.cmpi .ne (Scalar.extui (Scalar.cmpi .sgt v3 0#32)) 0#32 = 1#1 := c1
    icases HI with ⟨⟨%fi, HI⟩, HIC⟩
    ihave HA2 := (a_open c XA (tl v1.toNat)) $$ HA
    icases HA2 with ⟨HA, HAR⟩
    by_cases he : (i 1).val = 0
    · have he1 : (i 1).val + 1 < 32 := by rw [he]; decide
      have c2 : k0_cond2 i = 1#1 := (cond2_iff i).mpr he
      have c3 : k0_cond3 i = 1#1 := (cond3_iff i).mpr he1
      ihave HR2 := (w_open_first c XW he) $$ HR
      icases HR2 with ⟨⟨⟨%fr, HR⟩, HRC⟩, ⟨⟨%fr1, HR1⟩, HRC1⟩, HH0, HH1, HHR⟩
      sl_exec (disch := exact hc2)
      ihave HRC2 := (rawFlight_of c XW (sl 0) (sl (i 1).val) (ex 0) (ex (i 1).val) (by rw [he]) (by rw [he]) fr _ rfl) $$ [HRC]
      · iexact HRC
      sl_exec (disch := exact hc2)
      sl_step
      isplitr; · ipureintro; exact ⟨rfl, rfl, rfl, rfl⟩
      isplitl [HT]; · iexact HT
      isplitl [HN]; · iexact HN
      isplitl [HS]
      · iexists _
        isplitr; swap; · iexact HS
        ipureintro; exact fun _ => hasW_of c XW _ (off9_eq i) _ fs
      isplitl [HRC2 HRC2_dst HRC2_src HHR HRC1]
      · iapply (w_next c XW he1 fr1 _ rfl)
        isplitl [HRC1]; · iexact HRC1
        isplitl [HRC2 HRC2_dst]
        · isplitl [HRC2_dst]; · iexists _; iexact HRC2_dst
          iexact HRC2
        isplitl [HRC2_src]; · iexact HRC2_src
        iexact HHR
      isplitl [HIC HAR]
      · iapply (act_open0 c XA v1 v3 fi _ rfl h0)
        isplitl [HIC]; · iexact HIC
        iexact HAR
      isplitl [HI1]; · iexact HI1
      iexists _; iexact HW
    · by_cases he1 : (i 1).val + 1 < 32
      · have c2 : ¬ k0_cond2 i = 1#1 := fun h => he ((cond2_iff i).mp h)
        have c3 : k0_cond3 i = 1#1 := (cond3_iff i).mpr he1
        ihave HR2 := (w_open_mid c XW he he1) $$ HR
        icases HR2 with ⟨HRC, ⟨⟨%fr1, HR1⟩, HRC1⟩, HH1, HHR⟩
        sl_exec (disch := exact hc2)
        sl_step
        isplitr; · ipureintro; exact ⟨rfl, rfl, rfl, rfl⟩
        isplitl [HT]; · iexact HT
        isplitl [HN]; · iexact HN
        isplitl [HS]
        · iexists _
          isplitr; swap; · iexact HS
          ipureintro; exact fun _ => hasW_of c XW _ (off9_eq i) _ fs
        isplitl [HRC HRC_dst HRC_src HHR HRC1]
        · iapply (w_next c XW he1 fr1 _ rfl)
          isplitl [HRC1]; · iexact HRC1
          isplitl [HRC HRC_dst]
          · isplitl [HRC_dst]; · iexists _; iexact HRC_dst
            iexact HRC
          isplitl [HRC_src]; · iexact HRC_src
          iexact HHR
        isplitl [HIC HAR]
        · iapply (act_open0 c XA v1 v3 fi _ rfl h0)
          isplitl [HIC]; · iexact HIC
          iexact HAR
        isplitl [HI1]; · iexact HI1
        iexists _; iexact HW
      · have c2 : ¬ k0_cond2 i = 1#1 := fun h => he ((cond2_iff i).mp h)
        have c3 : ¬ k0_cond3 i = 1#1 := fun h => he1 ((cond3_iff i).mp h)
        ihave HR2 := (w_open_end c XW he hi) $$ HR
        icases HR2 with ⟨HRC, HR1, HHR⟩
        sl_exec (disch := exact hc2)
        sl_step
        isplitr; · ipureintro; exact ⟨rfl, rfl, rfl, rfl⟩
        isplitl [HT]; · iexact HT
        isplitl [HN]; · iexact HN
        isplitl [HS]
        · iexists _
          isplitr; swap; · iexact HS
          ipureintro; exact fun _ => hasW_of c XW _ (off9_eq i) _ fs
        isplitl [HRC HRC_dst HRC_src HHR HR1]
        · iapply (w_free c XW he1 hi)
          isplitl [HR1]; · iexact HR1
          isplitl [HRC HRC_dst]
          · isplitl [HRC_dst]; · iexists _; iexact HRC_dst
            iexact HRC
          isplitl [HRC_src]; · iexact HRC_src
          iexact HHR
        isplitl [HIC HAR]
        · iapply (act_open0 c XA v1 v3 fi _ rfl h0)
          isplitl [HIC]; · iexact HIC
          iexact HAR
        isplitl [HI1]; · iexact HI1
        iexists _; iexact HW
  · have c1 : ¬ k0_cond1 v3 = 1#1 := fun h => h0 ((cond1_iff h3).mp h)
    have c27 : ¬ Scalar.cmpi .ne (Scalar.extui (Scalar.cmpi .sgt v3 0#32)) 0#32 = 1#1 := c1
    by_cases he : (i 1).val = 0
    · have he1 : (i 1).val + 1 < 32 := by rw [he]; decide
      have c2 : k0_cond2 i = 1#1 := (cond2_iff i).mpr he
      have c3 : k0_cond3 i = 1#1 := (cond3_iff i).mpr he1
      ihave HR2 := (w_open_first c XW he) $$ HR
      icases HR2 with ⟨⟨⟨%fr, HR⟩, HRC⟩, ⟨⟨%fr1, HR1⟩, HRC1⟩, HH0, HH1, HHR⟩
      sl_exec (disch := exact hc2)
      ihave HRC2 := (rawFlight_of c XW (sl 0) (sl (i 1).val) (ex 0) (ex (i 1).val) (by rw [he]) (by rw [he]) fr _ rfl) $$ [HRC]
      · iexact HRC
      sl_exec (disch := exact hc2)
      sl_step
      isplitr; · ipureintro; exact ⟨rfl, rfl, rfl, rfl⟩
      isplitl [HT]; · iexact HT
      isplitl [HN]; · iexact HN
      isplitl [HS]
      · iexists _
        isplitr; swap; · iexact HS
        ipureintro; exact fun h => absurd h h0
      isplitl [HRC2 HRC2_dst HRC2_src HHR HRC1]
      · iapply (w_next c XW he1 fr1 _ rfl)
        isplitl [HRC1]; · iexact HRC1
        isplitl [HRC2 HRC2_dst]
        · isplitl [HRC2_dst]; · iexists _; iexact HRC2_dst
          iexact HRC2
        isplitl [HRC2_src]; · iexact HRC2_src
        iexact HHR
      isplitl [HI HA]
      · iapply (act_idle c XA v1 v3 h0)
        isplitl [HI]; · iexact HI
        iexact HA
      isplitl [HI1]; · iexact HI1
      iexists _; iexact HW
    · by_cases he1 : (i 1).val + 1 < 32
      · have c2 : ¬ k0_cond2 i = 1#1 := fun h => he ((cond2_iff i).mp h)
        have c3 : k0_cond3 i = 1#1 := (cond3_iff i).mpr he1
        ihave HR2 := (w_open_mid c XW he he1) $$ HR
        icases HR2 with ⟨HRC, ⟨⟨%fr1, HR1⟩, HRC1⟩, HH1, HHR⟩
        sl_exec (disch := exact hc2)
        sl_step
        isplitr; · ipureintro; exact ⟨rfl, rfl, rfl, rfl⟩
        isplitl [HT]; · iexact HT
        isplitl [HN]; · iexact HN
        isplitl [HS]
        · iexists _
          isplitr; swap; · iexact HS
          ipureintro; exact fun h => absurd h h0
        isplitl [HRC HRC_dst HRC_src HHR HRC1]
        · iapply (w_next c XW he1 fr1 _ rfl)
          isplitl [HRC1]; · iexact HRC1
          isplitl [HRC HRC_dst]
          · isplitl [HRC_dst]; · iexists _; iexact HRC_dst
            iexact HRC
          isplitl [HRC_src]; · iexact HRC_src
          iexact HHR
        isplitl [HI HA]
        · iapply (act_idle c XA v1 v3 h0)
          isplitl [HI]; · iexact HI
          iexact HA
        isplitl [HI1]; · iexact HI1
        iexists _; iexact HW
      · have c2 : ¬ k0_cond2 i = 1#1 := fun h => he ((cond2_iff i).mp h)
        have c3 : ¬ k0_cond3 i = 1#1 := fun h => he1 ((cond3_iff i).mp h)
        ihave HR2 := (w_open_end c XW he hi) $$ HR
        icases HR2 with ⟨HRC, HR1, HHR⟩
        sl_exec (disch := exact hc2)
        sl_step
        isplitr; · ipureintro; exact ⟨rfl, rfl, rfl, rfl⟩
        isplitl [HT]; · iexact HT
        isplitl [HN]; · iexact HN
        isplitl [HS]
        · iexists _
          isplitr; swap; · iexact HS
          ipureintro; exact fun h => absurd h h0
        isplitl [HRC HRC_dst HRC_src HHR HR1]
        · iapply (w_free c XW he1 hi)
          isplitl [HR1]; · iexact HR1
          isplitl [HRC HRC_dst]
          · isplitl [HRC_dst]; · iexists _; iexact HRC_dst
            iexact HRC
          isplitl [HRC_src]; · iexact HRC_src
          iexact HHR
        isplitl [HI HA]
        · iapply (act_idle c XA v1 v3 h0)
          isplitl [HI]; · iexact HI
          iexact HA
        isplitl [HI1]; · iexact HI1
        iexists _; iexact HW
end Part
end Cert.Gmm2Ideal.Moe
-- ==== Proof.Moe.Gmm2IdealBody.lean ====
/-
  The same over the ideal program's names.
  The second grouped product of the experts: the kernel at one grid point.
-/
module

public import proofs.«01_k».proof.Proof.Moe.Gmm2Body
public import proofs.«01_k».proof.Proof.Moe.Gmm2IdealPart

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords) (arg4 : Memref sig .tc .vmem S1x1x2048 .f32) (harg4 : arg4.IsWhole)
  (XT : Buf (Elt F) (tM.view.loc (c : Thread nD τ))) (XN : Buf (Elt F) (nM.view.loc (c : Thread nD τ)))
  (XA : Buf (Elt F) (aM.view.loc (c : Thread nD τ))) (XW : Buf (Elt F) (wM.view.loc (c : Thread nD τ)))
  (XB : Buf (Elt F) (arg4.view.loc (c : Thread nD τ))) (R : Buf (Elt F) (oM.view.loc (c : Thread nD τ)))

/-- What a point finds and leaves, with the first `d` tiles done and `n` points passed. -/
def ptRes (n d : Nat) : sProp 𝕄 :=
  iprop(tabT c XT ∗ tabN c XN ∗ (∃ f, wsP (F := F) c f) ∗ wSt c XW n ∗ anyIn (F := F) c (sl 0) ∗ anyIn (F := F) c (sl 1) ∗ bigSep Finset.univ (homeA c XA)
    ∗ anyOut (F := F) c (sl 0) ∗ anyOut (F := F) c (sl 1) ∗ doneP c R d ∗ todoP (F := F) c d)

/-- What `R` holds on the point's own tiles. -/
def Mine (v1 v3 : BitVec 32) : Prop := ∀ k, k < v3.toNat → (oTile (tl (v1.toNat + k))).view.read (Elt F) R
  = outVal (aVal c XA (tl (v1.toNat + k))) (wUse c XW (ex (i 1).val))
      (arg4.view.readAt (Elt F) (Rect.unit (s := S1x1x2048) ![0, 0, 0] S1x1x2048.size inb_S1x1x2048_S1x1x2048_0_0_0).toLoadRect XB)

theorem pair_out (n : Nat) : iprop(anyOut (F := F) c (sl n) ∗ anyOut (F := F) c (sl (n + 1))) ⊢ iprop(anyOut (F := F) c (sl 0) ∗ anyOut (F := F) c (sl 1)) := by
  induction n with
  | zero => iintro H; iexact H
  | succ n ih =>
    rw [show n + 1 + 1 = n + 2 from rfl, sl_add_two]
    iintro ⟨H1, H0⟩
    iapply ih
    isplitl [H0]; · iexact H0
    iexact H1
theorem pair_in (n : Nat) : iprop(anyIn (F := F) c (sl n) ∗ anyIn (F := F) c (sl (n + 1))) ⊢ iprop(anyIn (F := F) c (sl 0) ∗ anyIn (F := F) c (sl 1)) := by
  induction n with
  | zero => iintro H; iexact H
  | succ n ih =>
    rw [show n + 1 + 1 = n + 2 from rfl, sl_add_two]
    iintro ⟨H1, H0⟩
    iapply ih
    isplitl [H0]; · iexact H0
    iexact H1

/-- The results when the tile loop is over: the last two tiles may still be on their way out. -/
def tailSt (v1 v3 : BitVec 32) : sProp 𝕄 :=
  if v3.toNat = 0 then iprop(anyOut (F := F) c (sl 0) ∗ anyOut (F := F) c (sl 1) ∗ doneP c R v1.toNat)
  else if v3.toNat = 1 then iprop((∃ f, outFlight c R (sl (v3.toNat + 1)) (tl (v1.toNat + (v3.toNat - 1))) f) ∗ anyOut (F := F) c (sl v3.toNat) ∗ doneP c R v1.toNat)
  else iprop((∃ f, outFlight c R (sl (v3.toNat + 1)) (tl (v1.toNat + (v3.toNat - 1))) f) ∗ (∃ f, outFlight c R (sl v3.toNat) (tl (v1.toNat + (v3.toNat - 2))) f)
    ∗ doneP c R (v1.toNat + (v3.toNat - 2)))

theorem done_one {v1 v3 : BitVec 32} (hF : Fits v1 v3) (h : v3.toNat = 1) :
    iprop(tileO c (tl (v1.toNat + (v3.toNat - 1))) R ∗ doneP c R v1.toNat) ⊢ doneP c R (v1.toNat + v3.toNat) := by
  rw [h, Nat.sub_self, Nat.add_zero]; exact done_close c R (by unfold Fits at hF; omega)
theorem done_two {v1 v3 : BitVec 32} (hF : Fits v1 v3) (h : 2 ≤ v3.toNat) :
    iprop(tileO c (tl (v1.toNat + (v3.toNat - 1))) R ∗ tileO c (tl (v1.toNat + (v3.toNat - 2))) R ∗ doneP c R (v1.toNat + (v3.toNat - 2))) ⊢ doneP c R (v1.toNat + v3.toNat) := by
  unfold Fits at hF
  rw [show v1.toNat + v3.toNat = v1.toNat + (v3.toNat - 1) + 1 by omega]
  iintro ⟨H1, H⟩
  iapply (done_close c R (by omega))
  isplitl [H1]; · iexact H1
  rw [show v1.toNat + (v3.toNat - 1) = v1.toNat + (v3.toNat - 2) + 1 by omega]
  iapply (done_close c R (by omega)); iexact H

theorem tail_zero {v1 v3 : BitVec 32} (h : v3.toNat = 0) : tailSt c R v1 v3 ⊢ iprop(anyOut (F := F) c (sl 0) ∗ anyOut (F := F) c (sl 1) ∗ doneP c R v1.toNat) := by
  unfold tailSt; rw [if_pos h]

theorem tail_one {v1 v3 : BitVec 32} (h : v3.toNat = 1) : tailSt c R v1 v3
    ⊢ iprop((∃ f, outFlight c R (sl (v3.toNat + 1)) (tl (v1.toNat + (v3.toNat - 1))) f) ∗ anyOut (F := F) c (sl v3.toNat) ∗ doneP c R v1.toNat) := by
  unfold tailSt; rw [if_neg (by omega), if_pos h]

theorem tail_two {v1 v3 : BitVec 32} (h : 2 ≤ v3.toNat) : tailSt c R v1 v3
    ⊢ iprop((∃ f, outFlight c R (sl (v3.toNat + 1)) (tl (v1.toNat + (v3.toNat - 1))) f) ∗ (∃ f, outFlight c R (sl v3.toNat) (tl (v1.toNat + (v3.toNat - 2))) f)
    ∗ doneP c R (v1.toNat + (v3.toNat - 2))) := by
  unfold tailSt; rw [if_neg (by omega), if_neg (by omega)]

theorem tail_of (v1 v3 : BitVec 32) : iprop(oSt c v1 R v3.toNat 1 (sl (v3.toNat + 1)) ∗ oSt c v1 R v3.toNat 2 (sl v3.toNat) ∗ doneP c R (v1.toNat + (v3.toNat - 2))) ⊢ tailSt c R v1 v3 := by
  unfold tailSt oSt
  by_cases h0 : v3.toNat = 0
  · rw [if_pos h0, if_neg (by omega : ¬ 1 ≤ v3.toNat), if_neg (by omega : ¬ 2 ≤ v3.toNat), h0]
    iintro ⟨HO1, HO2, HD⟩
    isplitl [HO2]; · iexact HO2
    isplitl [HO1]; · iexact HO1
    iexact HD
  · rw [if_neg h0, if_pos (by omega : 1 ≤ v3.toNat)]
    by_cases h1 : v3.toNat = 1
    · rw [if_pos h1, if_neg (by omega : ¬ 2 ≤ v3.toNat), show v1.toNat + (v3.toNat - 2) = v1.toNat by omega]
    · rw [if_neg h1, if_pos (by omega : 2 ≤ v3.toNat)]

theorem owes_any (W : Waits sig Unit) : (owes (c : Thread nD τ) 0 W : sProp 𝕄) ⊢ owesP (F := F) c := by
  iintro H; iexists _; iexact H

theorem zero_of (f0 : Buf (Elt F) (outM.view.loc (c : Thread nD τ))) :
    outP (F := F) c (sl 0) (outM.view.writes (Elt F) f0 [⟨Rect.unit (s := S2x256x2048) ![0, 0, 0] S1x256x2048.size inb_S2x256x2048_S1x256x2048_0_0_0, k0_pay1⟩])
      ⊢ iprop(∃ f, ⌜(outSlot (sl 0)).view.read (Elt F) f = zeroVal (F := F)⌝ ∗ outP (F := F) c (sl 0) f) := by
  iintro H
  iexists _
  isplitr
  on_goal 2 => iexact H
  ipureintro
  exact out_read c (s := sl 0) (show ![0, 0, 0] = ![_, _, _] by decide) inb_S2x256x2048_S1x256x2048_0_0_0 f0 k0_pay1

theorem fill_out (f) (n : Nat) : fillRes c R f n ⊢ iprop(anyOut (F := F) c (sl 0) ∗ doneP c R n ∗ todoP (F := F) c n ∗ owesP (F := F) c) := by
  unfold fillRes
  iintro ⟨HP, HC, HD, HT, HW⟩
  isplitl [HP HC]
  · isplitl [HP]; · iexists _; iexact HP
    iexact HC
  isplitl [HD]; · iexact HD
  isplitl [HT]; · iexact HT
  iexact HW

theorem after_loop {k : Nat} (v1 v3 : BitVec 32) (hk : k = v3.toNat) (XS : Buf (Elt F) (wsM.view.loc (c : Thread nD τ))) (hF : Fits v1 v3) :
    tripRes c arg4 v1 v3 XA XS XB R k ⊢ iprop(biasP c arg4 XB ∗ wsP c XS ∗ bigSep Finset.univ (homeA c XA) ∗ anyIn (F := F) c (sl 0) ∗ anyIn (F := F) c (sl 1)
      ∗ tailSt c R v1 v3 ∗ todoP (F := F) c (v1.toNat + v3.toNat) ∗ owesP (F := F) c) := by
  subst hk
  unfold tripRes actSt
  rw [if_neg (lt_irrefl _)]
  iintro ⟨HB, HS, ⟨HI0, HA⟩, HI1, HO1, HO2, HD, HT, HW⟩
  isplitl [HB]; · iexact HB
  isplitl [HS]; · iexact HS
  isplitl [HA]; · iexact HA
  ihave HI := (pair_in (F := F) c v3.toNat) $$ [HI0 HI1]
  · isplitl [HI0]; · iexact HI0
    iexact HI1
  icases HI with ⟨HI0, HI1⟩
  isplitl [HI0]; · iexact HI0
  isplitl [HI1]; · iexact HI1
  isplitl [HO1 HO2 HD]
  · iapply (tail_of c R v1 v3)
    isplitl [HO1]; · iexact HO1
    isplitl [HO2]; · iexact HO2
    iexact HD
  isplitl [HT]; · iexact HT
  iexact HW

abbrev kernelAt := cc0_gmm2 (F := F) i tM (Memref.isWhole_whole _) nM (Memref.isWhole_whole _) arg4 harg4 wM (Memref.isWhole_whole _) aM (Memref.isWhole_whole _) oM (Memref.isWhole_whole _) rawM (Memref.isWhole_whole _) cc0_scratch1 wsM (Memref.isWhole_whole _) inM (Memref.isWhole_whole _) outM (Memref.isWhole_whole _) cc0_scratch5 cc0_scratch6

set_option maxHeartbeats 4000000 in
theorem body_run (d : Nat) (hF : Fits (v1At c i XT) (v3At c i XN)) (hL : Fits (v28At c XT) (v29At c XN))
    (hM : Mine c i arg4 XA XW XB R (v1At c i XT) (v3At c i XN))
    (hd : (i 1).val + 1 < 32 → d = (v1At c i XT).toNat + (v3At c i XN).toNat)
    (hd' : (i 1).val = 31 → d = 288 ∧ v28At c XT = v1At c i XT ∧ v29At c XN = v3At c i XN)
    (hZ : Zeros c R ((v28At c XT).toNat + (v29At c XN).toNat)) :
    iprop(ptRes c XT XN XA XW R (i 1).val (v1At c i XT).toNat ∗ biasP c arg4 XB ∗ owesP (F := F) c)
      ⊢ wp frame (wpE (defs₀ (F := F)) 𝒱₀ (c : Thread nD τ) none) Set.univ (kernelAt (F := F) i arg4 harg4)
      (fun _ => iprop(ptRes c XT XN XA XW R ((i 1).val + 1) d ∗ biasP c arg4 XB ∗ owesP (F := F) c)) := by
  have hi := i1 i
  dsimp only [kernelAt]
  rw [cc0_gmm2_eq_skeleton]
  unfold cc0_gmm2_skel
  rw [wp_bind]
  unfold ptRes
  iintro ⟨⟨HT, HN, HS, HWt, HI0, HI1, HA, HO0, HO1, HD, HTo⟩, HB, HW⟩
  iapply (wp_wand_r Idealize.ShloMosaic.frame (wpE (defs₀ (F := F)) 𝒱₀ (c : Thread nD τ) none) Set.univ)
  isplitl [HT HN HS HWt HI0 HI1 HA HW]
  · iapply (part_run c i arg4 harg4 XT XN XA XW hF hL)
    unfold partPre
    isplitl [HT]; · iexact HT
    isplitl [HN]; · iexact HN
    isplitl [HS]; · iexact HS
    isplitl [HWt]; · iexact HWt
    isplitl [HI0]; · iexact HI0
    isplitl [HI1]; · iexact HI1
    isplitl [HA]; · iexact HA
    iexact HW
  iintro %st ⟨%hst, HP⟩
  obtain ⟨a0, w1, w3, hw1, w28, w29, hw2, x30, x31, x32⟩ := st
  change BitVec 32 at w1 w3 w28 w29
  dsimp only at hst
  obtain ⟨q1, q3, q28, q29⟩ := hst
  unfold partPost
  icases HP with ⟨HT, HN, ⟨%fs, %hfs, HS⟩, HWt, HAc, HI1, HW⟩
  generalize v1At c i XT = v1 at *
  generalize v3At c i XN = v3 at *
  generalize v28At c XT = v28 at *
  generalize v29At c XN = v29 at *
  subst q1 q3 q28 q29
  have h3 : w3.toNat ≤ 288 := by unfold Fits at hF; omega
  have hR : Holds c arg4 w1 w3 XA fs XB R := by
    intro k hk
    have h := hfs (by omega)
    unfold HasW at h
    rw [h]; exact hM k hk
  dsimp only
  sl_for (fun k (_ : Unit) => tripRes c arg4 w1 w3 XA fs XB R k) $$ [HB HS HAc HI1 HO0 HO1 HD HTo HW]
  · intro k acc
    exact tripStep c i arg4 harg4 w1 w3 hw1 XA fs XB R hF hR k
  · unfold tripRes oSt
    rw [if_neg (by omega : ¬ 1 ≤ 0), if_neg (by omega : ¬ 2 ≤ 0)]
    isplitl [HB]; · iexact HB
    isplitl [HS]; · iexact HS
    isplitl [HAc]; · iexact HAc
    isplitl [HI1]; · iexact HI1
    isplitl [HO1]; · iexact HO1
    isplitl [HO0]; · iexact HO0
    isplitl [HD]; · iexact HD
    isplitl [HTo]; · iexact HTo
    iexact HW
  iintro %_ HI
  ihave HI2 := (after_loop c arg4 XA XB R w1 w3 (trips1 h3) fs hF) $$ HI
  icases HI2 with ⟨HB, HS, HA, HI0, HI1, HO, HTo, HW⟩
  sl_for0 (trips2 h3)
  rcases (by omega : w3.toNat = 0 ∨ w3.toNat = 1 ∨ 2 ≤ w3.toNat) with h0 | h0 | h0
  on_goal 1 =>
    have c9 : ¬ k0_cond9 w3 = 1#1 := fun h => by have := (cond9_iff h3).mp h; omega
    have c10 : ¬ k0_cond10 w3 = 1#1 := fun h => by have := (cond10_iff h3).mp h; omega
    ihave HO := (tail_zero (F := F) c R h0) $$ HO
    icases HO with ⟨HO0, HO1, HD⟩
    ihave HD := (BIBase.Entails.of_eq (congrArg (doneP (F := F) c R) (by omega : w1.toNat = w1.toNat + w3.toNat))) $$ HD
    sl_unfold [body_run.sl.prog.cont_2]
    sl_exec
  on_goal 2 =>
    have c9 : ¬ k0_cond9 w3 = 1#1 := fun h => by have := (cond9_iff h3).mp h; omega
    have c10 : k0_cond10 w3 = 1#1 := (cond10_iff h3).mpr (by omega)
    have h1 : 1 ≤ w3.toNat := by omega
    ihave HO := (tail_one (F := F) c R h0) $$ HO
    icases HO with ⟨⟨%f1, HO1⟩, HO0, HD⟩
    icases HW with ⟨%W, HW⟩
    sl_unfold [body_run.sl.prog.cont_2]
    simp only [out35 h1, o36 i hF h1, out37 h1]
    sl_exec
    ihave HD := (done_one (F := F) c R hF h0) $$ [HO1_dst HD]
    · isplitl [HO1_dst]; · iexact HO1_dst
      iexact HD
    ihave HO := (pair_out (F := F) c w3.toNat) $$ [HO0 HO1_src HO1]
    · isplitl [HO0]; · iexact HO0
      isplitl [HO1_src]; · iexists _; iexact HO1_src
      iexact HO1
    icases HO with ⟨HO0, HO1⟩
    ihave HW := (owes_any (F := F) c _) $$ HW
  on_goal 3 =>
    have c9 : k0_cond9 w3 = 1#1 := (cond9_iff h3).mpr h0
    have c10 : k0_cond10 w3 = 1#1 := (cond10_iff h3).mpr (by omega)
    have h1 : 1 ≤ w3.toNat := by omega
    ihave HO := (tail_two (F := F) c R h0) $$ HO
    icases HO with ⟨⟨%f1, HO1⟩, ⟨%f0, HO0⟩, HD⟩
    icases HW with ⟨%W, HW⟩
    sl_unfold [body_run.sl.prog.cont_2]
    simp only [out32 (v3 := w3), o33 i hF h0, out34 (v3 := w3), out35 h1, o36 i hF h1, out37 h1]
    sl_exec
    ihave HD := (done_two (F := F) c R hF h0) $$ [HO1_dst HO0_dst HD]
    · isplitl [HO1_dst]; · iexact HO1_dst
      isplitl [HO0_dst]; · iexact HO0_dst
      iexact HD
    ihave HO := (pair_out (F := F) c w3.toNat) $$ [HO0_src HO0 HO1_src HO1]
    · isplitl [HO0_src HO0]
      · isplitl [HO0_src]; · iexists _; iexact HO0_src
        iexact HO0
      isplitl [HO1_src]; · iexists _; iexact HO1_src
      iexact HO1
    icases HO with ⟨HO0, HO1⟩
    ihave HW := (owes_any (F := F) c _) $$ HW
  all_goals
    by_cases he : (i 1).val + 1 < 32
    on_goal 1 =>
      have c11 : ¬ k0_cond11 i = 1#1 := fun h => by have := (cond11_iff i).mp h; omega
      obtain rfl := hd he
      sl_exec
      sl_step
    on_goal 2 =>
      have c11 : k0_cond11 i = 1#1 := (cond11_iff i).mpr (by omega)
      obtain ⟨rfl, rfl, rfl⟩ := hd' (by omega)
      icases HO0 with ⟨⟨%f0, HOP⟩, HOC⟩
      icases HW with ⟨%W, HW⟩
      sl_exec
      ihave HOP := (zero_of (F := F) c f0) $$ [HOP]
      · iexact HOP
      icases HOP with ⟨%f, %hf, HOP⟩
      sl_for (fun j (_ : Unit) => fillRes c R f (w28.toNat + w29.toNat + j)) $$ [HOP HOC HD HTo HW]
      · intro j acc
        exact fillStep c i arg4 harg4 w28 w29 hw2 c11 R hL hZ f hf j
      · unfold fillRes
        isplitl [HOP]; · iexact HOP
        isplitl [HOC]; · iexact HOC
        isplitl [HD]; · iexact HD
        isplitl [HTo]; · iexact HTo
        iexists _; iexact HW
      iintro %_ HR
      ihave HR := (BIBase.Entails.of_eq (congrArg (fillRes (F := F) c R f) (show w28.toNat + w29.toNat + (k0_t3_loop w28 w29).trips = 288 by rw [trips3 hL]; unfold Fits at hL; omega))) $$ [HR]
      · iexact HR
      ihave HR := (fill_out (F := F) c R f 288) $$ HR
      icases HR with ⟨HO0, HD, HTo, HW⟩
      sl_for0 (trips4 hL)
      sl_exec
      sl_step
    all_goals
      isplitr [HB HW]
      · isplitl [HT]; · iexact HT
        isplitl [HN]; · iexact HN
        isplitl [HS]; · iexists _; iexact HS
        isplitl [HWt]; · iexact HWt
        isplitl [HI0]; · iexact HI0
        isplitl [HI1]; · iexact HI1
        isplitl [HA]; · iexact HA
        isplitl [HO0]; · iexact HO0
        isplitl [HO1]; · iexact HO1
        isplitl [HD]; · iexact HD
        iexact HTo
      isplitl [HB]; · iexact HB
      iexact HW
end Body
end Cert.Gmm2Ideal.Moe
-- ==== Proof.Moe.Gmm2IdealSplit.lean ====
/-
  The same over the ideal program's names.
  The second grouped product of the experts: its whole buffers as their tiles, matrices and slots.
-/
module

public import proofs.«01_k».proof.Proof.Moe.Gmm2Split
public import proofs.«01_k».proof.Proof.Moe.Gmm2IdealBody

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Blocks along one axis -/

section Rows
variable {s : Shape} {n : Nat} (a₀ : Fin s.rank) (k : Nat) (off : Fin n → Fin s.rank → Nat) (sz : Fin s.rank → Nat)
  (h : ∀ b a, off b a + sz a ≤ s.size a)

/-- `off` cuts `s` into `n` blocks of `k` along the axis `a₀`. -/
structure Cuts : Prop where
  at_axis : ∀ b, off b a₀ = b.val * k
  size_axis : sz a₀ = k
  pos : 0 < k
  all : n * k = s.size a₀
  rest : ∀ b a, a ≠ a₀ → off b a = 0 ∧ sz a = s.size a

variable {a₀ k off sz}
theorem Cuts.mem (H : Cuts (n := n) a₀ k off sz) (b : Fin n) (y : s.Idx) :
    y ∈ (Rect.unit (s := s) (off b) sz (h b)).set ↔ (y a₀).val / k = b.val := by
  have hp := H.pos
  rw [Rect.mem_set_unit]
  have e : (y a₀).val / k = b.val ↔ b.val * k ≤ (y a₀).val ∧ (y a₀).val < b.val * k + k := by
    rw [Nat.div_eq_iff hp]; omega
  rw [e]
  constructor
  · intro q; have := q a₀; rw [H.at_axis, H.size_axis] at this; exact this
  · intro q a
    by_cases ha : a = a₀
    · subst ha; rw [H.at_axis, H.size_axis]; exact q
    · rw [(H.rest b a ha).1, (H.rest b a ha).2]; have := (y a).isLt; omega
theorem Cuts.disjoint (H : Cuts (n := n) a₀ k off sz) (b b' : Fin n) (hne : b ≠ b') :
    Disjoint (Rect.unit (s := s) (off b) sz (h b)).set (Rect.unit (s := s) (off b') sz (h b')).set := by
  rw [Finset.disjoint_left]; intro y hy hy'; rw [H.mem] at hy hy'; exact hne (Fin.ext (hy.symm.trans hy'))
theorem Cuts.cover (H : Cuts (n := n) a₀ k off sz) :
    (Finset.univ : Finset (Fin n)).biUnion (fun b => (Rect.unit (s := s) (off b) sz (h b)).set) = Finset.univ := by
  ext y; simp only [Finset.mem_biUnion, Finset.mem_univ, true_and, iff_true]
  have : (y a₀).val / k < n := by
    rw [Nat.div_lt_iff_lt_mul H.pos, H.all]; exact (y a₀).isLt
  exact ⟨⟨_, this⟩, by rw [H.mem]⟩
end Rows

theorem cutsT : Cuts (s := S73728x2048) (n := 288) 0 256 tileOff S256x2048.size where
  at_axis _ := rfl
  size_axis := rfl
  pos := by decide
  all := rfl
  rest b a ha := by fin_cases a; exact absurd rfl ha; exact ⟨rfl, rfl⟩
theorem cutsW : Cuts (s := S32x2048x2048) (n := 32) 0 1 expOff S1x2048x2048.size where
  at_axis b := (Nat.mul_one b.val).symm
  size_axis := rfl
  pos := by decide
  all := rfl
  rest b a ha := by fin_cases a; exact absurd rfl ha; exact ⟨rfl, rfl⟩; exact ⟨rfl, rfl⟩
theorem cutsR : Cuts (s := S2x2048x2048) (n := 2) 0 1 slotOff S1x2048x2048.size where
  at_axis b := (Nat.mul_one b.val).symm
  size_axis := rfl
  pos := by decide
  all := rfl
  rest b a ha := by fin_cases a; exact absurd rfl ha; exact ⟨rfl, rfl⟩; exact ⟨rfl, rfl⟩
theorem cutsS : Cuts (s := S2x256x2048) (n := 2) 0 1 slotOff S1x256x2048.size where
  at_axis b := (Nat.mul_one b.val).symm
  size_axis := rfl
  pos := by decide
  all := rfl
  rest b a ha := by fin_cases a; exact absurd rfl ha; exact ⟨rfl, rfl⟩; exact ⟨rfl, rfl⟩

abbrev tileS (b : Fin 288) : Finset S73728x2048.Idx := (Rect.unit (s := S73728x2048) (tileOff b) S256x2048.size (tileOff_inb b)).set
abbrev expS (e : Fin 32) : Finset S32x2048x2048.Idx := (Rect.unit (s := S32x2048x2048) (expOff e) S1x2048x2048.size (expOff_inb e)).set
abbrev rawS (s : Fin 2) : Finset S2x2048x2048.Idx := (Rect.unit (s := S2x2048x2048) (slotOff s) S1x2048x2048.size (rawOff_inb s)).set
abbrev slotS (s : Fin 2) : Finset S2x256x2048.Idx := (Rect.unit (s := S2x256x2048) (slotOff s) S1x256x2048.size (slotOff_inb s)).set

theorem aTile_set (b : Fin 288) : (aTile b).view.set = tileS b := View.set_slice_whole _ _
theorem oTile_set (b : Fin 288) : (oTile b).view.set = tileS b := View.set_slice_whole _ _
theorem wExp_set (e : Fin 32) : (wExp e).view.set = expS e := (View.set_reshape _ _).trans (View.set_slice_whole _ _)
theorem rawSlot_set (s : Fin 2) : (rawSlot s).view.set = rawS s := (View.set_reshape _ _).trans (View.set_slice_whole _ _)
theorem inSlot_set (s : Fin 2) : (inSlot s).view.set = slotS s := (View.set_reshape _ _).trans (View.set_slice_whole _ _)
theorem outSlot_set (s : Fin 2) : (outSlot s).view.set = slotS s := (View.set_reshape _ _).trans (View.set_slice_whole _ _)

theorem bigSep_two (Φ : Fin 2 → sProp 𝕄) : bigSep Finset.univ Φ = iprop(Φ (sl 0) ∗ Φ (sl 1)) :=
  bigSep_univ_eq_bigSepL [(0 : Fin 2), (1 : Fin 2)] (by decide) (by decide) Φ

section Split
variable (c : Dev nD)

theorem a_eq (f : Buf (Elt F) ((c : Thread nD τ).loc main_arg2)) :
    (((c : Thread nD τ).loc main_arg2) ↦{fullShare} f : sProp 𝕄) = bigSep Finset.univ (homeA c f) := by
  rw [Ring.pointsTo_blocks (ℓ := (c : Thread nD τ).loc main_arg2) tileS (cutsT.disjoint tileOff_inb) (cutsT.cover tileOff_inb)]
  exact bigSep_congr fun b _ => by rw [← aTile_set]; rfl
theorem w_eq (f : Buf (Elt F) ((c : Thread nD τ).loc main_arg3)) :
    (((c : Thread nD τ).loc main_arg3) ↦{fullShare} f : sProp 𝕄) = bigSep Finset.univ (homeW c f) := by
  rw [Ring.pointsTo_blocks (ℓ := (c : Thread nD τ).loc main_arg3) expS (cutsW.disjoint expOff_inb) (cutsW.cover expOff_inb)]
  exact bigSep_congr fun b _ => by rw [← wExp_set]; rfl
theorem o_eq (f : Buf (Elt F) ((c : Thread nD τ).loc main_v1)) :
    (((c : Thread nD τ).loc main_v1) ↦{fullShare} f : sProp 𝕄) = bigSep Finset.univ (fun b => tileO c b f) := by
  rw [Ring.pointsTo_blocks (ℓ := (c : Thread nD τ).loc main_v1) tileS (cutsT.disjoint tileOff_inb) (cutsT.cover tileOff_inb)]
  exact bigSep_congr fun b _ => by rw [← oTile_set]; rfl
theorem o_todo (f : Buf (Elt F) ((c : Thread nD τ).loc main_v1)) :
    (((c : Thread nD τ).loc main_v1) ↦{fullShare} f : sProp 𝕄) ⊢ todoP (F := F) c 0 := by
  rw [o_eq, todoP, todo_zero]
  refine bigSep_mono fun b _ => ?_
  show (tileO c b f : sProp 𝕄) ⊢ iprop(∃ f, tileO (F := F) c b f)
  iintro H; iexists f; iexact H

theorem rawP_eq (s : Fin 2) (f) : rawP c s f = (((c : Thread nD τ).loc cc0_scratch0) ↦[rawS s]{fullShare} f : sProp 𝕄) :=
  congrArg (fun S => (_ ↦[S]{fullShare} f : sProp 𝕄)) (rawSlot_set s)
theorem inP_eq (s : Fin 2) (f) : inP c s f = (((c : Thread nD τ).loc cc0_scratch3) ↦[slotS s]{fullShare} f : sProp 𝕄) :=
  congrArg (fun S => (_ ↦[S]{fullShare} f : sProp 𝕄)) (inSlot_set s)
theorem outP_eq (s : Fin 2) (f) : outP c s f = (((c : Thread nD τ).loc cc0_scratch4) ↦[slotS s]{fullShare} f : sProp 𝕄) :=
  congrArg (fun S => (_ ↦[S]{fullShare} f : sProp 𝕄)) (outSlot_set s)

section Halves
variable (ℓ : Loc nD τ sig) (S : Fin 2 → Finset ((ℓ.ty).Idx)) (hd : ∀ b b', b ≠ b' → Disjoint (S b) (S b'))
  (hc : Finset.univ.biUnion S = Finset.univ) (f₀ : Buf (Elt F) ℓ)
abbrev wholeAny : sProp 𝕄 := iprop(∃ f : Buf (Elt F) ℓ, ℓ ↦{fullShare} f)
abbrev halfAny (b : Fin 2) : sProp 𝕄 := iprop(∃ f : Buf (Elt F) ℓ, ℓ ↦[S b]{fullShare} f)
include hd hc in
theorem halves_of : (wholeAny ℓ : sProp 𝕄) ⊢ iprop(halfAny ℓ S (sl 0) ∗ halfAny ℓ S (sl 1)) := by
  iintro ⟨%f, H⟩
  ihave H2 := (BIBase.Entails.of_eq ((Ring.pointsTo_blocks (Ix := Unit) (Name := ℕ) (U := UU nD τ) (Lvl := ℕ) (q := fullShare) (ℓ := ℓ) S hd hc f).trans (bigSep_two _))) $$ H
  icases H2 with ⟨H0, H1⟩
  isplitl [H0]
  · iexists f; iexact H0
  · iexists f; iexact H1
include hd hc f₀ in
theorem of_halves : (iprop(halfAny ℓ S (sl 0) ∗ halfAny ℓ S (sl 1)) : sProp 𝕄) ⊢ wholeAny ℓ := by
  iintro ⟨⟨%f0, H0⟩, ⟨%f1, H1⟩⟩
  iapply (Ring.pointsTo_blocks_join_exists (ℓ := ℓ) S hd hc f₀)
  irw [bigSep_two]
  isplitl [H0]
  · iexists f0; iexact H0
  · iexists f1; iexact H1
include hd hc f₀ in
/-- A buffer cut in two, each half at anything. -/
theorem halves : (wholeAny ℓ : sProp 𝕄) = iprop(halfAny ℓ S (sl 0) ∗ halfAny ℓ S (sl 1)) :=
  BI.Entails.antisymm (halves_of ℓ S hd hc) (of_halves ℓ S hd hc f₀)
end Halves
theorem raw_eq : (iprop(∃ f : Buf (Elt F) ((c : Thread nD τ).loc cc0_scratch0), ((c : Thread nD τ).loc cc0_scratch0) ↦{fullShare} f) : sProp 𝕄)
    = iprop((∃ f, rawP c (sl 0) f) ∗ ∃ f, rawP c (sl 1) f) := by
  simp only [rawP_eq]
  exact halves ((c : Thread nD τ).loc cc0_scratch0) rawS (cutsR.disjoint rawOff_inb) (cutsR.cover rawOff_inb) (fun _ => default)
theorem in_eq : (iprop(∃ f : Buf (Elt F) ((c : Thread nD τ).loc cc0_scratch3), ((c : Thread nD τ).loc cc0_scratch3) ↦{fullShare} f) : sProp 𝕄)
    = iprop((∃ f, inP c (sl 0) f) ∗ ∃ f, inP c (sl 1) f) := by
  simp only [inP_eq]
  exact halves ((c : Thread nD τ).loc cc0_scratch3) slotS (cutsS.disjoint slotOff_inb) (cutsS.cover slotOff_inb) (fun _ => default)
theorem out_eq : (iprop(∃ f : Buf (Elt F) ((c : Thread nD τ).loc cc0_scratch4), ((c : Thread nD τ).loc cc0_scratch4) ↦{fullShare} f) : sProp 𝕄)
    = iprop((∃ f, outP c (sl 0) f) ∗ ∃ f, outP c (sl 1) f) := by
  simp only [outP_eq]
  exact halves ((c : Thread nD τ).loc cc0_scratch4) slotS (cutsS.disjoint slotOff_inb) (cutsS.cover slotOff_inb) (fun _ => default)
theorem ws_eq (f : Buf (Elt F) ((c : Thread nD τ).loc cc0_scratch2)) :
    (((c : Thread nD τ).loc cc0_scratch2) ↦{fullShare} f : sProp 𝕄) = wsP c f := by
  unfold wsP; rw [View.set_whole]

abbrev osem0 : Fin 6 → SemLoc sig := fun j => (![SemLoc.dma 2, SemLoc.dma 3, SemLoc.dma 4, SemLoc.dma 5, SemLoc.dma 6, SemLoc.dma 7] : Fin 6 → SemLoc sig) j
theorem ownSemFacts0 : Pipeline.OwnSemFacts spec0 osem0 := by decide
theorem cell_raw0 : (rawSem (sl 0)).sem = 2 := by decide
theorem cell_raw1 : (rawSem (sl 1)).sem = 3 := by decide
theorem cell_in0 : (inSem (sl 0)).sem = 4 := by decide
theorem cell_in1 : (inSem (sl 1)).sem = 5 := by decide
theorem cell_out0 : (outSem (sl 0)).sem = 6 := by decide
theorem cell_out1 : (outSem (sl 1)).sem = 7 := by decide
theorem ownSems00_eq :
    (Pipeline.ownSems0 (Ix := Unit) (Name := ℕ) (U := Pipeline.UD sig nD τ) (Lvl := ℕ) (Val := Elt F) (τ := τ) osem0 c : sProp 𝕄)
      = iprop(rawCell c (sl 0) ∗ rawCell c (sl 1) ∗ inCell c (sl 0) ∗ inCell c (sl 1) ∗ outCell c (sl 0) ∗ outCell c (sl 1)) := by
  rw [Pipeline.ownSems0_eq_of_list c osem0 [0, 1, 2, 3, 4, 5] (by decide) (by decide)]
  unfold rawCell inCell outCell
  rw [cell_raw0, cell_raw1, cell_in0, cell_in1, cell_out0, cell_out1]; rfl

end Split

end Cert.Gmm2Ideal.Moe

end
-- ==== Proof.Moe.Gmm2IdealTables.lean ====
/-
  The same over the ideal program's names.
  The second grouped product of the experts: what its tables of tiles say, and what the result holds.

  Expert `e` owns the tiles from `t0[e]` on, `nt[e]` of them; under the precondition the experts' tiles follow one
  another from tile 0 on and fit the 288 there are, so that a tile has at most one owner.
-/
module

public import proofs.«01_k».proof.Proof.Moe.Gmm2Tables
public import proofs.«01_k».proof.Proof.Moe.Gmm2IdealSplit
public import proofs.«01_k».proof.Pre_tile_tables

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open Idealize.SL.Sem

variable {F : FTy → Type} [FloatOps F]

abbrev at32 (e : Fin 32) : S32.Idx := fun a => ⟨e.val, by fin_cases a; exact e.isLt⟩

/-- What the precondition says of the two tables. -/
structure Words (x0 x1 : S32.Idx → BitVec 32) : Prop where
  zero : (x0 (at32 0)).toNat = 0
  next : ∀ (e : Fin 32) (h : e.val + 1 < 32), (x0 (at32 ⟨e.val + 1, h⟩)).toNat = (x0 (at32 e)).toNat + (x1 (at32 e)).toNat
  fits : ∀ e : Fin 32, Fits (x0 (at32 e)) (x1 (at32 e))

theorem word_range {v : BitVec 32} (h : (0#32).toInt ≤ v.toInt ∧ v.toInt ≤ (288#32).toInt) : v.toNat ≤ 288 := by
  have h0 : (0#32 : BitVec 32).toInt = 0 := by decide
  have h1 : (288#32 : BitVec 32).toInt = 288 := by decide
  rw [h0, h1] at h
  have := v.isLt
  rw [BitVec.toInt_eq_toNat_cond] at h; split at h <;> omega
theorem add_range {v w : BitVec 32} (hv : v.toNat ≤ 288) (hw : w.toNat ≤ 288) (h : (IntOp.addi v w).toInt ≤ (288#32).toInt) :
    v.toNat + w.toNat ≤ 288 := by
  have e : (IntOp.addi v w).toNat = v.toNat + w.toNat := add_nat v w (by omega)
  have h1 : (288#32 : BitVec 32).toInt = 288 := by decide
  rw [h1, BitVec.toInt_eq_toNat_cond, e] at h; split at h <;> omega

theorem words_of [Cert.Pre_tile_tables.Facts] (x0 x1 : S32.Idx → BitVec 32) (x2 : FVec F S73728x2048 .bf16) (x3 : FVec F S32x2048x2048 .f32) (x4 : FVec F S32x2048 .f32)
    (h : (Cert.Pre_tile_tables.fn (F := F) x0 x1 x2 x3 x4).1 = (fun _ => 1#1)
      ∧ (Cert.Pre_tile_tables.fn (F := F) x0 x1 x2 x3 x4).2.1 = (fun _ => 1#1)
      ∧ (Cert.Pre_tile_tables.fn (F := F) x0 x1 x2 x3 x4).2.2.1 = (fun _ => 1#1)
      ∧ (Cert.Pre_tile_tables.fn (F := F) x0 x1 x2 x3 x4).2.2.2 = (fun _ => 1#1)) : Words x0 x1 := by
  obtain ⟨ha, hb, hc, hd⟩ := h
  have hand : ∀ (p q : Bool), IntOp.andi (BitVec.ofBool p) (BitVec.ofBool q) = BitVec.ofBool (p && q) := by
    intro p q; cases p <;> cases q <;> decide
  have hone : ∀ p : Bool, (BitVec.ofBool p = 1#1) ↔ p = true := fun p => by cases p <;> decide
  have hn : ∀ e : Fin 32, (x1 (at32 e)).toNat ≤ 288 := fun e => by
    have q := congrFun hc (at32 e)
    simp only [Cert.Pre_tile_tables.fn, Cert.Pre_tile_tables.fn_part1, andi, cmpi, broadcastInDim, constantI] at q
    simp only [IntOp.cmpi, hand, hone, Bool.and_eq_true, BitVec.sle_eq_decide, decide_eq_true_eq] at q
    exact word_range q
  have ht : ∀ e : Fin 32, (x0 (at32 e)).toNat ≤ 288 ∧ (x0 (at32 e)).toNat + (x1 (at32 e)).toNat ≤ 288 := fun e => by
    have q := congrFun hd (at32 e)
    simp only [Cert.Pre_tile_tables.fn, Cert.Pre_tile_tables.fn_part1, andi, cmpi, broadcastInDim, constantI, addi] at q
    simp only [IntOp.cmpi, hand, hone, Bool.and_eq_true, BitVec.sle_eq_decide, decide_eq_true_eq] at q
    have q0 := word_range q.1
    exact ⟨q0, add_range q0 (hn e) q.2⟩
  refine ⟨?_, ?_, fun e => (ht e).2⟩
  · have q := congrFun ha (fun a => ⟨0, by fin_cases a; decide⟩)
    simp only [Cert.Pre_tile_tables.fn, Cert.Pre_tile_tables.fn_part1, cmpi, broadcastInDim, constantI, extractStridedSlice] at q
    simp only [IntOp.cmpi, hone, beq_iff_eq] at q
    refine Eq.trans ?_ (congrArg BitVec.toNat q)
    congr 2; funext a; apply Fin.ext; fin_cases a; rfl
  · intro e he
    have q := congrFun hb (fun a => ⟨e.val, by fin_cases a; show e.val < 31; omega⟩)
    simp only [Cert.Pre_tile_tables.fn, Cert.Pre_tile_tables.fn_part1, cmpi, addi, extractStridedSlice] at q
    simp only [IntOp.cmpi, hone, beq_iff_eq] at q
    rw [← add_nat (x0 (at32 e)) (x1 (at32 e)) (by have := (ht e).2; omega)]
    have q' := congrArg BitVec.toNat q
    refine Eq.trans ?_ (q'.trans ?_)
    · congr 2; funext a; apply Fin.ext; fin_cases a; show e.val + 1 = 1 + e.val; omega
    · show BitVec.toNat (IntOp.addi _ _) = BitVec.toNat (IntOp.addi _ _)
      congr 2 <;> (congr 1; funext a; apply Fin.ext; fin_cases a; show 0 + e.val = e.val; omega)

section Owner
variable (x0 x1 : S32.Idx → BitVec 32)

/-- Expert `e` owns tile `b`. -/
def Owns (e : Fin 32) (b : Nat) : Prop := (x0 (at32 e)).toNat ≤ b ∧ b < (x0 (at32 e)).toNat + (x1 (at32 e)).toNat

variable {x0 x1}
theorem Words.after (H : Words x0 x1) (e : Fin 32) : ∀ (n : Nat) (h : e.val + 1 + n < 32),
    (x0 (at32 e)).toNat + (x1 (at32 e)).toNat ≤ (x0 (at32 ⟨e.val + 1 + n, h⟩)).toNat
  | 0, h => (H.next e (by omega)).ge
  | n + 1, h => (H.after e n (by omega)).trans (by have q := H.next ⟨e.val + 1 + n, by omega⟩ h; exact (Nat.le_add_right _ _).trans q.ge)
theorem Words.le_of_lt (H : Words x0 x1) {e e' : Fin 32} (h : e.val < e'.val) :
    (x0 (at32 e)).toNat + (x1 (at32 e)).toNat ≤ (x0 (at32 e')).toNat := by
  have q := H.after e (e'.val - (e.val + 1)) (by have := e'.isLt; omega)
  have : (⟨e.val + 1 + (e'.val - (e.val + 1)), by have := e'.isLt; omega⟩ : Fin 32) = e' := Fin.ext (by show e.val + 1 + (e'.val - (e.val + 1)) = e'.val; omega)
  rwa [this] at q
theorem Words.unique (H : Words x0 x1) {e e' : Fin 32} {b : Nat} (h : Owns x0 x1 e b) (h' : Owns x0 x1 e' b) : e = e' := by
  unfold Owns at h h'
  rcases Nat.lt_trichotomy e.val e'.val with l | l | l
  · have := H.le_of_lt l; omega
  · exact Fin.ext l
  · have := H.le_of_lt l; omega
theorem Words.none (H : Words x0 x1) {b : Nat} (h : (x0 (at32 31)).toNat + (x1 (at32 31)).toNat ≤ b) (e : Fin 32) : ¬ Owns x0 x1 e b := by
  rintro ⟨h1, h2⟩
  rcases Nat.lt_or_ge e.val 31 with l | l
  · have := H.le_of_lt (e' := 31) l; omega
  · have : e = 31 := Fin.ext (by show e.val = 31; have := e.isLt; omega)
    subst this; omega
end Owner

/-! ## What the result holds -/

section Res
variable (c : Dev nD) (x0 x1 : S32.Idx → BitVec 32) (XA : Buf (Elt F) (aM.view.loc (c : Thread nD τ)))
  (XW : Buf (Elt F) (wM.view.loc (c : Thread nD τ))) (XV : S32x1x2048.Idx → Elt F .f32)

/-- Expert `e`'s row of the biases. -/
def biasV (e : Fin 32) : Vec F S1x1x2048 .f32 := fun y => XV fun a =>
  ⟨![e.val, 0, (y 2).val] a, by fin_cases a; exact e.isLt; exact Nat.zero_lt_one; exact (y 2).isLt⟩

open Classical in
/-- Tile `b` of the result. -/
def tileVal (b : Fin 288) : S256x2048.Idx → Elt F .f32 :=
  if h : ∃ e, Owns x0 x1 e b.val then outVal (aVal c XA b) (wUse c XW h.choose) (biasV (F := F) XV h.choose) else zeroVal

variable {x0 x1}
theorem tileVal_own (H : Words x0 x1) {e : Fin 32} {b : Fin 288} (h : Owns x0 x1 e b.val) :
    tileVal c x0 x1 XA XW XV b = outVal (aVal c XA b) (wUse c XW e) (biasV (F := F) XV e) := by
  have hx : ∃ e, Owns x0 x1 e b.val := ⟨e, h⟩
  unfold tileVal; rw [dif_pos hx, H.unique hx.choose_spec h]
theorem tileVal_free {b : Fin 288} (h : ∀ e, ¬ Owns x0 x1 e b.val) : tileVal c x0 x1 XA XW XV b = zeroVal (F := F) := by
  unfold tileVal; rw [dif_neg (fun ⟨e, he⟩ => h e he)]

variable (x0 x1)
def tileOf (y : S73728x2048.Idx) : Fin 288 := ⟨(y 0).val / 256, by have h : (y 0).val < 73728 := (y 0).isLt; omega⟩
def posOf (y : S73728x2048.Idx) : S256x2048.Idx := fun a =>
  ⟨![(y 0).val % 256, (y 1).val] a, by fin_cases a; exact Nat.mod_lt _ (by decide); exact (y 1).isLt⟩
/-- The result whole. -/
def resBuf : Buf (Elt F) (oM.view.loc (c : Thread nD τ)) := fun y : S73728x2048.Idx => tileVal c x0 x1 XA XW XV (tileOf y) (posOf y)

/-- Where element `j` of tile `b` lies in the whole result. -/
abbrev cellOf (b : Fin 288) (j : S256x2048.Idx) : S73728x2048.Idx := (oTile b).view.emb j

theorem resBuf_read (b : Fin 288) : (oTile b).view.read (Elt F) (resBuf c x0 x1 XA XW XV) = tileVal c x0 x1 XA XW XV b := by
  funext j
  show tileVal c x0 x1 XA XW XV (tileOf (cellOf b j)) (posOf (cellOf b j)) = _
  have e0 : ((cellOf b j) 0).val = b.val * 256 + (j 0).val := by
    show b.val * 256 + 1 * (j 0).val = _; omega
  have e1 : ((cellOf b j) 1).val = (j 1).val := by
    show 0 + 1 * (j 1).val = _; omega
  have hj : (j 0).val < 256 := (j 0).isLt
  have hb : tileOf (cellOf b j) = b := Fin.ext (by show ((cellOf b j) 0).val / 256 = b.val; rw [e0]; omega)
  have hp : posOf (cellOf b j) = j := by
    funext a; apply Fin.ext; fin_cases a
    · show ((cellOf b j) 0).val % 256 = (j 0).val; rw [e0]; omega
    · show ((cellOf b j) 1).val = (j 1).val; exact e1
  rw [hb, hp]
end Res

end Cert.Gmm2Ideal.Moe

end
-- ==== Proof.Moe.Gmm2IdealData.lean ====
/-
  The same over the ideal program's names.
  The second grouped product of the experts: what the call's points hand on.
-/
module

public import proofs.«01_k».proof.Proof.Moe.Gmm2Data
public import proofs.«01_k».proof.Proof.Moe.Gmm2IdealTables
public import Idealize.ShloMosaic.Lib.Pipeline.FrameBody

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What every buffer holds when the call starts. -/
def V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results

/-- The two tables, the activations, the matrices and the biases on device `c`. -/
abbrev X0 (c : Dev nD) : S32.Idx → BitVec 32 := V m c main_arg0
abbrev X1 (c : Dev nD) : S32.Idx → BitVec 32 := V m c main_arg1
abbrev XA (c : Dev nD) : Buf (Elt F) (aM.view.loc (c : Thread nD τ)) := V m c main_arg2
abbrev XW (c : Dev nD) : Buf (Elt F) (wM.view.loc (c : Thread nD τ)) := V m c main_arg3
abbrev XV (c : Dev nD) : S32x1x2048.Idx → Elt F .f32 := V m c main_v0
/-- The result on device `c`. -/
def RR (c : Dev nD) : Buf (Elt F) (oM.view.loc (c : Thread nD τ)) := resBuf c (X0 m c) (X1 m c) (XA m c) (XW m c) (XV m c)

theorem ok_any (x) : ok0 (F := F) x := by unfold ok0; trivial
/-- The tables as the pipeline prefetches them. -/
def adm : (p : Fin 1) → (pcfgs (F := F) p).Adm := fun _ => ⟨fun k => V m 0 (pre0.ref k), ok_any (F := F) (fun k => V m 0 (pre0.ref k))⟩
abbrev cfgA : Cfg sig Λ₀ := cfg0 (adm m 0)

theorem coord1 : ∀ t : Fin grid0.N, ((grid0.coords t) 1).val = t.val := by decide
abbrev st0 (t : Fin (cfgA m).N) : Memref sig .tc .vmem S1x1x2048 .f32 := spec0_0.stage ((cfgA m).slots t 0)
abbrev hst0 (t : Fin (cfgA m).N) : (st0 m t).IsWhole := hstage0_0 (((cfgA m).slots t 0).cast nbuf0_0)

/-- The biases' block at point `t`, read off their array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- How many tiles are done before point `n`. -/
def before (c : Dev nD) (n : Nat) : Nat := if n < 32 then (X0 m c (at32 (ex n))).toNat else 288

/-- What the points hand on, at point `n`. -/
def Φ (c : Dev nD) (n : Nat) : sProp 𝕄 :=
  iprop(ptRes (F := F) c (X0 m c) (X1 m c) (XA m c) (XW m c) (RR m c) n (before m c n) ∗ ∃ r, prngReg c r)

def dats (_ : Fin 1) (c : Dev nD) : Dat τ (Elt F) Unit ℕ (UU nD τ) ℕ (cfgA m) c where
  A w := V m c (Pipeline.arrRef spec0 w)
  after w t := iblk m c w t
  Φ n := Φ m c n.val
  q _ := fullShare
  owed _ := 0

theorem before_w0 (c : Dev nD) (t : Fin (cfgA m).N) (d) : (dats m 0 c).before 0 t d = iblk m c 0 t :=
  ((dats m 0 c).before_in_eq_fetched 0 rfl (fun _ => rfl) (fun _ _ _ => rfl) (fun t => by
    show iblk m c 0 t = _
    unfold Dat.blockOf iblk; rfl) t d).trans (by unfold Dat.fetched Dat.blockOf iblk; rfl)
theorem after_w0 (c : Dev nD) (t : Fin (cfgA m).N) : (dats m 0 c).after 0 t = iblk m c 0 t := rfl

theorem iblk_eq (c : Dev nD) (t : Fin (cfgA m).N) : iblk m c 0 t = biasV (F := F) (XV m c) (t.cast N_0) := by
  refine funext fun (y : S1x1x2048.Idx) => ?_
  unfold iblk biasV
  show V m c main_v0 _ = V m c main_v0 _
  congr 1; funext a; apply Fin.ext
  have h1 := coord1 t
  fin_cases a
  · show cc0_transform_0 (grid0.coords t) 0 * 1 + 1 * (y 0).val = t.val
    have e : cc0_transform_0 (grid0.coords t) 0 = t.val := by
      rw [← h1]; show (BitVec.ofNat 32 ((grid0.coords t) 1).val).toNat = _
      rw [BitVec.toNat_ofNat, Nat.mod_eq_of_lt]; have := i1 (grid0.coords t); omega
    have h : (y 0).val < 1 := (y 0).isLt
    rw [e]; omega
  · show 0 * 1 + 1 * (y 1).val = 0
    have h : (y 1).val < 1 := (y 1).isLt
    omega
  · show cc0_transform_0 (grid0.coords t) 2 * 2048 + 1 * (y 2).val = (y 2).val
    have e : cc0_transform_0 (grid0.coords t) 2 = 0 := by
      show (BitVec.ofNat 32 ((grid0.coords t) 0).val).toNat = 0
      rw [i0]; rfl
    rw [e]; omega

/-! ## The tables' words -/

section Words
variable (c : Dev nD) (x : Buf (Elt F) (tM.view.loc (c : Thread nD τ))) (x' : Buf (Elt F) (nM.view.loc (c : Thread nD τ)))
theorem wordT_eq (n : Fin 32) {off : Fin 1 → Nat} (e : off = ![n.val]) (h) : wordT c x off h = (x : S32.Idx → BitVec 32) (at32 n) := by
  subst e
  show (x : S32.Idx → BitVec 32) _ = (x : S32.Idx → BitVec 32) _
  congr 1; funext a; apply Fin.ext; fin_cases a; rfl
theorem wordN_eq (n : Fin 32) {off : Fin 1 → Nat} (e : off = ![n.val]) (h) : wordN c x' off h = (x' : S32.Idx → BitVec 32) (at32 n) := by
  subst e
  show (x' : S32.Idx → BitVec 32) _ = (x' : S32.Idx → BitVec 32) _
  congr 1; funext a; apply Fin.ext; fin_cases a; rfl
end Words

end Cert.Gmm2Ideal.Moe

end
-- ==== Proof.Moe.Gmm2IdealLaunch.lean ====
/-
  The same over the ideal program's names.
  The second grouped product of the experts: the call's run, from the body's.
-/
module

public import proofs.«01_k».proof.Proof.Moe.Gmm2Launch
public import proofs.«01_k».proof.Proof.Moe.Gmm2IdealData
public import Idealize.ShloMosaic.Lib.Pipeline.FrameBody

@[expose] public section

noncomputable section

namespace Cert.Gmm2Ideal.Moe

open Cert.Gmm2Ideal Cert.Gmm2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The body obligation -/

theorem owed_any (c : Dev nD) (t : Fin ((cfgA m).N + 1)) : (dats m 0 c).owed t = 0 := rfl
theorem Φ_at (c : Dev nD) (t : Fin ((cfgA m).N + 1)) : (dats m 0 c).Φ t = Φ m c t.val := rfl
theorem gen_cast {N : Nat} {α : Sort _} (f : Fin (N + 1) → α) (g : Nat → α) (h : ∀ t, f t = g t.val) (t : Fin N) : f t.castSucc = g t.val := h _
theorem gen_succ {N : Nat} {α : Sort _} (f : Fin (N + 1) → α) (g : Nat → α) (h : ∀ t, f t = g t.val) (t : Fin N) : f t.succ = g (t.val + 1) := h _
theorem Φ_castSucc (c : Dev nD) (t : Fin (cfgA m).N) : (dats m 0 c).Φ t.castSucc = Φ m c t.val := gen_cast _ _ (Φ_at m c) t
theorem Φ_succ (c : Dev nD) (t : Fin (cfgA m).N) : (dats m 0 c).Φ t.succ = Φ m c (t.val + 1) := gen_succ _ _ (Φ_at m c) t

theorem defs_tc : (defs₀ (F := F)) .tc (cfgA m).body
    = fun a => kernelAt (F := F) (grid0.coords a.1) (spec0_0.stage (a.2 0)) (hstage0_0 ((a.2 0).cast nbuf0_0)) := rfl
theorem prog_eq (t : Fin (cfgA m).N) : (defs₀ (F := F)) .tc (cfgA m).body ((cfgA m).bodyArgs t ((cfgA m).slots t)) = kernelAt (F := F) (grid0.coords t) (st0 m t) (hst0 m t) :=
  (congrFun (defs_tc m) _).trans rfl

section Body
variable {m} (hW : ∀ c, Words (X0 m c) (X1 m c)) (c : Dev nD) (t : Fin (cfgA m).N)
include hW

theorem v1_eq : v1At (F := F) c (grid0.coords t) (X0 m c) = X0 m c (at32 (t.cast N_0)) :=
  wordT_eq (F := F) c (X0 m c) (t.cast N_0) ((off1_eq _).trans (by rw [coord1 t]; rfl)) _
theorem v3_eq : v3At (F := F) c (grid0.coords t) (X1 m c) = X1 m c (at32 (t.cast N_0)) :=
  wordN_eq (F := F) c (X1 m c) (t.cast N_0) ((off1_eq _).trans (by rw [coord1 t]; rfl)) _
theorem v28_eq : v28At (F := F) c (X0 m c) = X0 m c (at32 31) := wordT_eq (F := F) c (X0 m c) 31 rfl _
theorem v29_eq : v29At (F := F) c (X1 m c) = X1 m c (at32 31) := wordN_eq (F := F) c (X1 m c) 31 rfl _

theorem ex_eq : ex ((grid0.coords t) 1).val = t.cast N_0 := Fin.ext (by rw [ex_val (i1 _), coord1]; rfl)
theorem before_at : before m c t.val = (v1At (F := F) c (grid0.coords t) (X0 m c)).toNat := by
  have ht : t.val < 32 := (t.cast N_0).isLt
  unfold before
  rw [if_pos ht, v1_eq hW]
  congr 3; exact Fin.ext (ex_val ht)
theorem before_next (h : ((grid0.coords t) 1).val + 1 < 32) :
    before m c (t.val + 1) = (v1At (F := F) c (grid0.coords t) (X0 m c)).toNat + (v3At (F := F) c (grid0.coords t) (X1 m c)).toNat := by
  rw [coord1] at h
  unfold before
  rw [if_pos h, v1_eq hW, v3_eq hW, ← (hW c).next (t.cast N_0) h]
  congr 3; exact Fin.ext (ex_val h)
theorem before_last (h : ((grid0.coords t) 1).val = 31) :
    before m c (t.val + 1) = 288 ∧ v28At (F := F) c (X0 m c) = v1At (F := F) c (grid0.coords t) (X0 m c) ∧ v29At (F := F) c (X1 m c) = v3At (F := F) c (grid0.coords t) (X1 m c) := by
  rw [coord1] at h
  have e : t.cast N_0 = 31 := Fin.ext h
  refine ⟨?_, ?_, ?_⟩
  · unfold before; rw [if_neg (by omega)]
  · rw [v28_eq hW, v1_eq hW, e]
  · rw [v29_eq hW, v3_eq hW, e]
theorem fits_at : Fits (v1At (F := F) c (grid0.coords t) (X0 m c)) (v3At (F := F) c (grid0.coords t) (X1 m c)) := by
  rw [v1_eq hW, v3_eq hW]; exact (hW c).fits _
theorem fits_last : Fits (v28At (F := F) c (X0 m c)) (v29At (F := F) c (X1 m c)) := by
  rw [v28_eq hW, v29_eq hW]; exact (hW c).fits _
theorem zeros_at : Zeros c (RR m c) ((v28At (F := F) c (X0 m c)).toNat + (v29At (F := F) c (X1 m c)).toNat) := by
  intro n ha hn
  rw [v28_eq hW, v29_eq hW] at ha
  unfold RR
  rw [resBuf_read]
  exact tileVal_free c _ _ _ (fun e => by rw [tl_val hn]; exact (hW c).none ha e)
theorem mine_at : Mine c (grid0.coords t) (st0 m t) (XA m c) (XW m c) ((st0 m t).view.rep (biasV (F := F) (XV m c) (t.cast N_0))) (RR m c)
    (v1At (F := F) c (grid0.coords t) (X0 m c)) (v3At (F := F) c (grid0.coords t) (X1 m c)) := by
  have hF := fits_at hW c t
  unfold Fits at hF
  intro k hk
  have hn : (v1At (F := F) c (grid0.coords t) (X0 m c)).toNat + k < 288 := by omega
  unfold RR
  rw [resBuf_read, tileVal_own c _ _ _ (hW c) (e := t.cast N_0) (by
    rw [tl_val hn, v1_eq hW]; rw [v3_eq hW] at hk
    exact ⟨Nat.le_add_right _ _, Nat.add_lt_add_left hk _⟩), ex_eq hW]
  congr 1
  have hr := View.read_rep (st0 m t).view (biasV (F := F) (XV m c) (t.cast N_0))
  funext y
  rw [View.readAt_apply, hr]
  congr 1; funext a; apply Fin.ext
  rw [LoadRect.idx_apply]
  fin_cases a <;> simp

set_option backward.isDefEq.respectTransparency.types false in
theorem body_obligation : BodyObligation (dats (F := F) m 0 c) (defs₀ (F := F)) 𝒱₀ () Set.univ := fun t => by
  rw [bigSep_W0, bigSep_W0]
  dsimp only
  simp only [before_w0, after_w0]
  rw [Φ_castSucc, Φ_succ]
  unfold Dat.owesAt Pipeline.owesWithin
  rw [owed_any, owed_any]
  unfold owns Φ
  have hi := coord1 t
  have hb := body_run c (grid0.coords t) (st0 m t) (hst0 m t) (X0 m c) (X1 m c) (XA m c) (XW m c)
    ((st0 m t).view.rep (biasV (F := F) (XV m c) (t.cast N_0))) (RR m c) (before m c (t.val + 1)) (fits_at hW c t) (fits_last hW c)
    (mine_at hW c t) (before_next hW c t) (before_last hW c t) (zeros_at hW c)
  rw [← before_at hW c t, hi] at hb
  iintro ⟨⟨HP, Hr⟩, ⟨%W, -, HW⟩, ⟨%d0, %g0, %hg0, Hng⟩⟩
  ihave Hng' := (pointsTo_rep_entails (c : Thread nD τ) (st0 m t) g0 fullShare) $$ Hng
  rw [hg0, iblk_eq]
  sl_rw [prog_eq m t]
  iapply (wp_wand_r Idealize.ShloMosaic.frame (wpE (defs₀ (F := F)) 𝒱₀ (c : Thread nD τ) none) Set.univ)
  isplitl [HP Hng' HW]
  · iapply hb
    isplitl [HP]; · iexact HP
    isplitl [Hng']; · iexact Hng'
    iexists W; iexact HW
  · iintro %_ ⟨HP, Hng, ⟨%W', HW⟩⟩
    isplitl [HP Hr]
    · isplitl [HP]; · iexact HP
      iexact Hr
    isplitl [HW]
    · iexists W'; isplitr; · ipureintro; exact fun _ _ => Or.inl trivial
      iexact HW
    iexists ((st0 m t).view.rep (biasV (F := F) (XV m c) (t.cast N_0))); isplitr
    · ipureintro; exact View.read_rep (st0 m t).view (biasV (F := F) (XV m c) (t.cast N_0))
    iexact Hng
end Body

/-! ## The run -/

set_option maxHeartbeats 800000 in
theorem hostOps0_fresh : (hostOps0 (F := F)).Forall fun op => op.fresh = ∅ := by
  simp only [List.Forall]; repeat' constructor

/-- The arguments the body's transfers read, and the result they write. -/
def HH : Finset (Ref sig .tc) := {main_arg2, main_arg3}
def RS : Finset (Ref sig .tc) := {main_v1}
theorem HH_sub : HH ⊆ Pipeline.restRefsP sig pre0 spec0 := by decide
theorem RS_sub : RS ⊆ Pipeline.restRefsP sig pre0 spec0 \ HH := by decide
theorem HH_eq (c : Dev nD) : (bigSep HH (fun b => ((c : Thread nD τ).loc b) ↦{fullShare} V m c b) : sProp 𝕄)
    = iprop(bigSep Finset.univ (homeA c (XA m c)) ∗ bigSep Finset.univ (homeW c (XW m c))) := by
  rw [BI.bigSep_eq_bigSepL_of_eq [main_arg2, main_arg3] (by decide) (by decide), ← a_eq, ← w_eq]; rfl
theorem RS_eq (c : Dev nD) (G : (b : Ref sig .tc) → Buf (Elt F) ((c : Thread nD τ).loc b)) :
    (Pipeline.routed RS c G : sProp 𝕄) = (((c : Thread nD τ).loc main_v1) ↦{fullShare} G main_v1) := by
  unfold Pipeline.routed; rw [BI.bigSep_eq_bigSepL_of_eq [main_v1] (by decide) (by decide)]; rfl
theorem ΦT_eq (c : Dev nD) : (Pipeline.ΦT pre0 (adm m 0).1 c : sProp 𝕄) = iprop(tabT c (X0 m c) ∗ tabN c (X1 m c)) := by
  cases Subsingleton.elim c 0
  unfold Pipeline.ΦT Pipeline.prefHeld
  rw [bigSep_univ_eq_bigSepL [(0 : Fin 2), (1 : Fin 2)] (by decide) (by decide)]; rfl

/-- What the written results hold at the end. -/
def GG (c : Dev nD) (b : Ref sig .tc) : Buf (Elt F) ((c : Thread nD τ).loc b) :=
  if h : b = main_v1 then h ▸ RR m c else V m c b
theorem GG_v1 (c : Dev nD) : GG m c main_v1 = RR m c := by unfold GG; rw [dif_pos rfl]

section Run
variable {m} (hW : ∀ c, Words (X0 m c) (X1 m c)) (c : Dev nD)
include hW

theorem into : iprop(Pipeline.ΦDRG osem0 spec0 HH RS (V m) (V m) c ∗ Pipeline.ΦT pre0 (adm m 0).1 c) ⊢ (Φ m c 0 : sProp 𝕄) := by
  have hb : before m c 0 = 0 := by
    unfold before; rw [if_pos (by omega)]; exact (hW c).zero
  rw [Pipeline.ΦDRG_eq, scopedRest0_eq, ownSems00_eq, HH_eq, RS_eq, ΦT_eq, raw_eq, in_eq, out_eq]
  unfold Φ ptRes
  rw [hb, wSt_free c (XW m c) (n := 0) (by omega), doneP, done_zero, bigSep_empty]
  iintro ⟨⟨⟨⟨HR0, HR1⟩, ⟨%fw, Hws⟩, ⟨HI0, HI1⟩, ⟨HO0, HO1⟩⟩, Hr, ⟨Cr0, Cr1, Ci0, Ci1, Co0, Co1⟩, ⟨HA, HWt⟩, HV⟩, HT, HN⟩
  ihave Hws' := (BIBase.Entails.of_eq (ws_eq c fw)) $$ Hws
  ihave HV' := (o_todo c (V m c main_v1)) $$ HV
  isplitr [Hr]
  · isplitl [HT]; · iexact HT
    isplitl [HN]; · iexact HN
    isplitl [Hws']; · iexists fw; iexact Hws'
    isplitl [HR0 HR1 Cr0 Cr1 HWt]
    · isplitl [HR0 Cr0]; · isplitl [HR0]; · iexact HR0
                           iexact Cr0
      isplitl [HR1 Cr1]; · isplitl [HR1]; · iexact HR1
                           iexact Cr1
      iexact HWt
    isplitl [HI0 Ci0]; · isplitl [HI0]; · iexact HI0
                         iexact Ci0
    isplitl [HI1 Ci1]; · isplitl [HI1]; · iexact HI1
                         iexact Ci1
    isplitl [HA]; · iexact HA
    isplitl [HO0 Co0]; · isplitl [HO0]; · iexact HO0
                         iexact Co0
    isplitl [HO1 Co1]; · isplitl [HO1]; · iexact HO1
                         iexact Co1
    isplitr; · iempintro
    iexact HV'
  · iexact Hr

theorem outOf : (Φ m c 32 : sProp 𝕄) ⊢ Pipeline.ΦDRG osem0 spec0 HH RS (V m) (GG m) c := by
  have hb : before m c 32 = 288 := by unfold before; rw [if_neg (by omega)]
  rw [Pipeline.ΦDRG_eq, scopedRest0_eq, ownSems00_eq, HH_eq, RS_eq, raw_eq, in_eq, out_eq, GG_v1]
  unfold Φ ptRes
  rw [hb, wSt_free c (XW m c) (n := 32) (by omega), doneP, done_all, ← o_eq]
  iintro ⟨⟨HT, HN, ⟨%fw, Hws⟩, ⟨⟨HR0, Cr0⟩, ⟨HR1, Cr1⟩, HWt⟩, ⟨HI0, Ci0⟩, ⟨HI1, Ci1⟩, HA, ⟨HO0, Co0⟩, ⟨HO1, Co1⟩, HV, -⟩, Hr⟩
  iclear HT; iclear HN
  isplitl [HR0 HR1 Hws HI0 HI1 HO0 HO1]
  · isplitl [HR0 HR1]; · isplitl [HR0]; · iexact HR0
                         iexact HR1
    isplitl [Hws]; · iexists fw; iapply (BIBase.Entails.of_eq (ws_eq c fw).symm); iexact Hws
    isplitl [HI0 HI1]; · isplitl [HI0]; · iexact HI0
                         iexact HI1
    isplitl [HO0]; · iexact HO0
    iexact HO1
  isplitl [Hr]; · iexact Hr
  isplitl [Cr0 Cr1 Ci0 Ci1 Co0 Co1]
  · isplitl [Cr0]; · iexact Cr0
    isplitl [Cr1]; · iexact Cr1
    isplitl [Ci0]; · iexact Ci0
    isplitl [Ci1]; · iexact Ci1
    isplitl [Co0]; · iexact Co0
    iexact Co1
  isplitl [HA HWt]
  · isplitl [HA]; · iexact HA
    iexact HWt
  iexact HV
end Run

theorem run_main (hW : ∀ c, Words (X0 m c) (X1 m c)) :
    θ_run defs (onTc (τ := τ) (main (F := F))) ⟨m, fun _ => 0, ρ⟩ (fun r => (∀ c : Dev nD,
      (∀ b ∈ Pipeline.restRefs sig spec0 \ RS, r.2.mem ((c : Thread nD τ).loc b) = V m c b)
        ∧ r.2.mem ((c : Thread nD τ).loc main_v1) = RR m c) ∧ r.2.sem = fun _ => 0) :=
  Pipeline.θ_run_frameP_dmaRG pcfgs (adm m) (dats m) 0 launch0 osem0 defs₀ 𝒱₀ ownSemFacts0 HH RS HH_sub RS_sub m ρ main
    (fun c => (body_obligation hW c).loose) (fun c => (dats m 0 c).share_full fun _ => rfl) (fun _ _ => rfl) (V m)
    (Pipeline.hmainP_prefix pcfgs 0 defs₀ 𝒱₀ m main hostOps0 hostOps0_sub hostOps0_fresh main_chain)
    (fun _ _ => rfl) (fun c k => by cases Subsingleton.elim c 0; rfl) (GG m)
    (fun c => into hW c) (fun c => outOf hW c) _
    (fun r h => ⟨fun c => ⟨(h.1.1 c).2, (h.1.2 c main_v1 (by decide)).trans (GG_v1 m c)⟩, h.2⟩)

end Cert.Gmm2Ideal.Moe

end
-- ==== Proof.Moe.Gmm2Frame.lean ====
/-
  The second grouped product of the experts: both programs leave their arguments as they were.
-/
module

public import proofs.«01_k».proof.Defs
public import proofs.«01_k».proof.Proof.Gen.Pre_tile_tables
public import proofs.«01_k».proof.Proof.Moe.Gmm2IdealLaunch

@[expose] public section

noncomputable section

open Idealize.ShloMosaic Idealize.ShloMosaic.TcCoe Idealize.SL.Sem

namespace Cert.Gmm2.Moe

theorem words (m : (ℓ : Loc nD τ sig) → Buf (Elt Bits) ℓ) (h : Cert.Pre_Gmm2 m) (c : Dev nD) : Words (X0 m c) (X1 m c) := by
  unfold X0 X1; rw [V_arg0, V_arg1]; exact words_of (F := Bits) _ _ _ _ _ (h c)

theorem frame : Cert.quiescent_Gmm2 := fun m ρ hpre =>
  (θ_run defs _ _).mono (fun r h => ⟨fun c =>
      ⟨((h.1 c).1 main_arg0 (by decide)).trans (V_arg0 m c), ((h.1 c).1 main_arg1 (by decide)).trans (V_arg1 m c),
        ((h.1 c).1 main_arg2 (by decide)).trans (V_arg2 m c), ((h.1 c).1 main_arg3 (by decide)).trans (V_arg3 m c),
        ((h.1 c).1 main_arg4 (by decide)).trans (V_arg4 m c)⟩, h.2⟩)
    (run_main (F := Bits) m ρ (words m hpre))

end Cert.Gmm2.Moe

namespace Cert.Gmm2Ideal.Moe

theorem words (m : (ℓ : Loc nD τ sig) → Buf (Elt Ideal) ℓ) (h : Cert.Pre_Gmm2Ideal m) (c : Dev nD) : Words (X0 m c) (X1 m c) := by
  unfold X0 X1; rw [V_arg0, V_arg1]; exact words_of (F := Ideal) _ _ _ _ _ (h c)

theorem run_res (m : (ℓ : Loc nD τ sig) → Buf (Elt Ideal) ℓ) (ρ : Dev nD → PrngReg) (hpre : Cert.Pre_Gmm2Ideal m) :
    θ_run (defs (F := Ideal)) (onTc (τ := τ) (main (F := Ideal))) ⟨m, fun _ => 0, ρ⟩ (fun r => (∀ c : Dev nD,
      r.2.mem ((c : Thread nD τ).loc main_v1) = RR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
      ⟨(h.1 c).2, ((h.1 c).1 main_arg0 (by decide)).trans (V_arg0 m c), ((h.1 c).1 main_arg1 (by decide)).trans (V_arg1 m c),
        ((h.1 c).1 main_arg2 (by decide)).trans (V_arg2 m c), ((h.1 c).1 main_arg3 (by decide)).trans (V_arg3 m c),
        ((h.1 c).1 main_arg4 (by decide)).trans (V_arg4 m c)⟩, h.2⟩)
    (run_main (F := Ideal) m ρ (words m hpre))

theorem frame : Cert.quiescent_Gmm2Ideal := fun m ρ hpre =>
  (θ_run defs _ _).mono (fun r h => ⟨fun c => (h.1 c).2, h.2⟩) (run_res m ρ hpre)

end Cert.Gmm2Ideal.Moe

end
-- ==== Proof.Moe.Gmm2Value.lean ====
/-
  The second grouped product of the experts: over the extended reals its result is the reference's.
-/
module

public import proofs.«01_k».proof.Proof.Moe.Gmm2Frame
public import proofs.«01_k».proof.Proof.Gen.Gmm2RefIdeal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Gmm2Ideal.Moe
open Cert.Gmm2Ideal Cert.Gmm2Ideal.Gen

theorem pay2_apply (v61 : Vec Ideal S1x256x2048 .bf16) (v63 : Vec Ideal S2048x2048 .bf16) (v65 : Vec Ideal S1x1x2048 .f32) (r : Fin 256) (l : Fin 2048) :
    k0_pay2 (F := Ideal) v61 v63 v65 (ix3 (n0 := 1) (n1 := 256) (n2 := 2048) 0 r l)
      = (∑ k : Fin 2048, (v61 (ix3 (n0 := 1) (n1 := 256) (n2 := 2048) 0 r k) : EReal) * v63 (ix2 k l)) + v65 (ix3 (n0 := 1) (n1 := 1) (n2 := 2048) 0 0 l) := by
  pointwise [k0_pay2]
theorem pay4_apply (v : Vec Ideal S1x2048x2048 .f32) (k l : Fin 2048) :
    (k0_pay4 (F := Ideal) v (ix2 k l) : EReal) = v (ix3 (n0 := 1) (n1 := 2048) (n2 := 2048) 0 k l) := by
  pointwise [k0_pay4]
theorem pay1_apply (r : Fin 256) (l : Fin 2048) :
    k0_pay1 (F := Ideal) (ix3 (n0 := 1) (n1 := 256) (n2 := 2048) 0 r l) = (0 : EReal) := by
  pointwise [k0_pay1]

theorem wide (r : Fin 256) (l : Fin 2048) : Shape.reshapeEquiv squeezes_S1x256x2048_S256x2048.numel_eq (ix2 r l : S256x2048.Idx)
    = (ix3 (n0 := 1) (n1 := 256) (n2 := 2048) 0 r l : S1x256x2048.Idx) :=
  Shape.reshapeEquiv_eq_of_vals _ _ _ _ _ (rowMajor_val3 _ 524288 2048 rfl rfl) (rowMajor_val2 _ 2048 rfl) (by
    show 0 * 524288 + r.val * 2048 + l.val = r.val * 2048 + l.val; omega)
theorem wideW (r : Fin 2048) (l : Fin 2048) : Shape.reshapeEquiv squeezes_S1x2048x2048_S2048x2048.numel_eq (ix2 r l : S2048x2048.Idx)
    = (ix3 (n0 := 1) (n1 := 2048) (n2 := 2048) 0 r l : S1x2048x2048.Idx) :=
  Shape.reshapeEquiv_eq_of_vals _ _ _ _ _ (rowMajor_val3 _ 4194304 2048 rfl rfl) (rowMajor_val2 _ 2048 rfl) (by
    show 0 * 4194304 + r.val * 2048 + l.val = r.val * 2048 + l.val; omega)

theorem outVal_apply (A : S256x2048.Idx → Elt Ideal .bf16) (S : Vec Ideal S2048x2048 .bf16) (B : Vec Ideal S1x1x2048 .f32) (r : Fin 256) (l : Fin 2048) :
    (outVal (F := Ideal) A S B (ix2 r l) : EReal)
      = (∑ k : Fin 2048, (A (ix2 r k) : EReal) * S (ix2 k l)) + B (ix3 (n0 := 1) (n1 := 1) (n2 := 2048) 0 0 l) := by
  unfold outVal
  rw [wide, pay2_apply]
  refine congrArg₂ (· + ·) (Finset.sum_congr rfl fun k _ => congrArg₂ (· * ·) (congrArg A ?_) rfl) rfl
  rw [← wide, Equiv.symm_apply_apply]

theorem zeroVal_apply (r : Fin 256) (l : Fin 2048) : (zeroVal (F := Ideal) (ix2 r l) : EReal) = 0 := by
  unfold zeroVal; rw [wide, pay1_apply]

variable (m : (ℓ : Loc nD τ sig) → Buf (Elt Ideal) ℓ)

theorem wUse_apply (c : Dev nD) (X : Buf (Elt Ideal) (wM.view.loc (c : Thread nD τ))) (e : Fin 32) (k l : Fin 2048) :
    (wUse (F := Ideal) c X e (ix2 k l) : EReal) = (X : S32x2048x2048.Idx → EReal) (ix3 (n0 := 32) (n1 := 2048) (n2 := 2048) e k l) := by
  unfold wUse
  rw [pay4_apply, ← wideW, Equiv.symm_apply_apply]
  show (X : S32x2048x2048.Idx → EReal) ((Rect.unit (s := S32x2048x2048) (expOff e) S1x2048x2048.size (expOff_inb e)).emb (Shape.reshapeEquiv squeezes_S1x2048x2048_S2048x2048.numel_eq (ix2 k l : S2048x2048.Idx))) = _
  rw [wideW]
  refine congrArg X ?_
  funext a; apply Fin.ext
  match a with
  | ⟨0, _⟩ => show e.val + 1 * 0 = e.val; omega
  | ⟨1, _⟩ => show 0 + 1 * k.val = k.val; omega
  | ⟨2, _⟩ => show 0 + 1 * l.val = l.val; omega

theorem aVal_apply (c : Dev nD) (X : Buf (Elt Ideal) (aM.view.loc (c : Thread nD τ))) (b : Fin 288) (r : Fin 256) (k : Fin 2048) :
    (aVal (F := Ideal) c X b (ix2 r k) : EReal) = (X : S73728x2048.Idx → EReal) (ix2 (n0 := 73728) (n1 := 2048) ⟨b.val * 256 + r.val, by omega⟩ k) := by
  show (X : S73728x2048.Idx → EReal) ((Rect.unit (s := S73728x2048) (tileOff b) S256x2048.size (tileOff_inb b)).emb (ix2 r k : S256x2048.Idx)) = _
  refine congrArg X ?_
  funext a; apply Fin.ext
  match a with
  | ⟨0, _⟩ => show b.val * 256 + 1 * r.val = b.val * 256 + r.val; omega
  | ⟨1, _⟩ => show 0 + 1 * k.val = k.val; omega

theorem V_bias (c : Dev nD) (e : Fin 32) (l : Fin 2048) : (XV m c (ix3 (n0 := 32) (n1 := 1) (n2 := 2048) e 0 l) : EReal)
    = (m ((c : Thread nD τ).loc main_arg4) : S32x2048.Idx → EReal) (ix2 (n0 := 32) (n1 := 2048) e l) := by
  have h : (V m c main_v0 : S32x1x2048.Idx → EReal) = shapeCast S32x1x2048 (m ((c : Thread nD τ).loc main_arg4) : S32x2048.Idx → EReal) shapeCasts_S32x2048_S32x1x2048 := by
    unfold V; after_results; try rfl
  show (V m c main_v0 : S32x1x2048.Idx → EReal) _ = _
  rw [h]
  pointwise
end Cert.Gmm2Ideal.Moe

namespace Cert.Gmm2RefIdeal.Moe
open Cert.Gmm2RefIdeal Cert.Gmm2RefIdeal.Gen
/-- Row `r` is among the rows of an expert whose tiles are the `n` ones from `t` on. -/
def mine (t n : BitVec 32) (r : Nat) : BitVec 1 :=
  IntOp.andi (IntOp.cmpi .sle (IntOp.muli t 256#32) (BitVec.ofNat 32 r)) (IntOp.cmpi .slt (BitVec.ofNat 32 r) (IntOp.muli (IntOp.addi t n) 256#32))

/-- The grouped product at a row and a column. -/
def G (x0 x1 : S32.Idx → BitVec 32) (a : Vec Ideal S73728x2048 .bf16) (w : Vec Ideal S32x2048x2048 .f32) (b : Vec Ideal S32x2048 .f32) (r : Fin 73728) (l : Fin 2048) : EReal :=
  ∑ e : Fin 32, if mine (x0 (ix1 (n0 := 32) e)) (x1 (ix1 (n0 := 32) e)) r.val = 1#1 then
    (∑ f : Fin 2048, (a (ix2 (n0 := 73728) (n1 := 2048) r f) : EReal) * w (ix3 (n0 := 32) (n1 := 2048) (n2 := 2048) e f l)) + b (ix2 (n0 := 32) (n1 := 2048) e l) else 0

theorem ref_eq (x0 x1 : S32.Idx → BitVec 32) (a : Vec Ideal S73728x2048 .bf16) (w : Vec Ideal S32x2048x2048 .f32) (b : Vec Ideal S32x2048 .f32) (r : Fin 73728) (l : Fin 2048) :
   (Host.reduceAdd (F := Ideal) (φ := .f32) (select (broadcastInDim S73728x32x2048 ![0, 1, 2] bcast_S73728x32x1_S73728x32x2048_0_1_2 (broadcastInDim S73728x32x1 ![0, 1] bcast_S73728x32_S73728x32x1_0_1 (andi (cmpi .sle (broadcastInDim S73728x32 ![0, 1] bcast_S1x32_S73728x32_0_1 (muli (broadcastInDim S1x32 ![1] bcast_S32_S1x32_1 x0) (broadcastInDim S1x32 ![] bcast_S_S1x32 (constantI S_ 32 256#32)))) (broadcastInDim S73728x32 ![0, 1] bcast_S73728x1_S73728x32_0_1 (broadcastInDim S73728x1 ![0] bcast_S73728_S73728x1_0 (iotaInDim S73728 32 0)))) (cmpi .slt (broadcastInDim S73728x32 ![0, 1] bcast_S73728x1_S73728x32_0_1 (broadcastInDim S73728x1 ![0] bcast_S73728_S73728x1_0 (iotaInDim S73728 32 0))) (broadcastInDim S73728x32 ![0, 1] bcast_S1x32_S73728x32_0_1 (muli (broadcastInDim S1x32 ![1] bcast_S32_S1x32_1 (addi x0 x1)) (broadcastInDim S1x32 ![] bcast_S_S1x32 (constantI S_ 32 256#32)))))))) (addf (Host.dotGeneral (F := Ideal) (φ₁ := .f32) (φ₂ := .f32) dot_S73728x2048_S32x2048x2048_S73728x32x2048_1_1_0_02_n_n none (extf .f32 a bitsLt_bf16_f32) w) (broadcastInDim S73728x32x2048 ![0, 1, 2] bcast_S1x32x2048_S73728x32x2048_0_1_2 (broadcastInDim S1x32x2048 ![1, 2] bcast_S32x2048_S1x32x2048_1_2 b))) (broadcastInDim S73728x32x2048 ![] bcast_S_S73728x32x2048 (id (constant S_ .f32 0x00000000#32)))) (constant S_ .f32 0x00000000#32) reducesTo_S73728x32x2048_S73728x2048_d1 h_S_) (ix2 r l)
    = G x0 x1 a w b r l := by
  have z : ((constant (F := Ideal) S_ .f32 0x00000000#32) ix0 : EReal) = 0 := by pointwise
  pointwise [G, mine]
  refine Finset.sum_congr rfl fun e _ => ?_
  unfold Scalar.select
  split <;> rename_i h
  · exact (if_pos h).symm
  · exact z.trans (if_neg h).symm

/-- The test in numbers. -/
theorem mine_iff {t n : BitVec 32} (h : t.toNat + n.toNat ≤ 288) (r : Nat) (hr : r < 73728) :
    mine t n r = 1#1 ↔ t.toNat ≤ r / 256 ∧ r / 256 < t.toNat + n.toNat := by
  have hand : ∀ (p q : Bool), IntOp.andi (BitVec.ofBool p) (BitVec.ofBool q) = BitVec.ofBool (p && q) := by
    intro p q; cases p <;> cases q <;> decide
  have hone : ∀ p : Bool, (BitVec.ofBool p = 1#1) ↔ p = true := fun p => by cases p <;> decide
  have e1 : (IntOp.muli t 256#32).toNat = t.toNat * 256 := by
    show (t * 256#32).toNat = _
    rw [BitVec.toNat_mul]; show t.toNat * 256 % 2 ^ 32 = _; omega
  have ea : (IntOp.addi t n).toNat = t.toNat + n.toNat := by
    show (t + n).toNat = _
    rw [BitVec.toNat_add]; omega
  have e2 : (IntOp.muli (IntOp.addi t n) 256#32).toNat = (t.toNat + n.toNat) * 256 := by
    show (IntOp.addi t n * 256#32).toNat = _
    rw [BitVec.toNat_mul, ea]; show (t.toNat + n.toNat) * 256 % 2 ^ 32 = _; omega
  have e3 : (BitVec.ofNat 32 r).toNat = r := by rw [BitVec.toNat_ofNat]; omega
  have i1 : (IntOp.muli t 256#32).toInt = ((t.toNat * 256 : Nat) : Int) := by
    rw [BitVec.toInt_eq_toNat_cond, e1, if_pos (by omega)]
  have i2 : (IntOp.muli (IntOp.addi t n) 256#32).toInt = (((t.toNat + n.toNat) * 256 : Nat) : Int) := by
    rw [BitVec.toInt_eq_toNat_cond, e2, if_pos (by omega)]
  have i3 : (BitVec.ofNat 32 r).toInt = (r : Int) := by
    rw [BitVec.toInt_eq_toNat_cond, e3, if_pos (by omega)]
  unfold mine
  simp only [IntOp.cmpi, hand, hone, Bool.and_eq_true, BitVec.sle_eq_decide, BitVec.slt_eq_decide, decide_eq_true_eq]
  rw [i1, i2, i3]
  omega

end Cert.Gmm2RefIdeal.Moe

namespace Cert.Gmm2Ideal.Moe
open Cert.Gmm2Ideal Cert.Gmm2Ideal.Gen

theorem at32_ix (e : Fin 32) : at32 e = (ix1 (n0 := 32) e : S32.Idx) := by
  funext a; match a with | ⟨0, _⟩ => rfl

/-- The kernel's result at a row and a column. -/
theorem RR_apply (m : (ℓ : Loc nD τ sig) → Buf (Elt Ideal) ℓ) (c : Dev nD) (H : Words (X0 m c) (X1 m c)) (r : Fin 73728) (l : Fin 2048) :
    (RR m c : S73728x2048.Idx → EReal) (ix2 (n0 := 73728) (n1 := 2048) r l)
      = Cert.Gmm2RefIdeal.Moe.G (m ((c : Thread nD τ).loc main_arg0)) (m ((c : Thread nD τ).loc main_arg1)) (m ((c : Thread nD τ).loc main_arg2))
          (m ((c : Thread nD τ).loc main_arg3)) (m ((c : Thread nD τ).loc main_arg4)) r l := by
  have hm : ∀ e : Fin 32, Cert.Gmm2RefIdeal.Moe.mine (X0 m c (ix1 (n0 := 32) e)) (X1 m c (ix1 (n0 := 32) e)) r.val = 1#1 ↔ Owns (X0 m c) (X1 m c) e (r.val / 256) := fun e => by
    have hf : (X0 m c (at32 e)).toNat + (X1 m c (at32 e)).toNat ≤ 288 := H.fits e
    rw [at32_ix] at hf
    unfold Owns; rw [at32_ix]
    exact Cert.Gmm2RefIdeal.Moe.mine_iff hf r.val r.isLt
  have hb : r.val / 256 < 288 := by have := r.isLt; omega
  have hlt : r.val % 256 < 256 := Nat.mod_lt _ (by decide)
  have hpos : posOf (ix2 (n0 := 73728) (n1 := 2048) r l) = (ix2 (n0 := 256) (n1 := 2048) ⟨r.val % 256, hlt⟩ l : S256x2048.Idx) := by
    funext a; match a with | ⟨0, _⟩ => rfl | ⟨1, _⟩ => rfl
  show tileVal c (X0 m c) (X1 m c) (XA m c) (XW m c) (XV m c) ⟨r.val / 256, hb⟩ (posOf (ix2 (n0 := 73728) (n1 := 2048) r l)) = _
  rw [hpos, ← V_arg0 m c, ← V_arg1 m c]
  unfold Cert.Gmm2RefIdeal.Moe.G
  by_cases ho : ∃ e, Owns (X0 m c) (X1 m c) e (r.val / 256)
  · obtain ⟨e, he⟩ := ho
    rw [tileVal_own (F := Ideal) c _ _ _ H (b := ⟨r.val / 256, hb⟩) he]
    refine (outVal_apply _ _ _ _ _).trans ?_
    rw [Finset.sum_eq_single e (fun e' _ hne => if_neg fun h => hne (H.unique ((hm e').mp h) he)) (fun h => absurd (Finset.mem_univ _) h),
      if_pos ((hm e).mpr he)]
    refine congrArg₂ (· + ·) (Finset.sum_congr rfl fun k _ => congrArg₂ (· * ·) ?_ ?_) ?_
    · refine (aVal_apply c _ _ _ k).trans ?_
      rw [← V_arg2 m c]
      refine congrArg (XA m c) ?_
      funext a; apply Fin.ext
      match a with
      | ⟨0, _⟩ => show r.val / 256 * 256 + r.val % 256 = r.val; omega
      | ⟨1, _⟩ => rfl
    · rw [← V_arg3 m c]; exact wUse_apply c _ e k l
    · refine Eq.trans ?_ (V_bias m c e l)
      refine congrArg (XV m c) ?_
      funext a; match a with | ⟨0, _⟩ => rfl | ⟨1, _⟩ => rfl | ⟨2, _⟩ => rfl
  · rw [tileVal_free (F := Ideal) c _ _ _ (b := ⟨r.val / 256, hb⟩) (fun e he => ho ⟨e, he⟩)]
    refine (zeroVal_apply _ _).trans ?_
    exact (Finset.sum_eq_zero fun e _ => if_neg fun h => ho ⟨e, (hm e).mp h⟩).symm

theorem frame_ref : Cert.quiescent_Gmm2RefIdeal := fun m ρ _ =>
  (θ_run Cert.Gmm2RefIdeal.defs _ _).mono (fun r h => ⟨fun c => (h c).2,
      Idealize.ShloMosaic.sem_eq_zero_of_no_sems (by decide) r.2⟩)
    (Cert.Gmm2RefIdeal.Value.run (F := Ideal) m ρ)

/-- Kernel and reference of the second grouped product compute the same function over the extended reals. -/
theorem algebraic : Cert.algebraic_Gmm2Ideal_Gmm2RefIdeal := by
  intro m ρ m' ρ' hpre hag
  refine ⟨fun c => RR m c, ?_, ?_⟩
  · exact (θ_run Cert.Gmm2Ideal.defs _ _).mono (fun _ h c => h.1 c) (run_res m ρ hpre)
  · refine (θ_run Cert.Gmm2RefIdeal.defs _ _).mono (fun _ h c => ⟨(h c).1.trans ?_, (h c).2⟩)
      (Cert.Gmm2RefIdeal.Value.run (F := Ideal) m' ρ')
    obtain ⟨h0, h1, h2, h3, h4⟩ := hag c
    rw [h0, h1, h2, h3, h4]
    funext y
    obtain ⟨r, l, rfl⟩ : ∃ (r : Fin 73728) (l : Fin 2048), y = ix2 r l :=
      ⟨y 0, y 1, by funext a; match a with | ⟨0, _⟩ => rfl | ⟨1, _⟩ => rfl⟩
    exact (Cert.Gmm2RefIdeal.Moe.ref_eq _ _ _ _ _ r l).trans (RR_apply m c (words m hpre c) r l).symm

end Cert.Gmm2Ideal.Moe

end
-- ==== Proof.Moe.Gmm1Names.lean ====
/-
  The first grouped product of the experts: names for the parts of its buffers.

  A tile is 256 rows of the packed rows; the kernel moves a tile of activations in, a tile of one half of the columns of
  the results out, and a quarter of one expert's matrix in twice over (the gate's columns and the values' columns), each
  into one of two slots. Here those parts get names that do not depend on how the kernel computes their offsets, and the
  offsets it computes are shown to be those of the named parts.
-/
module

public import proofs.«01_k».proof.Defs
public import proofs.«01_k».proof.Proof.Moe.Gmm2Names
public import proofs.«01_k».proof.Proof.Gen.Gmm1
public import proofs.«01_k».proof.Proof.Gen.Gmm1.Launch
public import proofs.«01_k».proof.Proof.Gen.Gmm1.Skeleton
public import Idealize.ShloMosaic.Lib.Exec
public import Idealize.ShloMosaic.Lib.Tactic
public import Idealize.ShloMosaic.Lib.Pipeline.Kit
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  par_iv npar_iv at_word next_word back_word end_word par_last)
open Idealize.ShloMosaic
open Idealize.ShloMosaic.TcCoe Idealize.ShloMosaic.Tactic
open Idealize.SL Idealize.SL.RA Idealize.SL.BI
open Idealize.SL.Sem

variable {F : FTy → Type} [FloatOps F]

/-! ## The whole buffers and their parts -/

abbrev tM : Memref sig .tc .smem S32 .i32 := Memref.whole main_arg0
abbrev nM : Memref sig .tc .smem S32 .i32 := Memref.whole main_arg1
abbrev wM : Memref sig .tc .hbm S32x2048x4096 .f32 := Memref.whole main_arg3
abbrev aM : Memref sig .tc .hbm S73728x2048 .f32 := Memref.whole main_arg2
abbrev oM : Memref sig .tc .hbm S73728x2048 .bf16 := Memref.whole main_v1
abbrev rawM : Memref sig .tc .vmem S2x2x2048x1024 .f32 := Memref.whole cc0_scratch0
abbrev waM : Memref sig .tc .vmem S2048x1024 .bf16 := Memref.whole cc0_scratch2
abbrev wbM : Memref sig .tc .vmem S2048x1024 .bf16 := Memref.whole cc0_scratch3
abbrev inM : Memref sig .tc .vmem S2x256x2048 .f32 := Memref.whole cc0_scratch4
abbrev outM : Memref sig .tc .vmem S2x256x1024 .bf16 := Memref.whole cc0_scratch5

abbrev tileOff (b : Fin 288) : Fin 2 → Nat := ![b.val * 256, 0]
theorem tileOff_inb (b : Fin 288) : ∀ a, tileOff b a + S256x2048.size a ≤ S73728x2048.size a := by
  have := b.isLt; intro a; fin_cases a
  · show b.val * 256 + 256 ≤ 73728; omega
  · show 0 + 2048 ≤ 2048; omega
/-- Result tile `g`: those of the first half of the columns first. -/
abbrev outOff (g : Fin 576) : Fin 2 → Nat := ![g.val % 288 * 256, g.val / 288 * 1024]
theorem outOff_inb (g : Fin 576) : ∀ a, outOff g a + S256x1024.size a ≤ S73728x2048.size a := by
  have := g.isLt; intro a; fin_cases a
  · show g.val % 288 * 256 + 256 ≤ 73728; omega
  · show g.val / 288 * 1024 + 1024 ≤ 2048; omega
abbrev slotOff (s : Fin 2) : Fin 3 → Nat := ![s.val, 0, 0]
theorem slotOff_inb (s : Fin 2) : ∀ a, slotOff s a + S1x256x2048.size a ≤ S2x256x2048.size a := by
  have := s.isLt; intro a; fin_cases a
  · show s.val + 1 ≤ 2; omega
  · show 0 + 256 ≤ 256; omega
  · show 0 + 2048 ≤ 2048; omega
theorem outSlotOff_inb (s : Fin 2) : ∀ a, slotOff s a + S1x256x1024.size a ≤ S2x256x1024.size a := by
  have := s.isLt; intro a; fin_cases a
  · show s.val + 1 ≤ 2; omega
  · show 0 + 256 ≤ 256; omega
  · show 0 + 1024 ≤ 1024; omega
abbrev rawOff (s h : Fin 2) : Fin 4 → Nat := ![s.val, h.val, 0, 0]
theorem rawOff_inb (s h : Fin 2) : ∀ a, rawOff s h a + S1x1x2048x1024.size a ≤ S2x2x2048x1024.size a := by
  have := s.isLt; have := h.isLt; intro a; fin_cases a
  · show s.val + 1 ≤ 2; omega
  · show h.val + 1 ≤ 2; omega
  · show 0 + 2048 ≤ 2048; omega
  · show 0 + 1024 ≤ 1024; omega
/-- The quarter of the matrices that half `h` of step `k` uses. -/
abbrev blkOff (h : Fin 2) (k : Fin 64) : Fin 3 → Nat := ![k.val % 32, 0, (h.val * 2 + k.val / 32) * 1024]
theorem blkOff_inb (h : Fin 2) (k : Fin 64) : ∀ a, blkOff h k a + S1x2048x1024.size a ≤ S32x2048x4096.size a := by
  have := h.isLt; have := k.isLt; intro a; fin_cases a
  · show k.val % 32 + 1 ≤ 32; omega
  · show 0 + 2048 ≤ 2048; omega
  · show (h.val * 2 + k.val / 32) * 1024 + 1024 ≤ 4096; omega
abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev sem2Off (s h : Fin 2) : Fin 2 → Nat := ![s.val, h.val]
theorem sem2Off_inb (s h : Fin 2) : ∀ a, sem2Off s h a + S1x1.size a ≤ S2x2.size a := by
  have := s.isLt; have := h.isLt; intro a; fin_cases a
  · show s.val + 1 ≤ 2; omega
  · show h.val + 1 ≤ 2; omega

/-- Tile `b` of the activations; tile `g` of the results. -/
def aTile (b : Fin 288) : Memref sig .tc .hbm S256x2048 .f32 :=
  aM.slice (Rect.unit (s := S73728x2048) (tileOff b) S256x2048.size (tileOff_inb b)) (fun _ => rfl)
def oTile (g : Fin 576) : Memref sig .tc .hbm S256x1024 .bf16 :=
  oM.slice (Rect.unit (s := S73728x2048) (outOff g) S256x1024.size (outOff_inb g)) (fun _ => rfl)
/-- Half `h` of step `k`'s quarters of a matrix. -/
def wBlk (h : Fin 2) (k : Fin 64) : Memref sig .tc .hbm S2048x1024 .f32 :=
  (wM.slice (Rect.unit (s := S32x2048x4096) (blkOff h k) S1x2048x1024.size (blkOff_inb h k)) (fun _ => rfl)).squeeze S2048x1024 squeezes_S1x2048x1024_S2048x1024
/-- Slot `s` of the matrix buffer's half `h`, of the tiles in, of the tiles out. -/
def rawSlot (s h : Fin 2) : Memref sig .tc .vmem S2048x1024 .f32 :=
  (rawM.slice (Rect.unit (s := S2x2x2048x1024) (rawOff s h) S1x1x2048x1024.size (rawOff_inb s h)) (fun _ => rfl)).squeeze S2048x1024 squeezes_S1x1x2048x1024_S2048x1024
def inSlot (s : Fin 2) : Memref sig .tc .vmem S256x2048 .f32 :=
  (inM.slice (Rect.unit (s := S2x256x2048) (slotOff s) S1x256x2048.size (slotOff_inb s)) (fun _ => rfl)).squeeze S256x2048 squeezes_S1x256x2048_S256x2048
def outSlot (s : Fin 2) : Memref sig .tc .vmem S256x1024 .bf16 :=
  (outM.slice (Rect.unit (s := S2x256x1024) (slotOff s) S1x256x1024.size (outSlotOff_inb s)) (fun _ => rfl)).squeeze S256x1024 squeezes_S1x256x1024_S256x1024
/-- Their semaphores. -/
def rawSem (s h : Fin 2) : DmaSems sig S_ := (cc0_scratch1.slice (Rect.unit (s := S2x2) (sem2Off s h) S1x1.size (sem2Off_inb s h))).squeeze S_ squeezes_S1x1_S_
def inSem (s : Fin 2) : DmaSems sig S_ := (cc0_scratch6.slice (Rect.unit (s := S2) (semOff s) S1.size (semOff_inb s))).squeeze S_ squeezes_S1_S_
def outSem (s : Fin 2) : DmaSems sig S_ := (cc0_scratch7.slice (Rect.unit (s := S2) (semOff s) S1.size (semOff_inb s))).squeeze S_ squeezes_S1_S_

instance (s : Fin 2) : ClosedOff (slotOff s) := ⟨slotOff s, rfl⟩
instance (b : Fin 288) : ClosedOff (tileOff b) := ⟨tileOff b, rfl⟩
instance (g : Fin 576) : ClosedOff (outOff g) := ⟨outOff g, rfl⟩
instance (s h : Fin 2) : ClosedOff (rawOff s h) := ⟨rawOff s h, rfl⟩
instance (h : Fin 2) (k : Fin 64) : ClosedOff (blkOff h k) := ⟨blkOff h k, rfl⟩

/-! ## The loops' trips -/
theorem t1_loop (v3 : BitVec 32) : k0_t1_loop v3 = ⟨0#32, v3, 1#32⟩ := by
  show (⟨0#32, Scalar.addi 0#32 (Scalar.muli (Scalar.divsi (Scalar.subi v3 0#32) 1#32) 1#32), 1#32⟩ : Scf.Loop 32) = _
  rw [sub_zero_word, div_one, mul_one_word, zero_add_word]
theorem t2_loop (v3 : BitVec 32) : k0_t2_loop v3 = ⟨v3, v3, 1#32⟩ := by
  show (⟨Scalar.addi 0#32 (Scalar.muli (Scalar.divsi (Scalar.subi v3 0#32) 1#32) 1#32), Scalar.addi 0#32 (Scalar.subi v3 0#32), 1#32⟩ : Scf.Loop 32) = _
  rw [sub_zero_word, div_one, mul_one_word, zero_add_word]
theorem trips1 {v3 : BitVec 32} (h : v3.toNat ≤ 288) : (k0_t1_loop v3).trips = v3.toNat := by
  rw [t1_loop]; rw [trips_one _ _ (by simp) (by omega)]; simp
theorem trips2 {v3 : BitVec 32} (h : v3.toNat ≤ 288) : (k0_t2_loop v3).trips = 0 := by
  rw [t2_loop]; rw [trips_one _ _ (by omega) (by omega)]; omega
theorem ok1 {v3 : BitVec 32} (h : v3.toNat ≤ 288) : (k0_t1_loop v3).OK := by
  rw [t1_loop]; exact ok_one _ _ (by simp) (by omega) (by simp)
theorem ok2 {v3 : BitVec 32} (h : v3.toNat ≤ 288) : (k0_t2_loop v3).OK := by
  rw [t2_loop]; exact ok_one _ _ (by omega) (by omega) (by omega)

section Fill
variable {v28 v29 : BitVec 32} (hF : Fits v28 v29)
include hF
theorem t3_loop : k0_t3_loop v28 v29 = ⟨Scalar.addi v28 v29, Scalar.addi (Scalar.addi v28 v29) (Scalar.subi 288#32 (Scalar.addi v28 v29)), 1#32⟩ := by
  show (⟨Scalar.addi v28 v29, Scalar.addi (Scalar.addi v28 v29) (Scalar.muli (Scalar.divsi (Scalar.subi 288#32 (Scalar.addi v28 v29)) 1#32) 1#32), 1#32⟩ : Scf.Loop 32) = _
  rw [div_one, mul_one_word]
theorem t4_loop : k0_t4_loop v28 v29 = ⟨Scalar.addi (Scalar.addi v28 v29) (Scalar.subi 288#32 (Scalar.addi v28 v29)), Scalar.addi (Scalar.addi v28 v29) (Scalar.subi 288#32 (Scalar.addi v28 v29)), 1#32⟩ := by
  show (⟨Scalar.addi (Scalar.addi v28 v29) (Scalar.muli (Scalar.divsi (Scalar.subi 288#32 (Scalar.addi v28 v29)) 1#32) 1#32), Scalar.addi (Scalar.addi v28 v29) (Scalar.subi 288#32 (Scalar.addi v28 v29)), 1#32⟩ : Scf.Loop 32) = _
  rw [div_one, mul_one_word]
theorem trips3 : (k0_t3_loop v28 v29).trips = 288 - (v28.toNat + v29.toNat) := by
  have hl := fill_lb hF; have hu := fill_ub hF; rw [t3_loop hF]; unfold Fits at hF
  rw [trips_one _ _ (by omega) (by omega), hl, hu]
theorem trips4 : (k0_t4_loop v28 v29).trips = 0 := by
  have hu := fill_ub hF; rw [t4_loop hF]
  rw [trips_one _ _ (by omega) (by omega)]; omega
theorem ok3 : (k0_t3_loop v28 v29).OK := by
  have hl := fill_lb hF; have hu := fill_ub hF; rw [t3_loop hF]; unfold Fits at hF; exact ok_one _ _ (by omega) (by omega) (by omega)
theorem ok4 : (k0_t4_loop v28 v29).OK := by
  have hu := fill_ub hF; rw [t4_loop hF]; exact ok_one _ _ (by omega) (by omega) (by omega)
end Fill

/-! ## The offsets -/

/-- Result tile number `n`, of the 576; step number `n`, of the 64. -/
def rt (n : Nat) : Fin 576 := ⟨n % 576, Nat.mod_lt _ (by decide)⟩
theorem rt_val {n : Nat} (h : n < 576) : (rt n).val = n := Nat.mod_eq_of_lt h
def st (n : Nat) : Fin 64 := ⟨n % 64, Nat.mod_lt _ (by decide)⟩
theorem st_val {n : Nat} (h : n < 64) : (st n).val = n := Nat.mod_eq_of_lt h

theorem i0 (i : grid0.Coords) : (i 0).val < 2 := (i 0).isLt
theorem i1 (i : grid0.Coords) : (i 1).val < 32 := (i 1).isLt
/-- The step of a point, and the first result tile of its half of the columns. -/
def pn (i : grid0.Coords) : Nat := (i 0).val * 32 + (i 1).val
def ib (i : grid0.Coords) : Nat := (i 0).val * 288
theorem pn_lt (i : grid0.Coords) : pn i < 64 := by have := i0 i; have := i1 i; unfold pn; omega
theorem pn_mod (i : grid0.Coords) : pn i % 32 = (i 1).val := by have := i1 i; unfold pn; omega
theorem pn_div (i : grid0.Coords) : pn i / 32 = (i 0).val := by have := i1 i; unfold pn; omega
theorem ib_eq (i : grid0.Coords) : ib i = pn i / 32 * 288 := by rw [pn_div]; rfl
theorem ib_le (i : grid0.Coords) : ib i + 288 ≤ 576 := by have := i0 i; unfold ib; omega

theorem out_off (i : grid0.Coords) (v : BitVec 32) (n : Nat) (hv : v.toNat = n) (hn : n < 288) :
    (![(Scalar.muli v 256#32).toNat, (Scalar.muli (BitVec.ofNat 32 (i 0).val) 1024#32).toNat] : Fin 2 → Nat) = outOff (rt (ib i + n)) := by
  have h0 := i0 i
  have hc : (Scalar.muli (BitVec.ofNat 32 (i 0).val) 1024#32).toNat = (i 0).val * 1024 := by
    simp only [Scalar.muli, IntOp.muli, BitVec.toNat_mul, BitVec.toNat_ofNat]; omega
  have hr : (rt (ib i + n)).val = (i 0).val * 288 + n := rt_val (by have := ib_le i; omega)
  have h1 : (rt (ib i + n)).val % 288 = n := by rw [hr]; omega
  have h2 : (rt (ib i + n)).val / 288 = (i 0).val := by rw [hr]; omega
  show _ = ![(rt (ib i + n)).val % 288 * 256, (rt (ib i + n)).val / 288 * 1024]
  rw [h1, h2, hc, mul_256 _ (by omega), hv]

theorem off1_eq (i : grid0.Coords) : k0_off1 i = ![(i 1).val] := by
  have h := i1 i
  show ![(BitVec.ofNat 32 (i 1).val).toNat] = _
  rw [BitVec.toNat_ofNat, Nat.mod_eq_of_lt (by omega)]

section Points
variable (i : grid0.Coords)
theorem off3_eq : k0_off3 i = sem2Off (sl (pn i + 1)) 0 := by
  have h0 := i0 i; have h1 := i1 i; unfold pn k0_off3
  generalize (i 0).val = m at *; generalize (i 1).val = n at *
  interval_cases m <;> interval_cases n <;> rfl
theorem off4_eq : k0_off4 i = rawOff (sl (pn i + 1)) 0 := by
  have h0 := i0 i; have h1 := i1 i; unfold pn k0_off4
  generalize (i 0).val = m at *; generalize (i 1).val = n at *
  interval_cases m <;> interval_cases n <;> rfl
theorem off6_eq : k0_off6 i = sem2Off (sl (pn i + 1)) 1 := by
  have h0 := i0 i; have h1 := i1 i; unfold pn k0_off6
  generalize (i 0).val = m at *; generalize (i 1).val = n at *
  interval_cases m <;> interval_cases n <;> rfl
theorem off7_eq : k0_off7 i = rawOff (sl (pn i + 1)) 1 := by
  have h0 := i0 i; have h1 := i1 i; unfold pn k0_off7
  generalize (i 0).val = m at *; generalize (i 1).val = n at *
  interval_cases m <;> interval_cases n <;> rfl
theorem off5a_eq (hn : pn i + 1 < 64) : k0_off5 i 0#32 = blkOff 0 (st (pn i + 1)) := by
  have h0 := i0 i; have h1 := i1 i; unfold pn at *; unfold k0_off5
  generalize (i 0).val = m at *; generalize (i 1).val = n at *
  interval_cases m <;> interval_cases n <;> first | rfl | (exfalso; omega)
theorem off5b_eq (hn : pn i + 1 < 64) : k0_off5 i 2#32 = blkOff 1 (st (pn i + 1)) := by
  have h0 := i0 i; have h1 := i1 i; unfold pn at *; unfold k0_off5
  generalize (i 0).val = m at *; generalize (i 1).val = n at *
  interval_cases m <;> interval_cases n <;> first | rfl | (exfalso; omega)
theorem off8_eq : k0_off8 i = sem2Off (sl (pn i)) 0 := by
  have h0 := i0 i; have h1 := i1 i; unfold pn k0_off8
  generalize (i 0).val = m at *; generalize (i 1).val = n at *
  interval_cases m <;> interval_cases n <;> rfl
theorem off9_eq : k0_off9 i = rawOff (sl (pn i)) 0 := by
  have h0 := i0 i; have h1 := i1 i; unfold pn k0_off9
  generalize (i 0).val = m at *; generalize (i 1).val = n at *
  interval_cases m <;> interval_cases n <;> rfl
theorem off11_eq : k0_off11 i = sem2Off (sl (pn i)) 1 := by
  have h0 := i0 i; have h1 := i1 i; unfold pn k0_off11
  generalize (i 0).val = m at *; generalize (i 1).val = n at *
  interval_cases m <;> interval_cases n <;> rfl
theorem off12_eq : k0_off12 i = rawOff (sl (pn i)) 1 := by
  have h0 := i0 i; have h1 := i1 i; unfold pn k0_off12
  generalize (i 0).val = m at *; generalize (i 1).val = n at *
  interval_cases m <;> interval_cases n <;> rfl
theorem off13_eq : k0_off13 i = rawOff (sl (pn i)) 0 := by
  have h0 := i0 i; have h1 := i1 i; unfold pn k0_off13
  generalize (i 0).val = m at *; generalize (i 1).val = n at *
  interval_cases m <;> interval_cases n <;> rfl
theorem off14_eq : k0_off14 i = rawOff (sl (pn i)) 1 := by
  have h0 := i0 i; have h1 := i1 i; unfold pn k0_off14
  generalize (i 0).val = m at *; generalize (i 1).val = n at *
  interval_cases m <;> interval_cases n <;> rfl
theorem off10a_eq : k0_off10 i 0#32 = blkOff 0 (st (pn i)) := by
  have h0 := i0 i; have h1 := i1 i; unfold pn k0_off10
  generalize (i 0).val = m at *; generalize (i 1).val = n at *
  interval_cases m <;> interval_cases n <;> rfl
theorem off10b_eq : k0_off10 i 2#32 = blkOff 1 (st (pn i)) := by
  have h0 := i0 i; have h1 := i1 i; unfold pn k0_off10
  generalize (i 0).val = m at *; generalize (i 1).val = n at *
  interval_cases m <;> interval_cases n <;> rfl
theorem cond2_iff : k0_cond2 i = 1#1 ↔ pn i = 0 := by
  have h0 := i0 i; have h1 := i1 i; unfold pn k0_cond2
  generalize (i 0).val = m at *; generalize (i 1).val = n at *
  interval_cases m <;> interval_cases n <;> decide
theorem cond3_iff : k0_cond3 i = 1#1 ↔ pn i + 1 < 64 := by
  have h0 := i0 i; have h1 := i1 i; unfold pn k0_cond3
  generalize (i 0).val = m at *; generalize (i 1).val = n at *
  interval_cases m <;> interval_cases n <;> decide
theorem cond11_iff : k0_cond11 i = 1#1 ↔ (i 1).val = 31 := by
  have h0 := i0 i; have h1 := i1 i; unfold k0_cond11
  generalize (i 0).val = m at *; generalize (i 1).val = n at *
  interval_cases m <;> interval_cases n <;> decide
end Points

section Words
variable (i : grid0.Coords) {v1 v3 : BitVec 32}

theorem cond1_iff (h : v3.toNat ≤ 288) : k0_cond1 v3 = 1#1 ↔ 0 < v3.toNat := by
  show Scalar.cmpi .ne (Scalar.extui (Scalar.cmpi .sgt v3 0#32)) 0#32 = 1#1 ↔ _
  rw [test_eq, sgt_iff _ _ (by omega) (by simp)]; simp
theorem cond9_iff (h : v3.toNat ≤ 288) : k0_cond9 v3 = 1#1 ↔ 2 ≤ v3.toNat := by
  show Scalar.cmpi .ne (Scalar.extui (Scalar.cmpi .sge v3 2#32)) 0#32 = 1#1 ↔ _
  rw [test_eq, sge_iff _ _ (by omega) (by simp)]; simp
theorem cond10_iff (h : v3.toNat ≤ 288) : k0_cond10 v3 = 1#1 ↔ 1 ≤ v3.toNat := by
  show Scalar.cmpi .ne (Scalar.extui (Scalar.cmpi .sge v3 1#32)) 0#32 = 1#1 ↔ _
  rw [test_eq, sge_iff _ _ (by omega) (by simp)]; simp
theorem cond5_iff (h : v3.toNat ≤ 288) (k : Fin (k0_t1_loop v3).trips) : k0_cond5 v3 k = 1#1 ↔ k.val + 1 < v3.toNat := by
  have hk : k.val < v3.toNat := lt_of_lt_of_eq k.isLt (trips1 h)
  show Scalar.cmpi .ne (Scalar.extui (Scalar.cmpi .slt (Scalar.addi (Scf.iv 0#32 1#32 k) 1#32) v3)) 0#32 = 1#1 ↔ _
  have e : (Scalar.addi (Scf.iv 0#32 1#32 k) 1#32).toNat = k.val + 1 := by
    rw [add_nat _ _ (by rw [iv_small _ (by omega)]; simp; omega), iv_small _ (by omega)]; rfl
  rw [test_eq, slt_iff _ _ (by omega) (by omega), e]
theorem cond6_iff (h : v3.toNat ≤ 288) (k : Fin (k0_t1_loop v3).trips) : k0_cond6 v3 k = 1#1 ↔ 2 ≤ k.val := by
  have hk : k.val < v3.toNat := lt_of_lt_of_eq k.isLt (trips1 h)
  show Scalar.cmpi .ne (Scalar.extui (Scalar.cmpi .sge (Scf.iv 0#32 1#32 k) 2#32)) 0#32 = 1#1 ↔ _
  have e := iv_small k.val (by omega)
  rw [test_eq, sge_iff _ _ (by omega) (by simp), e]; simp

theorem off2_eq (h : v1.toNat < 288) : k0_off2 v1 = tileOff (tl v1.toNat) := by
  show ![_, 0] = ![_, 0]; rw [tile_word _ _ rfl h]
variable (k : Fin (k0_t1_loop v3).trips)
theorem off15_eq : k0_off15 v3 k = semOff (sl k.val) := by show ![_] = ![_]; rw [par_iv]
theorem off16_eq : k0_off16 v3 k = slotOff (sl k.val) := by show ![_, 0, 0] = ![_, 0, 0]; rw [par_iv]
theorem off18_eq : k0_off18 v3 k = semOff (sl (k.val + 1)) := by show ![_] = ![_]; rw [npar_iv]
theorem off19_eq : k0_off19 v3 k = slotOff (sl (k.val + 1)) := by show ![_, 0, 0] = ![_, 0, 0]; rw [npar_iv]
theorem off21_eq : k0_off21 v3 k = slotOff (sl k.val) := by show ![_, 0, 0] = ![_, 0, 0]; rw [← par_iv]; rfl
theorem off22_eq : k0_off22 v3 k = semOff (sl k.val) := by show ![_] = ![_]; rw [par_iv]
theorem off24_eq : k0_off24 v3 k = slotOff (sl k.val) := by show ![_, 0, 0] = ![_, 0, 0]; rw [par_iv]
theorem off25_eq : k0_off25 v3 k = slotOff (sl k.val) := by show ![_, 0, 0] = ![_, 0, 0]; rw [← par_iv]; rfl
theorem off27_eq : k0_off27 v3 k = slotOff (sl k.val) := by show ![_, 0, 0] = ![_, 0, 0]; rw [par_iv]
theorem off17_eq (h : v1.toNat + k.val < 288) : k0_off17 v1 v3 k = tileOff (tl (v1.toNat + k.val)) := by
  show ![_, 0] = ![_, 0]; rw [tile_word _ _ (at_word k.val h) h]
theorem off20_eq (h : v1.toNat + (k.val + 1) < 288) : k0_off20 v1 v3 k = tileOff (tl (v1.toNat + (k.val + 1))) := by
  show ![_, 0] = ![_, 0]; rw [tile_word _ _ (next_word k.val h) h]
theorem off23_eq (h : v1.toNat + k.val < 288) (h2 : 2 ≤ k.val) : k0_off23 i v1 v3 k = outOff (rt (ib i + v1.toNat + (k.val - 2))) := by
  rw [Nat.add_assoc]; exact out_off i _ _ (back_word k.val h h2) (by omega)
theorem off26_eq (h : v1.toNat + k.val < 288) : k0_off26 i v1 v3 k = outOff (rt (ib i + v1.toNat + k.val)) := by
  rw [Nat.add_assoc]; exact out_off i _ _ (at_word k.val h) h

theorem off41_eq : k0_off41 v3 = semOff (sl v3.toNat) := by show ![_] = ![_]; rw [and_one]; rfl
theorem off43_eq : k0_off43 v3 = slotOff (sl v3.toNat) := by show ![_, 0, 0] = ![_, 0, 0]; rw [and_one]; rfl
theorem off42_eq (hF : Fits v1 v3) (h2 : 2 ≤ v3.toNat) : k0_off42 i v1 v3 = outOff (rt (ib i + v1.toNat + (v3.toNat - 2))) := by
  have e := end_word hF 2 h2 (by omega); unfold Fits at hF
  rw [Nat.add_assoc]; exact out_off i _ _ e (by omega)
theorem off44_eq (h : 1 ≤ v3.toNat) : k0_off44 v3 = semOff (sl (v3.toNat + 1)) := by show ![_] = ![_]; rw [par_last h]
theorem off46_eq (h : 1 ≤ v3.toNat) : k0_off46 v3 = slotOff (sl (v3.toNat + 1)) := by show ![_, 0, 0] = ![_, 0, 0]; rw [par_last h]
theorem off45_eq (hF : Fits v1 v3) (h2 : 1 ≤ v3.toNat) : k0_off45 i v1 v3 = outOff (rt (ib i + v1.toNat + (v3.toNat - 1))) := by
  have e := end_word hF 1 h2 (by omega); unfold Fits at hF
  rw [Nat.add_assoc]; exact out_off i _ _ e (by omega)
theorem off47_eq {v28 v29 : BitVec 32} (hF : Fits v28 v29) (j : Fin (k0_t3_loop v28 v29).trips) :
    k0_off47 i v28 v29 j = outOff (rt (ib i + (v28.toNat + v29.toNat + j.val))) := by
  have hl0 := fill_lb hF
  have hj : j.val < 288 - (v28.toNat + v29.toNat) := lt_of_lt_of_eq j.isLt (trips3 hF); unfold Fits at hF; have hl := hl0
  have e : (Scf.iv (Scalar.addi v28 v29) 1#32 j).toNat = v28.toNat + v29.toNat + j.val := by
    rw [iv_from _ _ (by omega), hl]
  exact out_off i _ _ e (by omega)
end Words

/-! ## The kernel's assumptions -/

theorem row_tile : S73728x2048.rowAx (show 2 ≤ 2 by decide) = (0 : Fin 2) := rfl
theorem row_slot : S2x256x1024.rowAx (show 2 ≤ 3 by decide) = (1 : Fin 3) := rfl
theorem tile_words (b : Fin 576) (hinb : ∀ a, outOff b a + S256x1024.size a ≤ S73728x2048.size a) :
    (Rect.unit (s := S73728x2048) (outOff b) S256x1024.size hinb).WholeWords (EltTy.packing .bf16) :=
  Idealize.ShloMosaic.Affine.words_of_packed (Idealize.ShloMosaic.Affine.packed_dvd (s := S73728x2048) (show 2 ≤ 2 by decide)
    (by rw [row_tile]; exact Dvd.dvd.mul_left (show 2 ∣ 256 by decide) (b.val % 288)) (by rw [row_tile]; exact (show 2 ∣ 256 by decide)))
theorem slot_packed (s : Fin 2) (hinb : ∀ a, slotOff s a + S1x256x1024.size a ≤ S2x256x1024.size a) :
    (Rect.unit (s := S2x256x1024) (slotOff s) S1x256x1024.size hinb).PackedRows (EltTy.packing .bf16) :=
  Idealize.ShloMosaic.Affine.packed_dvd (s := S2x256x1024) (show 2 ≤ 3 by decide) (by rw [row_slot]; exact (show 2 ∣ 0 by decide)) (by rw [row_slot]; exact (show 2 ∣ 256 by decide))
theorem slot_words (s : Fin 2) (hinb : ∀ a, slotOff s a + S1x256x1024.size a ≤ S2x256x1024.size a) :
    (Rect.unit (s := S2x256x1024) (slotOff s) S1x256x1024.size hinb).WholeWords (EltTy.packing .bf16) :=
  Idealize.ShloMosaic.Affine.words_rows (s := S2x256x1024) (show 2 ≤ 3 by decide) (by rw [row_slot]; rfl) (by rw [row_slot]; rfl)

theorem tile_words' {off : Fin 2 → Nat} {b : Fin 576} (e : off = outOff b) (hinb : ∀ a, off a + S256x1024.size a ≤ S73728x2048.size a) :
    (Rect.unit (s := S73728x2048) off S256x1024.size hinb).WholeWords (EltTy.packing .bf16) := by
  subst e; exact tile_words b hinb
theorem slot_words' {off : Fin 3 → Nat} {s : Fin 2} (e : off = slotOff s) (hinb : ∀ a, off a + S1x256x1024.size a ≤ S2x256x1024.size a) :
    (Rect.unit (s := S2x256x1024) off S1x256x1024.size hinb).WholeWords (EltTy.packing .bf16) := by
  subst e; exact slot_words s hinb
theorem slot_packed' {off : Fin 3 → Nat} {s : Fin 2} (e : off = slotOff s) (hinb : ∀ a, off a + S1x256x1024.size a ≤ S2x256x1024.size a) :
    (Rect.unit (s := S2x256x1024) off S1x256x1024.size hinb).PackedRows (EltTy.packing .bf16) := by
  subst e; exact slot_packed s hinb

theorem k_lt {v1 v3 : BitVec 32} (hF : Fits v1 v3) (k : Fin (k0_t1_loop v3).trips) : k.val < v3.toNat ∧ v1.toNat + k.val < 288 := by
  have hk : k.val < v3.toNat := lt_of_lt_of_eq k.isLt (trips1 (by unfold Fits at hF; omega)); unfold Fits at hF; omega
theorem no_t2 {v1 v3 : BitVec 32} (hF : Fits v1 v3) (k : Fin (k0_t2_loop v3).trips) : False :=
  (Nat.not_lt_zero _ (lt_of_lt_of_eq k.isLt (trips2 (by unfold Fits at hF; omega))))
theorem no_t4 {v28 v29 : BitVec 32} (hF : Fits v28 v29) (k : Fin (k0_t4_loop v28 v29).trips) : False :=
  (Nat.not_lt_zero _ (lt_of_lt_of_eq k.isLt (trips4 hF)))

/-- A pair of words that name tiles of the array pass the kernel's check of them. -/
theorem chk1_of (i : grid0.Coords) {v1 v3 : BitVec 32} (hF : Fits v1 v3) : k0_chk1 i v1 v3 := by
  have h3 : v3.toNat ≤ 288 := by unfold Fits at hF; omega
  have c1 : k0_cond1 v3 = 1#1 → v1.toNat < 288 := fun h => by have := (cond1_iff h3).mp h; unfold Fits at hF; omega
  have c5 : ∀ k, k0_cond5 v3 k = 1#1 → v1.toNat + (k.val + 1) < 288 := fun k h => by have := (cond5_iff h3 k).mp h; unfold Fits at hF; omega
  have hb : ∀ {n}, n < 288 → n ≤ 288 := fun h => Nat.le_of_lt h
  have et : ∀ {off : Fin 2 → Nat} {b : Fin 288}, off = tileOff b → ∀ a, off a + S256x2048.size a ≤ S73728x2048.size a := fun e => by subst e; exact tileOff_inb _
  have eo : ∀ {off : Fin 2 → Nat} {b : Fin 576}, off = outOff b → ∀ a, off a + S256x1024.size a ≤ S73728x2048.size a := fun e => by subst e; exact outOff_inb _
  have es : ∀ {off : Fin 3 → Nat} {b : Fin 2}, off = slotOff b → ∀ a, off a + S1x256x2048.size a ≤ S2x256x2048.size a := fun e => by subst e; exact slotOff_inb _
  have er : ∀ {off : Fin 3 → Nat} {b : Fin 2}, off = slotOff b → ∀ a, off a + S1x256x1024.size a ≤ S2x256x1024.size a := fun e => by subst e; exact outSlotOff_inb _
  have em : ∀ {off : Fin 1 → Nat} {b : Fin 2}, off = semOff b → ∀ a, off a + S1.size a ≤ S2.size a := fun e => by subst e; exact semOff_inb _
  refine ⟨⟨fun h => tile_dvd _ (hb (c1 h)), fun h => et (off2_eq (c1 h)), ok1 h3,
    fun k => tile_dvd _ (by rw [at_word _ (k_lt hF k).2]; exact hb (k_lt hF k).2),
    fun k => em (off15_eq k), fun k => es (off16_eq k), fun k => et (off17_eq k (k_lt hF k).2),
    fun k h => tile_dvd _ (by rw [next_word _ (c5 k h)]; exact hb (c5 k h)),
    fun k h => em (off18_eq k), fun k h => es (off19_eq k), fun k h => et (off20_eq k (c5 k h)), fun k => es (off21_eq k),
    fun k h => tile_dvd _ (by have h6 := (cond6_iff h3 k).mp h; have := (k_lt hF k).2; rw [back_word _ (k_lt hF k).2 h6]; omega),
    fun k h => em (off22_eq k), fun k h => eo (off23_eq i k (k_lt hF k).2 ((cond6_iff h3 k).mp h)), fun k h => er (off24_eq k),
    fun k h => slot_words' (off24_eq k), fun k h => tile_words' (off23_eq i k (k_lt hF k).2 ((cond6_iff h3 k).mp h)),
    fun k => er (off25_eq k), fun k => slot_packed' (off25_eq k),
    fun k => tile_dvd _ (by rw [at_word _ (k_lt hF k).2]; exact hb (k_lt hF k).2),
    fun k => eo (off26_eq i k (k_lt hF k).2), fun k => er (off27_eq k), fun k => slot_words' (off27_eq k),
    fun k => tile_words' (off26_eq i k (k_lt hF k).2), ok2 h3, fun k => (no_t2 hF k).elim, fun k => (no_t2 hF k).elim, fun k => (no_t2 hF k).elim, fun k => (no_t2 hF k).elim, fun k => (no_t2 hF k).elim, fun k => (no_t2 hF k).elim⟩,
    fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim, fun k => (no_t2 hF k).elim,
    fun h => tile_dvd _ (by have h9 := (cond9_iff h3).mp h; rw [end_word hF 2 h9 (by omega)]; unfold Fits at hF; omega),
    fun h => em off41_eq, fun h => eo (off42_eq i hF ((cond9_iff h3).mp h)), fun h => er off43_eq,
    fun h => slot_words' off43_eq, fun h => tile_words' (off42_eq i hF ((cond9_iff h3).mp h)),
    fun h => tile_dvd _ (by have h9 := (cond10_iff h3).mp h; rw [end_word hF 1 h9 (by omega)]; unfold Fits at hF; omega),
    fun h => em (off44_eq ((cond10_iff h3).mp h)), fun h => eo (off45_eq i hF ((cond10_iff h3).mp h)), fun h => er (off46_eq ((cond10_iff h3).mp h)),
    fun h => slot_words' (off46_eq ((cond10_iff h3).mp h)), fun h => tile_words' (off45_eq i hF ((cond10_iff h3).mp h))⟩

theorem chk2_of (i : grid0.Coords) {v28 v29 : BitVec 32} (hF : Fits v28 v29) : k0_chk2 i v28 v29 := by
  have hw : ∀ j : Fin (k0_t3_loop v28 v29).trips, (Scf.iv (Scalar.addi v28 v29) 1#32 j).toNat ≤ 288 := fun j => by
    have hj : j.val < 288 - (v28.toNat + v29.toNat) := lt_of_lt_of_eq j.isLt (trips3 hF)
    have hl := fill_lb hF
    rw [iv_from _ _ (by omega)]; omega
  have eo : ∀ {off : Fin 2 → Nat} {b : Fin 576}, off = outOff b → ∀ a, off a + S256x1024.size a ≤ S73728x2048.size a := fun e => by subst e; exact outOff_inb _
  exact ⟨fun _ => ok3 hF, fun j _ => tile_dvd _ (hw j), fun j _ => eo (off47_eq i hF j), fun j _ => tile_words' (off47_eq i hF j), fun j _ => tile_dvd _ (hw j),
    fun _ => ok4 hF, fun k => (no_t4 hF k).elim, fun k => (no_t4 hF k).elim, fun k => (no_t4 hF k).elim, fun k => (no_t4 hF k).elim⟩

/-! ## The parts the kernel names are the named parts -/

theorem rawSem_congr {off : Fin 2 → Nat} {s h : Fin 2} (e : off = sem2Off s h) (hh) :
    (cc0_scratch1.slice (Rect.unit (s := S2x2) off S1x1.size hh)).squeeze S_ squeezes_S1x1_S_ = rawSem s h :=
  congrArg (fun A : DmaSems sig S1x1 => A.squeeze S_ squeezes_S1x1_S_) (SemArray.slice_unit_congr _ e _ _)
theorem inSem_congr {off : Fin 1 → Nat} {s : Fin 2} (e : off = semOff s) (hh) :
    (cc0_scratch6.slice (Rect.unit (s := S2) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 2} (e : off = semOff s) (hh) :
    (cc0_scratch7.slice (Rect.unit (s := S2) off S1.size hh)).squeeze S_ squeezes_S1_S_ = outSem s :=
  congrArg (fun A : DmaSems sig S1 => A.squeeze S_ squeezes_S1_S_) (SemArray.slice_unit_congr _ e _ _)
theorem rawSlot_congr {off : Fin 4 → Nat} {s h : Fin 2} (e : off = rawOff s h) (hh hs) :
    (rawM.slice (Rect.unit (s := S2x2x2048x1024) off S1x1x2048x1024.size hh) hs).squeeze S2048x1024 squeezes_S1x1x2048x1024_S2048x1024 = rawSlot s h :=
  congrArg (fun M : Memref sig .tc .vmem S1x1x2048x1024 .f32 => M.squeeze S2048x1024 squeezes_S1x1x2048x1024_S2048x1024) (Memref.slice_unit_congr _ e _ _ _ _)
theorem wBlk_congr {off : Fin 3 → Nat} {h : Fin 2} {k : Fin 64} (e : off = blkOff h k) (hh hs) :
    (wM.slice (Rect.unit (s := S32x2048x4096) off S1x2048x1024.size hh) hs).squeeze S2048x1024 squeezes_S1x2048x1024_S2048x1024 = wBlk h k :=
  congrArg (fun M : Memref sig .tc .hbm S1x2048x1024 .f32 => M.squeeze S2048x1024 squeezes_S1x2048x1024_S2048x1024) (Memref.slice_unit_congr _ e _ _ _ _)
theorem inSlot_congr {off : Fin 3 → Nat} {s : Fin 2} (e : off = slotOff s) (hh hs) :
    (inM.slice (Rect.unit (s := S2x256x2048) off S1x256x2048.size hh) hs).squeeze S256x2048 squeezes_S1x256x2048_S256x2048 = inSlot s :=
  congrArg (fun M : Memref sig .tc .vmem S1x256x2048 .f32 => M.squeeze S256x2048 squeezes_S1x256x2048_S256x2048) (Memref.slice_unit_congr _ e _ _ _ _)
theorem outSlot_congr {off : Fin 3 → Nat} {s : Fin 2} (e : off = slotOff s) (hh hs) :
    (outM.slice (Rect.unit (s := S2x256x1024) off S1x256x1024.size hh) hs).squeeze S256x1024 squeezes_S1x256x1024_S256x1024 = outSlot s :=
  congrArg (fun M : Memref sig .tc .vmem S1x256x1024 .bf16 => M.squeeze S256x1024 squeezes_S1x256x1024_S256x1024) (Memref.slice_unit_congr _ e _ _ _ _)
theorem aTile_congr {off : Fin 2 → Nat} {b : Fin 288} (e : off = tileOff b) (hh hs) :
    aM.slice (Rect.unit (s := S73728x2048) off S256x2048.size hh) hs = aTile b := by subst e; rfl
theorem oTile_congr {off : Fin 2 → Nat} {b : Fin 576} (e : off = outOff b) (hh hs) :
    oM.slice (Rect.unit (s := S73728x2048) off S256x1024.size hh) hs = oTile b := by subst e; rfl

section Canon
variable (i : grid0.Coords) {v1 v3 v28 v29 : BitVec 32} (k : Fin (k0_t1_loop v3).trips)

@[sl_canon] theorem in0 (hh) : (cc0_scratch6.slice (Rect.unit (s := S2) ![0] S1.size hh)).squeeze S_ squeezes_S1_S_ = inSem (sl 0) := inSem_congr (s := sl 0) (by decide) _
@[sl_canon] theorem out0 (hh) : (cc0_scratch7.slice (Rect.unit (s := S2) ![0] S1.size hh)).squeeze S_ squeezes_S1_S_ = outSem (sl 0) := outSem_congr (s := sl 0) (by decide) _
@[sl_canon] theorem in0s (hh hs) : (inM.slice (Rect.unit (s := S2x256x2048) ![0, 0, 0] S1x256x2048.size hh) hs).squeeze S256x2048 squeezes_S1x256x2048_S256x2048 = inSlot (sl 0) := inSlot_congr (s := sl 0) (by decide) _ _
@[sl_canon] theorem out0s (hh hs) : (outM.slice (Rect.unit (s := S2x256x1024) ![0, 0, 0] S1x256x1024.size hh) hs).squeeze S256x1024 squeezes_S1x256x1024_S256x1024 = outSlot (sl 0) := outSlot_congr (s := sl 0) (by decide) _ _
@[sl_canon] theorem raw0_0 (hh) : (cc0_scratch1.slice (Rect.unit (s := S2x2) ![0, 0] S1x1.size hh)).squeeze S_ squeezes_S1x1_S_ = rawSem (sl 0) 0 := rawSem_congr (s := sl 0) (h := 0) (by decide) _
@[sl_canon] theorem raw0s_0 (hh hs) : (rawM.slice (Rect.unit (s := S2x2x2048x1024) ![0, 0, 0, 0] S1x1x2048x1024.size hh) hs).squeeze S2048x1024 squeezes_S1x1x2048x1024_S2048x1024 = rawSlot (sl 0) 0 := rawSlot_congr (s := sl 0) (h := 0) (by decide) _ _
@[sl_canon] theorem blk0_0 (hh hs) : (wM.slice (Rect.unit (s := S32x2048x4096) ![0, 0, 0] S1x2048x1024.size hh) hs).squeeze S2048x1024 squeezes_S1x2048x1024_S2048x1024 = wBlk 0 (st 0) := wBlk_congr (h := 0) (k := st 0) (by decide) _ _
@[sl_canon] theorem raw0_1 (hh) : (cc0_scratch1.slice (Rect.unit (s := S2x2) ![0, 1] S1x1.size hh)).squeeze S_ squeezes_S1x1_S_ = rawSem (sl 0) 1 := rawSem_congr (s := sl 0) (h := 1) (by decide) _
@[sl_canon] theorem raw0s_1 (hh hs) : (rawM.slice (Rect.unit (s := S2x2x2048x1024) ![0, 1, 0, 0] S1x1x2048x1024.size hh) hs).squeeze S2048x1024 squeezes_S1x1x2048x1024_S2048x1024 = rawSlot (sl 0) 1 := rawSlot_congr (s := sl 0) (h := 1) (by decide) _ _
@[sl_canon] theorem blk0_1 (hh hs) : (wM.slice (Rect.unit (s := S32x2048x4096) ![0, 0, 2048] S1x2048x1024.size hh) hs).squeeze S2048x1024 squeezes_S1x2048x1024_S2048x1024 = wBlk 1 (st 0) := wBlk_congr (h := 1) (k := st 0) (by decide) _ _
@[sl_canon] theorem a2 (h : v1.toNat < 288) (hh hs) : aM.slice (Rect.unit (s := S73728x2048) (k0_off2 v1) S256x2048.size hh) hs = aTile (tl (v1.toNat)) := aTile_congr (off2_eq h) _ _
@[sl_canon] theorem raw3 (hh) : (cc0_scratch1.slice (Rect.unit (s := S2x2) (k0_off3 i) S1x1.size hh)).squeeze S_ squeezes_S1x1_S_ = rawSem (sl (pn i + 1)) 0 := rawSem_congr (s := sl (pn i + 1)) (h := 0) (off3_eq i) _
@[sl_canon] theorem raw4 (hh hs) : (rawM.slice (Rect.unit (s := S2x2x2048x1024) (k0_off4 i) S1x1x2048x1024.size hh) hs).squeeze S2048x1024 squeezes_S1x1x2048x1024_S2048x1024 = rawSlot (sl (pn i + 1)) 0 := rawSlot_congr (s := sl (pn i + 1)) (h := 0) (off4_eq i) _ _
@[sl_canon] theorem raw6 (hh) : (cc0_scratch1.slice (Rect.unit (s := S2x2) (k0_off6 i) S1x1.size hh)).squeeze S_ squeezes_S1x1_S_ = rawSem (sl (pn i + 1)) 1 := rawSem_congr (s := sl (pn i + 1)) (h := 1) (off6_eq i) _
@[sl_canon] theorem raw7 (hh hs) : (rawM.slice (Rect.unit (s := S2x2x2048x1024) (k0_off7 i) S1x1x2048x1024.size hh) hs).squeeze S2048x1024 squeezes_S1x1x2048x1024_S2048x1024 = rawSlot (sl (pn i + 1)) 1 := rawSlot_congr (s := sl (pn i + 1)) (h := 1) (off7_eq i) _ _
@[sl_canon] theorem blk5a (h : pn i + 1 < 64) (hh hs) : (wM.slice (Rect.unit (s := S32x2048x4096) (k0_off5 i 0#32) S1x2048x1024.size hh) hs).squeeze S2048x1024 squeezes_S1x2048x1024_S2048x1024 = wBlk 0 (st (pn i + 1)) := wBlk_congr (h := 0) (k := st (pn i + 1)) (off5a_eq i h) _ _
@[sl_canon] theorem blk5b (h : pn i + 1 < 64) (hh hs) : (wM.slice (Rect.unit (s := S32x2048x4096) (k0_off5 i 2#32) S1x2048x1024.size hh) hs).squeeze S2048x1024 squeezes_S1x2048x1024_S2048x1024 = wBlk 1 (st (pn i + 1)) := wBlk_congr (h := 1) (k := st (pn i + 1)) (off5b_eq i h) _ _
@[sl_canon] theorem raw8 (hh) : (cc0_scratch1.slice (Rect.unit (s := S2x2) (k0_off8 i) S1x1.size hh)).squeeze S_ squeezes_S1x1_S_ = rawSem (sl (pn i)) 0 := rawSem_congr (s := sl (pn i)) (h := 0) (off8_eq i) _
@[sl_canon] theorem raw9 (hh hs) : (rawM.slice (Rect.unit (s := S2x2x2048x1024) (k0_off9 i) S1x1x2048x1024.size hh) hs).squeeze S2048x1024 squeezes_S1x1x2048x1024_S2048x1024 = rawSlot (sl (pn i)) 0 := rawSlot_congr (s := sl (pn i)) (h := 0) (off9_eq i) _ _
@[sl_canon] theorem raw11 (hh) : (cc0_scratch1.slice (Rect.unit (s := S2x2) (k0_off11 i) S1x1.size hh)).squeeze S_ squeezes_S1x1_S_ = rawSem (sl (pn i)) 1 := rawSem_congr (s := sl (pn i)) (h := 1) (off11_eq i) _
@[sl_canon] theorem raw12 (hh hs) : (rawM.slice (Rect.unit (s := S2x2x2048x1024) (k0_off12 i) S1x1x2048x1024.size hh) hs).squeeze S2048x1024 squeezes_S1x1x2048x1024_S2048x1024 = rawSlot (sl (pn i)) 1 := rawSlot_congr (s := sl (pn i)) (h := 1) (off12_eq i) _ _
@[sl_canon] theorem blk10a (hh hs) : (wM.slice (Rect.unit (s := S32x2048x4096) (k0_off10 i 0#32) S1x2048x1024.size hh) hs).squeeze S2048x1024 squeezes_S1x2048x1024_S2048x1024 = wBlk 0 (st (pn i)) := wBlk_congr (h := 0) (k := st (pn i)) (off10a_eq i) _ _
@[sl_canon] theorem blk10b (hh hs) : (wM.slice (Rect.unit (s := S32x2048x4096) (k0_off10 i 2#32) S1x2048x1024.size hh) hs).squeeze S2048x1024 squeezes_S1x2048x1024_S2048x1024 = wBlk 1 (st (pn i)) := wBlk_congr (h := 1) (k := st (pn i)) (off10b_eq i) _ _
instance : ClosedOff (k0_off13 i) := ⟨_, off13_eq i⟩
instance : ClosedOff (k0_off14 i) := ⟨_, off14_eq i⟩

@[sl_canon] theorem in15 (hh) : (cc0_scratch6.slice (Rect.unit (s := S2) (k0_off15 v3 k) S1.size hh)).squeeze S_ squeezes_S1_S_ = inSem (sl k.val) := inSem_congr (s := sl k.val) (off15_eq k) _
@[sl_canon] theorem out15 (hh) : (cc0_scratch7.slice (Rect.unit (s := S2) (k0_off15 v3 k) S1.size hh)).squeeze S_ squeezes_S1_S_ = outSem (sl k.val) := outSem_congr (s := sl k.val) (off15_eq k) _
@[sl_canon] theorem in16 (hh hs) : (inM.slice (Rect.unit (s := S2x256x2048) (k0_off16 v3 k) S1x256x2048.size hh) hs).squeeze S256x2048 squeezes_S1x256x2048_S256x2048 = inSlot (sl k.val) := inSlot_congr (s := sl k.val) (off16_eq k) _ _
@[sl_canon] theorem a17 (h : v1.toNat + k.val < 288) (hh hs) : aM.slice (Rect.unit (s := S73728x2048) (k0_off17 v1 v3 k) S256x2048.size hh) hs = aTile (tl (v1.toNat + k.val)) := aTile_congr (off17_eq k h) _ _
@[sl_canon] theorem in18 (hh) : (cc0_scratch6.slice (Rect.unit (s := S2) (k0_off18 v3 k) S1.size hh)).squeeze S_ squeezes_S1_S_ = inSem (sl (k.val + 1)) := inSem_congr (s := sl (k.val + 1)) (off18_eq k) _
@[sl_canon] theorem in19 (hh hs) : (inM.slice (Rect.unit (s := S2x256x2048) (k0_off19 v3 k) S1x256x2048.size hh) hs).squeeze S256x2048 squeezes_S1x256x2048_S256x2048 = inSlot (sl (k.val + 1)) := inSlot_congr (s := sl (k.val + 1)) (off19_eq k) _ _
@[sl_canon] theorem a20 (h : v1.toNat + (k.val + 1) < 288) (hh hs) : aM.slice (Rect.unit (s := S73728x2048) (k0_off20 v1 v3 k) S256x2048.size hh) hs = aTile (tl (v1.toNat + (k.val + 1))) := aTile_congr (off20_eq k h) _ _
instance : ClosedOff (k0_off21 v3 k) := ⟨_, off21_eq k⟩
instance : ClosedOff (k0_off25 v3 k) := ⟨_, off25_eq k⟩
@[sl_canon] theorem out22 (hh) : (cc0_scratch7.slice (Rect.unit (s := S2) (k0_off22 v3 k) S1.size hh)).squeeze S_ squeezes_S1_S_ = outSem (sl k.val) := outSem_congr (s := sl k.val) (off22_eq k) _
@[sl_canon] theorem o23 (h : v1.toNat + k.val < 288) (h2 : 2 ≤ k.val) (hh hs) : oM.slice (Rect.unit (s := S73728x2048) (k0_off23 i v1 v3 k) S256x1024.size hh) hs = oTile (rt (ib i + v1.toNat + (k.val - 2))) := oTile_congr (off23_eq i k h h2) _ _
@[sl_canon] theorem out24 (hh hs) : (outM.slice (Rect.unit (s := S2x256x1024) (k0_off24 v3 k) S1x256x1024.size hh) hs).squeeze S256x1024 squeezes_S1x256x1024_S256x1024 = outSlot (sl k.val) := outSlot_congr (s := sl k.val) (off24_eq k) _ _
@[sl_canon] theorem o26 (h : v1.toNat + k.val < 288) (hh hs) : oM.slice (Rect.unit (s := S73728x2048) (k0_off26 i v1 v3 k) S256x1024.size hh) hs = oTile (rt (ib i + v1.toNat + k.val)) := oTile_congr (off26_eq i k h) _ _
@[sl_canon] theorem out27 (hh hs) : (outM.slice (Rect.unit (s := S2x256x1024) (k0_off27 v3 k) S1x256x1024.size hh) hs).squeeze S256x1024 squeezes_S1x256x1024_S256x1024 = outSlot (sl k.val) := outSlot_congr (s := sl k.val) (off27_eq k) _ _

@[sl_canon] theorem out41 (hh) : (cc0_scratch7.slice (Rect.unit (s := S2) (k0_off41 v3) S1.size hh)).squeeze S_ squeezes_S1_S_ = outSem (sl v3.toNat) := outSem_congr (s := sl v3.toNat) (off41_eq) _
@[sl_canon] theorem o42 (hF : Fits v1 v3) (h2 : 2 ≤ v3.toNat) (hh hs) : oM.slice (Rect.unit (s := S73728x2048) (k0_off42 i v1 v3) S256x1024.size hh) hs = oTile (rt (ib i + v1.toNat + (v3.toNat - 2))) := oTile_congr (off42_eq i hF h2) _ _
@[sl_canon] theorem out43 (hh hs) : (outM.slice (Rect.unit (s := S2x256x1024) (k0_off43 v3) S1x256x1024.size hh) hs).squeeze S256x1024 squeezes_S1x256x1024_S256x1024 = outSlot (sl v3.toNat) := outSlot_congr (s := sl v3.toNat) (off43_eq) _ _
@[sl_canon] theorem out44 (h : 1 ≤ v3.toNat) (hh) : (cc0_scratch7.slice (Rect.unit (s := S2) (k0_off44 v3) S1.size hh)).squeeze S_ squeezes_S1_S_ = outSem (sl (v3.toNat + 1)) := outSem_congr (s := sl (v3.toNat + 1)) (off44_eq h) _
@[sl_canon] theorem o45 (hF : Fits v1 v3) (h2 : 1 ≤ v3.toNat) (hh hs) : oM.slice (Rect.unit (s := S73728x2048) (k0_off45 i v1 v3) S256x1024.size hh) hs = oTile (rt (ib i + v1.toNat + (v3.toNat - 1))) := oTile_congr (off45_eq i hF h2) _ _
@[sl_canon] theorem out46 (h : 1 ≤ v3.toNat) (hh hs) : (outM.slice (Rect.unit (s := S2x256x1024) (k0_off46 v3) S1x256x1024.size hh) hs).squeeze S256x1024 squeezes_S1x256x1024_S256x1024 = outSlot (sl (v3.toNat + 1)) := outSlot_congr (s := sl (v3.toNat + 1)) (off46_eq h) _ _
@[sl_canon] theorem o47 (hF : Fits v28 v29) (j : Fin (k0_t3_loop v28 v29).trips) (hh hs) : oM.slice (Rect.unit (s := S73728x2048) (k0_off47 i v28 v29 j) S256x1024.size hh) hs = oTile (rt (ib i + (v28.toNat + v29.toNat + j.val))) := oTile_congr (off47_eq i hF j) _ _
end Canon

end Cert.Gmm1.Moe
-- ==== Proof.Moe.Gmm1Trip.lean ====
/-
  The first grouped product of the experts: one trip of an expert's tile loop.
-/
module

public import proofs.«01_k».proof.Proof.Moe.Gmm1Names
public import Idealize.ShloMosaic.Lib.Pipeline.KitQuiescent

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  par_iv npar_iv at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev 𝒱₀ : Variants := Variants.none
local notation "𝕄" => MT nD τ sig Unit (Elt F) ℕ (UU nD τ) ℕ

/-! ## The pieces -/

section Pieces
variable (c : Dev nD) (XA : Buf (Elt F) (aM.view.loc (c : Thread nD τ)))

abbrev inCell (s : Fin 2) : sProp 𝕄 := semVal ((c : Thread nD τ), SemLoc.dma (inSem s).sem) 0
abbrev outCell (s : Fin 2) : sProp 𝕄 := semVal ((c : Thread nD τ), SemLoc.dma (outSem s).sem) 0
abbrev rawCell (h s : Fin 2) : sProp 𝕄 := semVal ((c : Thread nD τ), SemLoc.dma (rawSem s h).sem) 0
abbrev inP (s : Fin 2) (f : Buf (Elt F) ((inSlot s).view.loc (c : Thread nD τ))) : sProp 𝕄 :=
  (inSlot s).view.loc (c : Thread nD τ) ↦[(inSlot s).view.set]{fullShare} f
abbrev outP (s : Fin 2) (f : Buf (Elt F) ((outSlot s).view.loc (c : Thread nD τ))) : sProp 𝕄 :=
  (outSlot s).view.loc (c : Thread nD τ) ↦[(outSlot s).view.set]{fullShare} f
abbrev rawP (h s : Fin 2) (f : Buf (Elt F) ((rawSlot s h).view.loc (c : Thread nD τ))) : sProp 𝕄 :=
  (rawSlot s h).view.loc (c : Thread nD τ) ↦[(rawSlot s h).view.set]{fullShare} f
/-- Tile `b` of the activations at home; tile `b` of the results at contents `f`; a quarter of a matrix at home. -/
abbrev homeA (b : Fin 288) : sProp 𝕄 := (aTile b).view.loc (c : Thread nD τ) ↦[(aTile b).view.set]{fullShare} XA
abbrev tileO (b : Fin 576) (f : Buf (Elt F) (oM.view.loc (c : Thread nD τ))) : sProp 𝕄 :=
  (oTile b).view.loc (c : Thread nD τ) ↦[(oTile b).view.set]{fullShare} f
abbrev homeW (XW : Buf (Elt F) (wM.view.loc (c : Thread nD τ))) (h : Fin 2) (k : Fin 64) : sProp 𝕄 :=
  (wBlk h k).view.loc (c : Thread nD τ) ↦[(wBlk h k).view.set]{fullShare} XW
/-- What tile `b` of the activations holds. -/
abbrev aVal (b : Fin 288) : S256x2048.Idx → Elt F .f32 := (aTile b).view.read (Elt F) XA
/-- A slot on its way to hold tile `b`. -/
abbrev inFlight (s : Fin 2) (b : Fin 288) : sProp 𝕄 :=
  Transfers.Flight countersEmb (c : Thread nD τ) (SemLoc.dma (inSem s).sem) () 65536
    iprop(inP c s ((inSlot s).view.rep (aVal c XA b)) ∗ homeA c XA b)
/-- A slot of results on its way to its tile `b`, which will hold `R` there. -/
abbrev outFlight (R : Buf (Elt F) (oM.view.loc (c : Thread nD τ))) (s : Fin 2) (b : Fin 576) (f : Buf (Elt F) ((outSlot s).view.loc (c : Thread nD τ))) : sProp 𝕄 :=
  Transfers.Flight countersEmb (c : Thread nD τ) (SemLoc.dma (outSem s).sem) () 16384
    iprop(tileO c b R ∗ outP c s f)
end Pieces

section Trip
variable (c : Dev nD) (i : grid0.Coords) (arg4 : Memref sig .tc .vmem S1x1x1024 .f32) (harg4 : arg4.IsWhole)
  (arg5 : Memref sig .tc .vmem S1x1x1024 .f32) (harg5 : arg5.IsWhole)
  (v1 v3 : BitVec 32) (hw : k0_chk1 i v1 v3)
  (XA : Buf (Elt F) (aM.view.loc (c : Thread nD τ))) (XS : Buf (Elt F) (waM.view.loc (c : Thread nD τ))) (XT : Buf (Elt F) (wbM.view.loc (c : Thread nD τ)))
  (XB : Buf (Elt F) (arg4.view.loc (c : Thread nD τ))) (XD : Buf (Elt F) (arg5.view.loc (c : Thread nD τ))) (R : Buf (Elt F) (oM.view.loc (c : Thread nD τ)))

abbrev biasP (arg4 : Memref sig .tc .vmem S1x1x1024 .f32) (XB : Buf (Elt F) (arg4.view.loc (c : Thread nD τ))) : sProp 𝕄 := arg4.view.loc (c : Thread nD τ) ↦[arg4.view.set]{fullShare} XB
abbrev waP : sProp 𝕄 := waM.view.loc (c : Thread nD τ) ↦[waM.view.set]{fullShare} XS
abbrev wbP : sProp 𝕄 := wbM.view.loc (c : Thread nD τ) ↦[wbM.view.set]{fullShare} XT
abbrev bodyAt (k : Fin (k0_t1_loop v3).trips) : Prog (TpuEff nD τ sig (Elt F) Λ₀ .tc) Unit :=
  k0_t1_body (F := F) i tM (Memref.isWhole_whole _) nM (Memref.isWhole_whole _) arg4 harg4 arg5 harg5 wM (Memref.isWhole_whole _) aM (Memref.isWhole_whole _) oM (Memref.isWhole_whole _) rawM (Memref.isWhole_whole _) cc0_scratch1 waM (Memref.isWhole_whole _) wbM (Memref.isWhole_whole _) inM (Memref.isWhole_whole _) outM (Memref.isWhole_whole _) cc0_scratch6 cc0_scratch7 v1 v3 hw k ()

/-- A tile of results from a tile of activations, two quarters of a matrix and two bias rows, as the kernel computes it. -/
def outVal (A : S256x2048.Idx → Elt F .f32) (S T : Vec F S2048x1024 .bf16) (B D : Vec F S1x1x1024 .f32) : S256x1024.Idx → Elt F .bf16 :=
  fun j => k0_pay3 (F := F) (k0_pay7 (F := F) (fun y => A ((Shape.reshapeEquiv squeezes_S1x256x2048_S256x2048.numel_eq).symm y)) S B)
    (Scalar.ofBits .f32 0x40E00000#32) (k0_pay8 (F := F) (fun y => A ((Shape.reshapeEquiv squeezes_S1x256x2048_S256x2048.numel_eq).symm y)) T D)
    (Shape.reshapeEquiv squeezes_S1x256x1024_S256x1024.numel_eq j)

/-- A load of a slot through the whole buffer reads the tile the slot holds. -/
theorem in_load {off : Fin 3 → Nat} {s : Fin 2} (e : off = slotOff s) (hh) (x : S256x2048.Idx → Elt F .f32) :
    inM.view.readAt (Elt F) (Rect.unit (s := S2x256x2048) off S1x256x2048.size hh).toLoadRect ((inSlot s).view.rep x)
      = fun y => x ((Shape.reshapeEquiv squeezes_S1x256x2048_S256x2048.numel_eq).symm y) := by
  subst e; funext y
  obtain ⟨j, rfl⟩ := (Shape.reshapeEquiv squeezes_S1x256x2048_S256x2048.numel_eq).surjective y
  rw [Equiv.symm_apply_apply]
  exact congrFun (View.read_rep (inSlot s).view x) j

/-- A slot reads back the tile stored to it through the whole buffer. -/
theorem out_read {off : Fin 3 → Nat} {s : Fin 2} (e : off = slotOff s) (hh) (g : Buf (Elt F) (outM.view.loc (c : Thread nD τ))) (P : S1x256x1024.Idx → Elt F .bf16) :
    (outSlot s).view.read (Elt F) (outM.view.writes (Elt F) g [⟨Rect.unit (s := S2x256x1024) off S1x256x1024.size hh, P⟩])
      = fun j => P (Shape.reshapeEquiv squeezes_S1x256x1024_S256x1024.numel_eq j) := by
  subst e; funext j
  exact View.read_writes_cons_emb outM.view g (Rect.unit (s := S2x256x1024) (slotOff s) S1x256x1024.size hh) P [] (Shape.reshapeEquiv squeezes_S1x256x1024_S256x1024.numel_eq j)

theorem stored_read {off off' : Fin 3 → Nat} {s : Fin 2} (e : off = slotOff s) (e' : off' = slotOff s) (hh) (hh') (g : Buf (Elt F) (outM.view.loc (c : Thread nD τ)))
    (A : S256x2048.Idx → Elt F .f32) (S T : Vec F S2048x1024 .bf16) (B D : Vec F S1x1x1024 .f32) :
    (outSlot s).view.read (Elt F) (outM.view.writes (Elt F) g [⟨Rect.unit (s := S2x256x1024) off S1x256x1024.size hh,
      k0_pay3 (F := F) (k0_pay7 (F := F) (inM.view.readAt (Elt F) (Rect.unit (s := S2x256x2048) off' S1x256x2048.size hh').toLoadRect ((inSlot s).view.rep A)) S B)
        (Scalar.ofBits .f32 0x40E00000#32)
        (k0_pay8 (F := F) (inM.view.readAt (Elt F) (Rect.unit (s := S2x256x2048) off' S1x256x2048.size hh').toLoadRect ((inSlot s).view.rep A)) T D)⟩])
      = outVal A S T B D := by
  rw [in_load e']; exact out_read c e hh g _

/-- A tile written whole with what `R` holds there is the tile at `R`. -/
theorem tileO_of (b : Fin 576) (f) (x : S256x1024.Idx → Elt F .bf16) (hx : x = (oTile b).view.read (Elt F) R) :
    tileO c b ((oTile b).view.writes (Elt F) f [⟨Rect.whole S256x1024, x⟩]) = tileO c b R := by
  unfold tileO
  rw [pointsTo_rep (c : Thread nD τ) (oTile b) R, pointsTo_rep (c : Thread nD τ) (oTile b) ((oTile b).view.writes (Elt F) f _), View.read_writes_whole, hx]
theorem inP_of (s : Fin 2) (f) (x : S256x2048.Idx → Elt F .f32) :
    inP c s ((inSlot s).view.writes (Elt F) f [⟨Rect.whole S256x2048, x⟩]) = inP c s ((inSlot s).view.rep x) := by
  unfold inP
  exact pointsTo_writes_whole_rebase (c : Thread nD τ) (inSlot s) f _ x _

theorem inFlight_of (s : Fin 2) (b : Fin 288) (f) (x : S256x2048.Idx → Elt F .f32) (hx : x = aVal c XA b) :
    Transfers.Flight countersEmb (c : Thread nD τ) (SemLoc.dma (inSem s).sem) () 65536
      iprop(inP c s ((inSlot s).view.writes (Elt F) f [⟨Rect.whole S256x2048, x⟩]) ∗ homeA c XA b) ⊢ inFlight c XA s b := by
  rw [inP_of, hx]
theorem outFlight_of (s : Fin 2) (b : Fin 576) (f) (x : S256x1024.Idx → Elt F .bf16) (hx : x = (oTile b).view.read (Elt F) R) (g) :
    Transfers.Flight countersEmb (c : Thread nD τ) (SemLoc.dma (outSem s).sem) () 16384
      iprop(tileO c b ((oTile b).view.writes (Elt F) f [⟨Rect.whole S256x1024, x⟩]) ∗ outP c s g) ⊢ outFlight c R s b g := by
  rw [tileO_of c R b f x hx]

/-- Result slot `s` before trip `k`, which last sent out the tile `d` trips back, if that trip was. -/
def oSt (c : Dev nD) (u : Nat) (R : Buf (Elt F) (oM.view.loc (c : Thread nD τ))) (k d : Nat) (s : Fin 2) : sProp 𝕄 :=
  if d ≤ k then iprop(∃ f, outFlight c R s (rt (u + (k - d))) f) else iprop((∃ f, outP c s f) ∗ outCell c s)

/-- What `R` holds on the expert's tiles. -/
def Holds : Prop := ∀ k, k < v3.toNat → (oTile (rt (ib i + v1.toNat + k))).view.read (Elt F) R
  = outVal (aVal c XA (tl (v1.toNat + k)))
      (waM.view.readAt (Elt F) (Rect.unit (s := S2048x1024) ![0, 0] S2048x1024.size inb_S2048x1024_S2048x1024_0_0).toLoadRect XS)
      (wbM.view.readAt (Elt F) (Rect.unit (s := S2048x1024) ![0, 0] S2048x1024.size inb_S2048x1024_S2048x1024_0_0).toLoadRect XT)
      (arg4.view.readAt (Elt F) (Rect.unit (s := S1x1x1024) ![0, 0, 0] S1x1x1024.size inb_S1x1x1024_S1x1x1024_0_0_0).toLoadRect XB)
      (arg5.view.readAt (Elt F) (Rect.unit (s := S1x1x1024) ![0, 0, 0] S1x1x1024.size inb_S1x1x1024_S1x1x1024_0_0_0).toLoadRect XD)

def nextIn (k : Nat) : sProp 𝕄 :=
  if k + 1 < v3.toNat then homeA c XA (tl (v1.toNat + (k + 1))) else iprop(emp)
def nextIn' (k : Nat) : sProp 𝕄 :=
  if k + 1 < v3.toNat then inFlight c XA (sl (k + 1)) (tl (v1.toNat + (k + 1))) else iprop((∃ f, inP c (sl (k + 1)) f) ∗ inCell c (sl (k + 1)))
def backOut (c : Dev nD) (u : Nat) (R : Buf (Elt F) (oM.view.loc (c : Thread nD τ))) (k : Nat) : sProp 𝕄 :=
  if 2 ≤ k then tileO c (rt (u + (k - 2))) R else iprop(emp)

def corePre (k : Nat) : sProp 𝕄 :=
  iprop(biasP c arg4 XB ∗ biasP c arg5 XD ∗ waP c XS ∗ wbP c XT ∗ inFlight c XA (sl k) (tl (v1.toNat + k)) ∗ (∃ f, inP c (sl (k + 1)) f) ∗ inCell c (sl (k + 1))
    ∗ nextIn c v1 v3 XA k ∗ oSt c (ib i + v1.toNat) R k 2 (sl k) ∗ (∃ f, tileO c (rt (ib i + v1.toNat + k)) f) ∗ ∃ W, owes (c : Thread nD τ) 0 W)
def corePost (k : Nat) : sProp 𝕄 :=
  iprop(biasP c arg4 XB ∗ biasP c arg5 XD ∗ waP c XS ∗ wbP c XT ∗ (∃ f, inP c (sl k) f) ∗ inCell c (sl k) ∗ homeA c XA (tl (v1.toNat + k)) ∗ nextIn' c v1 v3 XA k
    ∗ (∃ f, outFlight c R (sl k) (rt (ib i + v1.toNat + k)) f) ∗ backOut c (ib i + v1.toNat) R k ∗ ∃ W, owes (c : Thread nD τ) 0 W)

set_option maxHeartbeats 2000000 in
theorem tripCore (hF : Fits v1 v3) (hR : Holds c i arg4 arg5 v1 v3 XA XS XT XB XD R) (k : Fin (k0_t1_loop v3).trips) :
    corePre c i arg4 arg5 v1 v3 XA XS XT XB XD R k.val ⊢ wp frame (wpE (defs₀ (F := F)) 𝒱₀ (c : Thread nD τ) none) Set.univ (bodyAt i arg4 harg4 arg5 harg5 v1 v3 hw k)
      (fun _ => corePost c i arg4 arg5 v1 v3 XA XS XT XB XD R k.val) := by
  have hk := (k_lt hF k).2
  have hv := hR k.val (k_lt hF k).1
  have h3 : v3.toNat ≤ 288 := by unfold Fits at hF; omega
  unfold corePre corePost nextIn nextIn' backOut oSt
  by_cases h1 : k.val + 1 < v3.toNat
  · have hk1 : v1.toNat + (k.val + 1) < 288 := by unfold Fits at hF; omega
    have c5 : k0_cond5 v3 k = 1#1 := (cond5_iff h3 k).mpr h1
    by_cases h2 : 2 ≤ k.val
    · have c6 : k0_cond6 v3 k = 1#1 := (cond6_iff h3 k).mpr h2
      simp only [if_pos h1, if_pos h2]
      iintro ⟨HB, HB2, HS, HS2, HI, ⟨%fi, HIN⟩, HIC, HA, ⟨%gg, HFO⟩, ⟨%fo, HO⟩, ⟨%W, HW⟩⟩
      dsimp only [bodyAt]
      sl_unfold [k0_t1_body]
      sl_rw [k0_part1_eq_skeleton]
      sl_unfold [k0_part1_skel]
      sl_exec
      sl_step
      isplitl [HB]; · iexact HB
      isplitl [HB2]; · iexact HB2
      isplitl [HS]; · iexact HS
      isplitl [HS2]; · iexact HS2
      isplitl [HI_dst]; · iexists _; iexact HI_dst
      isplitl [HI]; · iexact HI
      isplitl [HI_src]; · iexact HI_src
      isplitl [HIC]
      · iapply (inFlight_of c XA _ _ fi _ rfl); iexact HIC
      isplitl [HFO]
      · iexists _
        iapply (outFlight_of c R _ _ fo _ ?_ _)
        on_goal 2 => iexact HFO
        · exact (stored_read c (off25_eq k) (off21_eq k) (k0_off25_inb i v1 v3 hw k) (k0_off21_inb i v1 v3 hw k) gg _ _ _ _ _).trans hv.symm
      isplitl [HFO_dst]; · iexact HFO_dst
      iexists _; iexact HW
    · have c6 : ¬ k0_cond6 v3 k = 1#1 := fun h => h2 ((cond6_iff h3 k).mp h)
      simp only [if_pos h1, if_neg h2]
      iintro ⟨HB, HB2, HS, HS2, HI, ⟨%fi, HIN⟩, HIC, HA, ⟨⟨%gg, HG⟩, HFO⟩, ⟨%fo, HO⟩, ⟨%W, HW⟩⟩
      dsimp only [bodyAt]
      sl_unfold [k0_t1_body]
      sl_rw [k0_part1_eq_skeleton]
      sl_unfold [k0_part1_skel]
      sl_exec
      sl_step
      isplitl [HB]; · iexact HB
      isplitl [HB2]; · iexact HB2
      isplitl [HS]; · iexact HS
      isplitl [HS2]; · iexact HS2
      isplitl [HI_dst]; · iexists _; iexact HI_dst
      isplitl [HI]; · iexact HI
      isplitl [HI_src]; · iexact HI_src
      isplitl [HIC]
      · iapply (inFlight_of c XA _ _ fi _ rfl); iexact HIC
      isplitl [HFO]
      · iexists _
        iapply (outFlight_of c R _ _ fo _ ?_ _)
        on_goal 2 => iexact HFO
        · exact (stored_read c (off25_eq k) (off21_eq k) (k0_off25_inb i v1 v3 hw k) (k0_off21_inb i v1 v3 hw k) gg _ _ _ _ _).trans hv.symm
      isplitr; · iempintro
      iexists _; iexact HW
  · have c5 : ¬ k0_cond5 v3 k = 1#1 := fun h => h1 ((cond5_iff h3 k).mp h)
    by_cases h2 : 2 ≤ k.val
    · have c6 : k0_cond6 v3 k = 1#1 := (cond6_iff h3 k).mpr h2
      simp only [if_neg h1, if_pos h2]
      iintro ⟨HB, HB2, HS, HS2, HI, ⟨%fi, HIN⟩, HIC, HA, ⟨%gg, HFO⟩, ⟨%fo, HO⟩, ⟨%W, HW⟩⟩
      dsimp only [bodyAt]
      sl_unfold [k0_t1_body]
      sl_rw [k0_part1_eq_skeleton]
      sl_unfold [k0_part1_skel]
      sl_exec
      sl_step
      isplitl [HB]; · iexact HB
      isplitl [HB2]; · iexact HB2
      isplitl [HS]; · iexact HS
      isplitl [HS2]; · iexact HS2
      isplitl [HI_dst]; · iexists _; iexact HI_dst
      isplitl [HI]; · iexact HI
      isplitl [HI_src]; · iexact HI_src
      isplitl [HIN HIC]
      · isplitl [HIN]
        · iexists _; iexact HIN
        iexact HIC
      isplitl [HFO]
      · iexists _
        iapply (outFlight_of c R _ _ fo _ ?_ _)
        on_goal 2 => iexact HFO
        · exact (stored_read c (off25_eq k) (off21_eq k) (k0_off25_inb i v1 v3 hw k) (k0_off21_inb i v1 v3 hw k) gg _ _ _ _ _).trans hv.symm
      isplitl [HFO_dst]; · iexact HFO_dst
      iexists _; iexact HW
    · have c6 : ¬ k0_cond6 v3 k = 1#1 := fun h => h2 ((cond6_iff h3 k).mp h)
      simp only [if_neg h1, if_neg h2]
      iintro ⟨HB, HB2, HS, HS2, HI, ⟨%fi, HIN⟩, HIC, HA, ⟨⟨%gg, HG⟩, HFO⟩, ⟨%fo, HO⟩, ⟨%W, HW⟩⟩
      dsimp only [bodyAt]
      sl_unfold [k0_t1_body]
      sl_rw [k0_part1_eq_skeleton]
      sl_unfold [k0_part1_skel]
      sl_exec
      sl_step
      isplitl [HB]; · iexact HB
      isplitl [HB2]; · iexact HB2
      isplitl [HS]; · iexact HS
      isplitl [HS2]; · iexact HS2
      isplitl [HI_dst]; · iexists _; iexact HI_dst
      isplitl [HI]; · iexact HI
      isplitl [HI_src]; · iexact HI_src
      isplitl [HIN HIC]
      · isplitl [HIN]
        · iexists _; iexact HIN
        iexact HIC
      isplitl [HFO]
      · iexists _
        iapply (outFlight_of c R _ _ fo _ ?_ _)
        on_goal 2 => iexact HFO
        · exact (stored_read c (off25_eq k) (off21_eq k) (k0_off25_inb i v1 v3 hw k) (k0_off21_inb i v1 v3 hw k) gg _ _ _ _ _).trans hv.symm
      isplitl [HA]; · iexact HA
      iexists _; iexact HW
end Trip
end Cert.Gmm1.Moe
-- ==== Proof.Moe.Gmm1Loop.lean ====
/-
  The first grouped product of the experts: the tile loop and the loop that fills the rest, by their invariants.
-/
module

public import proofs.«01_k».proof.Proof.Moe.Gmm1Trip

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  par_iv npar_iv at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Tiles before a number and tiles from it on -/

def doneSet (n : Nat) : Finset (Fin 576) := Finset.univ.filter (fun b => b.val < n)
def todoSet (n : Nat) : Finset (Fin 576) := Finset.univ.filter (fun b => n ≤ b.val)

theorem done_zero : doneSet 0 = ∅ := by ext b; simp [doneSet]
theorem done_all : doneSet 576 = Finset.univ := by ext b; have := b.isLt; simp [doneSet]
theorem todo_zero : todoSet 0 = Finset.univ := by ext b; simp [todoSet]
theorem todo_all : todoSet 576 = ∅ := by ext b; have := b.isLt; simp [todoSet]
theorem done_succ (P : Fin 576 → sProp 𝕄) {n : Nat} (h : n < 576) : bigSep (doneSet (n + 1)) P = iprop(P (rt n) ∗ bigSep (doneSet n) P) := by
  have hv := rt_val h
  have e : doneSet (n + 1) = insert (rt n) (doneSet n) := by
    ext b; simp only [doneSet, Finset.mem_filter, Finset.mem_univ, true_and, Finset.mem_insert, Fin.ext_iff, hv]; omega
  rw [e]; exact bigSep_insert (by simp [doneSet, hv])
theorem todo_succ (P : Fin 576 → sProp 𝕄) {n : Nat} (h : n < 576) : bigSep (todoSet n) P = iprop(P (rt n) ∗ bigSep (todoSet (n + 1)) P) := by
  have hv := rt_val h
  have e : todoSet n = insert (rt n) (todoSet (n + 1)) := by
    ext b; simp only [todoSet, Finset.mem_filter, Finset.mem_univ, true_and, Finset.mem_insert, Fin.ext_iff, hv]; omega
  rw [e]; exact bigSep_insert (by simp [todoSet, hv])
/-- One part taken out of a family. -/
theorem take_one {ι : Type} [DecidableEq ι] (P : ι → sProp 𝕄) {s : Finset ι} {b : ι} (h : b ∈ s) : bigSep s P = iprop(P b ∗ bigSep (s.erase b) P) := by
  conv_lhs => rw [← Finset.insert_erase h]
  exact bigSep_insert (Finset.notMem_erase b s)

section Loop
variable (c : Dev nD) (i : grid0.Coords) (arg4 : Memref sig .tc .vmem S1x1x1024 .f32) (harg4 : arg4.IsWhole)
  (arg5 : Memref sig .tc .vmem S1x1x1024 .f32) (harg5 : arg5.IsWhole)
  (v1 v3 : BitVec 32) (hw : k0_chk1 i v1 v3)
  (XA : Buf (Elt F) (aM.view.loc (c : Thread nD τ))) (XS : Buf (Elt F) (waM.view.loc (c : Thread nD τ))) (XT : Buf (Elt F) (wbM.view.loc (c : Thread nD τ)))
  (XB : Buf (Elt F) (arg4.view.loc (c : Thread nD τ))) (XD : Buf (Elt F) (arg5.view.loc (c : Thread nD τ))) (R : Buf (Elt F) (oM.view.loc (c : Thread nD τ)))

abbrev anyIn (s : Fin 2) : sProp 𝕄 := iprop((∃ f, inP (F := F) c s f) ∗ inCell c s)
abbrev anyOut (s : Fin 2) : sProp 𝕄 := iprop((∃ f, outP (F := F) c s f) ∗ outCell c s)
/-- The tiles done at `R`, and those to do at anything. -/
abbrev doneP (n : Nat) : sProp 𝕄 := bigSep (doneSet n) (fun b => tileO c b R)
abbrev todoP (n : Nat) : sProp 𝕄 := bigSep (todoSet n) (fun b => iprop(∃ f, tileO (F := F) c b f))
abbrev owesP : sProp 𝕄 := iprop(∃ W, owes (c : Thread nD τ) 0 W)

theorem todo_open {n : Nat} (h : n < 576) : todoP (F := F) c n ⊢ iprop((∃ f, tileO (F := F) c (rt n) f) ∗ todoP (F := F) c (n + 1)) := by
  rw [todoP, todo_succ _ h]
theorem done_close {n : Nat} (h : n < 576) : iprop(tileO c (rt n) R ∗ doneP c R n) ⊢ doneP c R (n + 1) := by
  unfold doneP; rw [done_succ _ h]

/-- The activations before trip `k`: tile `k` on its way in, the others at home; all at home after the last. -/
def actSt (k : Nat) : sProp 𝕄 :=
  if k < v3.toNat then iprop(inFlight c XA (sl k) (tl (v1.toNat + k)) ∗ bigSep (Finset.univ.erase (tl (v1.toNat + k))) (homeA c XA))
  else iprop(anyIn (F := F) c (sl k) ∗ bigSep Finset.univ (homeA c XA))
def actRest (k : Nat) : sProp 𝕄 :=
  if k + 1 < v3.toNat then bigSep ((Finset.univ.erase (tl (v1.toNat + k))).erase (tl (v1.toNat + (k + 1)))) (homeA c XA)
  else bigSep (Finset.univ.erase (tl (v1.toNat + k))) (homeA c XA)

theorem tl_ne {a b : Nat} (ha : a < 288) (hb : b < 288) (h : a ≠ b) : tl a ≠ tl b := fun e => h (by rw [← tl_val ha, ← tl_val hb, e])

theorem act_split (hF : Fits v1 v3) {k : Nat} (hk : k < v3.toNat) :
    actSt c v1 v3 XA k ⊢ iprop(inFlight c XA (sl k) (tl (v1.toNat + k)) ∗ nextIn c v1 v3 XA k ∗ actRest c v1 v3 XA k) := by
  unfold actSt nextIn actRest; rw [if_pos hk]
  by_cases h1 : k + 1 < v3.toNat
  · rw [if_pos h1, if_pos h1]
    have hne : tl (v1.toNat + (k + 1)) ≠ tl (v1.toNat + k) := by unfold Fits at hF; exact tl_ne (by omega) (by omega) (by omega)
    rw [take_one (homeA c XA) (Finset.mem_erase.mpr ⟨hne, Finset.mem_univ _⟩)]
  · rw [if_neg h1, if_neg h1]
    iintro ⟨H, HR⟩
    isplitl [H]; · iexact H
    isplitr; · iempintro
    iexact HR
theorem act_join (hF : Fits v1 v3) {k : Nat} (hk : k < v3.toNat) :
    iprop(homeA c XA (tl (v1.toNat + k)) ∗ nextIn' c v1 v3 XA k ∗ actRest c v1 v3 XA k) ⊢ actSt c v1 v3 XA (k + 1) := by
  unfold actSt nextIn' actRest
  by_cases h1 : k + 1 < v3.toNat
  · rw [if_pos h1, if_pos h1, if_pos h1]
    have hne : tl (v1.toNat + k) ≠ tl (v1.toNat + (k + 1)) := by unfold Fits at hF; exact tl_ne (by omega) (by omega) (by omega)
    rw [Finset.erase_right_comm, take_one (homeA c XA) (Finset.mem_erase.mpr ⟨hne, Finset.mem_univ _⟩)]
    iintro ⟨H, HN, HR⟩
    isplitl [HN]; · iexact HN
    isplitl [H]; · iexact H
    iexact HR
  · rw [if_neg h1, if_neg h1, if_neg h1, take_one (homeA c XA) (Finset.mem_univ (tl (v1.toNat + k)))]
    iintro ⟨H, HN, HR⟩
    isplitl [HN]; · iexact HN
    isplitl [H]; · iexact H
    iexact HR

theorem oSt_shift (u k : Nat) (s : Fin 2) : oSt c u R k 1 s = oSt c u R (k + 1) 2 s := by
  unfold oSt
  by_cases h : 1 ≤ k
  · rw [if_pos h, if_pos (by omega), show k + 1 - 2 = k - 1 by omega]
  · rw [if_neg h, if_neg (by omega)]
theorem done_back (i : grid0.Coords) (hF : Fits v1 v3) {k : Nat} (hk : k < v3.toNat) :
    iprop(backOut c (ib i + v1.toNat) R k ∗ doneP c R (ib i + v1.toNat + (k - 2))) ⊢ doneP c R (ib i + v1.toNat + (k + 1 - 2)) := by
  unfold backOut doneP
  by_cases h : 2 ≤ k
  · rw [if_pos h, show ib i + v1.toNat + (k + 1 - 2) = (ib i + v1.toNat + (k - 2)) + 1 by omega, done_succ _ (by have := ib_le i; unfold Fits at hF; omega)]
  · rw [if_neg h, show k + 1 - 2 = k - 2 by omega]
    iintro ⟨_, H⟩; iexact H

/-- What the tile loop keeps from trip to trip. -/
def tripRes (k : Nat) : sProp 𝕄 :=
  iprop(biasP c arg4 XB ∗ biasP c arg5 XD ∗ waP c XS ∗ wbP c XT ∗ actSt c v1 v3 XA k ∗ anyIn (F := F) c (sl (k + 1)) ∗ oSt c (ib i + v1.toNat) R k 1 (sl (k + 1)) ∗ oSt c (ib i + v1.toNat) R k 2 (sl k)
    ∗ doneP c R (ib i + v1.toNat + (k - 2)) ∗ todoP (F := F) c (ib i + v1.toNat + k) ∗ owesP (F := F) c)

theorem tripStep (hF : Fits v1 v3) (hR : Holds c i arg4 arg5 v1 v3 XA XS XT XB XD R) (k : Fin (k0_t1_loop v3).trips) :
    tripRes c i arg4 arg5 v1 v3 XA XS XT XB XD R k.val ⊢ wp frame (wpE (defs₀ (F := F)) 𝒱₀ (c : Thread nD τ) none) Set.univ (bodyAt i arg4 harg4 arg5 harg5 v1 v3 hw k)
      (fun _ => tripRes c i arg4 arg5 v1 v3 XA XS XT XB XD R (k.val + 1)) := by
  have hk := (k_lt hF k).1
  have hk2 := (k_lt hF k).2
  have hk3 : ib i + v1.toNat + k.val < 576 := by have := ib_le i; omega
  unfold tripRes
  iintro ⟨HB, HB2, HS, HS2, HA, HI, HO1, HO2, HD, HT, HW⟩
  ihave HT2 := (todo_open c hk3) $$ HT
  icases HT2 with ⟨HT0, HT⟩
  ihave HA2 := (act_split c v1 v3 XA hF hk) $$ HA
  icases HA2 with ⟨HA0, HA1, HAR⟩
  icases HI with ⟨HI0, HI1⟩
  iapply (wp_wand_r Idealize.ShloMosaic.frame (wpE (defs₀ (F := F)) 𝒱₀ (c : Thread nD τ) none) Set.univ)
  isplitl [HB HB2 HS HS2 HA0 HI0 HI1 HA1 HO2 HT0 HW]
  · iapply (tripCore c i arg4 harg4 arg5 harg5 v1 v3 hw XA XS XT XB XD R hF hR k)
    unfold corePre
    isplitl [HB]; · iexact HB
    isplitl [HB2]; · iexact HB2
    isplitl [HS]; · iexact HS
    isplitl [HS2]; · iexact HS2
    isplitl [HA0]; · iexact HA0
    isplitl [HI0]; · iexact HI0
    isplitl [HI1]; · iexact HI1
    isplitl [HA1]; · iexact HA1
    isplitl [HO2]; · iexact HO2
    isplitl [HT0]; · iexact HT0
    iexact HW
  · iintro %_ HP
    unfold corePost
    icases HP with ⟨HB, HB2, HS, HS2, HI0, HI1, HA0, HA1, HO, HBk, HW⟩
    isplitl [HB]; · iexact HB
    isplitl [HB2]; · iexact HB2
    isplitl [HS]; · iexact HS
    isplitl [HS2]; · iexact HS2
    isplitl [HA0 HA1 HAR]
    · iapply (act_join c v1 v3 XA hF hk)
      isplitl [HA0]; · iexact HA0
      isplitl [HA1]; · iexact HA1
      iexact HAR
    isplitl [HI0 HI1]
    · rw [show k.val + 1 + 1 = k.val + 2 from rfl, sl_add_two]
      isplitl [HI0]; · iexact HI0
      iexact HI1
    isplitl [HO]
    · unfold oSt
      rw [if_pos (by omega : 1 ≤ k.val + 1), show k.val + 1 + 1 = k.val + 2 from rfl, sl_add_two, show k.val + 1 - 1 = k.val from rfl]
      iexact HO
    isplitl [HO1]
    · rw [← oSt_shift]; iexact HO1
    isplitl [HBk HD]
    · iapply (done_back c v1 v3 R i hF hk)
      isplitl [HBk]; · iexact HBk
      iexact HD
    isplitl [HT]; · iexact HT
    iexact HW

end Loop

/-! ## The fill -/
section Fill
variable (c : Dev nD) (i : grid0.Coords) (arg4 : Memref sig .tc .vmem S1x1x1024 .f32) (harg4 : arg4.IsWhole)
  (arg5 : Memref sig .tc .vmem S1x1x1024 .f32) (harg5 : arg5.IsWhole)
  (v28 v29 : BitVec 32) (hw : k0_chk2 i v28 v29) (h11 : k0_cond11 i = 1#1)
  (R : Buf (Elt F) (oM.view.loc (c : Thread nD τ)))

abbrev fillAt (j : Fin (k0_t3_loop v28 v29).trips) : Prog (TpuEff nD τ sig (Elt F) Λ₀ .tc) Unit :=
  k0_t3_body (F := F) i tM (Memref.isWhole_whole _) nM (Memref.isWhole_whole _) arg4 harg4 arg5 harg5 wM (Memref.isWhole_whole _) aM (Memref.isWhole_whole _) oM (Memref.isWhole_whole _) rawM (Memref.isWhole_whole _) cc0_scratch1 waM (Memref.isWhole_whole _) wbM (Memref.isWhole_whole _) inM (Memref.isWhole_whole _) outM (Memref.isWhole_whole _) cc0_scratch6 cc0_scratch7 v28 v29 hw h11 j ()

/-- The tile the kernel writes where no expert has rows. -/
def zeroVal : S256x1024.Idx → Elt F .bf16 :=
  fun j => k0_pay5 (F := F) (Shape.reshapeEquiv squeezes_S1x256x1024_S256x1024.numel_eq j)
def Zeros (a z : Nat) : Prop := ∀ n, a ≤ n → n < z → (oTile (rt n)).view.read (Elt F) R = zeroVal (F := F)

def fillRes (f : Buf (Elt F) ((outSlot (sl 0)).view.loc (c : Thread nD τ))) (n : Nat) : sProp 𝕄 :=
  iprop(outP c (sl 0) f ∗ outCell c (sl 0) ∗ doneP c R n ∗ todoP (F := F) c n ∗ owesP (F := F) c)

set_option maxHeartbeats 1000000 in
theorem fillStep (hF : Fits v28 v29) (hR : Zeros c R (ib i + (v28.toNat + v29.toNat)) (ib i + 288)) (f) (hf : (outSlot (sl 0)).view.read (Elt F) f = zeroVal (F := F))
    (j : Fin (k0_t3_loop v28 v29).trips) :
    fillRes c R f (ib i + (v28.toNat + v29.toNat + j.val)) ⊢ wp frame (wpE (defs₀ (F := F)) 𝒱₀ (c : Thread nD τ) none) Set.univ (fillAt i arg4 harg4 arg5 harg5 v28 v29 hw h11 j)
      (fun _ => fillRes c R f (ib i + (v28.toNat + v29.toNat + (j.val + 1)))) := by
  have hj : j.val < 288 - (v28.toNat + v29.toNat) := lt_of_lt_of_eq j.isLt (trips3 hF)
  have hi := ib_le i
  have hn : ib i + (v28.toNat + v29.toNat + j.val) < 576 := by omega
  unfold fillRes
  rw [show ib i + (v28.toNat + v29.toNat + (j.val + 1)) = ib i + (v28.toNat + v29.toNat + j.val) + 1 by omega]
  iintro ⟨HO, HC, HD, HT, ⟨%W, HW⟩⟩
  ihave HT2 := (todo_open c hn) $$ HT
  icases HT2 with ⟨⟨%fo, HT0⟩, HT⟩
  dsimp only [fillAt]
  sl_unfold [k0_t3_body]
  sl_exec
  sl_step
  isplitl [HO]; · iexact HO
  isplitl [HC]; · iexact HC
  isplitl [HT0 HD]
  · iapply (done_close c R hn)
    isplitl [HT0]
    · rw [← tileO_of c R (rt (ib i + (v28.toNat + v29.toNat + j.val))) fo _ (hf.trans (hR _ (by omega) (by omega)).symm)]
      iexact HT0
    iexact HD
  isplitl [HT]; · iexact HT
  iexists _; iexact HW
end Fill
end Cert.Gmm1.Moe
-- ==== Proof.Moe.Gmm1Part.lean ====
/-
  The first grouped product of the experts: the head of a point, up to its tile loop.
-/
module

public import proofs.«01_k».proof.Proof.Moe.Gmm1Loop

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  par_iv npar_iv at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Part
variable (c : Dev nD) (i : grid0.Coords) (arg4 : Memref sig .tc .vmem S1x1x1024 .f32) (harg4 : arg4.IsWhole)
  (arg5 : Memref sig .tc .vmem S1x1x1024 .f32) (harg5 : arg5.IsWhole)
  (XK : Buf (Elt F) (tM.view.loc (c : Thread nD τ))) (XN : Buf (Elt F) (nM.view.loc (c : Thread nD τ)))
  (XA : Buf (Elt F) (aM.view.loc (c : Thread nD τ))) (XW : Buf (Elt F) (wM.view.loc (c : Thread nD τ)))

/-- The tables, as the body holds them; a word of each. -/
abbrev tabT : sProp 𝕄 := tM.view.loc (c : Thread nD τ) ↦{fullShare.right} XK
abbrev tabN : sProp 𝕄 := nM.view.loc (c : Thread nD τ) ↦{fullShare.right} XN
abbrev wordT (off : Fin 1 → Nat) (h : ∀ a, off a + S1.size a ≤ S32.size a) : BitVec 32 :=
  tM.view.readAt (Elt F) (Rect.unit (s := S32) off S1.size h).toLoadRect XK (Shape.Idx.first (s := S1) (by decide))
abbrev wordN (off : Fin 1 → Nat) (h : ∀ a, off a + S1.size a ≤ S32.size a) : BitVec 32 :=
  nM.view.readAt (Elt F) (Rect.unit (s := S32) off S1.size h).toLoadRect XN (Shape.Idx.first (s := S1) (by decide))

/-- What a quarter of the matrices holds. -/
abbrev wVal (h : Fin 2) (k : Fin 64) : S2048x1024.Idx → Elt F .f32 := (wBlk h k).view.read (Elt F) XW
abbrev anyRaw (h s : Fin 2) : sProp 𝕄 := iprop((∃ f, rawP (F := F) c h s f) ∗ rawCell c h s)
abbrev rawFlight (h s : Fin 2) (k : Fin 64) : sProp 𝕄 :=
  Transfers.Flight countersEmb (c : Thread nD τ) (SemLoc.dma (rawSem s h).sem) () 262144
    iprop(rawP c h s ((rawSlot s h).view.rep (wVal c XW h k)) ∗ homeW c XW h k)
/-- Half `h` of the quarters before step `n`: that step's on its way in, asked for by the step before it. -/
def wSt (h : Fin 2) (n : Nat) : sProp 𝕄 :=
  if 1 ≤ n ∧ n < 64 then iprop(rawFlight c XW h (sl n) (st n) ∗ anyRaw (F := F) c h (sl (n + 1)) ∗ bigSep (Finset.univ.erase (st n)) (homeW c XW h))
  else iprop(anyRaw (F := F) c h (sl n) ∗ anyRaw (F := F) c h (sl (n + 1)) ∗ bigSep Finset.univ (homeW c XW h))
/-- What else there is of half `h` while step `n` uses its own quarter: the next one on its way in, if there is one. -/
def nxW (h : Fin 2) (n : Nat) : sProp 𝕄 :=
  if n + 1 < 64 then iprop(rawFlight c XW h (sl (n + 1)) (st (n + 1)) ∗ bigSep ((Finset.univ.erase (st n)).erase (st (n + 1))) (homeW c XW h))
  else iprop(anyRaw (F := F) c h (sl (n + 1)) ∗ bigSep (Finset.univ.erase (st n)) (homeW c XW h))
/-- Step `n`'s quarter still on its way in; arrived. -/
def wMid (h : Fin 2) (n : Nat) : sProp 𝕄 := iprop(rawFlight c XW h (sl n) (st n) ∗ nxW c XW h n)
def wGot (h : Fin 2) (n : Nat) : sProp 𝕄 :=
  iprop(rawP c h (sl n) ((rawSlot (sl n) h).view.rep (wVal c XW h (st n))) ∗ rawCell (F := F) c h (sl n) ∗ homeW c XW h (st n) ∗ nxW c XW h n)

theorem rawP_of (h s : Fin 2) (f) (x : S2048x1024.Idx → Elt F .f32) :
    rawP c h s ((rawSlot s h).view.writes (Elt F) f [⟨Rect.whole S2048x1024, x⟩]) = rawP c h s ((rawSlot s h).view.rep x) := by
  unfold rawP
  exact pointsTo_writes_whole_rebase (c : Thread nD τ) (rawSlot s h) f _ x _
theorem rawFlight_of (h s s' : Fin 2) (k k' : Fin 64) (hs : s' = s) (hk : k' = k) (f) (x : S2048x1024.Idx → Elt F .f32) (hx : x = wVal c XW h k) :
    Transfers.Flight countersEmb (c : Thread nD τ) (SemLoc.dma (rawSem s h).sem) () 262144
      iprop(rawP c h s ((rawSlot s h).view.writes (Elt F) f [⟨Rect.whole S2048x1024, x⟩]) ∗ homeW c XW h k) ⊢ rawFlight c XW h s' k' := by
  subst hs hk
  rw [rawP_of, hx]

/-- A load of a matrix slot through the whole buffer reads the quarter the slot holds. -/
theorem raw_load {off : Fin 4 → Nat} {s h : Fin 2} (e : off = rawOff s h) (hh) (x : S2048x1024.Idx → Elt F .f32) :
    rawM.view.readAt (Elt F) (Rect.unit (s := S2x2x2048x1024) off S1x1x2048x1024.size hh).toLoadRect ((rawSlot s h).view.rep x)
      = fun y => x ((Shape.reshapeEquiv squeezes_S1x1x2048x1024_S2048x1024.numel_eq).symm y) := by
  subst e; funext y
  obtain ⟨j, rfl⟩ := (Shape.reshapeEquiv squeezes_S1x1x2048x1024_S2048x1024.numel_eq).surjective y
  rw [Equiv.symm_apply_apply]
  exact congrFun (View.read_rep (rawSlot s h).view x) j

/-- A step's two quarters as the kernel multiplies by them. -/
def wUseA (k : Fin 64) : Vec F S2048x1024 .bf16 :=
  k0_pay1 (F := F) (fun y => wVal c XW 0 k ((Shape.reshapeEquiv squeezes_S1x1x2048x1024_S2048x1024.numel_eq).symm y))
def wUseB (k : Fin 64) : Vec F S2048x1024 .bf16 :=
  k0_pay2 (F := F) (fun y => wVal c XW 1 k ((Shape.reshapeEquiv squeezes_S1x1x2048x1024_S2048x1024.numel_eq).symm y))
/-- The two matrix buffers hold step `k`'s quarters. -/
def HasA (k : Fin 64) (XS : Buf (Elt F) (waM.view.loc (c : Thread nD τ))) : Prop :=
  waM.view.readAt (Elt F) (Rect.unit (s := S2048x1024) ![0, 0] S2048x1024.size inb_S2048x1024_S2048x1024_0_0).toLoadRect XS = wUseA c XW k
def HasB (k : Fin 64) (XS : Buf (Elt F) (wbM.view.loc (c : Thread nD τ))) : Prop :=
  wbM.view.readAt (Elt F) (Rect.unit (s := S2048x1024) ![0, 0] S2048x1024.size inb_S2048x1024_S2048x1024_0_0).toLoadRect XS = wUseB c XW k

theorem hasA_of (k : Fin 64) {off : Fin 4 → Nat} {s : Fin 2} (eo : off = rawOff s 0) (hh) (f) :
    HasA c XW k (waM.view.writes (Elt F) f [⟨Rect.unit (s := S2048x1024) ![0, 0] S2048x1024.size inb_S2048x1024_S2048x1024_0_0,
      k0_pay1 (F := F) (rawM.view.readAt (Elt F) (Rect.unit (s := S2x2x2048x1024) off S1x1x2048x1024.size hh).toLoadRect ((rawSlot s 0).view.rep (wVal c XW 0 k)))⟩]) := by
  unfold HasA; rw [raw_load eo]
  funext j
  exact View.read_writes_cons_emb waM.view f (Rect.unit (s := S2048x1024) ![0, 0] S2048x1024.size inb_S2048x1024_S2048x1024_0_0) _ [] j
theorem hasB_of (k : Fin 64) {off : Fin 4 → Nat} {s : Fin 2} (eo : off = rawOff s 1) (hh) (f) :
    HasB c XW k (wbM.view.writes (Elt F) f [⟨Rect.unit (s := S2048x1024) ![0, 0] S2048x1024.size inb_S2048x1024_S2048x1024_0_0,
      k0_pay2 (F := F) (rawM.view.readAt (Elt F) (Rect.unit (s := S2x2x2048x1024) off S1x1x2048x1024.size hh).toLoadRect ((rawSlot s 1).view.rep (wVal c XW 1 k)))⟩]) := by
  unfold HasB; rw [raw_load eo]
  funext j
  exact View.read_writes_cons_emb wbM.view f (Rect.unit (s := S2048x1024) ![0, 0] S2048x1024.size inb_S2048x1024_S2048x1024_0_0) _ [] j

theorem wSt_free {h : Fin 2} {n : Nat} (hn : ¬ (1 ≤ n ∧ n < 64)) :
    wSt c XW h n = iprop(anyRaw (F := F) c h (sl n) ∗ anyRaw (F := F) c h (sl (n + 1)) ∗ bigSep Finset.univ (homeW c XW h)) := if_neg hn
theorem wSt_busy {h : Fin 2} {n : Nat} (hn : 1 ≤ n ∧ n < 64) :
    wSt c XW h n = iprop(rawFlight c XW h (sl n) (st n) ∗ anyRaw (F := F) c h (sl (n + 1)) ∗ bigSep (Finset.univ.erase (st n)) (homeW c XW h)) := if_pos hn

theorem st_ne {a b : Nat} (ha : a < 64) (hb : b < 64) (h : a ≠ b) : st a ≠ st b := fun e => h (by rw [← st_val ha, ← st_val hb, e])

/-- A half's quarters opened at the first step, at a middle one, at the last. -/
theorem w_open {h : Fin 2} {n : Nat} (hn : n + 1 < 64) : bigSep (Finset.univ.erase (st n)) (homeW c XW h)
    ⊢ iprop(homeW c XW h (st (n + 1)) ∗ bigSep ((Finset.univ.erase (st n)).erase (st (n + 1))) (homeW c XW h)) := by
  rw [take_one (homeW c XW h) (Finset.mem_erase.mpr ⟨st_ne (a := n + 1) (b := n) (by omega) (by omega) (by omega), Finset.mem_univ _⟩)]
theorem w_close {h : Fin 2} {n : Nat} (hn : n + 1 < 64) : iprop(homeW c XW h (st n) ∗ bigSep ((Finset.univ.erase (st n)).erase (st (n + 1))) (homeW c XW h))
    ⊢ bigSep (Finset.univ.erase (st (n + 1))) (homeW c XW h) := by
  rw [Finset.erase_right_comm, ← take_one (homeW c XW h) (Finset.mem_erase.mpr ⟨st_ne (a := n) (b := n + 1) (by omega) (by omega) (by omega), Finset.mem_univ _⟩)]
theorem w_last {h : Fin 2} {n : Nat} : iprop(homeW c XW h (st n) ∗ bigSep (Finset.univ.erase (st n)) (homeW c XW h)) ⊢ bigSep Finset.univ (homeW c XW h) := by
  rw [← take_one (homeW c XW h) (Finset.mem_univ (st n))]
theorem anyRaw_eq {h s s' : Fin 2} (e : s = s') : anyRaw (F := F) c h s ⊢ anyRaw (F := F) c h s' := by rw [e]

theorem w_open_first {h : Fin 2} {n : Nat} (hn : n = 0) : wSt c XW h n ⊢ iprop(anyRaw (F := F) c h (sl 0) ∗ anyRaw (F := F) c h (sl (n + 1)) ∗ homeW c XW h (st 0) ∗ homeW c XW h (st (n + 1))
    ∗ bigSep ((Finset.univ.erase (st n)).erase (st (n + 1))) (homeW c XW h)) := by
  subst hn
  rw [wSt_free c XW (by omega), take_one (homeW c XW h) (Finset.mem_univ (st 0))]
  iintro ⟨H0, H1, HW, HH⟩
  isplitl [H0]; · iexact H0
  isplitl [H1]; · iexact H1
  isplitl [HW]; · iexact HW
  iapply (w_open c XW (h := h) (n := 0) (by omega)); iexact HH
theorem w_open_mid {h : Fin 2} {n : Nat} (h0 : ¬ n = 0) (h1 : n + 1 < 64) : wSt c XW h n ⊢ iprop(rawFlight c XW h (sl n) (st n) ∗ anyRaw (F := F) c h (sl (n + 1)) ∗ homeW c XW h (st (n + 1))
    ∗ bigSep ((Finset.univ.erase (st n)).erase (st (n + 1))) (homeW c XW h)) := by
  rw [wSt_busy c XW (by omega)]
  iintro ⟨H0, H1, HH⟩
  isplitl [H0]; · iexact H0
  isplitl [H1]; · iexact H1
  iapply (w_open c XW h1); iexact HH
theorem w_open_end {h : Fin 2} {n : Nat} (h0 : ¬ n = 0) (h1 : ¬ n + 1 < 64) (hn : n < 64) : wSt c XW h n ⊢ iprop(rawFlight c XW h (sl n) (st n) ∗ nxW c XW h n) := by
  unfold nxW
  rw [wSt_busy c XW (by omega), if_neg h1]
theorem nx_of {h : Fin 2} {n : Nat} (hn : n + 1 < 64) (f) (x : S2048x1024.Idx → Elt F .f32) (hx : x = wVal c XW h (st (n + 1))) :
    iprop(Transfers.Flight countersEmb (c : Thread nD τ) (SemLoc.dma (rawSem (sl (n + 1)) h).sem) () 262144
      iprop(rawP c h (sl (n + 1)) ((rawSlot (sl (n + 1)) h).view.writes (Elt F) f [⟨Rect.whole S2048x1024, x⟩]) ∗ homeW c XW h (st (n + 1)))
      ∗ bigSep ((Finset.univ.erase (st n)).erase (st (n + 1))) (homeW c XW h)) ⊢ nxW c XW h n := by
  unfold nxW; rw [if_pos hn]
  iintro ⟨HF, HH⟩
  isplitl [HF]; · iapply (rawFlight_of c XW _ _ _ _ _ rfl rfl f x hx); iexact HF
  iexact HH
/-- A step that used its quarter leaves the state of the next step. -/
theorem got_next {h : Fin 2} {n : Nat} (hn : n < 64) : wGot c XW h n ⊢ wSt c XW h (n + 1) := by
  unfold wGot nxW
  by_cases h1 : n + 1 < 64
  · rw [wSt_busy c XW ⟨by omega, h1⟩, if_pos h1]
    iintro ⟨HR, HC, HW, HF, HH⟩
    isplitl [HF]; · iexact HF
    isplitl [HR HC]
    · iapply (anyRaw_eq (F := F) c (sl_add_two n).symm)
      isplitl [HR]; · iexists _; iexact HR
      iexact HC
    iapply (w_close c XW h1)
    isplitl [HW]; · iexact HW
    iexact HH
  · rw [wSt_free c XW (by omega), if_neg h1]
    iintro ⟨HR, HC, HW, HF, HH⟩
    isplitl [HF]; · iexact HF
    isplitl [HR HC]
    · iapply (anyRaw_eq (F := F) c (sl_add_two n).symm)
      isplitl [HR]; · iexists _; iexact HR
      iexact HC
    iapply (w_last c XW (n := n))
    isplitl [HW]; · iexact HW
    iexact HH

theorem a_open (b : Fin 288) : bigSep Finset.univ (homeA c XA) ⊢ iprop(homeA c XA b ∗ bigSep (Finset.univ.erase b) (homeA c XA)) := by
  rw [take_one (homeA c XA) (Finset.mem_univ b)]

abbrev partAt := k0_part3 (F := F) i tM (Memref.isWhole_whole _) nM (Memref.isWhole_whole _) arg4 harg4 arg5 harg5 wM (Memref.isWhole_whole _) aM (Memref.isWhole_whole _) oM (Memref.isWhole_whole _) rawM (Memref.isWhole_whole _) cc0_scratch1 waM (Memref.isWhole_whole _) wbM (Memref.isWhole_whole _) inM (Memref.isWhole_whole _) outM (Memref.isWhole_whole _) cc0_scratch6 cc0_scratch7

/-- A point's own words, and the last expert's. -/
abbrev v1At := wordT c XK (k0_off1 i) (k0_off1_inb i)
abbrev v3At := wordN c XN (k0_off1 i) (k0_off1_inb i)
abbrev v28At := wordT c XK ![31] inb_S32_S1_31
abbrev v29At := wordN c XN ![31] inb_S32_S1_31

def partPre (n : Nat) : sProp 𝕄 :=
  iprop(tabT c XK ∗ tabN c XN ∗ wSt c XW 0 n ∗ wSt c XW 1 n ∗ anyIn (F := F) c (sl 0) ∗ bigSep Finset.univ (homeA c XA) ∗ owesP (F := F) c)
/-- After the head: this step's first quarter is there, its second on its way, the next step's asked for, the first tile too. -/
def partPost (n : Nat) (v1 v3 : BitVec 32) : sProp 𝕄 :=
  iprop(tabT c XK ∗ tabN c XN ∗ wGot c XW 0 n ∗ wMid c XW 1 n ∗ actSt c v1 v3 XA 0 ∗ owesP (F := F) c)

theorem act_open0 (v1 v3 : BitVec 32) (f) (x : S256x2048.Idx → Elt F .f32) (hx : x = aVal c XA (tl v1.toNat)) (h0 : 0 < v3.toNat) :
    iprop(Transfers.Flight countersEmb (c : Thread nD τ) (SemLoc.dma (inSem (sl 0)).sem) () 65536
      iprop(inP c (sl 0) ((inSlot (sl 0)).view.writes (Elt F) f [⟨Rect.whole S256x2048, x⟩]) ∗ homeA c XA (tl v1.toNat))
      ∗ bigSep (Finset.univ.erase (tl v1.toNat)) (homeA c XA)) ⊢ actSt c v1 v3 XA 0 := by
  unfold actSt; rw [if_pos h0]
  iintro ⟨HF, HH⟩
  isplitl [HF]
  · iapply (inFlight_of c XA (sl 0) _ f x hx); iexact HF
  iexact HH
theorem act_idle (v1 v3 : BitVec 32) (h0 : ¬ 0 < v3.toNat) : iprop(anyIn (F := F) c (sl 0) ∗ bigSep Finset.univ (homeA c XA)) ⊢ actSt c v1 v3 XA 0 := by
  unfold actSt; rw [if_neg h0]

set_option maxHeartbeats 4000000 in
theorem part_run (hF : Fits (v1At c i XK) (v3At c i XN)) :
    partPre c XK XN XA XW (pn i) ⊢ wp frame (wpE (defs₀ (F := F)) 𝒱₀ (c : Thread nD τ) none) Set.univ (partAt (F := F) i arg4 harg4 arg5 harg5)
      (fun st => iprop(⌜st.2.2.1 = v1At c i XK ∧ st.2.2.2.1 = v3At c i XN⌝
        ∗ partPost c XK XN XA XW (pn i) (v1At c i XK) (v3At c i XN))) := by
  have hi := pn_lt i
  unfold partPre partPost
  iintro ⟨HT, HN, HR, HS, HI, HA, ⟨%W, HW⟩⟩
  dsimp only [partAt]
  rw [k0_part3_eq_skeleton]
  sl_unfold [k0_part3_skel]
  sl_exec
  have hF' : Fits (part_run.sl.r c i XK) (part_run.sl.r_1 c i XN) := hF
  have e1 : part_run.sl.r c i XK = v1At c i XK := rfl
  have e3 : part_run.sl.r_1 c i XN = v3At c i XN := rfl
  rw [← e1, ← e3]
  clear e1 e3 hF
  generalize part_run.sl.r c i XK = v1 at *
  generalize part_run.sl.r_1 c i XN = v3 at *
  have hc1 := chk1_of i hF'
  have h3 : v3.toNat ≤ 288 := by unfold Fits at hF'; omega
  by_cases h0 : 0 < v3.toNat
  · have h1 : v1.toNat < 288 := by unfold Fits at hF'; omega
    have c1 : k0_cond1 v3 = 1#1 := (cond1_iff h3).mpr h0
    icases HI with ⟨⟨%fi, HI⟩, HIC⟩
    ihave HA2 := (a_open c XA (tl v1.toNat)) $$ HA
    icases HA2 with ⟨HA, HAR⟩
    by_cases he : pn i = 0
    · have he1 : pn i + 1 < 64 := by rw [he]; decide
      have c2 : k0_cond2 i = 1#1 := (cond2_iff i).mpr he
      have c3 : k0_cond3 i = 1#1 := (cond3_iff i).mpr he1
      ihave HR2 := (w_open_first c XW he) $$ HR
      icases HR2 with ⟨⟨⟨%fr, HR⟩, HRC⟩, ⟨⟨%fr1, HR1⟩, HRC1⟩, HH0, HH1, HHR⟩
      ihave HS2 := (w_open_first c XW he) $$ HS
      icases HS2 with ⟨⟨⟨%gr, HS⟩, HSC⟩, ⟨⟨%gr1, HS1⟩, HSC1⟩, HG0, HG1, HGR⟩
      sl_exec
      ihave HRC2 := (rawFlight_of c XW 0 (sl 0) (sl (pn i)) (st 0) (st (pn i)) (by rw [he]) (by rw [he]) fr _ rfl) $$ [HRC]
      · iexact HRC
      ihave HSC2 := (rawFlight_of c XW 1 (sl 0) (sl (pn i)) (st 0) (st (pn i)) (by rw [he]) (by rw [he]) gr _ rfl) $$ [HSC]
      · iexact HSC
      sl_exec
      sl_step
      isplitr; · ipureintro; exact ⟨rfl, rfl⟩
      isplitl [HT]; · iexact HT
      isplitl [HN]; · iexact HN
      isplitl [HRC2 HRC2_dst HRC2_src HHR HRC1]
      · unfold wGot
        isplitl [HRC2_dst]; · iexact HRC2_dst
        isplitl [HRC2]; · iexact HRC2
        isplitl [HRC2_src]; · iexact HRC2_src
        iapply (nx_of c XW he1 fr1 _ rfl)
        isplitl [HRC1]; · iexact HRC1
        iexact HHR
      isplitl [HSC2 HGR HSC1]
      · unfold wMid
        isplitl [HSC2]; · iexact HSC2
        iapply (nx_of c XW he1 gr1 _ rfl)
        isplitl [HSC1]; · iexact HSC1
        iexact HGR
      isplitl [HIC HAR]
      · iapply (act_open0 c XA v1 v3 fi _ rfl h0)
        isplitl [HIC]; · iexact HIC
        iexact HAR
      iexists _; iexact HW
    · by_cases he1 : pn i + 1 < 64
      · have c2 : ¬ k0_cond2 i = 1#1 := fun h => he ((cond2_iff i).mp h)
        have c3 : k0_cond3 i = 1#1 := (cond3_iff i).mpr he1
        ihave HR2 := (w_open_mid c XW he he1) $$ HR
        icases HR2 with ⟨HRC, ⟨⟨%fr1, HR1⟩, HRC1⟩, HH1, HHR⟩
        ihave HS2 := (w_open_mid c XW he he1) $$ HS
        icases HS2 with ⟨HSC, ⟨⟨%gr1, HS1⟩, HSC1⟩, HG1, HGR⟩
        sl_exec
        sl_step
        isplitr; · ipureintro; exact ⟨rfl, rfl⟩
        isplitl [HT]; · iexact HT
        isplitl [HN]; · iexact HN
        isplitl [HRC HRC_dst HRC_src HHR HRC1]
        · unfold wGot
          isplitl [HRC_dst]; · iexact HRC_dst
          isplitl [HRC]; · iexact HRC
          isplitl [HRC_src]; · iexact HRC_src
          iapply (nx_of c XW he1 fr1 _ rfl)
          isplitl [HRC1]; · iexact HRC1
          iexact HHR
        isplitl [HSC HGR HSC1]
        · unfold wMid
          isplitl [HSC]; · iexact HSC
          iapply (nx_of c XW he1 gr1 _ rfl)
          isplitl [HSC1]; · iexact HSC1
          iexact HGR
        isplitl [HIC HAR]
        · iapply (act_open0 c XA v1 v3 fi _ rfl h0)
          isplitl [HIC]; · iexact HIC
          iexact HAR
        iexists _; iexact HW
      · have c2 : ¬ k0_cond2 i = 1#1 := fun h => he ((cond2_iff i).mp h)
        have c3 : ¬ k0_cond3 i = 1#1 := fun h => he1 ((cond3_iff i).mp h)
        ihave HR2 := (w_open_end c XW he he1 hi) $$ HR
        icases HR2 with ⟨HRC, HHR⟩
        sl_exec
        sl_step
        isplitr; · ipureintro; exact ⟨rfl, rfl⟩
        isplitl [HT]; · iexact HT
        isplitl [HN]; · iexact HN
        isplitl [HRC HRC_dst HRC_src HHR]
        · unfold wGot
          isplitl [HRC_dst]; · iexact HRC_dst
          isplitl [HRC]; · iexact HRC
          isplitl [HRC_src]; · iexact HRC_src
          iexact HHR
        isplitl [HS]
        · unfold wMid
          iapply (w_open_end c XW he he1 hi); iexact HS
        isplitl [HIC HAR]
        · iapply (act_open0 c XA v1 v3 fi _ rfl h0)
          isplitl [HIC]; · iexact HIC
          iexact HAR
        iexists _; iexact HW
  · have c1 : ¬ k0_cond1 v3 = 1#1 := fun h => h0 ((cond1_iff h3).mp h)
    by_cases he : pn i = 0
    · have he1 : pn i + 1 < 64 := by rw [he]; decide
      have c2 : k0_cond2 i = 1#1 := (cond2_iff i).mpr he
      have c3 : k0_cond3 i = 1#1 := (cond3_iff i).mpr he1
      ihave HR2 := (w_open_first c XW he) $$ HR
      icases HR2 with ⟨⟨⟨%fr, HR⟩, HRC⟩, ⟨⟨%fr1, HR1⟩, HRC1⟩, HH0, HH1, HHR⟩
      ihave HS2 := (w_open_first c XW he) $$ HS
      icases HS2 with ⟨⟨⟨%gr, HS⟩, HSC⟩, ⟨⟨%gr1, HS1⟩, HSC1⟩, HG0, HG1, HGR⟩
      sl_exec
      ihave HRC2 := (rawFlight_of c XW 0 (sl 0) (sl (pn i)) (st 0) (st (pn i)) (by rw [he]) (by rw [he]) fr _ rfl) $$ [HRC]
      · iexact HRC
      ihave HSC2 := (rawFlight_of c XW 1 (sl 0) (sl (pn i)) (st 0) (st (pn i)) (by rw [he]) (by rw [he]) gr _ rfl) $$ [HSC]
      · iexact HSC
      sl_exec
      sl_step
      isplitr; · ipureintro; exact ⟨rfl, rfl⟩
      isplitl [HT]; · iexact HT
      isplitl [HN]; · iexact HN
      isplitl [HRC2 HRC2_dst HRC2_src HHR HRC1]
      · unfold wGot
        isplitl [HRC2_dst]; · iexact HRC2_dst
        isplitl [HRC2]; · iexact HRC2
        isplitl [HRC2_src]; · iexact HRC2_src
        iapply (nx_of c XW he1 fr1 _ rfl)
        isplitl [HRC1]; · iexact HRC1
        iexact HHR
      isplitl [HSC2 HGR HSC1]
      · unfold wMid
        isplitl [HSC2]; · iexact HSC2
        iapply (nx_of c XW he1 gr1 _ rfl)
        isplitl [HSC1]; · iexact HSC1
        iexact HGR
      isplitl [HI HA]
      · iapply (act_idle c XA v1 v3 h0)
        isplitl [HI]; · iexact HI
        iexact HA
      iexists _; iexact HW
    · by_cases he1 : pn i + 1 < 64
      · have c2 : ¬ k0_cond2 i = 1#1 := fun h => he ((cond2_iff i).mp h)
        have c3 : k0_cond3 i = 1#1 := (cond3_iff i).mpr he1
        ihave HR2 := (w_open_mid c XW he he1) $$ HR
        icases HR2 with ⟨HRC, ⟨⟨%fr1, HR1⟩, HRC1⟩, HH1, HHR⟩
        ihave HS2 := (w_open_mid c XW he he1) $$ HS
        icases HS2 with ⟨HSC, ⟨⟨%gr1, HS1⟩, HSC1⟩, HG1, HGR⟩
        sl_exec
        sl_step
        isplitr; · ipureintro; exact ⟨rfl, rfl⟩
        isplitl [HT]; · iexact HT
        isplitl [HN]; · iexact HN
        isplitl [HRC HRC_dst HRC_src HHR HRC1]
        · unfold wGot
          isplitl [HRC_dst]; · iexact HRC_dst
          isplitl [HRC]; · iexact HRC
          isplitl [HRC_src]; · iexact HRC_src
          iapply (nx_of c XW he1 fr1 _ rfl)
          isplitl [HRC1]; · iexact HRC1
          iexact HHR
        isplitl [HSC HGR HSC1]
        · unfold wMid
          isplitl [HSC]; · iexact HSC
          iapply (nx_of c XW he1 gr1 _ rfl)
          isplitl [HSC1]; · iexact HSC1
          iexact HGR
        isplitl [HI HA]
        · iapply (act_idle c XA v1 v3 h0)
          isplitl [HI]; · iexact HI
          iexact HA
        iexists _; iexact HW
      · have c2 : ¬ k0_cond2 i = 1#1 := fun h => he ((cond2_iff i).mp h)
        have c3 : ¬ k0_cond3 i = 1#1 := fun h => he1 ((cond3_iff i).mp h)
        ihave HR2 := (w_open_end c XW he he1 hi) $$ HR
        icases HR2 with ⟨HRC, HHR⟩
        sl_exec
        sl_step
        isplitr; · ipureintro; exact ⟨rfl, rfl⟩
        isplitl [HT]; · iexact HT
        isplitl [HN]; · iexact HN
        isplitl [HRC HRC_dst HRC_src HHR]
        · unfold wGot
          isplitl [HRC_dst]; · iexact HRC_dst
          isplitl [HRC]; · iexact HRC
          isplitl [HRC_src]; · iexact HRC_src
          iexact HHR
        isplitl [HS]
        · unfold wMid
          iapply (w_open_end c XW he he1 hi); iexact HS
        isplitl [HI HA]
        · iapply (act_idle c XA v1 v3 h0)
          isplitl [HI]; · iexact HI
          iexact HA
        iexists _; iexact HW
end Part
end Cert.Gmm1.Moe
-- ==== Proof.Moe.Gmm1Body.lean ====
/-
  The first grouped product of the experts: the kernel at one grid point.
-/
module

public import proofs.«01_k».proof.Proof.Moe.Gmm1Part

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  par_iv npar_iv at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords) (arg4 : Memref sig .tc .vmem S1x1x1024 .f32) (harg4 : arg4.IsWhole)
  (arg5 : Memref sig .tc .vmem S1x1x1024 .f32) (harg5 : arg5.IsWhole)
  (XK : Buf (Elt F) (tM.view.loc (c : Thread nD τ))) (XN : Buf (Elt F) (nM.view.loc (c : Thread nD τ)))
  (XA : Buf (Elt F) (aM.view.loc (c : Thread nD τ))) (XW : Buf (Elt F) (wM.view.loc (c : Thread nD τ)))
  (XB : Buf (Elt F) (arg4.view.loc (c : Thread nD τ))) (XD : Buf (Elt F) (arg5.view.loc (c : Thread nD τ))) (R : Buf (Elt F) (oM.view.loc (c : Thread nD τ)))

/-- What a point finds and leaves, with the first `d` tiles done and `n` points passed. -/
def ptRes (n d : Nat) : sProp 𝕄 :=
  iprop(tabT c XK ∗ tabN c XN ∗ (∃ f, waP (F := F) c f) ∗ (∃ f, wbP (F := F) c f) ∗ wSt c XW 0 n ∗ wSt c XW 1 n ∗ anyIn (F := F) c (sl 0) ∗ anyIn (F := F) c (sl 1) ∗ bigSep Finset.univ (homeA c XA)
    ∗ anyOut (F := F) c (sl 0) ∗ anyOut (F := F) c (sl 1) ∗ doneP c R d ∗ todoP (F := F) c d)

/-- What `R` holds on the point's own tiles. -/
def Mine (v1 v3 : BitVec 32) : Prop := ∀ k, k < v3.toNat → (oTile (rt (ib i + v1.toNat + k))).view.read (Elt F) R
  = outVal (aVal c XA (tl (v1.toNat + k))) (wUseA c XW (st (pn i))) (wUseB c XW (st (pn i)))
      (arg4.view.readAt (Elt F) (Rect.unit (s := S1x1x1024) ![0, 0, 0] S1x1x1024.size inb_S1x1x1024_S1x1x1024_0_0_0).toLoadRect XB)
      (arg5.view.readAt (Elt F) (Rect.unit (s := S1x1x1024) ![0, 0, 0] S1x1x1024.size inb_S1x1x1024_S1x1x1024_0_0_0).toLoadRect XD)

theorem pair_out (n : Nat) : iprop(anyOut (F := F) c (sl n) ∗ anyOut (F := F) c (sl (n + 1))) ⊢ iprop(anyOut (F := F) c (sl 0) ∗ anyOut (F := F) c (sl 1)) := by
  induction n with
  | zero => iintro H; iexact H
  | succ n ih =>
    rw [show n + 1 + 1 = n + 2 from rfl, sl_add_two]
    iintro ⟨H1, H0⟩
    iapply ih
    isplitl [H0]; · iexact H0
    iexact H1
theorem pair_in (n : Nat) : iprop(anyIn (F := F) c (sl n) ∗ anyIn (F := F) c (sl (n + 1))) ⊢ iprop(anyIn (F := F) c (sl 0) ∗ anyIn (F := F) c (sl 1)) := by
  induction n with
  | zero => iintro H; iexact H
  | succ n ih =>
    rw [show n + 1 + 1 = n + 2 from rfl, sl_add_two]
    iintro ⟨H1, H0⟩
    iapply ih
    isplitl [H0]; · iexact H0
    iexact H1

/-- The results when the tile loop is over: the last two tiles may still be on their way out. -/
def tailSt (u : Nat) (v3 : BitVec 32) : sProp 𝕄 :=
  if v3.toNat = 0 then iprop(anyOut (F := F) c (sl 0) ∗ anyOut (F := F) c (sl 1) ∗ doneP c R u)
  else if v3.toNat = 1 then iprop((∃ f, outFlight c R (sl (v3.toNat + 1)) (rt (u + (v3.toNat - 1))) f) ∗ anyOut (F := F) c (sl v3.toNat) ∗ doneP c R u)
  else iprop((∃ f, outFlight c R (sl (v3.toNat + 1)) (rt (u + (v3.toNat - 1))) f) ∗ (∃ f, outFlight c R (sl v3.toNat) (rt (u + (v3.toNat - 2))) f)
    ∗ doneP c R (u + (v3.toNat - 2)))

theorem done_one {u : Nat} {v3 : BitVec 32} (hF : u + v3.toNat ≤ 576) (h : v3.toNat = 1) :
    iprop(tileO c (rt (u + (v3.toNat - 1))) R ∗ doneP c R u) ⊢ doneP c R (u + v3.toNat) := by
  rw [h, Nat.sub_self, Nat.add_zero]; exact done_close c R (by omega)
theorem done_two {u : Nat} {v3 : BitVec 32} (hF : u + v3.toNat ≤ 576) (h : 2 ≤ v3.toNat) :
    iprop(tileO c (rt (u + (v3.toNat - 1))) R ∗ tileO c (rt (u + (v3.toNat - 2))) R ∗ doneP c R (u + (v3.toNat - 2))) ⊢ doneP c R (u + v3.toNat) := by
  rw [show u + v3.toNat = u + (v3.toNat - 1) + 1 by omega]
  iintro ⟨H1, H⟩
  iapply (done_close c R (by omega))
  isplitl [H1]; · iexact H1
  rw [show u + (v3.toNat - 1) = u + (v3.toNat - 2) + 1 by omega]
  iapply (done_close c R (by omega)); iexact H

theorem tail_zero {u : Nat} {v3 : BitVec 32} (h : v3.toNat = 0) : tailSt c R u v3 ⊢ iprop(anyOut (F := F) c (sl 0) ∗ anyOut (F := F) c (sl 1) ∗ doneP c R u) := by
  unfold tailSt; rw [if_pos h]

theorem tail_one {u : Nat} {v3 : BitVec 32} (h : v3.toNat = 1) : tailSt c R u v3
    ⊢ iprop((∃ f, outFlight c R (sl (v3.toNat + 1)) (rt (u + (v3.toNat - 1))) f) ∗ anyOut (F := F) c (sl v3.toNat) ∗ doneP c R u) := by
  unfold tailSt; rw [if_neg (by omega), if_pos h]

theorem tail_two {u : Nat} {v3 : BitVec 32} (h : 2 ≤ v3.toNat) : tailSt c R u v3
    ⊢ iprop((∃ f, outFlight c R (sl (v3.toNat + 1)) (rt (u + (v3.toNat - 1))) f) ∗ (∃ f, outFlight c R (sl v3.toNat) (rt (u + (v3.toNat - 2))) f)
    ∗ doneP c R (u + (v3.toNat - 2))) := by
  unfold tailSt; rw [if_neg (by omega), if_neg (by omega)]

theorem tail_of (u : Nat) (v3 : BitVec 32) : iprop(oSt c u R v3.toNat 1 (sl (v3.toNat + 1)) ∗ oSt c u R v3.toNat 2 (sl v3.toNat) ∗ doneP c R (u + (v3.toNat - 2))) ⊢ tailSt c R u v3 := by
  unfold tailSt oSt
  by_cases h0 : v3.toNat = 0
  · rw [if_pos h0, if_neg (by omega : ¬ 1 ≤ v3.toNat), if_neg (by omega : ¬ 2 ≤ v3.toNat), h0]
    iintro ⟨HO1, HO2, HD⟩
    isplitl [HO2]; · iexact HO2
    isplitl [HO1]; · iexact HO1
    iexact HD
  · rw [if_neg h0, if_pos (by omega : 1 ≤ v3.toNat)]
    by_cases h1 : v3.toNat = 1
    · rw [if_pos h1, if_neg (by omega : ¬ 2 ≤ v3.toNat), show u + (v3.toNat - 2) = u by omega]
    · rw [if_neg h1, if_pos (by omega : 2 ≤ v3.toNat)]

theorem owes_any (W : Waits sig Unit) : (owes (c : Thread nD τ) 0 W : sProp 𝕄) ⊢ owesP (F := F) c := by
  iintro H; iexists _; iexact H

theorem zero_of (f0 : Buf (Elt F) (outM.view.loc (c : Thread nD τ))) :
    outP (F := F) c (sl 0) (outM.view.writes (Elt F) f0 [⟨Rect.unit (s := S2x256x1024) ![0, 0, 0] S1x256x1024.size inb_S2x256x1024_S1x256x1024_0_0_0, k0_pay5⟩])
      ⊢ iprop(∃ f, ⌜(outSlot (sl 0)).view.read (Elt F) f = zeroVal (F := F)⌝ ∗ outP (F := F) c (sl 0) f) := by
  iintro H
  iexists _
  isplitr
  on_goal 2 => iexact H
  ipureintro
  exact out_read c (s := sl 0) (show ![0, 0, 0] = ![_, _, _] by decide) inb_S2x256x1024_S1x256x1024_0_0_0 f0 k0_pay5

theorem fill_out (f) (n : Nat) : fillRes c R f n ⊢ iprop(anyOut (F := F) c (sl 0) ∗ doneP c R n ∗ todoP (F := F) c n ∗ owesP (F := F) c) := by
  unfold fillRes
  iintro ⟨HP, HC, HD, HT, HW⟩
  isplitl [HP HC]
  · isplitl [HP]; · iexists _; iexact HP
    iexact HC
  isplitl [HD]; · iexact HD
  isplitl [HT]; · iexact HT
  iexact HW

theorem after_loop {k : Nat} (v1 v3 : BitVec 32) (hk : k = v3.toNat) (XS : Buf (Elt F) (waM.view.loc (c : Thread nD τ))) (XT : Buf (Elt F) (wbM.view.loc (c : Thread nD τ))) (hF : Fits v1 v3) :
    tripRes c i arg4 arg5 v1 v3 XA XS XT XB XD R k ⊢ iprop(biasP c arg4 XB ∗ biasP c arg5 XD ∗ waP c XS ∗ wbP c XT ∗ bigSep Finset.univ (homeA c XA) ∗ anyIn (F := F) c (sl 0) ∗ anyIn (F := F) c (sl 1)
      ∗ tailSt c R (ib i + v1.toNat) v3 ∗ todoP (F := F) c (ib i + v1.toNat + v3.toNat) ∗ owesP (F := F) c) := by
  subst hk
  unfold tripRes actSt
  rw [if_neg (lt_irrefl _)]
  iintro ⟨HB, HB2, HS, HS2, ⟨HI0, HA⟩, HI1, HO1, HO2, HD, HT, HW⟩
  isplitl [HB]; · iexact HB
  isplitl [HB2]; · iexact HB2
  isplitl [HS]; · iexact HS
  isplitl [HS2]; · iexact HS2
  isplitl [HA]; · iexact HA
  ihave HI := (pair_in (F := F) c v3.toNat) $$ [HI0 HI1]
  · isplitl [HI0]; · iexact HI0
    iexact HI1
  icases HI with ⟨HI0, HI1⟩
  isplitl [HI0]; · iexact HI0
  isplitl [HI1]; · iexact HI1
  isplitl [HO1 HO2 HD]
  · iapply (tail_of c R (ib i + v1.toNat) v3)
    isplitl [HO1]; · iexact HO1
    isplitl [HO2]; · iexact HO2
    iexact HD
  isplitl [HT]; · iexact HT
  iexact HW

abbrev kernelAt := cc0_gmm1_swiglu (F := F) i tM (Memref.isWhole_whole _) nM (Memref.isWhole_whole _) arg4 harg4 arg5 harg5 wM (Memref.isWhole_whole _) aM (Memref.isWhole_whole _) oM (Memref.isWhole_whole _) rawM (Memref.isWhole_whole _) cc0_scratch1 waM (Memref.isWhole_whole _) wbM (Memref.isWhole_whole _) inM (Memref.isWhole_whole _) outM (Memref.isWhole_whole _) cc0_scratch6 cc0_scratch7

/-- What a buffer holds after a store made only under a condition. -/
theorem pickA {P : Prop} [Decidable P] (A : P → Buf (Elt F) (waM.view.loc (c : Thread nD τ))) (B : ¬ P → Buf (Elt F) (waM.view.loc (c : Thread nD τ))) :
    (waM.view.loc (c : Thread nD τ) ↦[waM.view.set]{fullShare} dite P A B) ⊢ iprop(∃ f, ⌜∀ p, f = A p⌝ ∗ waP c f) := by
  iintro H; iexists (dite P A B); isplitr
  · ipureintro; exact fun p => dif_pos p
  iexact H
theorem pickB {P : Prop} [Decidable P] (A : P → Buf (Elt F) (wbM.view.loc (c : Thread nD τ))) (B : ¬ P → Buf (Elt F) (wbM.view.loc (c : Thread nD τ))) :
    (wbM.view.loc (c : Thread nD τ) ↦[wbM.view.set]{fullShare} dite P A B) ⊢ iprop(∃ f, ⌜∀ p, f = A p⌝ ∗ wbP c f) := by
  iintro H; iexists (dite P A B); isplitr
  · ipureintro; exact fun p => dif_pos p
  iexact H

set_option maxHeartbeats 8000000 in
theorem body_run (d : Nat) (hF : Fits (v1At c i XK) (v3At c i XN)) (hL : Fits (v28At c XK) (v29At c XN))
    (hM : Mine c i arg4 arg5 XA XW XB XD R (v1At c i XK) (v3At c i XN))
    (hd : (i 1).val + 1 < 32 → d = ib i + (v1At c i XK).toNat + (v3At c i XN).toNat)
    (hd' : (i 1).val = 31 → d = ib i + 288 ∧ v28At c XK = v1At c i XK ∧ v29At c XN = v3At c i XN)
    (hZ : (i 1).val = 31 → Zeros c R (ib i + ((v28At c XK).toNat + (v29At c XN).toNat)) (ib i + 288)) :
    iprop(ptRes c XK XN XA XW R (pn i) (ib i + (v1At c i XK).toNat) ∗ biasP c arg4 XB ∗ biasP c arg5 XD ∗ owesP (F := F) c)
      ⊢ wp frame (wpE (defs₀ (F := F)) 𝒱₀ (c : Thread nD τ) none) Set.univ (kernelAt (F := F) i arg4 harg4 arg5 harg5)
      (fun _ => iprop(ptRes c XK XN XA XW R (pn i + 1) d ∗ biasP c arg4 XB ∗ biasP c arg5 XD ∗ owesP (F := F) c)) := by
  have hp := pn_lt i
  have hi := i1 i
  have hib := ib_le i
  have hc2 := chk2_of i hL
  dsimp only [kernelAt]
  rw [cc0_gmm1_swiglu_eq_skeleton]
  unfold ptRes
  iintro ⟨⟨HT, HN, ⟨%fa, HS⟩, ⟨%fb, HS2⟩, HWt, HWu, HI0, HI1, HA, HO0, HO1, HD, HTo⟩, HB, HB2, HW⟩
  sl_unfold [cc0_gmm1_swiglu_skel]
  irw [wp_bind]
  iapply (wp_wand_r Idealize.ShloMosaic.frame (wpE (defs₀ (F := F)) 𝒱₀ (c : Thread nD τ) none) Set.univ)
  isplitl [HT HN HWt HWu HI0 HA HW]
  · iapply (part_run c i arg4 harg4 arg5 harg5 XK XN XA XW hF)
    unfold partPre
    isplitl [HT]; · iexact HT
    isplitl [HN]; · iexact HN
    isplitl [HWt]; · iexact HWt
    isplitl [HWu]; · iexact HWu
    isplitl [HI0]; · iexact HI0
    isplitl [HA]; · iexact HA
    iexact HW
  iintro %sv ⟨%hst, HP⟩
  obtain ⟨a0, a1, w1, w3, hw1, v9⟩ := sv
  change BitVec 32 at w1 w3
  dsimp only at hst
  obtain ⟨q1, q3⟩ := hst
  unfold partPost wGot wMid
  icases HP with ⟨HT, HN, ⟨HG, HGC, HGW, HGN⟩, ⟨HM, HMN⟩, HAc, ⟨%W, HW⟩⟩
  generalize v1At c i XK = v1 at *
  generalize v3At c i XN = v3 at *
  subst q1 q3
  have h3 : w3.toNat ≤ 288 := by unfold Fits at hF; omega
  dsimp only
  first | (sl_rw [raw11 i]) | (irw [raw11 i]) | (erw [raw11 i]) | skip
  first | (sl_rw [raw12 i]) | (irw [raw12 i]) | (erw [raw12 i]) | skip
  first | (sl_rw [blk10b i]) | (irw [blk10b i]) | (erw [blk10b i]) | skip
  sl_exec
  have c1 : 0 < w3.toNat → Scalar.cmpi .ne (Scalar.extui (Scalar.cmpi .sgt w3 0#32)) 0#32 = 1#1 := fun h => (cond1_iff h3).mpr h
  ihave HS := (pickA (F := F) c _ _) $$ HS
  ihave HS2 := (pickB (F := F) c _ _) $$ HS2
  icases HS with ⟨%fs, %hfs, HS⟩
  icases HS2 with ⟨%gs, %hgs, HS2⟩
  have hA : 0 < w3.toNat → HasA c XW (st (pn i)) fs := fun h => by
    rw [hfs (c1 h)]; exact hasA_of c XW _ (off13_eq i) _ fa
  have hB : 0 < w3.toNat → HasB c XW (st (pn i)) gs := fun h => by
    rw [hgs (c1 h)]; exact hasB_of c XW _ (off14_eq i) _ fb
  have hR : Holds c i arg4 arg5 w1 w3 XA fs gs XB XD R := fun k hk => by
    have ha := hA (by omega)
    have hb := hB (by omega)
    unfold HasA at ha
    unfold HasB at hb
    rw [ha, hb]
    exact hM k hk
  clear hfs hgs hA hB hM
  ihave HWt := (got_next c XW hp) $$ [HG HGC HGW HGN]
  · unfold wGot
    isplitl [HG]; · iexact HG
    isplitl [HGC]; · iexact HGC
    isplitl [HGW]; · iexact HGW
    iexact HGN
  ihave HWu := (got_next c XW hp) $$ [HM_dst HM HM_src HMN]
  · unfold wGot
    isplitl [HM_dst]; · iexact HM_dst
    isplitl [HM]; · iexact HM
    isplitl [HM_src]; · iexact HM_src
    iexact HMN
  ihave HW := (owes_any (F := F) c _) $$ HW
  sl_for (fun k (_ : Unit) => tripRes c i arg4 arg5 w1 w3 XA fs gs XB XD R k) $$ [HB HB2 HS HS2 HAc HI1 HO0 HO1 HD HTo HW]
  · intro k acc
    exact tripStep c i arg4 harg4 arg5 harg5 w1 w3 hw1 XA fs gs XB XD R hF hR k
  · unfold tripRes oSt
    rw [if_neg (by omega : ¬ 1 ≤ 0), if_neg (by omega : ¬ 2 ≤ 0)]
    isplitl [HB]; · iexact HB
    isplitl [HB2]; · iexact HB2
    isplitl [HS]; · iexact HS
    isplitl [HS2]; · iexact HS2
    isplitl [HAc]; · iexact HAc
    isplitl [HI1]; · iexact HI1
    isplitl [HO1]; · iexact HO1
    isplitl [HO0]; · iexact HO0
    isplitl [HD]; · iexact HD
    isplitl [HTo]; · iexact HTo
    iexact HW
  iintro %_ HI
  ihave HI2 := (after_loop c i arg4 arg5 XA XB XD R w1 w3 (trips1 h3) fs gs hF) $$ HI
  icases HI2 with ⟨HB, HB2, HS, HS2, HA, HI0, HI1, HO, HTo, HW⟩
  sl_for0 (trips2 h3)
  rcases (by omega : w3.toNat = 0 ∨ w3.toNat = 1 ∨ 2 ≤ w3.toNat) with h0 | h0 | h0
  on_goal 1 =>
    have c9 : ¬ k0_cond9 w3 = 1#1 := fun h => by have := (cond9_iff h3).mp h; omega
    have c10 : ¬ k0_cond10 w3 = 1#1 := fun h => by have := (cond10_iff h3).mp h; omega
    ihave HO := (tail_zero (F := F) c R h0) $$ HO
    icases HO with ⟨HO0, HO1, HD⟩
    ihave HD := (BIBase.Entails.of_eq (congrArg (doneP (F := F) c R) (by omega : ib i + w1.toNat = ib i + w1.toNat + w3.toNat))) $$ HD
    sl_unfold [body_run.sl.prog.cont_2]
    sl_exec
  on_goal 2 =>
    have c9 : ¬ k0_cond9 w3 = 1#1 := fun h => by have := (cond9_iff h3).mp h; omega
    have c10 : k0_cond10 w3 = 1#1 := (cond10_iff h3).mpr (by omega)
    have h1 : 1 ≤ w3.toNat := by omega
    ihave HO := (tail_one (F := F) c R h0) $$ HO
    icases HO with ⟨⟨%f1, HO1⟩, HO0, HD⟩
    icases HW with ⟨%W, HW⟩
    sl_unfold [body_run.sl.prog.cont_2]
    simp only [out44 h1, o45 i hF h1, out46 h1]
    sl_exec
    ihave HD := (done_one (F := F) c R (u := ib i + w1.toNat) (by unfold Fits at hF; omega) h0) $$ [HO1_dst HD]
    · isplitl [HO1_dst]; · iexact HO1_dst
      iexact HD
    ihave HO := (pair_out (F := F) c w3.toNat) $$ [HO0 HO1_src HO1]
    · isplitl [HO0]; · iexact HO0
      isplitl [HO1_src]; · iexists _; iexact HO1_src
      iexact HO1
    icases HO with ⟨HO0, HO1⟩
    ihave HW := (owes_any (F := F) c _) $$ HW
  on_goal 3 =>
    have c9 : k0_cond9 w3 = 1#1 := (cond9_iff h3).mpr h0
    have c10 : k0_cond10 w3 = 1#1 := (cond10_iff h3).mpr (by omega)
    have h1 : 1 ≤ w3.toNat := by omega
    ihave HO := (tail_two (F := F) c R h0) $$ HO
    icases HO with ⟨⟨%f1, HO1⟩, ⟨%f0, HO0⟩, HD⟩
    icases HW with ⟨%W, HW⟩
    sl_unfold [body_run.sl.prog.cont_2]
    simp only [out41 (v3 := w3), o42 i hF h0, out43 (v3 := w3), out44 h1, o45 i hF h1, out46 h1]
    sl_exec
    ihave HD := (done_two (F := F) c R (u := ib i + w1.toNat) (by unfold Fits at hF; omega) h0) $$ [HO1_dst HO0_dst HD]
    · isplitl [HO1_dst]; · iexact HO1_dst
      isplitl [HO0_dst]; · iexact HO0_dst
      iexact HD
    ihave HO := (pair_out (F := F) c w3.toNat) $$ [HO0_src HO0 HO1_src HO1]
    · isplitl [HO0_src HO0]
      · isplitl [HO0_src]; · iexists _; iexact HO0_src
        iexact HO0
      isplitl [HO1_src]; · iexists _; iexact HO1_src
      iexact HO1
    icases HO with ⟨HO0, HO1⟩
    ihave HW := (owes_any (F := F) c _) $$ HW
  all_goals
    by_cases he : (i 1).val + 1 < 32
    on_goal 1 =>
      have c11 : ¬ k0_cond11 i = 1#1 := fun h => by have := (cond11_iff i).mp h; omega
      obtain rfl := hd he
      sl_exec
      sl_step
    on_goal 2 =>
      have c11 : k0_cond11 i = 1#1 := (cond11_iff i).mpr (by omega)
      obtain ⟨rfl, rfl, rfl⟩ := hd' (by omega)
      icases HO0 with ⟨⟨%f0, HOP⟩, HOC⟩
      icases HW with ⟨%W, HW⟩
      sl_exec
      ihave HOP := (zero_of (F := F) c f0) $$ [HOP]
      · iexact HOP
      icases HOP with ⟨%f, %hf, HOP⟩
      sl_for (fun j (_ : Unit) => fillRes c R f (ib i + ((v28At c XK).toNat + (v29At c XN).toNat + j))) $$ [HOP HOC HD HTo HW]
      · intro j acc
        exact fillStep c i arg4 harg4 arg5 harg5 (v28At c XK) (v29At c XN) hc2 c11 R hL (hZ (by omega)) f hf j
      · unfold fillRes
        rw [show ib i + ((v28At c XK).toNat + (v29At c XN).toNat + 0) = ib i + (v28At c XK).toNat + (v29At c XN).toNat by omega]
        isplitl [HOP]; · iexact HOP
        isplitl [HOC]; · iexact HOC
        isplitl [HD]; · iexact HD
        isplitl [HTo]; · iexact HTo
        iexists _; iexact HW
      iintro %_ HR
      ihave HR := (BIBase.Entails.of_eq (congrArg (fillRes (F := F) c R f) (show ib i + ((v28At c XK).toNat + (v29At c XN).toNat + (k0_t3_loop (v28At c XK) (v29At c XN)).trips) = ib i + 288 by rw [trips3 hL]; unfold Fits at hL; omega))) $$ [HR]
      · iexact HR
      ihave HR := (fill_out (F := F) c R f (ib i + 288)) $$ HR
      icases HR with ⟨HO0, HD, HTo, HW⟩
      sl_for0 (trips4 hL)
      sl_exec
      sl_step
    all_goals
      isplitr [HB HB2 HW]
      · isplitl [HT]; · iexact HT
        isplitl [HN]; · iexact HN
        isplitl [HS]; · iexists _; iexact HS
        isplitl [HS2]; · iexists _; iexact HS2
        isplitl [HWt]; · iexact HWt
        isplitl [HWu]; · iexact HWu
        isplitl [HI0]; · iexact HI0
        isplitl [HI1]; · iexact HI1
        isplitl [HA]; · iexact HA
        isplitl [HO0]; · iexact HO0
        isplitl [HO1]; · iexact HO1
        isplitl [HD]; · iexact HD
        iexact HTo
      isplitl [HB]; · iexact HB
      isplitl [HB2]; · iexact HB2
      iexact HW
end Body
end Cert.Gmm1.Moe
-- ==== Proof.Moe.Gmm1Split.lean ====
/-
  The first grouped product of the experts: its whole buffers as their tiles, quarters and slots.
-/
module

public import proofs.«01_k».proof.Proof.Moe.Gmm1Body
public import proofs.«01_k».proof.Proof.Moe.Gmm2Split

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  Cuts Cuts.mem Cuts.disjoint Cuts.cover par_iv npar_iv at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Blocks told apart by a key -/

section Keyed
variable {s : Shape} {ι : Type} [Fintype ι] [DecidableEq ι] {S : ι → Finset s.Idx} {key : s.Idx → ι} (H : ∀ b y, y ∈ S b ↔ key y = b)
include H
theorem keyed_disjoint (b b' : ι) (hne : b ≠ b') : Disjoint (S b) (S b') := by
  rw [Finset.disjoint_left]; intro y hy hy'; rw [H] at hy hy'; exact hne (hy.symm.trans hy')
theorem keyed_cover : (Finset.univ : Finset ι).biUnion S = Finset.univ := by
  ext y; simp only [Finset.mem_biUnion, Finset.mem_univ, true_and, iff_true]
  exact ⟨key y, by rw [H]⟩
end Keyed

theorem cutsT : Cuts (s := S73728x2048) (n := 288) 0 256 tileOff S256x2048.size where
  at_axis _ := rfl
  size_axis := rfl
  pos := by decide
  all := rfl
  rest b a ha := by fin_cases a; exact absurd rfl ha; exact ⟨rfl, rfl⟩
theorem cutsS : Cuts (s := S2x256x2048) (n := 2) 0 1 slotOff S1x256x2048.size where
  at_axis b := (Nat.mul_one b.val).symm
  size_axis := rfl
  pos := by decide
  all := rfl
  rest b a ha := by fin_cases a; exact absurd rfl ha; exact ⟨rfl, rfl⟩; exact ⟨rfl, rfl⟩

theorem cutsO : Cuts (s := S2x256x1024) (n := 2) 0 1 slotOff S1x256x1024.size where
  at_axis b := (Nat.mul_one b.val).symm
  size_axis := rfl
  pos := by decide
  all := rfl
  rest b a ha := by fin_cases a; exact absurd rfl ha; exact ⟨rfl, rfl⟩; exact ⟨rfl, rfl⟩

abbrev tileS (b : Fin 288) : Finset S73728x2048.Idx := (Rect.unit (s := S73728x2048) (tileOff b) S256x2048.size (tileOff_inb b)).set
abbrev slotS (s : Fin 2) : Finset S2x256x2048.Idx := (Rect.unit (s := S2x256x2048) (slotOff s) S1x256x2048.size (slotOff_inb s)).set
abbrev slotO (s : Fin 2) : Finset S2x256x1024.Idx := (Rect.unit (s := S2x256x1024) (slotOff s) S1x256x1024.size (outSlotOff_inb s)).set
abbrev resS (g : Fin 576) : Finset S73728x2048.Idx := (Rect.unit (s := S73728x2048) (outOff g) S256x1024.size (outOff_inb g)).set
abbrev blkS (p : Fin 2 × Fin 64) : Finset S32x2048x4096.Idx := (Rect.unit (s := S32x2048x4096) (blkOff p.1 p.2) S1x2048x1024.size (blkOff_inb p.1 p.2)).set
abbrev rawS (p : Fin 2 × Fin 2) : Finset S2x2x2048x1024.Idx := (Rect.unit (s := S2x2x2048x1024) (rawOff p.2 p.1) S1x1x2048x1024.size (rawOff_inb p.2 p.1)).set

/-- The result tile, the quarter and the slot an element lies in. -/
def resKey (y : S73728x2048.Idx) : Fin 576 := ⟨(y 1).val / 1024 * 288 + (y 0).val / 256, by
  have h0 : (y 0).val < 73728 := (y 0).isLt; have h1 : (y 1).val < 2048 := (y 1).isLt; omega⟩
def blkKey (y : S32x2048x4096.Idx) : Fin 2 × Fin 64 := (⟨(y 2).val / 2048, by
  have h : (y 2).val < 4096 := (y 2).isLt; omega⟩, ⟨(y 2).val / 1024 % 2 * 32 + (y 0).val, by
  have h : (y 0).val < 32 := (y 0).isLt; omega⟩)
def rawKey (y : S2x2x2048x1024.Idx) : Fin 2 × Fin 2 := (y 1, y 0)

theorem resS_mem (g : Fin 576) (y : S73728x2048.Idx) : y ∈ resS g ↔ resKey y = g := by
  rw [Rect.mem_set_unit, Fin.ext_iff]
  have h0 : (y 0).val < 73728 := (y 0).isLt
  have h1 : (y 1).val < 2048 := (y 1).isLt
  have hg := g.isLt
  show _ ↔ (y 1).val / 1024 * 288 + (y 0).val / 256 = g.val
  constructor
  · intro q
    have q0 : g.val % 288 * 256 ≤ (y 0).val ∧ (y 0).val < g.val % 288 * 256 + 256 := q 0
    have q1 : g.val / 288 * 1024 ≤ (y 1).val ∧ (y 1).val < g.val / 288 * 1024 + 1024 := q 1
    omega
  · intro q a
    match a with
    | ⟨0, _⟩ => show g.val % 288 * 256 ≤ (y 0).val ∧ (y 0).val < g.val % 288 * 256 + 256; omega
    | ⟨1, _⟩ => show g.val / 288 * 1024 ≤ (y 1).val ∧ (y 1).val < g.val / 288 * 1024 + 1024; omega
theorem blkS_mem (p : Fin 2 × Fin 64) (y : S32x2048x4096.Idx) : y ∈ blkS p ↔ blkKey y = p := by
  obtain ⟨h, k⟩ := p
  rw [Rect.mem_set_unit, Prod.ext_iff, Fin.ext_iff, Fin.ext_iff]
  have h0 : (y 0).val < 32 := (y 0).isLt
  have h1 : (y 1).val < 2048 := (y 1).isLt
  have h2 : (y 2).val < 4096 := (y 2).isLt
  have hh := h.isLt
  have hk := k.isLt
  show _ ↔ (y 2).val / 2048 = h.val ∧ (y 2).val / 1024 % 2 * 32 + (y 0).val = k.val
  constructor
  · intro q
    have q0 : k.val % 32 ≤ (y 0).val ∧ (y 0).val < k.val % 32 + 1 := q 0
    have q2 : (h.val * 2 + k.val / 32) * 1024 ≤ (y 2).val ∧ (y 2).val < (h.val * 2 + k.val / 32) * 1024 + 1024 := q 2
    omega
  · intro q a
    match a with
    | ⟨0, _⟩ => show k.val % 32 ≤ (y 0).val ∧ (y 0).val < k.val % 32 + 1; omega
    | ⟨1, _⟩ => show 0 ≤ (y 1).val ∧ (y 1).val < 0 + 2048; omega
    | ⟨2, _⟩ => show (h.val * 2 + k.val / 32) * 1024 ≤ (y 2).val ∧ (y 2).val < (h.val * 2 + k.val / 32) * 1024 + 1024; omega
theorem rawS_mem (p : Fin 2 × Fin 2) (y : S2x2x2048x1024.Idx) : y ∈ rawS p ↔ rawKey y = p := by
  obtain ⟨h, s⟩ := p
  rw [Rect.mem_set_unit, Prod.ext_iff, Fin.ext_iff, Fin.ext_iff]
  have h2 : (y 2).val < 2048 := (y 2).isLt
  have h3 : (y 3).val < 1024 := (y 3).isLt
  show _ ↔ (y 1).val = h.val ∧ (y 0).val = s.val
  constructor
  · intro q
    have q0 : s.val ≤ (y 0).val ∧ (y 0).val < s.val + 1 := q 0
    have q1 : h.val ≤ (y 1).val ∧ (y 1).val < h.val + 1 := q 1
    omega
  · intro q a
    match a with
    | ⟨0, _⟩ => show s.val ≤ (y 0).val ∧ (y 0).val < s.val + 1; omega
    | ⟨1, _⟩ => show h.val ≤ (y 1).val ∧ (y 1).val < h.val + 1; omega
    | ⟨2, _⟩ => show 0 ≤ (y 2).val ∧ (y 2).val < 0 + 2048; omega
    | ⟨3, _⟩ => show 0 ≤ (y 3).val ∧ (y 3).val < 0 + 1024; omega

theorem aTile_set (b : Fin 288) : (aTile b).view.set = tileS b := View.set_slice_whole _ _
theorem oTile_set (g : Fin 576) : (oTile g).view.set = resS g := View.set_slice_whole _ _
theorem wBlk_set (h : Fin 2) (k : Fin 64) : (wBlk h k).view.set = blkS (h, k) := (View.set_reshape _ _).trans (View.set_slice_whole _ _)
theorem rawSlot_set (s h : Fin 2) : (rawSlot s h).view.set = rawS (h, s) := (View.set_reshape _ _).trans (View.set_slice_whole _ _)
theorem inSlot_set (s : Fin 2) : (inSlot s).view.set = slotS s := (View.set_reshape _ _).trans (View.set_slice_whole _ _)
theorem outSlot_set (s : Fin 2) : (outSlot s).view.set = slotO s := (View.set_reshape _ _).trans (View.set_slice_whole _ _)

theorem bigSep_two (Φ : Fin 2 → sProp 𝕄) : bigSep Finset.univ Φ = iprop(Φ (sl 0) ∗ Φ (sl 1)) :=
  bigSep_univ_eq_bigSepL [(0 : Fin 2), (1 : Fin 2)] (by decide) (by decide) Φ

section Split
variable (c : Dev nD)

theorem a_eq (f : Buf (Elt F) ((c : Thread nD τ).loc main_arg2)) :
    (((c : Thread nD τ).loc main_arg2) ↦{fullShare} f : sProp 𝕄) = bigSep Finset.univ (homeA c f) := by
  rw [Ring.pointsTo_blocks (ℓ := (c : Thread nD τ).loc main_arg2) tileS (cutsT.disjoint tileOff_inb) (cutsT.cover tileOff_inb)]
  exact bigSep_congr fun b _ => by rw [← aTile_set]; rfl
theorem w_eq (f : Buf (Elt F) ((c : Thread nD τ).loc main_arg3)) :
    (((c : Thread nD τ).loc main_arg3) ↦{fullShare} f : sProp 𝕄) = iprop(bigSep Finset.univ (homeW c f 0) ∗ bigSep Finset.univ (homeW c f 1)) := by
  rw [Ring.pointsTo_blocks (ℓ := (c : Thread nD τ).loc main_arg3) blkS (keyed_disjoint blkS_mem) (keyed_cover blkS_mem), bigSep_univ_prod, bigSep_two]
  refine congrArg₂ (fun P Q : sProp 𝕄 => iprop(P ∗ Q)) ?_ ?_
  · exact bigSep_congr fun k _ => by rw [← wBlk_set]; rfl
  · exact bigSep_congr fun k _ => by rw [← wBlk_set]; rfl
theorem o_eq (f : Buf (Elt F) ((c : Thread nD τ).loc main_v1)) :
    (((c : Thread nD τ).loc main_v1) ↦{fullShare} f : sProp 𝕄) = bigSep Finset.univ (fun b => tileO c b f) := by
  rw [Ring.pointsTo_blocks (ℓ := (c : Thread nD τ).loc main_v1) resS (keyed_disjoint resS_mem) (keyed_cover resS_mem)]
  exact bigSep_congr fun b _ => by rw [← oTile_set]; rfl
theorem o_todo (f : Buf (Elt F) ((c : Thread nD τ).loc main_v1)) :
    (((c : Thread nD τ).loc main_v1) ↦{fullShare} f : sProp 𝕄) ⊢ todoP (F := F) c 0 := by
  rw [o_eq, todoP, todo_zero]
  refine bigSep_mono fun b _ => ?_
  show (tileO c b f : sProp 𝕄) ⊢ iprop(∃ f, tileO (F := F) c b f)
  iintro H; iexists f; iexact H

theorem rawP_eq (h s : Fin 2) (f) : rawP c h s f = (((c : Thread nD τ).loc cc0_scratch0) ↦[rawS (h, s)]{fullShare} f : sProp 𝕄) :=
  congrArg (fun S => (_ ↦[S]{fullShare} f : sProp 𝕄)) (rawSlot_set s h)
theorem inP_eq (s : Fin 2) (f) : inP c s f = (((c : Thread nD τ).loc cc0_scratch4) ↦[slotS s]{fullShare} f : sProp 𝕄) :=
  congrArg (fun S => (_ ↦[S]{fullShare} f : sProp 𝕄)) (inSlot_set s)
theorem outP_eq (s : Fin 2) (f) : outP c s f = (((c : Thread nD τ).loc cc0_scratch5) ↦[slotO s]{fullShare} f : sProp 𝕄) :=
  congrArg (fun S => (_ ↦[S]{fullShare} f : sProp 𝕄)) (outSlot_set s)

theorem any_blocks {ι : Type} [Fintype ι] [DecidableEq ι] (ℓ : Loc nD τ sig) (S : ι → Finset ((ℓ.ty).Idx)) (hd : ∀ b b', b ≠ b' → Disjoint (S b) (S b'))
    (hc : Finset.univ.biUnion S = Finset.univ) :
    (iprop(∃ f : Buf (Elt F) ℓ, ℓ ↦{fullShare} f) : sProp 𝕄) ⊢ bigSep Finset.univ (fun b => iprop(∃ f : Buf (Elt F) ℓ, ℓ ↦[S b]{fullShare} f)) := by
  iintro ⟨%f, H⟩
  ihave H2 := (BIBase.Entails.of_eq (Ring.pointsTo_blocks (Ix := Unit) (Name := ℕ) (U := UU nD τ) (Lvl := ℕ) (q := fullShare) (ℓ := ℓ) S hd hc f)) $$ H
  have hm : (bigSep Finset.univ (fun b => ℓ ↦[S b]{fullShare} f) : sProp 𝕄) ⊢ bigSep Finset.univ (fun b => iprop(∃ f : Buf (Elt F) ℓ, ℓ ↦[S b]{fullShare} f)) :=
    bigSep_mono fun b _ => by
      show (ℓ ↦[S b]{fullShare} f : sProp 𝕄) ⊢ iprop(∃ f : Buf (Elt F) ℓ, ℓ ↦[S b]{fullShare} f)
      iintro H; iexists f; iexact H
  iapply hm; iexact H2
/-- A buffer in blocks, each at anything. -/
theorem blocks_any {ι : Type} [Fintype ι] [DecidableEq ι] (ℓ : Loc nD τ sig) (S : ι → Finset ((ℓ.ty).Idx)) (hd : ∀ b b', b ≠ b' → Disjoint (S b) (S b'))
    (hc : Finset.univ.biUnion S = Finset.univ) (f₀ : Buf (Elt F) ℓ) :
    (iprop(∃ f : Buf (Elt F) ℓ, ℓ ↦{fullShare} f) : sProp 𝕄) = bigSep Finset.univ (fun b => iprop(∃ f : Buf (Elt F) ℓ, ℓ ↦[S b]{fullShare} f)) := by
  refine BI.Entails.antisymm (any_blocks ℓ S hd hc) (Ring.pointsTo_blocks_join_exists (ℓ := ℓ) S hd hc f₀)
theorem raw_eq : (iprop(∃ f : Buf (Elt F) ((c : Thread nD τ).loc cc0_scratch0), ((c : Thread nD τ).loc cc0_scratch0) ↦{fullShare} f) : sProp 𝕄)
    = iprop(((∃ f, rawP c 0 (sl 0) f) ∗ ∃ f, rawP c 0 (sl 1) f) ∗ ((∃ f, rawP c 1 (sl 0) f) ∗ ∃ f, rawP c 1 (sl 1) f)) := by
  simp only [rawP_eq]
  rw [blocks_any ((c : Thread nD τ).loc cc0_scratch0) rawS (keyed_disjoint rawS_mem) (keyed_cover rawS_mem) (fun _ => default), bigSep_univ_prod, bigSep_two, bigSep_two, bigSep_two]
  rfl
theorem in_eq : (iprop(∃ f : Buf (Elt F) ((c : Thread nD τ).loc cc0_scratch4), ((c : Thread nD τ).loc cc0_scratch4) ↦{fullShare} f) : sProp 𝕄)
    = iprop((∃ f, inP c (sl 0) f) ∗ ∃ f, inP c (sl 1) f) := by
  simp only [inP_eq]
  rw [blocks_any ((c : Thread nD τ).loc cc0_scratch4) slotS (cutsS.disjoint slotOff_inb) (cutsS.cover slotOff_inb) (fun _ => default), bigSep_two]
  rfl
theorem out_eq : (iprop(∃ f : Buf (Elt F) ((c : Thread nD τ).loc cc0_scratch5), ((c : Thread nD τ).loc cc0_scratch5) ↦{fullShare} f) : sProp 𝕄)
    = iprop((∃ f, outP c (sl 0) f) ∗ ∃ f, outP c (sl 1) f) := by
  simp only [outP_eq]
  rw [blocks_any ((c : Thread nD τ).loc cc0_scratch5) slotO (cutsO.disjoint outSlotOff_inb) (cutsO.cover outSlotOff_inb) (fun _ => default), bigSep_two]
  rfl
theorem wa_eq (f : Buf (Elt F) ((c : Thread nD τ).loc cc0_scratch2)) :
    (((c : Thread nD τ).loc cc0_scratch2) ↦{fullShare} f : sProp 𝕄) = waP c f := by
  unfold waP; rw [View.set_whole]
theorem wb_eq (f : Buf (Elt F) ((c : Thread nD τ).loc cc0_scratch3)) :
    (((c : Thread nD τ).loc cc0_scratch3) ↦{fullShare} f : sProp 𝕄) = wbP c f := by
  unfold wbP; rw [View.set_whole]

abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide
theorem cell_raw00 : (rawSem (sl 0) 0).sem = 4 := by decide
theorem cell_raw01 : (rawSem (sl 0) 1).sem = 5 := by decide
theorem cell_raw10 : (rawSem (sl 1) 0).sem = 6 := by decide
theorem cell_raw11 : (rawSem (sl 1) 1).sem = 7 := by decide
theorem cell_in0 : (inSem (sl 0)).sem = 8 := by decide
theorem cell_in1 : (inSem (sl 1)).sem = 9 := by decide
theorem cell_out0 : (outSem (sl 0)).sem = 10 := by decide
theorem cell_out1 : (outSem (sl 1)).sem = 11 := by decide
theorem ownSems00_eq :
    (Pipeline.ownSems0 (Ix := Unit) (Name := ℕ) (U := Pipeline.UD sig nD τ) (Lvl := ℕ) (Val := Elt F) (τ := τ) osem0 c : sProp 𝕄)
      = iprop(rawCell c 0 (sl 0) ∗ rawCell c 1 (sl 0) ∗ rawCell c 0 (sl 1) ∗ rawCell c 1 (sl 1) ∗ inCell c (sl 0) ∗ inCell c (sl 1) ∗ outCell c (sl 0) ∗ outCell c (sl 1)) := by
  rw [Pipeline.ownSems0_eq_of_list c osem0 [0, 1, 2, 3, 4, 5, 6, 7] (by decide) (by decide)]
  unfold rawCell inCell outCell
  rw [cell_raw00, cell_raw01, cell_raw10, cell_raw11, cell_in0, cell_in1, cell_out0, cell_out1]; rfl

end Split

end Cert.Gmm1.Moe

end
-- ==== Proof.Moe.Gmm1Tables.lean ====
/-
  The first grouped product of the experts: what its result holds.
-/
module

public import proofs.«01_k».proof.Proof.Moe.Gmm1Split
public import proofs.«01_k».proof.Proof.Moe.Gmm2Tables
public import proofs.«01_k».proof.Pre_tile_tables1

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  Cuts Cuts.mem Cuts.disjoint Cuts.cover par_iv npar_iv Words word_range add_range at32 Owns at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem words_of [Cert.Pre_tile_tables1.Facts] (x0 x1 : S32.Idx → BitVec 32) (x2 : FVec F S73728x2048 .f32) (x3 : FVec F S32x2048x4096 .f32) (x4 : FVec F S32x4096 .f32)
    (h : (Cert.Pre_tile_tables1.fn (F := F) x0 x1 x2 x3 x4).1 = (fun _ => 1#1)
      ∧ (Cert.Pre_tile_tables1.fn (F := F) x0 x1 x2 x3 x4).2.1 = (fun _ => 1#1)
      ∧ (Cert.Pre_tile_tables1.fn (F := F) x0 x1 x2 x3 x4).2.2.1 = (fun _ => 1#1)
      ∧ (Cert.Pre_tile_tables1.fn (F := F) x0 x1 x2 x3 x4).2.2.2 = (fun _ => 1#1)) : Words x0 x1 := by
  obtain ⟨ha, hb, hc, hd⟩ := h
  have hand : ∀ (p q : Bool), IntOp.andi (BitVec.ofBool p) (BitVec.ofBool q) = BitVec.ofBool (p && q) := by
    intro p q; cases p <;> cases q <;> decide
  have hone : ∀ p : Bool, (BitVec.ofBool p = 1#1) ↔ p = true := fun p => by cases p <;> decide
  have hn : ∀ e : Fin 32, (x1 (at32 e)).toNat ≤ 288 := fun e => by
    have q := congrFun hc (at32 e)
    simp only [Cert.Pre_tile_tables1.fn, Cert.Pre_tile_tables1.fn_part1, andi, cmpi, broadcastInDim, constantI] at q
    simp only [IntOp.cmpi, hand, hone, Bool.and_eq_true, BitVec.sle_eq_decide, decide_eq_true_eq] at q
    exact word_range q
  have ht : ∀ e : Fin 32, (x0 (at32 e)).toNat ≤ 288 ∧ (x0 (at32 e)).toNat + (x1 (at32 e)).toNat ≤ 288 := fun e => by
    have q := congrFun hd (at32 e)
    simp only [Cert.Pre_tile_tables1.fn, Cert.Pre_tile_tables1.fn_part1, andi, cmpi, broadcastInDim, constantI, addi] at q
    simp only [IntOp.cmpi, hand, hone, Bool.and_eq_true, BitVec.sle_eq_decide, decide_eq_true_eq] at q
    have q0 := word_range q.1
    exact ⟨q0, add_range q0 (hn e) q.2⟩
  refine ⟨?_, ?_, fun e => (ht e).2⟩
  · have q := congrFun ha (fun a => ⟨0, by fin_cases a; decide⟩)
    simp only [Cert.Pre_tile_tables1.fn, Cert.Pre_tile_tables1.fn_part1, cmpi, broadcastInDim, constantI, extractStridedSlice] at q
    simp only [IntOp.cmpi, hone, beq_iff_eq] at q
    refine Eq.trans ?_ (congrArg BitVec.toNat q)
    congr 2; funext a; apply Fin.ext; fin_cases a; rfl
  · intro e he
    have q := congrFun hb (fun a => ⟨e.val, by fin_cases a; show e.val < 31; omega⟩)
    simp only [Cert.Pre_tile_tables1.fn, Cert.Pre_tile_tables1.fn_part1, cmpi, addi, extractStridedSlice] at q
    simp only [IntOp.cmpi, hone, beq_iff_eq] at q
    rw [← add_nat (x0 (at32 e)) (x1 (at32 e)) (by have := (ht e).2; omega)]
    have q' := congrArg BitVec.toNat q
    refine Eq.trans ?_ (q'.trans ?_)
    · congr 2; funext a; apply Fin.ext; fin_cases a; show e.val + 1 = 1 + e.val; omega
    · show BitVec.toNat (IntOp.addi _ _) = BitVec.toNat (IntOp.addi _ _)
      congr 2 <;> (congr 1; funext a; apply Fin.ext; fin_cases a; show 0 + e.val = e.val; omega)

/-! ## What the result holds -/

/-- The tile of rows of result tile `g`, and the step at which expert `e` fills it. -/
def rowOf (g : Fin 576) : Fin 288 := ⟨g.val % 288, Nat.mod_lt _ (by decide)⟩
def stepOf (g : Fin 576) (e : Fin 32) : Fin 64 := ⟨g.val / 288 * 32 + e.val, by have := g.isLt; have := e.isLt; omega⟩

section Res
variable (c : Dev nD) (x0 x1 : S32.Idx → BitVec 32) (XA : Buf (Elt F) (aM.view.loc (c : Thread nD τ)))
  (XW : Buf (Elt F) (wM.view.loc (c : Thread nD τ))) (XV : S32x1x4096.Idx → Elt F .f32)

/-- Half `h` of the biases of step `k`. -/
def biasV (h : Fin 2) (k : Fin 64) : Vec F S1x1x1024 .f32 := fun y => XV fun a =>
  ⟨![k.val % 32, 0, (h.val * 2 + k.val / 32) * 1024 + (y 2).val] a, by
    have hy : (y 2).val < 1024 := (y 2).isLt
    have hh := h.isLt
    have hk := k.isLt
    match a with
    | ⟨0, _⟩ => show k.val % 32 < 32; omega
    | ⟨1, _⟩ => exact Nat.zero_lt_one
    | ⟨2, _⟩ => show (h.val * 2 + k.val / 32) * 1024 + (y 2).val < 4096; omega⟩

/-- What step `k` leaves at a tile of rows. -/
def stepVal (b : Fin 288) (k : Fin 64) : S256x1024.Idx → Elt F .bf16 :=
  outVal (aVal c XA b) (wUseA c XW k) (wUseB c XW k) (biasV (F := F) XV 0 k) (biasV (F := F) XV 1 k)

open Classical in
/-- Tile `g` of the result. -/
def tileVal (g : Fin 576) : S256x1024.Idx → Elt F .bf16 :=
  if h : ∃ e, Owns x0 x1 e (rowOf g).val then stepVal c XA XW XV (rowOf g) (stepOf g h.choose) else zeroVal

variable {x0 x1}
theorem tileVal_own (H : Words x0 x1) {e : Fin 32} {g : Fin 576} (h : Owns x0 x1 e (rowOf g).val) :
    tileVal c x0 x1 XA XW XV g = stepVal c XA XW XV (rowOf g) (stepOf g e) := by
  have hx : ∃ e, Owns x0 x1 e (rowOf g).val := ⟨e, h⟩
  unfold tileVal; rw [dif_pos hx, H.unique hx.choose_spec h]
theorem tileVal_free {g : Fin 576} (h : ∀ e, ¬ Owns x0 x1 e (rowOf g).val) : tileVal c x0 x1 XA XW XV g = zeroVal (F := F) := by
  unfold tileVal; rw [dif_neg (fun ⟨e, he⟩ => h e he)]

variable (x0 x1)
def posOf (y : S73728x2048.Idx) : S256x1024.Idx := fun a =>
  ⟨![(y 0).val % 256, (y 1).val % 1024] a, by fin_cases a; exact Nat.mod_lt _ (by decide); exact Nat.mod_lt _ (by decide)⟩
/-- The result whole. -/
def resBuf : Buf (Elt F) (oM.view.loc (c : Thread nD τ)) := fun y : S73728x2048.Idx => tileVal c x0 x1 XA XW XV (resKey y) (posOf y)

/-- Where element `j` of tile `g` lies in the whole result. -/
abbrev cellOf (g : Fin 576) (j : S256x1024.Idx) : S73728x2048.Idx := (oTile g).view.emb j

theorem resBuf_read (g : Fin 576) : (oTile g).view.read (Elt F) (resBuf c x0 x1 XA XW XV) = tileVal c x0 x1 XA XW XV g := by
  funext j
  show tileVal c x0 x1 XA XW XV (resKey (cellOf g j)) (posOf (cellOf g j)) = _
  have e0 : ((cellOf g j) 0).val = g.val % 288 * 256 + (j 0).val := by
    show g.val % 288 * 256 + 1 * (j 0).val = _; omega
  have e1 : ((cellOf g j) 1).val = g.val / 288 * 1024 + (j 1).val := by
    show g.val / 288 * 1024 + 1 * (j 1).val = _; omega
  have hj : (j 0).val < 256 := (j 0).isLt
  have hj1 : (j 1).val < 1024 := (j 1).isLt
  have hg := g.isLt
  have hb : resKey (cellOf g j) = g := Fin.ext (by
    show ((cellOf g j) 1).val / 1024 * 288 + ((cellOf g j) 0).val / 256 = g.val; rw [e0, e1]; omega)
  have hp : posOf (cellOf g j) = j := by
    funext a; apply Fin.ext; fin_cases a
    · show ((cellOf g j) 0).val % 256 = (j 0).val; rw [e0]; omega
    · show ((cellOf g j) 1).val % 1024 = (j 1).val; rw [e1]; omega
  rw [hb, hp]
end Res

end Cert.Gmm1.Moe

end
-- ==== Proof.Moe.Gmm1Data.lean ====
/-
  The first grouped product of the experts: what the call's points hand on.
-/
module

public import proofs.«01_k».proof.Proof.Moe.Gmm1Tables
public import Idealize.ShloMosaic.Lib.Pipeline.FrameBody

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  Cuts Cuts.mem Cuts.disjoint Cuts.cover par_iv npar_iv Words word_range add_range at32 Owns at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What every buffer holds when the call starts. -/
def V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results

/-- The two tables, the activations, the matrices and the biases on device `c`. -/
abbrev X0 (c : Dev nD) : S32.Idx → BitVec 32 := V m c main_arg0
abbrev X1 (c : Dev nD) : S32.Idx → BitVec 32 := V m c main_arg1
abbrev XA (c : Dev nD) : Buf (Elt F) (aM.view.loc (c : Thread nD τ)) := V m c main_arg2
abbrev XW (c : Dev nD) : Buf (Elt F) (wM.view.loc (c : Thread nD τ)) := V m c main_arg3
abbrev XV (c : Dev nD) : S32x1x4096.Idx → Elt F .f32 := V m c main_v0
/-- The result on device `c`. -/
def RR (c : Dev nD) : Buf (Elt F) (oM.view.loc (c : Thread nD τ)) := resBuf c (X0 m c) (X1 m c) (XA m c) (XW m c) (XV m c)

theorem ok_any (x) : ok0 (F := F) x := by unfold ok0; trivial
/-- The tables as the pipeline prefetches them. -/
def adm : (p : Fin 1) → (pcfgs (F := F) p).Adm := fun _ => ⟨fun k => V m 0 (pre0.ref k), ok_any (F := F) (fun k => V m 0 (pre0.ref k))⟩
abbrev cfgA : Cfg sig Λ₀ := cfg0 (adm m 0)

theorem coord1 : ∀ t : Fin grid0.N, pn (grid0.coords t) = t.val := by decide
abbrev st0 (t : Fin (cfgA m).N) : Memref sig .tc .vmem S1x1x1024 .f32 := spec0_0.stage ((cfgA m).slots t 0)
abbrev hst0 (t : Fin (cfgA m).N) : (st0 m t).IsWhole := hstage0_0 (((cfgA m).slots t 0).cast nbuf0_0)
abbrev st1 (t : Fin (cfgA m).N) : Memref sig .tc .vmem S1x1x1024 .f32 := spec0_1.stage ((cfgA m).slots t 1)
abbrev hst1 (t : Fin (cfgA m).N) : (st1 m t).IsWhole := hstage0_1 (((cfgA m).slots t 1).cast nbuf0_1)

/-- The biases' block at point `t`, read off their array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- How many tiles are done before point `n`. -/
def before (c : Dev nD) (n : Nat) : Nat := if n < 64 then n / 32 * 288 + (X0 m c (at32 (ex (n % 32)))).toNat else 576

/-- What the points hand on, at point `n`. -/
def Φ (c : Dev nD) (n : Nat) : sProp 𝕄 :=
  iprop(ptRes (F := F) c (X0 m c) (X1 m c) (XA m c) (XW m c) (RR m c) n (before m c n) ∗ ∃ r, prngReg c r)

def dats (_ : Fin 1) (c : Dev nD) : Dat τ (Elt F) Unit ℕ (UU nD τ) ℕ (cfgA m) c where
  A w := V m c (Pipeline.arrRef spec0 w)
  after w t := iblk m c w t
  Φ n := Φ m c n.val
  q w := Pipeline.shareOf (cfgA m).spec w
  owed _ := 0

theorem before_w0 (c : Dev nD) (t : Fin (cfgA m).N) (d) : (dats m 0 c).before 0 t d = iblk m c 0 t :=
  ((dats m 0 c).before_in_eq_fetched 0 rfl (fun _ => rfl) (fun _ _ _ => rfl) (fun t => by
    show iblk m c 0 t = _
    unfold Dat.blockOf iblk; rfl) t d).trans (by unfold Dat.fetched Dat.blockOf iblk; rfl)
theorem before_w1 (c : Dev nD) (t : Fin (cfgA m).N) (d) : (dats m 0 c).before 1 t d = iblk m c 1 t :=
  ((dats m 0 c).before_in_eq_fetched 1 rfl (fun _ => rfl) (fun _ _ _ => rfl) (fun t => by
    show iblk m c 1 t = _
    unfold Dat.blockOf iblk; rfl) t d).trans (by unfold Dat.fetched Dat.blockOf iblk; rfl)
theorem after_w0 (c : Dev nD) (t : Fin (cfgA m).N) : (dats m 0 c).after 0 t = iblk m c 0 t := rfl
theorem after_w1 (c : Dev nD) (t : Fin (cfgA m).N) : (dats m 0 c).after 1 t = iblk m c 1 t := rfl

/-- The step of a point. -/
abbrev stp (t : Fin (cfgA m).N) : Fin 64 := t.cast N_0
theorem first0 : ∀ t : Fin grid0.N, cc0_transform_0 (grid0.coords t) 0 = t.val % 32 ∧ cc0_transform_0 (grid0.coords t) 2 = t.val / 32 := by decide
theorem first1 : ∀ t : Fin grid0.N, cc0_transform_1 (grid0.coords t) 0 = t.val % 32 ∧ cc0_transform_1 (grid0.coords t) 2 = 2 + t.val / 32 := by decide
theorem iblk_eq0 (c : Dev nD) (t : Fin (cfgA m).N) : iblk m c 0 t = biasV (F := F) (XV m c) 0 (stp m t) := by
  refine funext fun (y : S1x1x1024.Idx) => ?_
  unfold iblk biasV
  show V m c main_v0 _ = V m c main_v0 _
  congr 1; funext a; apply Fin.ext
  obtain ⟨f0, f2⟩ := first0 t
  fin_cases a
  · show cc0_transform_0 (grid0.coords t) 0 * 1 + 1 * (y 0).val = t.val % 32
    have h : (y 0).val < 1 := (y 0).isLt
    rw [f0]; omega
  · show 0 * 1 + 1 * (y 1).val = 0
    have h : (y 1).val < 1 := (y 1).isLt
    omega
  · show cc0_transform_0 (grid0.coords t) 2 * 1024 + 1 * (y 2).val = (0 * 2 + t.val / 32) * 1024 + (y 2).val
    rw [f2]; omega
theorem iblk_eq1 (c : Dev nD) (t : Fin (cfgA m).N) : iblk m c 1 t = biasV (F := F) (XV m c) 1 (stp m t) := by
  refine funext fun (y : S1x1x1024.Idx) => ?_
  unfold iblk biasV
  show V m c main_v0 _ = V m c main_v0 _
  congr 1; funext a; apply Fin.ext
  obtain ⟨f0, f2⟩ := first1 t
  fin_cases a
  · show cc0_transform_1 (grid0.coords t) 0 * 1 + 1 * (y 0).val = t.val % 32
    have h : (y 0).val < 1 := (y 0).isLt
    rw [f0]; omega
  · show 0 * 1 + 1 * (y 1).val = 0
    have h : (y 1).val < 1 := (y 1).isLt
    omega
  · show cc0_transform_1 (grid0.coords t) 2 * 1024 + 1 * (y 2).val = (1 * 2 + t.val / 32) * 1024 + (y 2).val
    rw [f2]; omega

/-! ## The tables' words -/

section Words
variable (c : Dev nD) (x : Buf (Elt F) (tM.view.loc (c : Thread nD τ))) (x' : Buf (Elt F) (nM.view.loc (c : Thread nD τ)))
theorem wordT_eq (n : Fin 32) {off : Fin 1 → Nat} (e : off = ![n.val]) (h) : wordT c x off h = (x : S32.Idx → BitVec 32) (at32 n) := by
  subst e
  show (x : S32.Idx → BitVec 32) _ = (x : S32.Idx → BitVec 32) _
  congr 1; funext a; apply Fin.ext; fin_cases a; rfl
theorem wordN_eq (n : Fin 32) {off : Fin 1 → Nat} (e : off = ![n.val]) (h) : wordN c x' off h = (x' : S32.Idx → BitVec 32) (at32 n) := by
  subst e
  show (x' : S32.Idx → BitVec 32) _ = (x' : S32.Idx → BitVec 32) _
  congr 1; funext a; apply Fin.ext; fin_cases a; rfl
end Words

end Cert.Gmm1.Moe

end
-- ==== Proof.Moe.Gmm1Launch.lean ====
/-
  The first grouped product of the experts: the call's run, from the body's.
-/
module

public import proofs.«01_k».proof.Proof.Moe.Gmm1Data
public import Idealize.ShloMosaic.Lib.Pipeline.FrameBody

@[expose] public section

noncomputable section

namespace Cert.Gmm1.Moe

open Cert.Gmm1 Cert.Gmm1.Gen
open Cert.Gmm2.Moe (toInt_small iv_small iv_from and_one add_nat sub_nat mul_256 sub_zero_word div_one mul_one_word zero_add_word
  test_eq sgt_iff slt_iff sge_iff trips_one ok_one fill_lb fill_ub Fits tl tl_val sl sl_add_two ex ex_val tile_word tile_dvd
  Cuts Cuts.mem Cuts.disjoint Cuts.cover par_iv npar_iv Words word_range add_range at32 Owns at_word next_word back_word end_word par_last)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The body obligation -/

theorem owed_any (c : Dev nD) (t : Fin ((cfgA m).N + 1)) : (dats m 0 c).owed t = 0 := rfl
theorem Φ_at (c : Dev nD) (t : Fin ((cfgA m).N + 1)) : (dats m 0 c).Φ t = Φ m c t.val := rfl
theorem gen_cast {N : Nat} {α : Sort _} (f : Fin (N + 1) → α) (g : Nat → α) (h : ∀ t, f t = g t.val) (t : Fin N) : f t.castSucc = g t.val := h _
theorem gen_succ {N : Nat} {α : Sort _} (f : Fin (N + 1) → α) (g : Nat → α) (h : ∀ t, f t = g t.val) (t : Fin N) : f t.succ = g (t.val + 1) := h _
theorem Φ_castSucc (c : Dev nD) (t : Fin (cfgA m).N) : (dats m 0 c).Φ t.castSucc = Φ m c t.val := gen_cast _ _ (Φ_at m c) t
theorem Φ_succ (c : Dev nD) (t : Fin (cfgA m).N) : (dats m 0 c).Φ t.succ = Φ m c (t.val + 1) := gen_succ _ _ (Φ_at m c) t

theorem defs_tc : (defs₀ (F := F)) .tc (cfgA m).body
    = fun a => kernelAt (F := F) (grid0.coords a.1) (spec0_0.stage (a.2 0)) (hstage0_0 ((a.2 0).cast nbuf0_0)) (spec0_1.stage (a.2 1)) (hstage0_1 ((a.2 1).cast nbuf0_1)) := rfl
theorem prog_eq (t : Fin (cfgA m).N) : (defs₀ (F := F)) .tc (cfgA m).body ((cfgA m).bodyArgs t ((cfgA m).slots t))
    = kernelAt (F := F) (grid0.coords t) (st0 m t) (hst0 m t) (st1 m t) (hst1 m t) :=
  (congrFun (defs_tc m) _).trans rfl

section Body
variable {m} (hW : ∀ c, Words (X0 m c) (X1 m c)) (c : Dev nD) (t : Fin (cfgA m).N)

/-- The expert of a point. -/
def xe : Fin 32 := ⟨t.val % 32, Nat.mod_lt _ (by decide)⟩
theorem col_eq : ((grid0.coords t) 1).val = t.val % 32 := by rw [← coord1 t, pn_mod]
theorem ib_at : ib (grid0.coords t) = t.val / 32 * 288 := by rw [ib_eq, coord1]
theorem t_lt : t.val < 64 := (stp m t).isLt
/-- A bias block read through its buffer whole. -/
theorem bias_read (M : Memref sig .tc .vmem S1x1x1024 .f32) (B : Vec F S1x1x1024 .f32) :
    M.view.readAt (Elt F) (Rect.unit (s := S1x1x1024) ![0, 0, 0] S1x1x1024.size inb_S1x1x1024_S1x1x1024_0_0_0).toLoadRect (M.view.rep B) = B := by
  have hr := View.read_rep M.view B
  funext y
  rw [View.readAt_apply, hr]
  congr 1; funext a; apply Fin.ext
  rw [LoadRect.idx_apply]
  fin_cases a <;> simp
include hW

theorem v1_eq : v1At (F := F) c (grid0.coords t) (X0 m c) = X0 m c (at32 (xe t)) :=
  wordT_eq (F := F) c (X0 m c) (xe t) ((off1_eq _).trans (by rw [col_eq]; rfl)) _
theorem v3_eq : v3At (F := F) c (grid0.coords t) (X1 m c) = X1 m c (at32 (xe t)) :=
  wordN_eq (F := F) c (X1 m c) (xe t) ((off1_eq _).trans (by rw [col_eq]; rfl)) _
theorem v28_eq : v28At (F := F) c (X0 m c) = X0 m c (at32 31) := wordT_eq (F := F) c (X0 m c) 31 rfl _
theorem v29_eq : v29At (F := F) c (X1 m c) = X1 m c (at32 31) := wordN_eq (F := F) c (X1 m c) 31 rfl _

theorem before_at : before m c t.val = ib (grid0.coords t) + (v1At (F := F) c (grid0.coords t) (X0 m c)).toNat := by
  unfold before
  rw [if_pos (t_lt t), v1_eq hW, ib_at]
  congr 4; exact Fin.ext (ex_val (Nat.mod_lt _ (by decide)))
theorem before_next (h : ((grid0.coords t) 1).val + 1 < 32) :
    before m c (t.val + 1) = ib (grid0.coords t) + (v1At (F := F) c (grid0.coords t) (X0 m c)).toNat + (v3At (F := F) c (grid0.coords t) (X1 m c)).toNat := by
  rw [col_eq] at h
  have ht := t_lt t
  unfold before
  rw [if_pos (by omega), v1_eq hW, v3_eq hW, ib_at, Nat.add_assoc, ← (hW c).next (xe t) h]
  have e : (t.val + 1) / 32 = t.val / 32 := by omega
  rw [e]
  congr 4; exact Fin.ext ((ex_val (Nat.mod_lt _ (by decide))).trans (by show (t.val + 1) % 32 = t.val % 32 + 1; omega))
theorem before_last (h : ((grid0.coords t) 1).val = 31) :
    before m c (t.val + 1) = ib (grid0.coords t) + 288 ∧ v28At (F := F) c (X0 m c) = v1At (F := F) c (grid0.coords t) (X0 m c) ∧ v29At (F := F) c (X1 m c) = v3At (F := F) c (grid0.coords t) (X1 m c) := by
  rw [col_eq] at h
  have ht := t_lt t
  have e : xe t = 31 := Fin.ext h
  refine ⟨?_, ?_, ?_⟩
  · unfold before; rw [ib_at]
    by_cases hn : t.val + 1 < 64
    · have e0 : ex ((t.val + 1) % 32) = 0 := Fin.ext ((ex_val (Nat.mod_lt _ (by decide))).trans (by show (t.val + 1) % 32 = 0; omega))
      rw [if_pos hn, e0, (hW c).zero]; omega
    · rw [if_neg hn]; omega
  · rw [v28_eq hW, v1_eq hW, e]
  · rw [v29_eq hW, v3_eq hW, e]
theorem fits_at : Fits (v1At (F := F) c (grid0.coords t) (X0 m c)) (v3At (F := F) c (grid0.coords t) (X1 m c)) := by
  rw [v1_eq hW, v3_eq hW]; exact (hW c).fits _
theorem fits_last : Fits (v28At (F := F) c (X0 m c)) (v29At (F := F) c (X1 m c)) := by
  rw [v28_eq hW, v29_eq hW]; exact (hW c).fits _
theorem zeros_at : Zeros c (RR m c) (ib (grid0.coords t) + ((v28At (F := F) c (X0 m c)).toNat + (v29At (F := F) c (X1 m c)).toNat)) (ib (grid0.coords t) + 288) := by
  intro n ha hn
  have ht := t_lt t
  rw [v28_eq hW, v29_eq hW] at ha
  rw [ib_at] at ha hn
  unfold RR
  rw [resBuf_read]
  have e : (rowOf (rt n)).val = n - t.val / 32 * 288 := by
    show (rt n).val % 288 = _
    rw [rt_val (by omega)]; omega
  exact tileVal_free c _ _ _ (fun e' => by rw [e]; exact (hW c).none (by omega) e')

theorem mine_at : Mine c (grid0.coords t) (st0 m t) (st1 m t) (XA m c) (XW m c) ((st0 m t).view.rep (biasV (F := F) (XV m c) 0 (stp m t)))
    ((st1 m t).view.rep (biasV (F := F) (XV m c) 1 (stp m t))) (RR m c)
    (v1At (F := F) c (grid0.coords t) (X0 m c)) (v3At (F := F) c (grid0.coords t) (X1 m c)) := by
  have hF := fits_at hW c t
  have ht := t_lt t
  unfold Fits at hF
  intro k hk
  have hn : (v1At (F := F) c (grid0.coords t) (X0 m c)).toNat + k < 288 := by omega
  have hv : (rt (ib (grid0.coords t) + (v1At (F := F) c (grid0.coords t) (X0 m c)).toNat + k)).val
      = t.val / 32 * 288 + ((v1At (F := F) c (grid0.coords t) (X0 m c)).toNat + k) := by
    rw [ib_at, Nat.add_assoc]; exact rt_val (by omega)
  have hrow : rowOf (rt (ib (grid0.coords t) + (v1At (F := F) c (grid0.coords t) (X0 m c)).toNat + k)) = tl ((v1At (F := F) c (grid0.coords t) (X0 m c)).toNat + k) :=
    Fin.ext (by rw [tl_val hn]; show _ % 288 = _; rw [hv]; omega)
  have hst : stepOf (rt (ib (grid0.coords t) + (v1At (F := F) c (grid0.coords t) (X0 m c)).toNat + k)) (xe t) = stp m t :=
    Fin.ext (by show _ / 288 * 32 + t.val % 32 = t.val; rw [hv]; omega)
  unfold RR
  rw [resBuf_read, tileVal_own c _ _ _ (hW c) (e := xe t) (by
    rw [hrow, tl_val hn, v1_eq hW]; rw [v3_eq hW] at hk
    exact ⟨Nat.le_add_right _ _, Nat.add_lt_add_left hk _⟩), hrow, hst, bias_read, bias_read, coord1]
  unfold stepVal
  rw [show st t.val = stp m t from Fin.ext (st_val ht)]

set_option backward.isDefEq.respectTransparency.types false in
theorem body_obligation : BodyObligation (dats (F := F) m 0 c) (defs₀ (F := F)) 𝒱₀ () Set.univ := fun t => by
  rw [bigSep_W0, bigSep_W0]
  dsimp only
  simp only [before_w0, after_w0, before_w1, after_w1]
  rw [Φ_castSucc, Φ_succ]
  unfold Dat.owesAt Pipeline.owesWithin
  rw [owed_any, owed_any]
  unfold owns Φ
  have hi := coord1 t
  have hb := body_run c (grid0.coords t) (st0 m t) (hst0 m t) (st1 m t) (hst1 m t) (X0 m c) (X1 m c) (XA m c) (XW m c)
    ((st0 m t).view.rep (biasV (F := F) (XV m c) 0 (stp m t))) ((st1 m t).view.rep (biasV (F := F) (XV m c) 1 (stp m t))) (RR m c) (before m c (t.val + 1)) (fits_at hW c t) (fits_last hW c)
    (mine_at hW c t) (before_next hW c t) (before_last hW c t) (fun _ => zeros_at hW c t)
  rw [← before_at hW c t, hi] at hb
  iintro ⟨⟨HP, Hr⟩, ⟨%W, -, HW⟩, ⟨%d0, %g0, %hg0, Hng⟩, ⟨%d1, %g1, %hg1, Hnh⟩⟩
  ihave Hng' := (pointsTo_rep_entails (c : Thread nD τ) (st0 m t) g0 fullShare) $$ Hng
  ihave Hnh' := (pointsTo_rep_entails (c : Thread nD τ) (st1 m t) g1 fullShare) $$ Hnh
  rw [hg0, iblk_eq0, hg1, iblk_eq1]
  sl_rw [prog_eq m t]
  iapply (wp_wand_r Idealize.ShloMosaic.frame (wpE (defs₀ (F := F)) 𝒱₀ (c : Thread nD τ) none) Set.univ)
  isplitl [HP Hng' Hnh' HW]
  · iapply hb
    isplitl [HP]; · iexact HP
    isplitl [Hng']; · iexact Hng'
    isplitl [Hnh']; · iexact Hnh'
    iexists W; iexact HW
  · iintro %_ ⟨HP, Hng, Hnh, ⟨%W', HW⟩⟩
    isplitl [HP Hr]
    · isplitl [HP]; · iexact HP
      iexact Hr
    isplitl [HW]
    · iexists W'; isplitr; · ipureintro; exact fun _ _ => Or.inl trivial
      iexact HW
    isplitl [Hng]
    · iexists ((st0 m t).view.rep (biasV (F := F) (XV m c) 0 (stp m t))); isplitr
      · ipureintro; exact View.read_rep (st0 m t).view (biasV (F := F) (XV m c) 0 (stp m t))
      iexact Hng
    iexists ((st1 m t).view.rep (biasV (F := F) (XV m c) 1 (stp m t))); isplitr
    · ipureintro; exact View.read_rep (st1 m t).view (biasV (F := F) (XV m c) 1 (stp m t))
    iexact Hnh
end Body

/-! ## The run -/

set_option maxHeartbeats 800000 in
theorem hostOps0_fresh : (hostOps0 (F := F)).Forall fun op => op.fresh = ∅ := by
  simp only [List.Forall]; repeat' constructor

/-- The arguments the body's transfers read, and the result they write. -/
def HH : Finset (Ref sig .tc) := {main_arg2, main_arg3}
def RS : Finset (Ref sig .tc) := {main_v1}
theorem HH_sub : HH ⊆ Pipeline.restRefsP sig pre0 spec0 := by decide
theorem RS_sub : RS ⊆ Pipeline.restRefsP sig pre0 spec0 \ HH := by decide
theorem HH_eq (c : Dev nD) : (bigSep HH (fun b => ((c : Thread nD τ).loc b) ↦{fullShare} V m c b) : sProp 𝕄)
    = iprop(bigSep Finset.univ (homeA c (XA m c)) ∗ (bigSep Finset.univ (homeW c (XW m c) 0) ∗ bigSep Finset.univ (homeW c (XW m c) 1))) := by
  rw [BI.bigSep_eq_bigSepL_of_eq [main_arg2, main_arg3] (by decide) (by decide), ← a_eq, ← w_eq]; rfl
theorem RS_eq (c : Dev nD) (G : (b : Ref sig .tc) → Buf (Elt F) ((c : Thread nD τ).loc b)) :
    (Pipeline.routed RS c G : sProp 𝕄) = (((c : Thread nD τ).loc main_v1) ↦{fullShare} G main_v1) := by
  unfold Pipeline.routed; rw [BI.bigSep_eq_bigSepL_of_eq [main_v1] (by decide) (by decide)]; rfl
theorem ΦT_eq (c : Dev nD) : (Pipeline.ΦT pre0 (adm m 0).1 c : sProp 𝕄) = iprop(tabT c (X0 m c) ∗ tabN c (X1 m c)) := by
  cases Subsingleton.elim c 0
  unfold Pipeline.ΦT Pipeline.prefHeld
  rw [bigSep_univ_eq_bigSepL [(0 : Fin 2), (1 : Fin 2)] (by decide) (by decide)]; rfl

/-- What the written results hold at the end. -/
def GG (c : Dev nD) (b : Ref sig .tc) : Buf (Elt F) ((c : Thread nD τ).loc b) :=
  if h : b = main_v1 then h ▸ RR m c else V m c b
theorem GG_v1 (c : Dev nD) : GG m c main_v1 = RR m c := by unfold GG; rw [dif_pos rfl]

section Run
variable {m} (hW : ∀ c, Words (X0 m c) (X1 m c)) (c : Dev nD)
include hW

theorem into : iprop(Pipeline.ΦDRG osem0 spec0 HH RS (V m) (V m) c ∗ Pipeline.ΦT pre0 (adm m 0).1 c) ⊢ (Φ m c 0 : sProp 𝕄) := by
  have hb : before m c 0 = 0 := by
    unfold before; rw [if_pos (by omega)]
    exact (Nat.zero_add _).trans (hW c).zero
  rw [Pipeline.ΦDRG_eq, scopedRest0_eq, ownSems00_eq, HH_eq, RS_eq, ΦT_eq, raw_eq, in_eq, out_eq]
  unfold Φ ptRes
  rw [hb, wSt_free c (XW m c) (h := 0) (n := 0) (by omega), wSt_free c (XW m c) (h := 1) (n := 0) (by omega), doneP, done_zero, bigSep_empty]
  iintro ⟨⟨⟨⟨⟨HR0, HR1⟩, ⟨HQ0, HQ1⟩⟩, ⟨%fw, Hws⟩, ⟨%fv, Hvs⟩, ⟨HI0, HI1⟩, ⟨HO0, HO1⟩⟩, Hr, ⟨Cr0, Cq0, Cr1, Cq1, Ci0, Ci1, Co0, Co1⟩, ⟨HA, HWt, HWu⟩, HV⟩, HT, HN⟩
  ihave Hws' := (BIBase.Entails.of_eq (wa_eq c fw)) $$ Hws
  ihave Hvs' := (BIBase.Entails.of_eq (wb_eq c fv)) $$ Hvs
  ihave HV' := (o_todo c (V m c main_v1)) $$ HV
  isplitr [Hr]
  · isplitl [HT]; · iexact HT
    isplitl [HN]; · iexact HN
    isplitl [Hws']; · iexists fw; iexact Hws'
    isplitl [Hvs']; · iexists fv; iexact Hvs'
    isplitl [HR0 HR1 Cr0 Cr1 HWt]
    · isplitl [HR0 Cr0]; · isplitl [HR0]; · iexact HR0
                           iexact Cr0
      isplitl [HR1 Cr1]; · isplitl [HR1]; · iexact HR1
                           iexact Cr1
      iexact HWt
    isplitl [HQ0 HQ1 Cq0 Cq1 HWu]
    · isplitl [HQ0 Cq0]; · isplitl [HQ0]; · iexact HQ0
                           iexact Cq0
      isplitl [HQ1 Cq1]; · isplitl [HQ1]; · iexact HQ1
                           iexact Cq1
      iexact HWu
    isplitl [HI0 Ci0]; · isplitl [HI0]; · iexact HI0
                         iexact Ci0
    isplitl [HI1 Ci1]; · isplitl [HI1]; · iexact HI1
                         iexact Ci1
    isplitl [HA]; · iexact HA
    isplitl [HO0 Co0]; · isplitl [HO0]; · iexact HO0
                         iexact Co0
    isplitl [HO1 Co1]; · isplitl [HO1]; · iexact HO1
                         iexact Co1
    isplitr; · iempintro
    iexact HV'
  · iexact Hr

theorem outOf : (Φ m c 64 : sProp 𝕄) ⊢ Pipeline.ΦDRG osem0 spec0 HH RS (V m) (GG m) c := by
  have hb : before m c 64 = 576 := by unfold before; rw [if_neg (by omega)]
  rw [Pipeline.ΦDRG_eq, scopedRest0_eq, ownSems00_eq, HH_eq, RS_eq, raw_eq, in_eq, out_eq, GG_v1]
  unfold Φ ptRes
  rw [hb, wSt_free c (XW m c) (h := 0) (n := 64) (by omega), wSt_free c (XW m c) (h := 1) (n := 64) (by omega), doneP, done_all, ← o_eq]
  iintro ⟨⟨HT, HN, ⟨%fw, Hws⟩, ⟨%fv, Hvs⟩, ⟨⟨HR0, Cr0⟩, ⟨HR1, Cr1⟩, HWt⟩, ⟨⟨HQ0, Cq0⟩, ⟨HQ1, Cq1⟩, HWu⟩, ⟨HI0, Ci0⟩, ⟨HI1, Ci1⟩, HA, ⟨HO0, Co0⟩, ⟨HO1, Co1⟩, HV, -⟩, Hr⟩
  iclear HT; iclear HN
  isplitl [HR0 HR1 HQ0 HQ1 Hws Hvs HI0 HI1 HO0 HO1]
  · isplitl [HR0 HR1 HQ0 HQ1]
    · isplitl [HR0 HR1]
      · isplitl [HR0]; · iexact HR0
        iexact HR1
      isplitl [HQ0]; · iexact HQ0
      iexact HQ1
    isplitl [Hws]; · iexists fw; iapply (BIBase.Entails.of_eq (wa_eq c fw).symm); iexact Hws
    isplitl [Hvs]; · iexists fv; iapply (BIBase.Entails.of_eq (wb_eq c fv).symm); iexact Hvs
    isplitl [HI0 HI1]; · isplitl [HI0]; · iexact HI0
                         iexact HI1
    isplitl [HO0]; · iexact HO0
    iexact HO1
  isplitl [Hr]; · iexact Hr
  isplitl [Cr0 Cr1 Cq0 Cq1 Ci0 Ci1 Co0 Co1]
  · isplitl [Cr0]; · iexact Cr0
    isplitl [Cq0]; · iexact Cq0
    isplitl [Cr1]; · iexact Cr1
    isplitl [Cq1]; · iexact Cq1
    isplitl [Ci0]; · iexact Ci0
    isplitl [Ci1]; · iexact Ci1
    isplitl [Co0]; · iexact Co0
    iexact Co1
  isplitl [HA HWt HWu]
  · isplitl [HA]; · iexact HA
    isplitl [HWt]; · iexact HWt
    iexact HWu
  iexact HV
end Run

theorem run_main (hW : ∀ c, Words (X0 m c) (X1 m c)) :
    θ_run defs (onTc (τ := τ) (main (F := F))) ⟨m, fun _ => 0, ρ⟩ (fun r => (∀ c : Dev nD,
      (∀ b ∈ Pipeline.restRefs sig spec0 \ RS, r.2.mem ((c : Thread nD τ).loc b) = V m c b)
        ∧ r.2.mem ((c : Thread nD τ).loc main_v1) = RR m c) ∧ r.2.sem = fun _ => 0) :=
  Pipeline.θ_run_frameP_dmaRG_shared pcfgs (adm m) (dats m) 0 launch₀0 osem0 defs₀ 𝒱₀ ownSemFacts0 HH RS HH_sub RS_sub m ρ main
    (fun c => (body_obligation hW c).loose) (fun _ _ _ => rfl) (fun _ _ => rfl) (V m)
    (Pipeline.hmainP_prefix pcfgs 0 defs₀ 𝒱₀ m main hostOps0 hostOps0_sub hostOps0_fresh main_chain)
    (fun _ _ => rfl) (fun c k => by cases Subsingleton.elim c 0; rfl) (GG m)
    (fun c => into hW c) (fun c => outOf hW c) _
    (fun r h => ⟨fun c => ⟨(h.1.1 c).2, (h.1.2 c main_v1 (by decide)).trans (GG_v1 m c)⟩, h.2⟩)

end Cert.Gmm1.Moe

end
-- ==== Proof.Moe.Gmm1Frame.lean ====
/-
  The first grouped product of the experts: both programs leave their arguments as they were.
-/
module

public import proofs.«01_k».proof.Defs
public import proofs.«01_k».proof.Proof.Gen.Pre_tile_tables1
public import proofs.«01_k».proof.Proof.Gen.Gmm1Ideal
public import proofs.«01_k».proof.Proof.Moe.Gmm1Launch

@[expose] public section

noncomputable section

open Idealize.ShloMosaic Idealize.ShloMosaic.TcCoe Idealize.SL.Sem

namespace Cert.Gmm1.Moe
open Cert.Gmm2.Moe (Words)

section Both
variable {F : FTy → Type} [FloatOps F]

/-- What the precondition says, over either reading of the floats. -/
theorem words_pre (m : (ℓ : Loc nD τ sig) → Buf (Elt F) ℓ) (c : Dev nD)
    (h : Words (m ((c : Thread nD τ).loc main_arg0) : S32.Idx → BitVec 32) (m ((c : Thread nD τ).loc main_arg1) : S32.Idx → BitVec 32)) : Words (X0 m c) (X1 m c) := by
  unfold X0 X1; rw [V_arg0, V_arg1]; exact h

theorem run_res (m : (ℓ : Loc nD τ sig) → Buf (Elt F) ℓ) (ρ : Dev nD → PrngReg) (hW : ∀ c, Words (X0 m c) (X1 m c)) :
    θ_run (defs (F := F)) (onTc (τ := τ) (main (F := F))) ⟨m, fun _ => 0, ρ⟩ (fun r => (∀ c : Dev nD,
      r.2.mem ((c : Thread nD τ).loc main_v1) = RR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
      ⟨(h.1 c).2, ((h.1 c).1 main_arg0 (by decide)).trans (V_arg0 m c), ((h.1 c).1 main_arg1 (by decide)).trans (V_arg1 m c),
        ((h.1 c).1 main_arg2 (by decide)).trans (V_arg2 m c), ((h.1 c).1 main_arg3 (by decide)).trans (V_arg3 m c),
        ((h.1 c).1 main_arg4 (by decide)).trans (V_arg4 m c)⟩, h.2⟩)
    (run_main (F := F) m ρ hW)
end Both

theorem words (m : (ℓ : Loc nD τ sig) → Buf (Elt Bits) ℓ) (h : Cert.Pre_Gmm1 m) (c : Dev nD) : Words (X0 m c) (X1 m c) :=
  words_pre m c (words_of (F := Bits) _ _ _ _ _ (h c))

theorem frame : Cert.quiescent_Gmm1 := fun m ρ hpre =>
  (θ_run defs _ _).mono (fun r h => ⟨fun c => (h.1 c).2, h.2⟩) (run_res (F := Bits) m ρ (words m hpre))

end Cert.Gmm1.Moe

/-! The idealized program is the same text, read over the extended reals. -/

namespace Cert.Gmm1Ideal.Moe
open Cert.Gmm2.Moe (Words)
open Cert.Gmm1.Moe (X0 X1 RR words_of words_pre)

/-- The two bodies are one function. -/
theorem body_same : @Cert.Gmm1.cc0_gmm1_swiglu Ideal _ Cert.Gmm1.Gen.facts = @Cert.Gmm1Ideal.cc0_gmm1_swiglu Ideal _ Cert.Gmm1Ideal.Gen.facts := rfl
theorem defs₀_same : Cert.Gmm1.defs₀ (F := Ideal) = Cert.Gmm1Ideal.defs₀ (F := Ideal) := by
  unfold Cert.Gmm1.defs₀ Cert.Gmm1Ideal.defs₀
  refine congrArg Defs.onTc ?_
  funext l a
  match l, a with
  | 0, (i, s) =>
    dsimp only
    exact (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _)
theorem defs_same : Cert.Gmm1.defs (F := Ideal) = Cert.Gmm1Ideal.defs (F := Ideal) :=
  congrArg (Pipeline.defs (Cert.Gmm1.pcfgs (F := Ideal))) defs₀_same

theorem words (m : (ℓ : Loc Cert.Gmm1.nD Cert.Gmm1.τ Cert.Gmm1.sig) → Buf (Elt Ideal) ℓ) (h : Cert.Pre_Gmm1Ideal m) (c : Dev Cert.Gmm1.nD) : Words (X0 m c) (X1 m c) :=
  words_pre m c (words_of (F := Ideal) _ _ _ _ _ (h c))

theorem run_res (m : (ℓ : Loc Cert.Gmm1.nD Cert.Gmm1.τ Cert.Gmm1.sig) → Buf (Elt Ideal) ℓ) (ρ : Dev nD → PrngReg) (hpre : Cert.Pre_Gmm1Ideal m) :
    θ_run (defs (F := Ideal)) (onTc (τ := τ) (main (F := Ideal))) ⟨m, fun _ => 0, ρ⟩ (fun r => (∀ c : Dev nD,
      r.2.mem ((c : Thread nD τ).loc main_v1) = RR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  defs_same ▸ Cert.Gmm1.Moe.run_res (F := Ideal) m ρ (words m hpre)

theorem frame : Cert.quiescent_Gmm1Ideal := fun m ρ hpre =>
  (θ_run defs _ _).mono (fun r h => ⟨fun c => (h.1 c).2, h.2⟩) (run_res m ρ hpre)

end Cert.Gmm1Ideal.Moe

end
-- ==== Proof.Moe.Gmm1Value.lean ====
/-
  The first grouped product of the experts: over the extended reals its result is the reference's.
-/
module

public import proofs.«01_k».proof.Proof.Moe.Gmm1Frame
public import proofs.«01_k».proof.Proof.Moe.Gmm2Value
public import proofs.«01_k».proof.Proof.Gen.Gmm1RefIdeal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Gmm1.Moe
open Cert.Gmm1 Cert.Gmm1.Gen
open Cert.Gmm2.Moe (Words Owns at32)

/-- The clamped gated unit of one gate value and one linear value. -/
def unit (g h : EReal) : EReal :=
  min g (Ideal.ofBits FTy.f32 0x40E00000#32) * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) h) + 1)

theorem pay7_apply (v71 : Vec Ideal S1x256x2048 .f32) (v74 : Vec Ideal S2048x1024 .bf16) (v76 : Vec Ideal S1x1x1024 .f32) (r : Fin 256) (l : Fin 1024) :
    (k0_pay7 (F := Ideal) v71 v74 v76 (ix2 (n0 := 256) (n1 := 1024) r l) : EReal)
      = min ((∑ k : Fin 2048, (v71 (ix3 (n0 := 1) (n1 := 256) (n2 := 2048) 0 r k) : EReal) * v74 (ix2 k l)) + v76 (ix3 (n0 := 1) (n1 := 1) (n2 := 1024) 0 0 l)) (Ideal.ofBits FTy.f32 0x40E00000#32) := by
  pointwise [k0_pay7, k0_pay6]
theorem pay8_apply (v71 : Vec Ideal S1x256x2048 .f32) (v74 : Vec Ideal S2048x1024 .bf16) (v76 : Vec Ideal S1x1x1024 .f32) (r : Fin 256) (l : Fin 1024) :
    (k0_pay8 (F := Ideal) v71 v74 v76 (ix2 (n0 := 256) (n1 := 1024) r l) : EReal)
      = max (Ideal.ofBits FTy.f32 0xC0E00000#32) ((∑ k : Fin 2048, (v71 (ix3 (n0 := 1) (n1 := 256) (n2 := 2048) 0 r k) : EReal) * v74 (ix2 k l)) + v76 (ix3 (n0 := 1) (n1 := 1) (n2 := 1024) 0 0 l)) := by
  pointwise [k0_pay8, k0_pay6]
theorem pay3_apply (g : FVec Ideal S256x1024 .f32) (s : Ideal .f32) (h : FVec Ideal S256x1024 .f32) (r : Fin 256) (l : Fin 1024) :
    (k0_pay3 (F := Ideal) g s h (ix3 (n0 := 1) (n1 := 256) (n2 := 1024) 0 r l) : EReal)
      = g (ix2 r l) * Ideal.logistic (Ideal.ofBits FTy.f32 0x3FD9DB23#32 * g (ix2 r l)) * (min s (h (ix2 r l)) + 1) := by
  pointwise [k0_pay3]
theorem pay1_apply (v : Vec Ideal S1x1x2048x1024 .f32) (k : Fin 2048) (l : Fin 1024) :
    (k0_pay1 (F := Ideal) v (ix2 k l) : EReal) = v (ix4 (n0 := 1) (n1 := 1) (n2 := 2048) (n3 := 1024) 0 0 k l) := by
  pointwise [k0_pay1]
theorem pay2_apply (v : Vec Ideal S1x1x2048x1024 .f32) (k : Fin 2048) (l : Fin 1024) :
    (k0_pay2 (F := Ideal) v (ix2 k l) : EReal) = v (ix4 (n0 := 1) (n1 := 1) (n2 := 2048) (n3 := 1024) 0 0 k l) := by
  pointwise [k0_pay2]
theorem pay5_apply (r : Fin 256) (l : Fin 1024) :
    k0_pay5 (F := Ideal) (ix3 (n0 := 1) (n1 := 256) (n2 := 1024) 0 r l) = (0 : EReal) := by
  pointwise [k0_pay5]

theorem wide (r : Fin 256) (l : Fin 1024) : Shape.reshapeEquiv squeezes_S1x256x1024_S256x1024.numel_eq (ix2 r l : S256x1024.Idx)
    = (ix3 (n0 := 1) (n1 := 256) (n2 := 1024) 0 r l : S1x256x1024.Idx) :=
  Shape.reshapeEquiv_eq_of_vals _ _ _ _ _ (rowMajor_val3 _ 262144 1024 rfl rfl) (rowMajor_val2 _ 1024 rfl) (by
    show 0 * 262144 + r.val * 1024 + l.val = r.val * 1024 + l.val; omega)
theorem wideA (r : Fin 256) (l : Fin 2048) : Shape.reshapeEquiv squeezes_S1x256x2048_S256x2048.numel_eq (ix2 r l : S256x2048.Idx)
    = (ix3 (n0 := 1) (n1 := 256) (n2 := 2048) 0 r l : S1x256x2048.Idx) :=
  Shape.reshapeEquiv_eq_of_vals _ _ _ _ _ (rowMajor_val3 _ 524288 2048 rfl rfl) (rowMajor_val2 _ 2048 rfl) (by
    show 0 * 524288 + r.val * 2048 + l.val = r.val * 2048 + l.val; omega)
theorem wideW (r : Fin 2048) (l : Fin 1024) : Shape.reshapeEquiv squeezes_S1x2048x1024_S2048x1024.numel_eq (ix2 r l : S2048x1024.Idx)
    = (ix3 (n0 := 1) (n1 := 2048) (n2 := 1024) 0 r l : S1x2048x1024.Idx) :=
  Shape.reshapeEquiv_eq_of_vals _ _ _ _ _ (rowMajor_val3 _ 2097152 1024 rfl rfl) (rowMajor_val2 _ 1024 rfl) (by
    show 0 * 2097152 + r.val * 1024 + l.val = r.val * 1024 + l.val; omega)
theorem wideS (r : Fin 2048) (l : Fin 1024) : Shape.reshapeEquiv squeezes_S1x1x2048x1024_S2048x1024.numel_eq (ix2 r l : S2048x1024.Idx)
    = (ix4 (n0 := 1) (n1 := 1) (n2 := 2048) (n3 := 1024) 0 0 r l : S1x1x2048x1024.Idx) :=
  Shape.reshapeEquiv_eq_of_vals _ _ _ _ _ (rowMajor_val4 _ 2097152 2097152 1024 rfl rfl rfl) (rowMajor_val2 _ 1024 rfl) (by
    show 0 * 2097152 + 0 * 2097152 + r.val * 1024 + l.val = r.val * 1024 + l.val; omega)

theorem outVal_apply (A : S256x2048.Idx → Elt Ideal .f32) (S T : Vec Ideal S2048x1024 .bf16) (B D : Vec Ideal S1x1x1024 .f32) (r : Fin 256) (l : Fin 1024) :
    (outVal (F := Ideal) A S T B D (ix2 r l) : EReal)
      = unit ((∑ k : Fin 2048, (A (ix2 r k) : EReal) * S (ix2 k l)) + B (ix3 (n0 := 1) (n1 := 1) (n2 := 1024) 0 0 l))
          ((∑ k : Fin 2048, (A (ix2 r k) : EReal) * T (ix2 k l)) + D (ix3 (n0 := 1) (n1 := 1) (n2 := 1024) 0 0 l)) := by
  have ha : ∀ k : Fin 2048, A ((Shape.reshapeEquiv squeezes_S1x256x2048_S256x2048.numel_eq).symm (ix3 (n0 := 1) (n1 := 256) (n2 := 2048) 0 r k : S1x256x2048.Idx)) = A (ix2 r k) := fun k => by
    rw [← wideA, Equiv.symm_apply_apply]
  unfold outVal
  rw [wide, pay3_apply, pay7_apply, pay8_apply]
  simp only [ha]
  rfl

theorem zeroVal_apply (r : Fin 256) (l : Fin 1024) : (zeroVal (F := Ideal) (ix2 r l) : EReal) = 0 := by
  unfold zeroVal; rw [wide, pay5_apply]

theorem wVal_apply (c : Dev nD) (X : Buf (Elt Ideal) (wM.view.loc (c : Thread nD τ))) (h : Fin 2) (s : Fin 64) (k : Fin 2048) (l : Fin 1024) (e : Fin 32) (he : s.val % 32 = e.val)
    (j : Fin 4096) (hj : (h.val * 2 + s.val / 32) * 1024 + l.val = j.val) :
    (wVal (F := Ideal) c X h s (ix2 k l) : EReal) = (X : S32x2048x4096.Idx → EReal) (ix3 (n0 := 32) (n1 := 2048) (n2 := 4096) e k j) := by
  show (X : S32x2048x4096.Idx → EReal) ((Rect.unit (s := S32x2048x4096) (blkOff h s) S1x2048x1024.size (blkOff_inb h s)).emb (Shape.reshapeEquiv squeezes_S1x2048x1024_S2048x1024.numel_eq (ix2 k l : S2048x1024.Idx))) = _
  rw [wideW]
  refine congrArg X ?_
  funext a; apply Fin.ext
  match a with
  | ⟨0, _⟩ => show s.val % 32 + 1 * 0 = e.val; omega
  | ⟨1, _⟩ => show 0 + 1 * k.val = k.val; omega
  | ⟨2, _⟩ => show (h.val * 2 + s.val / 32) * 1024 + 1 * l.val = j.val; omega

theorem wUseA_apply (c : Dev nD) (X : Buf (Elt Ideal) (wM.view.loc (c : Thread nD τ))) (s : Fin 64) (k : Fin 2048) (l : Fin 1024) (e : Fin 32) (he : s.val % 32 = e.val)
    (j : Fin 4096) (hj : (0 * 2 + s.val / 32) * 1024 + l.val = j.val) :
    (wUseA (F := Ideal) c X s (ix2 k l) : EReal) = (X : S32x2048x4096.Idx → EReal) (ix3 (n0 := 32) (n1 := 2048) (n2 := 4096) e k j) := by
  unfold wUseA
  rw [pay1_apply, ← wideS, Equiv.symm_apply_apply]
  exact wVal_apply c X 0 s k l e he j hj
theorem wUseB_apply (c : Dev nD) (X : Buf (Elt Ideal) (wM.view.loc (c : Thread nD τ))) (s : Fin 64) (k : Fin 2048) (l : Fin 1024) (e : Fin 32) (he : s.val % 32 = e.val)
    (j : Fin 4096) (hj : (1 * 2 + s.val / 32) * 1024 + l.val = j.val) :
    (wUseB (F := Ideal) c X s (ix2 k l) : EReal) = (X : S32x2048x4096.Idx → EReal) (ix3 (n0 := 32) (n1 := 2048) (n2 := 4096) e k j) := by
  unfold wUseB
  rw [pay2_apply, ← wideS, Equiv.symm_apply_apply]
  exact wVal_apply c X 1 s k l e he j hj

theorem aVal_apply (c : Dev nD) (X : Buf (Elt Ideal) (aM.view.loc (c : Thread nD τ))) (b : Fin 288) (r : Fin 256) (k : Fin 2048) :
    (aVal (F := Ideal) c X b (ix2 r k) : EReal) = (X : S73728x2048.Idx → EReal) (ix2 (n0 := 73728) (n1 := 2048) ⟨b.val * 256 + r.val, by omega⟩ k) := by
  show (X : S73728x2048.Idx → EReal) ((Rect.unit (s := S73728x2048) _ S256x2048.size _).emb (ix2 r k : S256x2048.Idx)) = _
  refine congrArg X ?_
  funext a; apply Fin.ext
  match a with
  | ⟨0, _⟩ => show b.val * 256 + 1 * r.val = b.val * 256 + r.val; omega
  | ⟨1, _⟩ => show 0 + 1 * k.val = k.val; omega

variable (m : (ℓ : Loc nD τ sig) → Buf (Elt Ideal) ℓ)

theorem V_bias (c : Dev nD) (e : Fin 32) (l : Fin 4096) : (XV m c (ix3 (n0 := 32) (n1 := 1) (n2 := 4096) e 0 l) : EReal)
    = (m ((c : Thread nD τ).loc main_arg4) : S32x4096.Idx → EReal) (ix2 (n0 := 32) (n1 := 4096) e l) := by
  have h : (V m c main_v0 : S32x1x4096.Idx → EReal) = shapeCast S32x1x4096 (m ((c : Thread nD τ).loc main_arg4) : S32x4096.Idx → EReal) shapeCasts_S32x4096_S32x1x4096 := by
    unfold V; after_results; try rfl
  show (V m c main_v0 : S32x1x4096.Idx → EReal) _ = _
  rw [h]
  unfold shapeCast
  exact congrArg _ (Shape.reshapeEquiv_eq_of_vals _ _ _ _ _ (rowMajor_val2 _ 4096 rfl) (rowMajor_val3 _ 4096 4096 rfl rfl) (by
    show e.val * 4096 + l.val = e.val * 4096 + 0 * 4096 + l.val; omega))
theorem biasV_apply (c : Dev nD) (h : Fin 2) (s : Fin 64) (l : Fin 1024) (e : Fin 32) (he : s.val % 32 = e.val) (j : Fin 4096) (hj : (h.val * 2 + s.val / 32) * 1024 + l.val = j.val) :
    (biasV (F := Ideal) (XV m c) h s (ix3 (n0 := 1) (n1 := 1) (n2 := 1024) 0 0 l) : EReal) = (m ((c : Thread nD τ).loc main_arg4) : S32x4096.Idx → EReal) (ix2 (n0 := 32) (n1 := 4096) e j) := by
  refine Eq.trans ?_ (V_bias m c e j)
  unfold biasV
  refine congrArg (XV m c) ?_
  funext a; apply Fin.ext
  match a with
  | ⟨0, _⟩ => exact he
  | ⟨1, _⟩ => rfl
  | ⟨2, _⟩ => exact hj
end Cert.Gmm1.Moe

namespace Cert.Gmm1RefIdeal.Moe
open Cert.Gmm1RefIdeal Cert.Gmm1RefIdeal.Gen
open Cert.Gmm2RefIdeal.Moe (mine)

/-- A column of the linear half. -/
abbrev up (l : Fin 2048) : Fin 4096 := ⟨2048 + l.val, by omega⟩
/-- A column of the gate half. -/
abbrev lo (l : Fin 2048) : Fin 4096 := ⟨l.val, by omega⟩

/-- What an expert gives at a row and a column. -/
def one (a : Vec Ideal S73728x2048 .f32) (w : Vec Ideal S32x2048x4096 .f32) (b : Vec Ideal S32x4096 .f32) (r : Fin 73728) (e : Fin 32) (l : Fin 2048) : EReal :=
  Cert.Gmm1.Moe.unit
    ((∑ f : Fin 2048, (a (ix2 (n0 := 73728) (n1 := 2048) r f) : EReal) * w (ix3 (n0 := 32) (n1 := 2048) (n2 := 4096) e f (lo l))) + b (ix2 (n0 := 32) (n1 := 4096) e (lo l)))
    ((∑ f : Fin 2048, (a (ix2 (n0 := 73728) (n1 := 2048) r f) : EReal) * w (ix3 (n0 := 32) (n1 := 2048) (n2 := 4096) e f (up l))) + b (ix2 (n0 := 32) (n1 := 4096) e (up l)))

/-- The grouped product and its gated unit at a row and a column. -/
def G (x0 x1 : S32.Idx → BitVec 32) (a : Vec Ideal S73728x2048 .f32) (w : Vec Ideal S32x2048x4096 .f32) (b : Vec Ideal S32x4096 .f32) (r : Fin 73728) (l : Fin 2048) : EReal :=
  ∑ e : Fin 32, if mine (x0 (ix1 (n0 := 32) e)) (x1 (ix1 (n0 := 32) e)) r.val = 1#1 then one a w b r e l else 0

theorem ref_eq (x0 x1 : S32.Idx → BitVec 32) (a : Vec Ideal S73728x2048 .f32) (w : Vec Ideal S32x2048x4096 .f32) (b : Vec Ideal S32x4096 .f32) (r : Fin 73728) (l : Fin 2048) :
   (truncf .bf16 (Host.reduceAdd (F := Ideal) (φ := .f32) (select (broadcastInDim S73728x32x2048 ![0, 1, 2] bcast_S73728x32x1_S73728x32x2048_0_1_2 (broadcastInDim S73728x32x1 ![0, 1] bcast_S73728x32_S73728x32x1_0_1 (andi (cmpi .sle (broadcastInDim S73728x32 ![0, 1] bcast_S1x32_S73728x32_0_1 (muli (broadcastInDim S1x32 ![1] bcast_S32_S1x32_1 x0) (broadcastInDim S1x32 ![] bcast_S_S1x32 (constantI S_ 32 256#32)))) (broadcastInDim S73728x32 ![0, 1] bcast_S73728x1_S73728x32_0_1 (broadcastInDim S73728x1 ![0] bcast_S73728_S73728x1_0 (iotaInDim S73728 32 0)))) (cmpi .slt (broadcastInDim S73728x32 ![0, 1] bcast_S73728x1_S73728x32_0_1 (broadcastInDim S73728x1 ![0] bcast_S73728_S73728x1_0 (iotaInDim S73728 32 0))) (broadcastInDim S73728x32 ![0, 1] bcast_S1x32_S73728x32_0_1 (muli (broadcastInDim S1x32 ![1] bcast_S32_S1x32_1 (addi x0 x1)) (broadcastInDim S1x32 ![] bcast_S_S1x32 (constantI S_ 32 256#32)))))))) (mulf (mulf (minimumf (extractStridedSlice S73728x32x2048 ![0, 0, 0] (addf (Host.dotGeneral (F := Ideal) (φ₁ := .f32) (φ₂ := .f32) dot_S73728x2048_S32x2048x4096_S73728x32x4096_1_1_0_02_n_n none a w) (broadcastInDim S73728x32x4096 ![0, 1, 2] bcast_S1x32x4096_S73728x32x4096_0_1_2 (broadcastInDim S1x32x4096 ![1, 2] bcast_S32x4096_S1x32x4096_1_2 b))) slices_S73728x32x4096_S73728x32x2048_0_0_0) (broadcastInDim S73728x32x2048 ![] bcast_S_S73728x32x2048 (constant S_ .f32 0x40E00000#32))) (Host.divf (broadcastInDim S73728x32x2048 ![] bcast_S_S73728x32x2048 (constant S_ .f32 0x3F800000#32)) (addf (broadcastInDim S73728x32x2048 ![] bcast_S_S73728x32x2048 (constant S_ .f32 0x3F800000#32)) (Host.exp (Host.negf (mulf (broadcastInDim S73728x32x2048 ![] bcast_S_S73728x32x2048 (constant S_ .f32 0x3FD9DB23#32)) (minimumf (extractStridedSlice S73728x32x2048 ![0, 0, 0] (addf (Host.dotGeneral (F := Ideal) (φ₁ := .f32) (φ₂ := .f32) dot_S73728x2048_S32x2048x4096_S73728x32x4096_1_1_0_02_n_n none a w) (broadcastInDim S73728x32x4096 ![0, 1, 2] bcast_S1x32x4096_S73728x32x4096_0_1_2 (broadcastInDim S1x32x4096 ![1, 2] bcast_S32x4096_S1x32x4096_1_2 b))) slices_S73728x32x4096_S73728x32x2048_0_0_0) (broadcastInDim S73728x32x2048 ![] bcast_S_S73728x32x2048 (constant S_ .f32 0x40E00000#32))))))))) (addf (minimumf (broadcastInDim S73728x32x2048 ![] bcast_S_S73728x32x2048 (id (constant S_ .f32 0x40E00000#32))) (maximumf (broadcastInDim S73728x32x2048 ![] bcast_S_S73728x32x2048 (id (constant S_ .f32 0xC0E00000#32))) (extractStridedSlice S73728x32x2048 ![0, 0, 2048] (addf (Host.dotGeneral (F := Ideal) (φ₁ := .f32) (φ₂ := .f32) dot_S73728x2048_S32x2048x4096_S73728x32x4096_1_1_0_02_n_n none a w) (broadcastInDim S73728x32x4096 ![0, 1, 2] bcast_S1x32x4096_S73728x32x4096_0_1_2 (broadcastInDim S1x32x4096 ![1, 2] bcast_S32x4096_S1x32x4096_1_2 b))) slices_S73728x32x4096_S73728x32x2048_0_0_2048))) (broadcastInDim S73728x32x2048 ![] bcast_S_S73728x32x2048 (constant S_ .f32 0x3F800000#32)))) (broadcastInDim S73728x32x2048 ![] bcast_S_S73728x32x2048 (id (constant S_ .f32 0x00000000#32)))) (constant S_ .f32 0x00000000#32) reducesTo_S73728x32x2048_S73728x2048_d1 h_S_) bitsLt_bf16_f32) (ix2 r l)
    = G x0 x1 a w b r l := by
  have z : ((constant (F := Ideal) S_ .f32 0x00000000#32) ix0 : EReal) = 0 := by pointwise
  pointwise [G, mine]
  refine Finset.sum_congr rfl fun e _ => ?_
  unfold Scalar.select
  split <;> rename_i h
  · exact (if_pos h).symm
  · exact z.trans (if_neg h).symm

end Cert.Gmm1RefIdeal.Moe

namespace Cert.Gmm1Ideal.Moe
open Cert.Gmm1 Cert.Gmm1.Gen Cert.Gmm1.Moe
open Cert.Gmm2.Moe (Words Owns at32)

theorem at32_ix (e : Fin 32) : at32 e = (ix1 (n0 := 32) e : S32.Idx) := by
  funext a; match a with | ⟨0, _⟩ => rfl

section
variable (m : (ℓ : Loc nD τ sig) → Buf (Elt Ideal) ℓ)

/-- One block's product at a row and a column. -/
theorem step_apply (c : Dev nD) (b : Fin 288) (s : Fin 64) (r' : Fin 256) (l' : Fin 1024) (r : Fin 73728) (e : Fin 32) (l : Fin 2048)
    (hr : b.val * 256 + r'.val = r.val) (hs : s.val % 32 = e.val) (hl : s.val / 32 * 1024 + l'.val = l.val) :
    (stepVal (F := Ideal) c (XA m c) (XW m c) (XV m c) b s (ix2 (n0 := 256) (n1 := 1024) r' l') : EReal)
      = Cert.Gmm1RefIdeal.Moe.one (m ((c : Thread nD τ).loc main_arg2)) (m ((c : Thread nD τ).loc main_arg3)) (m ((c : Thread nD τ).loc main_arg4)) r e l := by
  have j0 : (0 * 2 + s.val / 32) * 1024 + l'.val = l.val := by omega
  have j1 : (1 * 2 + s.val / 32) * 1024 + l'.val = 2048 + l.val := by omega
  have ha : ∀ k : Fin 2048, (aVal (F := Ideal) c (XA m c) b (ix2 (n0 := 256) (n1 := 2048) r' k) : EReal)
      = (m ((c : Thread nD τ).loc main_arg2) : S73728x2048.Idx → EReal) (ix2 (n0 := 73728) (n1 := 2048) r k) := fun k => by
    refine (aVal_apply c _ _ _ k).trans ?_
    rw [← V_arg2 m c]
    refine congrArg (XA m c) ?_
    funext a; apply Fin.ext
    match a with
    | ⟨0, _⟩ => exact hr
    | ⟨1, _⟩ => rfl
  unfold stepVal
  refine (outVal_apply _ _ _ _ _ _ _).trans ?_
  unfold Cert.Gmm1RefIdeal.Moe.one
  refine congrArg₂ unit ?_ ?_
  · refine congrArg₂ (· + ·) (Finset.sum_congr rfl fun k _ => congrArg₂ (· * ·) (ha k) ?_) (biasV_apply m c 0 _ _ e hs _ j0)
    rw [← V_arg3 m c]; exact wUseA_apply c _ _ k _ e hs _ j0
  · refine congrArg₂ (· + ·) (Finset.sum_congr rfl fun k _ => congrArg₂ (· * ·) (ha k) ?_) (biasV_apply m c 1 _ _ e hs _ j1)
    rw [← V_arg3 m c]; exact wUseB_apply c _ _ k _ e hs _ j1

/-- A tile's value at a row and a column. -/
theorem tile_apply (c : Dev nD) (H : Words (X0 m c) (X1 m c)) (g : Fin 576) (r' : Fin 256) (l' : Fin 1024) (r : Fin 73728) (l : Fin 2048)
    (hr : (rowOf g).val * 256 + r'.val = r.val) (hs : ∀ e, (stepOf g e).val % 32 = e.val) (hl : ∀ e, (stepOf g e).val / 32 * 1024 + l'.val = l.val) :
    (tileVal c (X0 m c) (X1 m c) (XA m c) (XW m c) (XV m c) g (ix2 (n0 := 256) (n1 := 1024) r' l') : EReal)
      = Cert.Gmm1RefIdeal.Moe.G (m ((c : Thread nD τ).loc main_arg0)) (m ((c : Thread nD τ).loc main_arg1)) (m ((c : Thread nD τ).loc main_arg2))
          (m ((c : Thread nD τ).loc main_arg3)) (m ((c : Thread nD τ).loc main_arg4)) r l := by
  have hm : ∀ e : Fin 32, Cert.Gmm2RefIdeal.Moe.mine (X0 m c (ix1 (n0 := 32) e)) (X1 m c (ix1 (n0 := 32) e)) r.val = 1#1
      ↔ Owns (X0 m c) (X1 m c) e (rowOf g).val := fun e => by
    have hf : (X0 m c (at32 e)).toNat + (X1 m c (at32 e)).toNat ≤ 288 := H.fits e
    have hrow : (rowOf g).val = r.val / 256 := by have := r'.isLt; omega
    rw [at32_ix] at hf
    unfold Owns; rw [at32_ix, hrow]
    exact Cert.Gmm2RefIdeal.Moe.mine_iff hf r.val r.isLt
  rw [← V_arg0 m c, ← V_arg1 m c]
  unfold Cert.Gmm1RefIdeal.Moe.G
  by_cases ho : ∃ e, Owns (X0 m c) (X1 m c) e (rowOf g).val
  · obtain ⟨e, he⟩ := ho
    rw [tileVal_own (F := Ideal) c _ _ _ H he]
    refine (step_apply m c _ _ r' l' r e l hr (hs e) (hl e)).trans ?_
    rw [Finset.sum_eq_single e (fun e' _ hne => if_neg fun h => hne (H.unique ((hm e').mp h) he)) (fun h => absurd (Finset.mem_univ _) h)]
    exact (if_pos ((hm e).mpr he)).symm
  · rw [tileVal_free (F := Ideal) c _ _ _ (fun e he => ho ⟨e, he⟩)]
    refine (zeroVal_apply _ _).trans ?_
    exact (Finset.sum_eq_zero fun e _ => if_neg fun h => ho ⟨e, (hm e).mp h⟩).symm

/-- The kernel's result at a row and a column. -/
theorem RR_apply (c : Dev nD) (H : Words (X0 m c) (X1 m c)) (r : Fin 73728) (l : Fin 2048) :
    (RR m c : S73728x2048.Idx → EReal) (ix2 (n0 := 73728) (n1 := 2048) r l)
      = Cert.Gmm1RefIdeal.Moe.G (m ((c : Thread nD τ).loc main_arg0)) (m ((c : Thread nD τ).loc main_arg1)) (m ((c : Thread nD τ).loc main_arg2))
          (m ((c : Thread nD τ).loc main_arg3)) (m ((c : Thread nD τ).loc main_arg4)) r l := by
  have hlt : r.val % 256 < 256 := Nat.mod_lt _ (by decide)
  have hl : l.val % 1024 < 1024 := Nat.mod_lt _ (by decide)
  have hg : l.val / 1024 * 288 + r.val / 256 < 576 := by have := l.isLt; have := r.isLt; omega
  have hpos : posOf (ix2 (n0 := 73728) (n1 := 2048) r l) = (ix2 (n0 := 256) (n1 := 1024) ⟨r.val % 256, hlt⟩ ⟨l.val % 1024, hl⟩ : S256x1024.Idx) := by
    funext a; match a with | ⟨0, _⟩ => rfl | ⟨1, _⟩ => rfl
  have hkey : resKey (ix2 (n0 := 73728) (n1 := 2048) r l) = ⟨l.val / 1024 * 288 + r.val / 256, hg⟩ := rfl
  unfold RR resBuf
  rw [hpos, hkey]
  refine tile_apply m c H _ _ _ r l ?_ (fun e => ?_) (fun e => ?_)
  · show (l.val / 1024 * 288 + r.val / 256) % 288 * 256 + r.val % 256 = r.val
    have := r.isLt; omega
  · show ((l.val / 1024 * 288 + r.val / 256) / 288 * 32 + e.val) % 32 = e.val
    omega
  · show ((l.val / 1024 * 288 + r.val / 256) / 288 * 32 + e.val) / 32 * 1024 + l.val % 1024 = l.val
    have := r.isLt; omega
end

theorem frame_ref : Cert.quiescent_Gmm1RefIdeal := fun m ρ _ =>
  (θ_run Cert.Gmm1RefIdeal.defs _ _).mono (fun r h => ⟨fun c => (h c).2,
      Idealize.ShloMosaic.sem_eq_zero_of_no_sems (by decide) r.2⟩)
    (Cert.Gmm1RefIdeal.Value.run (F := Ideal) m ρ)

/-- Kernel and reference of the first grouped product compute the same function over the extended reals. -/
theorem algebraic : Cert.algebraic_Gmm1Ideal_Gmm1RefIdeal := by
  intro m ρ m' ρ' hpre hag
  refine ⟨fun c => RR m c, ?_, ?_⟩
  · exact (θ_run Cert.Gmm1Ideal.defs _ _).mono (fun _ h c => h.1 c) (run_res m ρ hpre)
  · refine (θ_run Cert.Gmm1RefIdeal.defs _ _).mono (fun _ h c => ⟨(h c).1.trans ?_, (h c).2⟩)
      (Cert.Gmm1RefIdeal.Value.run (F := Ideal) m' ρ')
    obtain ⟨h0, h1, h2, h3, h4⟩ := hag c
    rw [h0, h1, h2, h3, h4]
    funext y
    obtain ⟨r, l, rfl⟩ : ∃ (r : Fin 73728) (l : Fin 2048), y = ix2 r l :=
      ⟨y 0, y 1, by funext a; match a with | ⟨0, _⟩ => rfl | ⟨1, _⟩ => rfl⟩
    exact (Cert.Gmm1RefIdeal.Moe.ref_eq _ _ _ _ _ r l).trans (RR_apply m c (Cert.Gmm1Ideal.Moe.words m hpre c) r l).symm

end Cert.Gmm1Ideal.Moe

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Mix.Merge
public import proofs.«01_k».proof.Proof.Moe.Gmm2Value
public import proofs.«01_k».proof.Proof.Moe.Gmm1Value
public import proofs.«01_k».proof.Proof.Gen.Gmm1
public import proofs.«01_k».proof.Proof.Gen.Gmm1.Launch
public import proofs.«01_k».proof.Proof.Gen.Gmm1.Skeleton
public import proofs.«01_k».proof.Proof.Gen.Gmm1Ideal
public import proofs.«01_k».proof.Proof.Gen.Gmm1Ideal.Launch
public import proofs.«01_k».proof.Proof.Gen.Gmm1RefIdeal
public import proofs.«01_k».proof.Proof.Gen.Gmm1RefIdeal.Run
public import proofs.«01_k».proof.Proof.Gen.Pre_tile_tables1
public import proofs.«01_k».proof.Proof.Gen.Gmm2
public import proofs.«01_k».proof.Proof.Gen.Gmm2.Launch
public import proofs.«01_k».proof.Proof.Gen.Gmm2Ideal
public import proofs.«01_k».proof.Proof.Gen.Gmm2Ideal.Launch
public import proofs.«01_k».proof.Proof.Gen.Gmm2RefIdeal
public import proofs.«01_k».proof.Proof.Gen.Gmm2RefIdeal.Run
public import proofs.«01_k».proof.Proof.Gen.Pre_tile_tables
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.Gmm2.Gen.facts, Cert.Gmm2Ideal.Gen.facts, Cert.Gmm2RefIdeal.Gen.facts,
  Cert.Gmm1.Gen.facts, Cert.Gmm1Ideal.Gen.facts, Cert.Gmm1RefIdeal.Gen.facts,
  Cert.Pre_tile_tables.Gen.facts, Cert.Pre_tile_tables1.Gen.facts,
  fun m ρ _ => Cert.Merge.Gen.frame m ρ, fun m ρ _ => Cert.MergeIdeal.Gen.frame m ρ,
  Cert.Proof.Mix.frame_merge_ref, Cert.Gmm2.Moe.frame, Cert.Gmm2Ideal.Moe.frame, Cert.Gmm2Ideal.Moe.frame_ref,
  Cert.Gmm1.Moe.frame, Cert.Gmm1Ideal.Moe.frame, Cert.Gmm1Ideal.Moe.frame_ref,
  trivial, Cert.Proof.Mix.algebraic_merge, trivial, Cert.Gmm2Ideal.Moe.algebraic, trivial, Cert.Gmm1Ideal.Moe.algebraic⟩

end Cert.Proof

end
